-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.2.2 = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2)
      ∧ r.2.mem ((c.tc : Thread Cert.Kernel6.nD Cert.Kernel6.τ).loc Cert.Kernel6.main_arg3) = m ((c.tc : Thread Cert.Kernel6.nD Cert.Kernel6.τ).loc Cert.Kernel6.main_arg3))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
      ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2)
      ∧ r.2.mem ((c.tc : Thread Cert.Reference6Ideal.nD Cert.Reference6Ideal.τ).loc Cert.Reference6Ideal.main_arg3) = m ((c.tc : Thread Cert.Reference6Ideal.nD Cert.Reference6Ideal.τ).loc Cert.Reference6Ideal.main_arg3))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1)
      ∧ r.2.mem ((c.tc : Thread Cert.Kernel7.nD Cert.Kernel7.τ).loc Cert.Kernel7.main_arg2) = m ((c.tc : Thread Cert.Kernel7.nD Cert.Kernel7.τ).loc Cert.Kernel7.main_arg2))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1)
      ∧ r.2.mem ((c.tc : Thread Cert.Kernel8.nD Cert.Kernel8.τ).loc Cert.Kernel8.main_arg2) = m ((c.tc : Thread Cert.Kernel8.nD Cert.Kernel8.τ).loc Cert.Kernel8.main_arg2)
      ∧ r.2.mem ((c.tc : Thread Cert.Kernel8.nD Cert.Kernel8.τ).loc Cert.Kernel8.main_arg3) = m ((c.tc : Thread Cert.Kernel8.nD Cert.Kernel8.τ).loc Cert.Kernel8.main_arg3))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
      ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
      ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1)
      ∧ r.2.mem ((c.tc : Thread Cert.Reference8Ideal.nD Cert.Reference8Ideal.τ).loc Cert.Reference8Ideal.main_arg2) = m ((c.tc : Thread Cert.Reference8Ideal.nD Cert.Reference8Ideal.τ).loc Cert.Reference8Ideal.main_arg2)
      ∧ r.2.mem ((c.tc : Thread Cert.Reference8Ideal.nD Cert.Reference8Ideal.τ).loc Cert.Reference8Ideal.main_arg3) = m ((c.tc : Thread Cert.Reference8Ideal.nD Cert.Reference8Ideal.τ).loc Cert.Reference8Ideal.main_arg3))
      ∧ r.2.sem = fun _ => 0)

def preserves_Kernel_KernelIdeal : Prop :=
  IdealRules.named_const.Statement Cert.KernelIdeal.κ "mask" .f32 0xF149F2CA#32 ⊥

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v13)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v13) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v193) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)) →
    ∃ (v0 : (c : Dev Cert.Kernel2Ideal.nD) → Buf (Elt Ideal) ((c.tc : Thread Cert.Kernel2Ideal.nD Cert.Kernel2Ideal.τ).loc Cert.Kernel2Ideal.main_v19)) (v1 : (c : Dev Cert.Kernel2Ideal.nD) → Buf (Elt Ideal) ((c.tc : Thread Cert.Kernel2Ideal.nD Cert.Kernel2Ideal.τ).loc Cert.Kernel2Ideal.main_v30)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v19) = v0 c
          ∧ r.2.mem ((c.tc : Thread Cert.Kernel2Ideal.nD Cert.Kernel2Ideal.τ).loc Cert.Kernel2Ideal.main_v30) = v1 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v25) = v0 c
          ∧ r.2.mem ((c.tc : Thread Cert.Reference2Ideal.nD Cert.Reference2Ideal.τ).loc Cert.Reference2Ideal.main_v27) = v1 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)) →
    ∃ (v0 : (c : Dev Cert.Kernel3Ideal.nD) → Buf (Elt Ideal) ((c.tc : Thread Cert.Kernel3Ideal.nD Cert.Kernel3Ideal.τ).loc Cert.Kernel3Ideal.main_v24)) (v1 : (c : Dev Cert.Kernel3Ideal.nD) → Buf (Elt Ideal) ((c.tc : Thread Cert.Kernel3Ideal.nD Cert.Kernel3Ideal.τ).loc Cert.Kernel3Ideal.main_v25)) (v2 : (c : Dev Cert.Kernel3Ideal.nD) → Buf (Elt Ideal) ((c.tc : Thread Cert.Kernel3Ideal.nD Cert.Kernel3Ideal.τ).loc Cert.Kernel3Ideal.main_v26)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v24) = v0 c
          ∧ r.2.mem ((c.tc : Thread Cert.Kernel3Ideal.nD Cert.Kernel3Ideal.τ).loc Cert.Kernel3Ideal.main_v25) = v1 c
          ∧ r.2.mem ((c.tc : Thread Cert.Kernel3Ideal.nD Cert.Kernel3Ideal.τ).loc Cert.Kernel3Ideal.main_v26) = v2 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v21) = v0 c
          ∧ r.2.mem ((c.tc : Thread Cert.Reference3Ideal.nD Cert.Reference3Ideal.τ).loc Cert.Reference3Ideal.main_v22) = v1 c
          ∧ r.2.mem ((c.tc : Thread Cert.Reference3Ideal.nD Cert.Reference3Ideal.τ).loc Cert.Reference3Ideal.main_v23) = v2 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)) →
    ∃ (v0 : (c : Dev Cert.Kernel4Ideal.nD) → Buf (Elt Ideal) ((c.tc : Thread Cert.Kernel4Ideal.nD Cert.Kernel4Ideal.τ).loc Cert.Kernel4Ideal.main_v8)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v8) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v5) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)) →
    ∃ (v0 : (c : Dev Cert.Kernel5Ideal.nD) → Buf (Elt Ideal) ((c.tc : Thread Cert.Kernel5Ideal.nD Cert.Kernel5Ideal.τ).loc Cert.Kernel5Ideal.main_v20)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v20) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v18) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)
      ∧ m' ((c.tc : Thread Cert.Reference6Ideal.nD Cert.Reference6Ideal.τ).loc Cert.Reference6Ideal.main_arg3) = m ((c.tc : Thread Cert.Kernel6Ideal.nD Cert.Kernel6Ideal.τ).loc Cert.Kernel6Ideal.main_arg3)) →
    ∃ (v0 : (c : Dev Cert.Kernel6Ideal.nD) → Buf (Elt Ideal) ((c.tc : Thread Cert.Kernel6Ideal.nD Cert.Kernel6Ideal.τ).loc Cert.Kernel6Ideal.main_v19)) (v1 : (c : Dev Cert.Kernel6Ideal.nD) → Buf (Elt Ideal) ((c.tc : Thread Cert.Kernel6Ideal.nD Cert.Kernel6Ideal.τ).loc Cert.Kernel6Ideal.main_v30)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v19) = v0 c
          ∧ r.2.mem ((c.tc : Thread Cert.Kernel6Ideal.nD Cert.Kernel6Ideal.τ).loc Cert.Kernel6Ideal.main_v30) = v1 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
          ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v25) = v0 c
          ∧ r.2.mem ((c.tc : Thread Cert.Reference6Ideal.nD Cert.Reference6Ideal.τ).loc Cert.Reference6Ideal.main_v27) = v1 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2)
          ∧ r.2.mem ((c.tc : Thread Cert.Reference6Ideal.nD Cert.Reference6Ideal.τ).loc Cert.Reference6Ideal.main_arg3) = m' ((c.tc : Thread Cert.Reference6Ideal.nD Cert.Reference6Ideal.τ).loc Cert.Reference6Ideal.main_arg3))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)
      ∧ m' ((c.tc : Thread Cert.Reference7Ideal.nD Cert.Reference7Ideal.τ).loc Cert.Reference7Ideal.main_arg2) = m ((c.tc : Thread Cert.Kernel7Ideal.nD Cert.Kernel7Ideal.τ).loc Cert.Kernel7Ideal.main_arg2)) →
    ∃ (v0 : (c : Dev Cert.Kernel7Ideal.nD) → Buf (Elt Ideal) ((c.tc : Thread Cert.Kernel7Ideal.nD Cert.Kernel7Ideal.τ).loc Cert.Kernel7Ideal.main_v29_0)) (v1 : (c : Dev Cert.Kernel7Ideal.nD) → Buf (Elt Ideal) ((c.tc : Thread Cert.Kernel7Ideal.nD Cert.Kernel7Ideal.τ).loc Cert.Kernel7Ideal.main_v29_4)) (v2 : (c : Dev Cert.Kernel7Ideal.nD) → Buf (Elt Ideal) ((c.tc : Thread Cert.Kernel7Ideal.nD Cert.Kernel7Ideal.τ).loc Cert.Kernel7Ideal.main_v35)) (v3 : (c : Dev Cert.Kernel7Ideal.nD) → Buf (Elt Ideal) ((c.tc : Thread Cert.Kernel7Ideal.nD Cert.Kernel7Ideal.τ).loc Cert.Kernel7Ideal.main_v36)) (v4 : (c : Dev Cert.Kernel7Ideal.nD) → Buf (Elt Ideal) ((c.tc : Thread Cert.Kernel7Ideal.nD Cert.Kernel7Ideal.τ).loc Cert.Kernel7Ideal.main_v37)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v29_0) = v0 c
          ∧ r.2.mem ((c.tc : Thread Cert.Kernel7Ideal.nD Cert.Kernel7Ideal.τ).loc Cert.Kernel7Ideal.main_v29_4) = v1 c
          ∧ r.2.mem ((c.tc : Thread Cert.Kernel7Ideal.nD Cert.Kernel7Ideal.τ).loc Cert.Kernel7Ideal.main_v35) = v2 c
          ∧ r.2.mem ((c.tc : Thread Cert.Kernel7Ideal.nD Cert.Kernel7Ideal.τ).loc Cert.Kernel7Ideal.main_v36) = v3 c
          ∧ r.2.mem ((c.tc : Thread Cert.Kernel7Ideal.nD Cert.Kernel7Ideal.τ).loc Cert.Kernel7Ideal.main_v37) = v4 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
          ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v119) = v0 c
          ∧ r.2.mem ((c.tc : Thread Cert.Reference7Ideal.nD Cert.Reference7Ideal.τ).loc Cert.Reference7Ideal.main_v121) = v1 c
          ∧ r.2.mem ((c.tc : Thread Cert.Reference7Ideal.nD Cert.Reference7Ideal.τ).loc Cert.Reference7Ideal.main_v122) = v2 c
          ∧ r.2.mem ((c.tc : Thread Cert.Reference7Ideal.nD Cert.Reference7Ideal.τ).loc Cert.Reference7Ideal.main_v123) = v3 c
          ∧ r.2.mem ((c.tc : Thread Cert.Reference7Ideal.nD Cert.Reference7Ideal.τ).loc Cert.Reference7Ideal.main_v124) = v4 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1)
          ∧ r.2.mem ((c.tc : Thread Cert.Reference7Ideal.nD Cert.Reference7Ideal.τ).loc Cert.Reference7Ideal.main_arg2) = m' ((c.tc : Thread Cert.Reference7Ideal.nD Cert.Reference7Ideal.τ).loc Cert.Reference7Ideal.main_arg2))

def preserves_Kernel8_Kernel8Ideal : Prop :=
  True

def algebraic_Kernel8Ideal_Reference8Ideal [hKernel8Ideal : Cert.Kernel8Ideal.Facts] [hReference8Ideal : Cert.Reference8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)
      ∧ m' ((c.tc : Thread Cert.Reference8Ideal.nD Cert.Reference8Ideal.τ).loc Cert.Reference8Ideal.main_arg2) = m ((c.tc : Thread Cert.Kernel8Ideal.nD Cert.Kernel8Ideal.τ).loc Cert.Kernel8Ideal.main_arg2)
      ∧ m' ((c.tc : Thread Cert.Reference8Ideal.nD Cert.Reference8Ideal.τ).loc Cert.Reference8Ideal.main_arg3) = m ((c.tc : Thread Cert.Kernel8Ideal.nD Cert.Kernel8Ideal.τ).loc Cert.Kernel8Ideal.main_arg3)) →
    ∃ (v0 : (c : Dev Cert.Kernel8Ideal.nD) → Buf (Elt Ideal) ((c.tc : Thread Cert.Kernel8Ideal.nD Cert.Kernel8Ideal.τ).loc Cert.Kernel8Ideal.main_v31_0)) (v1 : (c : Dev Cert.Kernel8Ideal.nD) → Buf (Elt Ideal) ((c.tc : Thread Cert.Kernel8Ideal.nD Cert.Kernel8Ideal.τ).loc Cert.Kernel8Ideal.main_v31_4)) (v2 : (c : Dev Cert.Kernel8Ideal.nD) → Buf (Elt Ideal) ((c.tc : Thread Cert.Kernel8Ideal.nD Cert.Kernel8Ideal.τ).loc Cert.Kernel8Ideal.main_v40)) (v3 : (c : Dev Cert.Kernel8Ideal.nD) → Buf (Elt Ideal) ((c.tc : Thread Cert.Kernel8Ideal.nD Cert.Kernel8Ideal.τ).loc Cert.Kernel8Ideal.main_v41)) (v4 : (c : Dev Cert.Kernel8Ideal.nD) → Buf (Elt Ideal) ((c.tc : Thread Cert.Kernel8Ideal.nD Cert.Kernel8Ideal.τ).loc Cert.Kernel8Ideal.main_v42)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v31_0) = v0 c
          ∧ r.2.mem ((c.tc : Thread Cert.Kernel8Ideal.nD Cert.Kernel8Ideal.τ).loc Cert.Kernel8Ideal.main_v31_4) = v1 c
          ∧ r.2.mem ((c.tc : Thread Cert.Kernel8Ideal.nD Cert.Kernel8Ideal.τ).loc Cert.Kernel8Ideal.main_v40) = v2 c
          ∧ r.2.mem ((c.tc : Thread Cert.Kernel8Ideal.nD Cert.Kernel8Ideal.τ).loc Cert.Kernel8Ideal.main_v41) = v3 c
          ∧ r.2.mem ((c.tc : Thread Cert.Kernel8Ideal.nD Cert.Kernel8Ideal.τ).loc Cert.Kernel8Ideal.main_v42) = v4 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
          ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
          ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v123) = v0 c
          ∧ r.2.mem ((c.tc : Thread Cert.Reference8Ideal.nD Cert.Reference8Ideal.τ).loc Cert.Reference8Ideal.main_v125) = v1 c
          ∧ r.2.mem ((c.tc : Thread Cert.Reference8Ideal.nD Cert.Reference8Ideal.τ).loc Cert.Reference8Ideal.main_v126) = v2 c
          ∧ r.2.mem ((c.tc : Thread Cert.Reference8Ideal.nD Cert.Reference8Ideal.τ).loc Cert.Reference8Ideal.main_v127) = v3 c
          ∧ r.2.mem ((c.tc : Thread Cert.Reference8Ideal.nD Cert.Reference8Ideal.τ).loc Cert.Reference8Ideal.main_v128) = v4 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1)
          ∧ r.2.mem ((c.tc : Thread Cert.Reference8Ideal.nD Cert.Reference8Ideal.τ).loc Cert.Reference8Ideal.main_arg2) = m' ((c.tc : Thread Cert.Reference8Ideal.nD Cert.Reference8Ideal.τ).loc Cert.Reference8Ideal.main_arg2)
          ∧ r.2.mem ((c.tc : Thread Cert.Reference8Ideal.nD Cert.Reference8Ideal.τ).loc Cert.Reference8Ideal.main_arg3) = m' ((c.tc : Thread Cert.Reference8Ideal.nD Cert.Reference8Ideal.τ).loc Cert.Reference8Ideal.main_arg3))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ quiescent_Kernel8 (hKernel8 := hKernel8)
    ∧ quiescent_Kernel8Ideal (hKernel8Ideal := hKernel8Ideal)
    ∧ quiescent_Reference8Ideal (hReference8Ideal := hReference8Ideal)
    ∧ preserves_Kernel_KernelIdeal
    ∧ algebraic_KernelIdeal_ReferenceIdeal_pre_finite (hKernelIdeal := hKernelIdeal) (hReferenceIdeal := hReferenceIdeal) (hPre_finite := hPre_finite)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
    ∧ preserves_Kernel8_Kernel8Ideal
    ∧ algebraic_Kernel8Ideal_Reference8Ideal (hKernel8Ideal := hKernel8Ideal) (hReference8Ideal := hReference8Ideal)
-- ==== Pre_finite.lean ====
abbrev S8192x2048 : Shape := ⟨2, ![8192, 2048]⟩
abbrev S8192x1024 : Shape := ⟨2, ![8192, 1024]⟩
abbrev S8192x3072 : Shape := ⟨2, ![8192, 3072]⟩
abbrev S8192x512 : Shape := ⟨2, ![8192, 512]⟩
abbrev S32x4x2 : Shape := ⟨3, ![32, 4, 2]⟩
abbrev S_ : Shape := ⟨0, ![]⟩

class Facts : Prop where
  bitsLt_bf16_f32 : FTy.bits .bf16 < FTy.bits .f32
  bcast_S_S8192x2048 : S_.BroadcastsInDim S8192x2048 (![] : Fin 0 → Fin S8192x2048.rank)
  bcast_S_S8192x1024 : S_.BroadcastsInDim S8192x1024 (![] : Fin 0 → Fin S8192x1024.rank)
  bcast_S_S8192x3072 : S_.BroadcastsInDim S8192x3072 (![] : Fin 0 → Fin S8192x3072.rank)
  bcast_S_S32x4x2 : S_.BroadcastsInDim S32x4x2 (![] : Fin 0 → Fin S32x4x2.rank)

variable [Facts]

def fn {F : FTy → Type} [FloatOps F] (main_arg0 : FVec F S8192x2048 .bf16) (main_arg1 : FVec F S8192x1024 .f32) (main_arg2 : FVec F S8192x3072 .bf16) (main_arg3 : FVec F S8192x512 .f32) (main_arg4 : FVec F S32x4x2 .f32) : IVec S8192x2048 1 × IVec S8192x1024 1 × IVec S8192x3072 1 × IVec S32x4x2 1 :=
  let main_v0 : FVec F S8192x2048 .f32 := (extf .f32 · bitsLt_bf16_f32) main_arg0
  let main_v1 : FVec F S8192x2048 .f32 := Host.absf main_v0
  let main_cst : FVec F S_ .f32 := constant S_ .f32 0x7F800000#32
  let main_v2 : FVec F S8192x2048 .f32 := broadcastInDim S8192x2048 ![] bcast_S_S8192x2048 main_cst
  let main_v3 : IVec S8192x2048 1 := cmpf .olt main_v1 main_v2
  let main_v4 : FVec F S8192x1024 .f32 := Host.absf main_arg1
  let main_cst_0 : FVec F S_ .f32 := constant S_ .f32 0x7F800000#32
  let main_v5 : FVec F S8192x1024 .f32 := broadcastInDim S8192x1024 ![] bcast_S_S8192x1024 main_cst_0
  let main_v6 : IVec S8192x1024 1 := cmpf .olt main_v4 main_v5
  let main_v7 : FVec F S8192x3072 .f32 := (extf .f32 · bitsLt_bf16_f32) main_arg2
  let main_v8 : FVec F S8192x3072 .f32 := Host.absf main_v7
  let main_cst_1 : FVec F S_ .f32 := constant S_ .f32 0x7F800000#32
  let main_v9 : FVec F S8192x3072 .f32 := broadcastInDim S8192x3072 ![] bcast_S_S8192x3072 main_cst_1
  let main_v10 : IVec S8192x3072 1 := cmpf .olt main_v8 main_v9
  let main_v11 : FVec F S32x4x2 .f32 := Host.absf main_arg4
  let main_cst_2 : FVec F S_ .f32 := constant S_ .f32 0x7F800000#32
  let main_v12 : FVec F S32x4x2 .f32 := broadcastInDim S32x4x2 ![] bcast_S_S32x4x2 main_cst_2
  let main_v13 : IVec S32x4x2 1 := cmpf .olt main_v11 main_v12
  (main_v3, main_v6, main_v10, main_v13)
-- ==== Kernel.lean ====
abbrev S8192x2048 : Shape := ⟨2, ![8192, 2048]⟩
abbrev S8192x1024 : Shape := ⟨2, ![8192, 1024]⟩
abbrev S8192x3072 : Shape := ⟨2, ![8192, 3072]⟩
abbrev S8192x512 : Shape := ⟨2, ![8192, 512]⟩
abbrev S32x4x2 : Shape := ⟨3, ![32, 4, 2]⟩
abbrev S32x8 : Shape := ⟨2, ![32, 8]⟩
abbrev S32x8x128 : Shape := ⟨3, ![32, 8, 128]⟩
abbrev S32x1024 : Shape := ⟨2, ![32, 1024]⟩
abbrev S4x64x32x1024 : Shape := ⟨4, ![4, 64, 32, 1024]⟩
abbrev S1x1x32x1024 : Shape := ⟨4, ![1, 1, 32, 1024]⟩
abbrev S_ : Shape := ⟨0, ![]⟩
abbrev S4x64x1024 : Shape := ⟨3, ![4, 64, 1024]⟩
abbrev S4x32x1024 : Shape := ⟨3, ![4, 32, 1024]⟩
abbrev S256x1024 : Shape := ⟨2, ![256, 1024]⟩
abbrev S256x512 : Shape := ⟨2, ![256, 512]⟩
abbrev S64x256 : Shape := ⟨2, ![64, 256]⟩
abbrev S2048x256 : Shape := ⟨2, ![2048, 256]⟩
abbrev S256x128 : Shape := ⟨2, ![256, 128]⟩
abbrev S256x1 : Shape := ⟨2, ![256, 1]⟩
abbrev S1x64 : Shape := ⟨2, ![1, 64]⟩
abbrev S256x64 : Shape := ⟨2, ![256, 64]⟩
abbrev S64x128 : Shape := ⟨2, ![64, 128]⟩
abbrev S256 : Shape := ⟨1, ![256]⟩
abbrev S256x32 : Shape := ⟨2, ![256, 32]⟩
abbrev S1x32 : Shape := ⟨2, ![1, 32]⟩
abbrev S1x2048 : Shape := ⟨2, ![1, 2048]⟩
abbrev S32x2048 : Shape := ⟨2, ![32, 2048]⟩
abbrev S256x2048 : Shape := ⟨2, ![256, 2048]⟩
abbrev S2048x128 : Shape := ⟨2, ![2048, 128]⟩
abbrev S768x256 : Shape := ⟨2, ![768, 256]⟩
abbrev S768x128 : Shape := ⟨2, ![768, 128]⟩
abbrev S1x768 : Shape := ⟨2, ![1, 768]⟩
abbrev S256x768 : Shape := ⟨2, ![256, 768]⟩

abbrev nBuf : Space → Nat
  | .hbm => 20
  | .vmem => 13
  | .smem => 0
  | _ => 0

abbrev bufTy : (tb : Table) → Fin (tcTables nBuf tb) → BufTy
  | .hbm, ⟨0, _⟩ => ⟨S8192x2048, .bf16⟩
  | .hbm, ⟨1, _⟩ => ⟨S8192x1024, .f32⟩
  | .hbm, ⟨2, _⟩ => ⟨S8192x3072, .bf16⟩
  | .hbm, ⟨3, _⟩ => ⟨S8192x512, .f32⟩
  | .hbm, ⟨4, _⟩ => ⟨S32x4x2, .f32⟩
  | .hbm, ⟨5, _⟩ => ⟨S32x8, .f32⟩
  | .hbm, ⟨6, _⟩ => ⟨S32x8x128, .f32⟩
  | .hbm, ⟨7, _⟩ => ⟨S32x1024, .f32⟩
  | .hbm, ⟨8, _⟩ => ⟨S4x64x32x1024, .f32⟩
  | .hbm, ⟨9, _⟩ => ⟨S1x1x32x1024, .f32⟩
  | .hbm, ⟨10, _⟩ => ⟨S4x64x32x1024, .f32⟩
  | .hbm, ⟨11, _⟩ => ⟨S4x64x32x1024, .f32⟩
  | .hbm, ⟨12, _⟩ => ⟨S_, .f32⟩
  | .hbm, ⟨13, _⟩ => ⟨S4x64x1024, .f32⟩
  | .hbm, ⟨14, _⟩ => ⟨S4x32x1024, .f32⟩
  | .hbm, ⟨15, _⟩ => ⟨S4x32x1024, .f32⟩
  | .hbm, ⟨16, _⟩ => ⟨S4x64x1024, .f32⟩
  | .hbm, ⟨17, _⟩ => ⟨S256x1024, .f32⟩
  | .hbm, ⟨18, _⟩ => ⟨S256x1024, .bf16⟩
  | .hbm, ⟨19, _⟩ => ⟨S8192x2048, .bf16⟩
  | .local _ .vmem, ⟨0, _⟩ => ⟨S256x512, .bf16⟩
  | .local _ .vmem, ⟨1, _⟩ => ⟨S256x512, .bf16⟩
  | .local _ .vmem, ⟨2, _⟩ => ⟨S64x256, .bf16⟩
  | .local _ .vmem, ⟨3, _⟩ => ⟨S64x256, .bf16⟩
  | .local _ .vmem, ⟨4, _⟩ => ⟨S2048x256, .bf16⟩
  | .local _ .vmem, ⟨5, _⟩ => ⟨S2048x256, .bf16⟩
  | .local _ .vmem, ⟨6, _⟩ => ⟨S2048x256, .bf16⟩
  | .local _ .vmem, ⟨7, _⟩ => ⟨S2048x256, .bf16⟩
  | .local _ .vmem, ⟨8, _⟩ => ⟨S256x128, .f32⟩
  | .local _ .vmem, ⟨9, _⟩ => ⟨S256x128, .f32⟩
  | .local _ .vmem, ⟨10, _⟩ => ⟨S256x512, .bf16⟩
  | .local _ .vmem, ⟨11, _⟩ => ⟨S256x512, .bf16⟩
  | .local _ .vmem, ⟨12, _⟩ => ⟨S256x512, .f32⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_cst : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_scratch0 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨3, ![4, 4, 8], ![false, false, false]⟩

def k0_mult1 (i : grid0.Coords) : BitVec 32 :=
  let arg2 : BitVec 32 := BitVec.ofNat 32 (i 2).val
  let c256_i32 : BitVec 32 := 256#32
  let v0 : BitVec 32 := Scalar.muli arg2 c256_i32
  let c512_i32 : BitVec 32 := 512#32
  let v773 : BitVec 32 := Scalar.subi v0 c512_i32
  let c0_i32_154 : BitVec 32 := 0#32
  let v774 : BitVec 32 := Scalar.maxsi v773 c0_i32_154
  v774
def k0_off1 (i : grid0.Coords) : Fin 2 → Nat :=
  let arg2 : BitVec 32 := BitVec.ofNat 32 (i 2).val
  let c256_i32 : BitVec 32 := 256#32
  let v0 : BitVec 32 := Scalar.muli arg2 c256_i32
  let c512_i32 : BitVec 32 := 512#32
  let v773 : BitVec 32 := Scalar.subi v0 c512_i32
  let c0_i32_154 : BitVec 32 := 0#32
  let v774 : BitVec 32 := Scalar.maxsi v773 c0_i32_154
  let v775 : BitVec 32 := v774
  let v776 : Index := Scalar.indexCast v775
  let c0_155 : Index := 0#32
  ![v776.toNat, 0]
def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.muli arg0 c8_i32
  let v1 : BitVec 32 := Scalar.addi v0 arg2
  let c0_i32 : BitVec 32 := 0#32
  ![v1.toNat, arg1.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.addi c4_i32 arg1
  let c0_i32 : BitVec 32 := 0#32
  ![arg0.toNat, v0.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.addi c8_i32 arg1
  let c0_i32 : BitVec 32 := 0#32
  ![arg0.toNat, v0.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.muli arg0 c8_i32
  let v1 : BitVec 32 := Scalar.addi v0 arg2
  let c0_i32 : BitVec 32 := 0#32
  ![v1.toNat, arg1.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.muli arg0 c8_i32
  let v1 : BitVec 32 := Scalar.addi v0 arg2
  let c0_i32 : BitVec 32 := 0#32
  ![v1.toNat, arg1.toNat]

abbrev stage0_0 : Fin 2 → Memref sig .tc .vmem S256x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S64x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev stage0_2 : Fin 2 → Memref sig .tc .vmem S2048x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S2048x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev stage0_4 : Fin 2 → Memref sig .tc .vmem S256x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, true]

abbrev stage0_5 : Fin 2 → Memref sig .tc .vmem S256x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, true]
-- ==== KernelIdeal.lean ====
variable {F : FTy → Type} [FloatOps F] [Named F]
def κ : String → Option EReal := fun
  | "mask" => some ⊥
  | _ => none
-- ==== ReferenceIdeal.lean ====
abbrev S8192x2048 : Shape := ⟨2, ![8192, 2048]⟩
abbrev S8192x1024 : Shape := ⟨2, ![8192, 1024]⟩
abbrev S8192x3072 : Shape := ⟨2, ![8192, 3072]⟩
abbrev S8192x512 : Shape := ⟨2, ![8192, 512]⟩
abbrev S32x4x2 : Shape := ⟨3, ![32, 4, 2]⟩
abbrev S4x2048x4x4x128 : Shape := ⟨5, ![4, 2048, 4, 4, 128]⟩
abbrev S4x2048x4x2x128 : Shape := ⟨5, ![4, 2048, 4, 2, 128]⟩
abbrev S4x2048x3x4x2x128 : Shape := ⟨6, ![4, 2048, 3, 4, 2, 128]⟩
abbrev S4x2048x1x4x2x128 : Shape := ⟨6, ![4, 2048, 1, 4, 2, 128]⟩
abbrev S4x2048x4x128 : Shape := ⟨4, ![4, 2048, 4, 128]⟩
abbrev S4x2048x4x12 : Shape := ⟨4, ![4, 2048, 4, 12]⟩
abbrev S_ : Shape := ⟨0, ![]⟩
abbrev S4x2048x4x4x3 : Shape := ⟨5, ![4, 2048, 4, 4, 3]⟩
abbrev S2048 : Shape := ⟨1, ![2048]⟩
abbrev S4x64x32x4x2x128 : Shape := ⟨6, ![4, 64, 32, 4, 2, 128]⟩
abbrev S4x2x4x64x128 : Shape := ⟨5, ![4, 2, 4, 64, 128]⟩
abbrev S4x64x4x2x128 : Shape := ⟨5, ![4, 64, 4, 2, 128]⟩
abbrev S64 : Shape := ⟨1, ![64]⟩
abbrev S4x64x4x1x128 : Shape := ⟨5, ![4, 64, 4, 1, 128]⟩
abbrev S4x64x4x128 : Shape := ⟨4, ![4, 64, 4, 128]⟩
abbrev S1x64 : Shape := ⟨2, ![1, 64]⟩
abbrev S2048x1 : Shape := ⟨2, ![2048, 1]⟩
abbrev S2048x64 : Shape := ⟨2, ![2048, 64]⟩
abbrev S4x4x64x2048x4 : Shape := ⟨5, ![4, 4, 64, 2048, 4]⟩
abbrev S4x4x4x2048x64 : Shape := ⟨5, ![4, 4, 4, 2048, 64]⟩
abbrev S4x4x4x2048 : Shape := ⟨4, ![4, 4, 4, 2048]⟩
abbrev S4x4x4x2048x1 : Shape := ⟨5, ![4, 4, 4, 2048, 1]⟩
abbrev S4x4x128x4x2048 : Shape := ⟨5, ![4, 4, 128, 4, 2048]⟩
abbrev S4x4x2048x64 : Shape := ⟨4, ![4, 4, 2048, 64]⟩
abbrev S4x4x2048x32x2 : Shape := ⟨5, ![4, 4, 2048, 32, 2]⟩
abbrev S4x4x2048x32 : Shape := ⟨4, ![4, 4, 2048, 32]⟩
abbrev S32 : Shape := ⟨1, ![32]⟩
abbrev S1x32 : Shape := ⟨2, ![1, 32]⟩
abbrev S2048x32 : Shape := ⟨2, ![2048, 32]⟩
abbrev S1x1x2048x32 : Shape := ⟨4, ![1, 1, 2048, 32]⟩
abbrev S4x4x2048x16 : Shape := ⟨4, ![4, 4, 2048, 16]⟩
abbrev S4x4x2048x16x1 : Shape := ⟨5, ![4, 4, 2048, 16, 1]⟩
abbrev S1x1x1x1x64 : Shape := ⟨5, ![1, 1, 1, 1, 64]⟩
abbrev S4x4x2048x16x64 : Shape := ⟨5, ![4, 4, 2048, 16, 64]⟩
abbrev S4 : Shape := ⟨1, ![4]⟩
abbrev S4x1x1x1x1 : Shape := ⟨5, ![4, 1, 1, 1, 1]⟩
abbrev S1x4x1x1x1 : Shape := ⟨5, ![1, 4, 1, 1, 1]⟩
abbrev S4x4x2048x16x64x1 : Shape := ⟨6, ![4, 4, 2048, 16, 64, 1]⟩
abbrev S4x4x2048x16x64x3 : Shape := ⟨6, ![4, 4, 2048, 16, 64, 3]⟩
abbrev S4x4x2048x16x64x2x128 : Shape := ⟨7, ![4, 4, 2048, 16, 64, 2, 128]⟩
abbrev S4x4x2048x1024x2x128 : Shape := ⟨6, ![4, 4, 2048, 1024, 2, 128]⟩
abbrev S2048x1x1 : Shape := ⟨3, ![2048, 1, 1]⟩
abbrev S1x1x2048x1x1 : Shape := ⟨5, ![1, 1, 2048, 1, 1]⟩
abbrev S4x4x2048x1x1024 : Shape := ⟨5, ![4, 4, 2048, 1, 1024]⟩
abbrev S4x4x2048x1024x1x128 : Shape := ⟨6, ![4, 4, 2048, 1024, 1, 128]⟩
abbrev S4x4x2048x1024x128 : Shape := ⟨5, ![4, 4, 2048, 1024, 128]⟩
abbrev S4x4x2048x4x1024 : Shape := ⟨5, ![4, 4, 2048, 4, 1024]⟩
abbrev S4x4x2048x4 : Shape := ⟨4, ![4, 4, 2048, 4]⟩
abbrev S4x4x2048x4x1 : Shape := ⟨5, ![4, 4, 2048, 4, 1]⟩
abbrev S1x2048 : Shape := ⟨2, ![1, 2048]⟩
abbrev S2048x2048 : Shape := ⟨2, ![2048, 2048]⟩
abbrev S4x2048x4x1x128 : Shape := ⟨5, ![4, 2048, 4, 1, 128]⟩
abbrev S4x4x2048x2048x4 : Shape := ⟨5, ![4, 4, 2048, 2048, 4]⟩
abbrev S4x4x4x2048x2048 : Shape := ⟨5, ![4, 4, 4, 2048, 2048]⟩
abbrev S4x2048x4x4x1 : Shape := ⟨5, ![4, 2048, 4, 4, 1]⟩

abbrev nBuf : Space → Nat
  | .hbm => 277
  | .vmem => 0
  | .smem => 0
  | _ => 0

abbrev hbmTy0_0 (i : Nat) : BufTy := match i % 128 with
  | 0 => ⟨S8192x2048, .bf16⟩
  | 1 => ⟨S8192x1024, .f32⟩
  | 2 => ⟨S8192x3072, .bf16⟩
  | 3 => ⟨S8192x512, .f32⟩
  | 4 => ⟨S32x4x2, .f32⟩
  | 5 => ⟨S8192x2048, .f32⟩
  | 6 => ⟨S4x2048x4x4x128, .f32⟩
  | 7 => ⟨S4x2048x4x2x128, .f32⟩
  | 8 => ⟨S8192x3072, .f32⟩
  | 9 => ⟨S4x2048x3x4x2x128, .f32⟩
  | 10 => ⟨S4x2048x1x4x2x128, .f32⟩
  | 11 => ⟨S4x2048x4x2x128, .f32⟩
  | 12 => ⟨S4x2048x1x4x2x128, .f32⟩
  | 13 => ⟨S4x2048x4x2x128, .f32⟩
  | 14 => ⟨S4x2048x4x128, .f32⟩
  | 15 => ⟨S4x2048x4x12, .f32⟩
  | 16 => ⟨S4x2048x4x12, .f32⟩
  | 17 => ⟨S4x2048x4x12, .f32⟩
  | 18 => ⟨S_, .f32⟩
  | 19 => ⟨S4x2048x4x12, .f32⟩
  | 20 => ⟨S4x2048x4x12, .f32⟩
  | 21 => ⟨S_, .f32⟩
  | 22 => ⟨S4x2048x4x12, .f32⟩
  | 23 => ⟨S4x2048x4x12, .f32⟩
  | 24 => ⟨S4x2048x4x4x3, .f32⟩
  | 25 => ⟨S2048, .i32⟩
  | 26 => ⟨S4x64x32x4x2x128, .f32⟩
  | 27 => ⟨S4x2x4x64x128, .f32⟩
  | 28 => ⟨S4x64x4x2x128, .f32⟩
  | 29 => ⟨S64, .i32⟩
  | 30 => ⟨S_, .i32⟩
  | 31 => ⟨S64, .i32⟩
  | 32 => ⟨S64, .i32⟩
  | 33 => ⟨S_, .i32⟩
  | 34 => ⟨S64, .i32⟩
  | 35 => ⟨S64, .i32⟩
  | 36 => ⟨S_, .i32⟩
  | 37 => ⟨S64, .i32⟩
  | 38 => ⟨S64, .i32⟩
  | 39 => ⟨S4x64x4x1x128, .f32⟩
  | 40 => ⟨S4x64x4x128, .f32⟩
  | 41 => ⟨S4x64x4x1x128, .f32⟩
  | 42 => ⟨S4x64x4x128, .f32⟩
  | 43 => ⟨S1x64, .i32⟩
  | 44 => ⟨S2048x1, .i32⟩
  | 45 => ⟨S2048x64, .i32⟩
  | 46 => ⟨S2048x64, .i32⟩
  | 47 => ⟨S2048x64, .i1⟩
  | 48 => ⟨S4x4x64x2048x4, .f32⟩
  | 49 => ⟨S4x4x4x2048x64, .f32⟩
  | 50 => ⟨S_, .f32⟩
  | 51 => ⟨S4x4x4x2048x64, .f32⟩
  | 52 => ⟨S4x4x4x2048x64, .f32⟩
  | 53 => ⟨S_, .f32⟩
  | 54 => ⟨S_, .f32⟩
  | 55 => ⟨S4x4x4x2048x64, .i1⟩
  | 56 => ⟨S4x4x4x2048x64, .f32⟩
  | 57 => ⟨S4x4x4x2048x64, .f32⟩
  | 58 => ⟨S_, .f32⟩
  | 59 => ⟨S4x4x4x2048, .f32⟩
  | 60 => ⟨S_, .f32⟩
  | 61 => ⟨S4x4x4x2048, .f32⟩
  | 62 => ⟨S4x4x4x2048, .f32⟩
  | 63 => ⟨S4x4x4x2048x1, .f32⟩
  | 64 => ⟨S4x4x4x2048x64, .f32⟩
  | 65 => ⟨S4x4x4x2048x64, .f32⟩
  | 66 => ⟨S4x4x4x2048x64, .f32⟩
  | 67 => ⟨S_, .f32⟩
  | 68 => ⟨S4x4x4x2048, .f32⟩
  | 69 => ⟨S4x4x4x2048x1, .f32⟩
  | 70 => ⟨S4x4x4x2048x64, .f32⟩
  | 71 => ⟨S4x4x4x2048x64, .f32⟩
  | 72 => ⟨S_, .f32⟩
  | 73 => ⟨S_, .f32⟩
  | 74 => ⟨S4x4x4x2048x64, .i1⟩
  | 75 => ⟨S4x4x4x2048x64, .f32⟩
  | 76 => ⟨S4x4x4x2048x64, .f32⟩
  | 77 => ⟨S4x4x128x4x2048, .f32⟩
  | 78 => ⟨S4x2048x4x4x128, .f32⟩
  | 79 => ⟨S_, .f32⟩
  | 80 => ⟨S4x4x2048x64, .f32⟩
  | 81 => ⟨S4x4x2048x32x2, .f32⟩
  | 82 => ⟨S_, .f32⟩
  | 83 => ⟨S4x4x2048x32, .f32⟩
  | 84 => ⟨S32, .i32⟩
  | 85 => ⟨S1x32, .i32⟩
  | 86 => ⟨S_, .i32⟩
  | 87 => ⟨S_, .i32⟩
  | 88 => ⟨S2048, .i32⟩
  | 89 => ⟨S2048, .i32⟩
  | 90 => ⟨S2048, .i32⟩
  | 91 => ⟨S_, .i32⟩
  | 92 => ⟨S2048, .i32⟩
  | 93 => ⟨S2048, .i1⟩
  | 94 => ⟨S2048, .i32⟩
  | 95 => ⟨S2048, .i32⟩
  | 96 => ⟨S_, .i32⟩
  | 97 => ⟨S2048, .i32⟩
  | 98 => ⟨S2048, .i1⟩
  | 99 => ⟨S2048, .i1⟩
  | 100 => ⟨S_, .i32⟩
  | 101 => ⟨S2048, .i32⟩
  | 102 => ⟨S2048, .i32⟩
  | 103 => ⟨S2048, .i32⟩
  | 104 => ⟨S2048x1, .i32⟩
  | 105 => ⟨S2048x32, .i32⟩
  | 106 => ⟨S2048x32, .i32⟩
  | 107 => ⟨S2048x32, .i1⟩
  | 108 => ⟨S_, .i32⟩
  | 109 => ⟨S1x32, .i32⟩
  | 110 => ⟨S1x32, .i1⟩
  | 111 => ⟨S2048x32, .i32⟩
  | 112 => ⟨S2048x32, .i32⟩
  | 113 => ⟨S2048x32, .i1⟩
  | 114 => ⟨S2048x32, .i1⟩
  | 115 => ⟨S2048x32, .i1⟩
  | 116 => ⟨S_, .i32⟩
  | 117 => ⟨S2048x1, .i32⟩
  | 118 => ⟨S2048x1, .i32⟩
  | 119 => ⟨S2048x32, .i32⟩
  | 120 => ⟨S2048x32, .i32⟩
  | 121 => ⟨S2048x32, .i1⟩
  | 122 => ⟨S2048x32, .i1⟩
  | 123 => ⟨S2048x32, .f32⟩
  | 124 => ⟨S_, .f32⟩
  | 125 => ⟨S2048x32, .f32⟩
  | 126 => ⟨S2048x32, .f32⟩
  | 127 => ⟨S1x1x2048x32, .f32⟩
  | _ => ⟨S8192x2048, .bf16⟩

abbrev hbmTy0_1 (i : Nat) : BufTy := match i % 128 with
  | 0 => ⟨S4x4x2048x32, .f32⟩
  | 1 => ⟨S4x4x2048x32, .f32⟩
  | 2 => ⟨S_, .f32⟩
  | 3 => ⟨S_, .f32⟩
  | 4 => ⟨S4x4x2048x32, .i1⟩
  | 5 => ⟨S4x4x2048x32, .f32⟩
  | 6 => ⟨S4x4x2048x32, .f32⟩
  | 7 => ⟨S4x4x2048x16, .f32⟩
  | 8 => ⟨S4x4x2048x16, .i32⟩
  | 9 => ⟨S4x4x2048x16x1, .i32⟩
  | 10 => ⟨S_, .i32⟩
  | 11 => ⟨S4x4x2048x16x1, .i32⟩
  | 12 => ⟨S4x4x2048x16x1, .i32⟩
  | 13 => ⟨S64, .i32⟩
  | 14 => ⟨S1x1x1x1x64, .i32⟩
  | 15 => ⟨S4x4x2048x16x64, .i32⟩
  | 16 => ⟨S4x4x2048x16x64, .i32⟩
  | 17 => ⟨S4x4x2048x16x64, .i32⟩
  | 18 => ⟨S4, .i32⟩
  | 19 => ⟨S4x1x1x1x1, .i32⟩
  | 20 => ⟨S4, .i32⟩
  | 21 => ⟨S1x4x1x1x1, .i32⟩
  | 22 => ⟨S_, .i32⟩
  | 23 => ⟨S4x1x1x1x1, .i32⟩
  | 24 => ⟨S4x1x1x1x1, .i1⟩
  | 25 => ⟨S_, .i32⟩
  | 26 => ⟨S4x1x1x1x1, .i32⟩
  | 27 => ⟨S4x1x1x1x1, .i32⟩
  | 28 => ⟨S4x1x1x1x1, .i32⟩
  | 29 => ⟨S_, .i32⟩
  | 30 => ⟨S4x4x2048x16x64, .i32⟩
  | 31 => ⟨S4x4x2048x16x64, .i1⟩
  | 32 => ⟨S_, .i32⟩
  | 33 => ⟨S4x4x2048x16x64, .i32⟩
  | 34 => ⟨S4x4x2048x16x64, .i32⟩
  | 35 => ⟨S4x4x2048x16x64, .i32⟩
  | 36 => ⟨S_, .i32⟩
  | 37 => ⟨S1x4x1x1x1, .i32⟩
  | 38 => ⟨S1x4x1x1x1, .i1⟩
  | 39 => ⟨S_, .i32⟩
  | 40 => ⟨S1x4x1x1x1, .i32⟩
  | 41 => ⟨S1x4x1x1x1, .i32⟩
  | 42 => ⟨S1x4x1x1x1, .i32⟩
  | 43 => ⟨S4x4x2048x16x64, .i32⟩
  | 44 => ⟨S4x4x2048x16x64, .i32⟩
  | 45 => ⟨S4x4x2048x16x64x1, .i32⟩
  | 46 => ⟨S4x4x2048x16x64x1, .i32⟩
  | 47 => ⟨S4x4x2048x16x64x1, .i32⟩
  | 48 => ⟨S4x4x2048x16x64x3, .i32⟩
  | 49 => ⟨S4x4x2048x16x64x2x128, .f32⟩
  | 50 => ⟨S4x4x2048x1024x2x128, .f32⟩
  | 51 => ⟨S2048x1x1, .i32⟩
  | 52 => ⟨S1x1x2048x1x1, .i32⟩
  | 53 => ⟨S4x4x2048x16x64, .i32⟩
  | 54 => ⟨S4x4x2048x16x64, .i1⟩
  | 55 => ⟨S4x4x2048x1x1024, .i1⟩
  | 56 => ⟨S4x4x2048x1024x1x128, .f32⟩
  | 57 => ⟨S4x4x2048x1024x128, .f32⟩
  | 58 => ⟨S4x4x2048x4x1024, .f32⟩
  | 59 => ⟨S_, .f32⟩
  | 60 => ⟨S4x4x2048x4x1024, .f32⟩
  | 61 => ⟨S4x4x2048x4x1024, .f32⟩
  | 62 => ⟨S_, .f32⟩
  | 63 => ⟨S_, .f32⟩
  | 64 => ⟨S4x4x2048x4x1024, .i1⟩
  | 65 => ⟨S4x4x2048x4x1024, .f32⟩
  | 66 => ⟨S4x4x2048x4x1024, .f32⟩
  | 67 => ⟨S_, .f32⟩
  | 68 => ⟨S4x4x2048x4, .f32⟩
  | 69 => ⟨S_, .f32⟩
  | 70 => ⟨S4x4x2048x4, .f32⟩
  | 71 => ⟨S4x4x2048x4, .f32⟩
  | 72 => ⟨S4x4x2048x4x1, .f32⟩
  | 73 => ⟨S4x4x2048x4x1024, .f32⟩
  | 74 => ⟨S4x4x2048x4x1024, .f32⟩
  | 75 => ⟨S4x4x2048x4x1024, .f32⟩
  | 76 => ⟨S_, .f32⟩
  | 77 => ⟨S4x4x2048x4, .f32⟩
  | 78 => ⟨S4x4x2048x4x1, .f32⟩
  | 79 => ⟨S4x4x2048x4x1024, .f32⟩
  | 80 => ⟨S4x4x2048x4x1024, .f32⟩
  | 81 => ⟨S_, .f32⟩
  | 82 => ⟨S_, .f32⟩
  | 83 => ⟨S4x4x2048x4x1024, .i1⟩
  | 84 => ⟨S4x4x2048x4x1024, .f32⟩
  | 85 => ⟨S4x4x2048x4x1024, .f32⟩
  | 86 => ⟨S4x4x2048x1024x1x128, .f32⟩
  | 87 => ⟨S4x4x2048x1024x128, .f32⟩
  | 88 => ⟨S4x2048x4x4x128, .f32⟩
  | 89 => ⟨S2048x1, .i32⟩
  | 90 => ⟨S1x2048, .i32⟩
  | 91 => ⟨S2048x2048, .i32⟩
  | 92 => ⟨S2048x2048, .i32⟩
  | 93 => ⟨S2048x2048, .i32⟩
  | 94 => ⟨S4x2048x4x1x128, .f32⟩
  | 95 => ⟨S4x2048x4x128, .f32⟩
  | 96 => ⟨S4x2048x4x1x128, .f32⟩
  | 97 => ⟨S4x2048x4x128, .f32⟩
  | 98 => ⟨S_, .i32⟩
  | 99 => ⟨S2048x2048, .i32⟩
  | 100 => ⟨S2048x2048, .i1⟩
  | 101 => ⟨S_, .i32⟩
  | 102 => ⟨S2048x2048, .i32⟩
  | 103 => ⟨S2048x2048, .i1⟩
  | 104 => ⟨S2048x2048, .i1⟩
  | 105 => ⟨S4x4x2048x2048x4, .f32⟩
  | 106 => ⟨S4x4x4x2048x2048, .f32⟩
  | 107 => ⟨S_, .f32⟩
  | 108 => ⟨S4x4x4x2048x2048, .f32⟩
  | 109 => ⟨S4x4x4x2048x2048, .f32⟩
  | 110 => ⟨S_, .f32⟩
  | 111 => ⟨S_, .f32⟩
  | 112 => ⟨S4x4x4x2048x2048, .i1⟩
  | 113 => ⟨S4x4x4x2048x2048, .f32⟩
  | 114 => ⟨S4x4x4x2048x2048, .f32⟩
  | 115 => ⟨S_, .f32⟩
  | 116 => ⟨S4x4x4x2048, .f32⟩
  | 117 => ⟨S_, .f32⟩
  | 118 => ⟨S4x4x4x2048, .f32⟩
  | 119 => ⟨S4x4x4x2048, .f32⟩
  | 120 => ⟨S4x4x4x2048x1, .f32⟩
  | 121 => ⟨S4x4x4x2048x2048, .f32⟩
  | 122 => ⟨S4x4x4x2048x2048, .f32⟩
  | 123 => ⟨S4x4x4x2048x2048, .f32⟩
  | 124 => ⟨S_, .f32⟩
  | 125 => ⟨S4x4x4x2048, .f32⟩
  | 126 => ⟨S4x4x4x2048x1, .f32⟩
  | 127 => ⟨S4x4x4x2048x2048, .f32⟩
  | _ => ⟨S8192x2048, .bf16⟩

abbrev hbmTy0_2 (i : Nat) : BufTy := match i % 128 with
  | 0 => ⟨S4x4x4x2048x2048, .f32⟩
  | 1 => ⟨S_, .f32⟩
  | 2 => ⟨S_, .f32⟩
  | 3 => ⟨S4x4x4x2048x2048, .i1⟩
  | 4 => ⟨S4x4x4x2048x2048, .f32⟩
  | 5 => ⟨S4x4x4x2048x2048, .f32⟩
  | 6 => ⟨S4x4x128x4x2048, .f32⟩
  | 7 => ⟨S4x2048x4x4x128, .f32⟩
  | 8 => ⟨S4x2048x4x4x1, .f32⟩
  | 9 => ⟨S4x2048x4x4x128, .f32⟩
  | 10 => ⟨S4x2048x4x4x128, .f32⟩
  | 11 => ⟨S4x2048x4x4x1, .f32⟩
  | 12 => ⟨S4x2048x4x4x128, .f32⟩
  | 13 => ⟨S4x2048x4x4x128, .f32⟩
  | 14 => ⟨S4x2048x4x4x128, .f32⟩
  | 15 => ⟨S4x2048x4x4x1, .f32⟩
  | 16 => ⟨S4x2048x4x4x128, .f32⟩
  | 17 => ⟨S4x2048x4x4x128, .f32⟩
  | 18 => ⟨S4x2048x4x4x128, .f32⟩
  | 19 => ⟨S8192x2048, .f32⟩
  | 20 => ⟨S8192x2048, .bf16⟩
  | _ => ⟨S8192x2048, .bf16⟩

abbrev hbmTy (i : Nat) : BufTy := match i / 128 with
  | 0 => hbmTy0_0 i
  | 1 => hbmTy0_1 i
  | 2 => hbmTy0_2 i
  | _ => ⟨S8192x2048, .bf16⟩

abbrev bufTy : (tb : Table) → Fin (tcTables nBuf tb) → BufTy
  | .hbm, ⟨i, _⟩ => hbmTy i
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_cst : Ref sig .tc := ⟨.hbm, 18, rfl⟩
abbrev main_v13 : Ref sig .tc := ⟨.hbm, 19, rfl⟩
abbrev main_v14 : Ref sig .tc := ⟨.hbm, 20, rfl⟩
abbrev main_cst_0 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_c : Ref sig .tc := ⟨.hbm, 30, rfl⟩
abbrev main_v23 : Ref sig .tc := ⟨.hbm, 31, rfl⟩
abbrev main_v24 : Ref sig .tc := ⟨.hbm, 32, rfl⟩
abbrev main_c_1 : Ref sig .tc := ⟨.hbm, 33, rfl⟩
abbrev main_v25 : Ref sig .tc := ⟨.hbm, 34, rfl⟩
abbrev main_v26 : Ref sig .tc := ⟨.hbm, 35, rfl⟩
abbrev main_c_2 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_v38 : Ref sig .tc := ⟨.hbm, 48, rfl⟩
abbrev main_v39 : Ref sig .tc := ⟨.hbm, 49, rfl⟩
abbrev main_cst_3 : Ref sig .tc := ⟨.hbm, 50, rfl⟩
abbrev main_v40 : Ref sig .tc := ⟨.hbm, 51, rfl⟩
abbrev main_v41 : Ref sig .tc := ⟨.hbm, 52, rfl⟩
abbrev main_cst_4 : Ref sig .tc := ⟨.hbm, 53, rfl⟩
abbrev main_call0_v0 : Ref sig .tc := ⟨.hbm, 54, rfl⟩
abbrev main_call0_v1 : Ref sig .tc := ⟨.hbm, 55, rfl⟩
abbrev main_call0_v2 : Ref sig .tc := ⟨.hbm, 56, rfl⟩
abbrev main_v42 : Ref sig .tc := ⟨.hbm, 57, rfl⟩
abbrev main_cst_5 : Ref sig .tc := ⟨.hbm, 58, rfl⟩
abbrev main_v43 : Ref sig .tc := ⟨.hbm, 59, rfl⟩
abbrev main_cst_6 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩
abbrev main_v49 : Ref sig .tc := ⟨.hbm, 66, rfl⟩
abbrev main_cst_7 : Ref sig .tc := ⟨.hbm, 67, rfl⟩
abbrev main_v50 : Ref sig .tc := ⟨.hbm, 68, rfl⟩
abbrev main_v51 : Ref sig .tc := ⟨.hbm, 69, rfl⟩
abbrev main_v52 : Ref sig .tc := ⟨.hbm, 70, rfl⟩
abbrev main_v53 : Ref sig .tc := ⟨.hbm, 71, rfl⟩
abbrev main_cst_8 : Ref sig .tc := ⟨.hbm, 72, rfl⟩
abbrev main_call1_v0 : Ref sig .tc := ⟨.hbm, 73, rfl⟩
abbrev main_call1_v1 : Ref sig .tc := ⟨.hbm, 74, rfl⟩
abbrev main_call1_v2 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_cst_9 : Ref sig .tc := ⟨.hbm, 79, rfl⟩
abbrev main_v57 : Ref sig .tc := ⟨.hbm, 80, rfl⟩
abbrev main_v58 : Ref sig .tc := ⟨.hbm, 81, rfl⟩
abbrev main_cst_10 : Ref sig .tc := ⟨.hbm, 82, rfl⟩
abbrev main_v59 : Ref sig .tc := ⟨.hbm, 83, rfl⟩
abbrev main_v60 : Ref sig .tc := ⟨.hbm, 84, rfl⟩
abbrev main_v61 : Ref sig .tc := ⟨.hbm, 85, rfl⟩
abbrev main_c_11 : Ref sig .tc := ⟨.hbm, 86, rfl⟩
abbrev main_call2_v0 : Ref sig .tc := ⟨.hbm, 87, rfl⟩
abbrev main_call2_v1 : Ref sig .tc := ⟨.hbm, 88, rfl⟩
abbrev main_call2_v2 : Ref sig .tc := ⟨.hbm, 89, rfl⟩
abbrev main_call2_v3 : Ref sig .tc := ⟨.hbm, 90, rfl⟩
abbrev main_call2_v4 : Ref sig .tc := ⟨.hbm, 91, rfl⟩
abbrev main_call2_v5 : Ref sig .tc := ⟨.hbm, 92, rfl⟩
abbrev main_call2_v6 : Ref sig .tc := ⟨.hbm, 93, rfl⟩
abbrev main_call2_v7 : Ref sig .tc := ⟨.hbm, 94, rfl⟩
abbrev main_call2_v8 : Ref sig .tc := ⟨.hbm, 95, rfl⟩
abbrev main_call2_c : Ref sig .tc := ⟨.hbm, 96, rfl⟩
abbrev main_call2_v9 : Ref sig .tc := ⟨.hbm, 97, rfl⟩
abbrev main_call2_v10 : Ref sig .tc := ⟨.hbm, 98, rfl⟩
abbrev main_call2_v11 : Ref sig .tc := ⟨.hbm, 99, rfl⟩
abbrev main_call2_c_0 : Ref sig .tc := ⟨.hbm, 100, rfl⟩
abbrev main_call2_v12 : Ref sig .tc := ⟨.hbm, 101, rfl⟩
abbrev main_call2_v13 : Ref sig .tc := ⟨.hbm, 102, rfl⟩
abbrev main_v62 : Ref sig .tc := ⟨.hbm, 103, rfl⟩
abbrev main_v63 : Ref sig .tc := ⟨.hbm, 104, rfl⟩
abbrev main_v64 : Ref sig .tc := ⟨.hbm, 105, rfl⟩
abbrev main_v65 : Ref sig .tc := ⟨.hbm, 106, rfl⟩
abbrev main_v66 : Ref sig .tc := ⟨.hbm, 107, rfl⟩
abbrev main_c_12 : Ref sig .tc := ⟨.hbm, 108, rfl⟩
abbrev main_v67 : Ref sig .tc := ⟨.hbm, 109, rfl⟩
abbrev main_v68 : Ref sig .tc := ⟨.hbm, 110, rfl⟩
abbrev main_v69 : Ref sig .tc := ⟨.hbm, 111, rfl⟩
abbrev main_v70 : Ref sig .tc := ⟨.hbm, 112, rfl⟩
abbrev main_v71 : Ref sig .tc := ⟨.hbm, 113, rfl⟩
abbrev main_v72 : Ref sig .tc := ⟨.hbm, 114, rfl⟩
abbrev main_v73 : Ref sig .tc := ⟨.hbm, 115, rfl⟩
abbrev main_c_13 : Ref sig .tc := ⟨.hbm, 116, rfl⟩
abbrev main_v74 : Ref sig .tc := ⟨.hbm, 117, rfl⟩
abbrev main_v75 : Ref sig .tc := ⟨.hbm, 118, rfl⟩
abbrev main_v76 : Ref sig .tc := ⟨.hbm, 119, rfl⟩
abbrev main_v77 : Ref sig .tc := ⟨.hbm, 120, rfl⟩
abbrev main_v78 : Ref sig .tc := ⟨.hbm, 121, rfl⟩
abbrev main_v79 : Ref sig .tc := ⟨.hbm, 122, rfl⟩
abbrev main_v80 : Ref sig .tc := ⟨.hbm, 123, rfl⟩
abbrev main_cst_14 : Ref sig .tc := ⟨.hbm, 124, rfl⟩
abbrev main_v81 : Ref sig .tc := ⟨.hbm, 125, rfl⟩
abbrev main_v82 : Ref sig .tc := ⟨.hbm, 126, rfl⟩
abbrev main_v83 : Ref sig .tc := ⟨.hbm, 127, rfl⟩
abbrev main_v84 : Ref sig .tc := ⟨.hbm, 128, rfl⟩
abbrev main_v85 : Ref sig .tc := ⟨.hbm, 129, rfl⟩
abbrev main_cst_15 : Ref sig .tc := ⟨.hbm, 130, rfl⟩
abbrev main_call3_v0 : Ref sig .tc := ⟨.hbm, 131, rfl⟩
abbrev main_call3_v1 : Ref sig .tc := ⟨.hbm, 132, rfl⟩
abbrev main_call3_v2 : Ref sig .tc := ⟨.hbm, 133, rfl⟩
abbrev main_v86 : Ref sig .tc := ⟨.hbm, 134, rfl⟩
abbrev main_values : Ref sig .tc := ⟨.hbm, 135, rfl⟩
abbrev main_indices : Ref sig .tc := ⟨.hbm, 136, rfl⟩
abbrev main_v87 : Ref sig .tc := ⟨.hbm, 137, rfl⟩
abbrev main_c_16 : Ref sig .tc := ⟨.hbm, 138, rfl⟩
abbrev main_v88 : Ref sig .tc := ⟨.hbm, 139, rfl⟩
abbrev main_v89 : Ref sig .tc := ⟨.hbm, 140, rfl⟩
abbrev main_v90 : Ref sig .tc := ⟨.hbm, 141, rfl⟩
abbrev main_v91 : Ref sig .tc := ⟨.hbm, 142, rfl⟩
abbrev main_v92 : Ref sig .tc := ⟨.hbm, 143, rfl⟩
abbrev main_v93 : Ref sig .tc := ⟨.hbm, 144, rfl⟩
abbrev main_v94 : Ref sig .tc := ⟨.hbm, 145, rfl⟩
abbrev main_v95 : Ref sig .tc := ⟨.hbm, 146, rfl⟩
abbrev main_v96 : Ref sig .tc := ⟨.hbm, 147, rfl⟩
abbrev main_v97 : Ref sig .tc := ⟨.hbm, 148, rfl⟩
abbrev main_v98 : Ref sig .tc := ⟨.hbm, 149, rfl⟩
abbrev main_c_17 : Ref sig .tc := ⟨.hbm, 150, rfl⟩
abbrev main_v99 : Ref sig .tc := ⟨.hbm, 151, rfl⟩
abbrev main_v100 : Ref sig .tc := ⟨.hbm, 152, rfl⟩
abbrev main_c_18 : Ref sig .tc := ⟨.hbm, 153, rfl⟩
abbrev main_v101 : Ref sig .tc := ⟨.hbm, 154, rfl⟩
abbrev main_v102 : Ref sig .tc := ⟨.hbm, 155, rfl⟩
abbrev main_v103 : Ref sig .tc := ⟨.hbm, 156, rfl⟩
abbrev main_c_19 : Ref sig .tc := ⟨.hbm, 157, rfl⟩
abbrev main_v104 : Ref sig .tc := ⟨.hbm, 158, rfl⟩
abbrev main_v105 : Ref sig .tc := ⟨.hbm, 159, rfl⟩
abbrev main_c_20 : Ref sig .tc := ⟨.hbm, 160, rfl⟩
abbrev main_v106 : Ref sig .tc := ⟨.hbm, 161, rfl⟩
abbrev main_v107 : Ref sig .tc := ⟨.hbm, 162, rfl⟩
abbrev main_v108 : Ref sig .tc := ⟨.hbm, 163, rfl⟩
abbrev main_c_21 : Ref sig .tc := ⟨.hbm, 164, rfl⟩
abbrev main_v109 : Ref sig .tc := ⟨.hbm, 165, rfl⟩
abbrev main_v110 : Ref sig .tc := ⟨.hbm, 166, rfl⟩
abbrev main_c_22 : Ref sig .tc := ⟨.hbm, 167, rfl⟩
abbrev main_v111 : Ref sig .tc := ⟨.hbm, 168, rfl⟩
abbrev main_v112 : Ref sig .tc := ⟨.hbm, 169, rfl⟩
abbrev main_v113 : Ref sig .tc := ⟨.hbm, 170, rfl⟩
abbrev main_v114 : Ref sig .tc := ⟨.hbm, 171, rfl⟩
abbrev main_v115 : Ref sig .tc := ⟨.hbm, 172, rfl⟩
abbrev main_v116 : Ref sig .tc := ⟨.hbm, 173, rfl⟩
abbrev main_v117 : Ref sig .tc := ⟨.hbm, 174, rfl⟩
abbrev main_v118 : Ref sig .tc := ⟨.hbm, 175, rfl⟩
abbrev main_v119 : Ref sig .tc := ⟨.hbm, 176, rfl⟩
abbrev main_v120 : Ref sig .tc := ⟨.hbm, 177, rfl⟩
abbrev main_v121 : Ref sig .tc := ⟨.hbm, 178, rfl⟩
abbrev main_v122 : Ref sig .tc := ⟨.hbm, 179, rfl⟩
abbrev main_v123 : Ref sig .tc := ⟨.hbm, 180, rfl⟩
abbrev main_v124 : Ref sig .tc := ⟨.hbm, 181, rfl⟩
abbrev main_v125 : Ref sig .tc := ⟨.hbm, 182, rfl⟩
abbrev main_v126 : Ref sig .tc := ⟨.hbm, 183, rfl⟩
abbrev main_v127 : Ref sig .tc := ⟨.hbm, 184, rfl⟩
abbrev main_v128 : Ref sig .tc := ⟨.hbm, 185, rfl⟩
abbrev main_v129 : Ref sig .tc := ⟨.hbm, 186, rfl⟩
abbrev main_cst_23 : Ref sig .tc := ⟨.hbm, 187, rfl⟩
abbrev main_v130 : Ref sig .tc := ⟨.hbm, 188, rfl⟩
abbrev main_v131 : Ref sig .tc := ⟨.hbm, 189, rfl⟩
abbrev main_cst_24 : Ref sig .tc := ⟨.hbm, 190, rfl⟩
abbrev main_call4_v0 : Ref sig .tc := ⟨.hbm, 191, rfl⟩
abbrev main_call4_v1 : Ref sig .tc := ⟨.hbm, 192, rfl⟩
abbrev main_call4_v2 : Ref sig .tc := ⟨.hbm, 193, rfl⟩
abbrev main_v132 : Ref sig .tc := ⟨.hbm, 194, rfl⟩
abbrev main_cst_25 : Ref sig .tc := ⟨.hbm, 195, rfl⟩
abbrev main_v133 : Ref sig .tc := ⟨.hbm, 196, rfl⟩
abbrev main_cst_26 : Ref sig .tc := ⟨.hbm, 197, rfl⟩
abbrev main_v134 : Ref sig .tc := ⟨.hbm, 198, rfl⟩
abbrev main_v135 : Ref sig .tc := ⟨.hbm, 199, rfl⟩
abbrev main_v136 : Ref sig .tc := ⟨.hbm, 200, rfl⟩
abbrev main_v137 : Ref sig .tc := ⟨.hbm, 201, rfl⟩
abbrev main_v138 : Ref sig .tc := ⟨.hbm, 202, rfl⟩
abbrev main_v139 : Ref sig .tc := ⟨.hbm, 203, rfl⟩
abbrev main_cst_27 : Ref sig .tc := ⟨.hbm, 204, rfl⟩
abbrev main_v140 : Ref sig .tc := ⟨.hbm, 205, rfl⟩
abbrev main_v141 : Ref sig .tc := ⟨.hbm, 206, rfl⟩
abbrev main_v142 : Ref sig .tc := ⟨.hbm, 207, rfl⟩
abbrev main_v143 : Ref sig .tc := ⟨.hbm, 208, rfl⟩
abbrev main_cst_28 : Ref sig .tc := ⟨.hbm, 209, rfl⟩
abbrev main_call5_v0 : Ref sig .tc := ⟨.hbm, 210, rfl⟩
abbrev main_call5_v1 : Ref sig .tc := ⟨.hbm, 211, rfl⟩
abbrev main_call5_v2 : Ref sig .tc := ⟨.hbm, 212, rfl⟩
abbrev main_v144 : Ref sig .tc := ⟨.hbm, 213, rfl⟩
abbrev main_v145 : Ref sig .tc := ⟨.hbm, 214, rfl⟩
abbrev main_v146 : Ref sig .tc := ⟨.hbm, 215, rfl⟩
abbrev main_v147 : Ref sig .tc := ⟨.hbm, 216, rfl⟩
abbrev main_v148 : Ref sig .tc := ⟨.hbm, 217, rfl⟩
abbrev main_v149 : Ref sig .tc := ⟨.hbm, 218, rfl⟩
abbrev main_v150 : Ref sig .tc := ⟨.hbm, 219, rfl⟩
abbrev main_v151 : Ref sig .tc := ⟨.hbm, 220, rfl⟩
abbrev main_v152 : Ref sig .tc := ⟨.hbm, 221, rfl⟩
abbrev main_v153 : Ref sig .tc := ⟨.hbm, 222, rfl⟩
abbrev main_v154 : Ref sig .tc := ⟨.hbm, 223, rfl⟩
abbrev main_v155 : Ref sig .tc := ⟨.hbm, 224, rfl⟩
abbrev main_v156 : Ref sig .tc := ⟨.hbm, 225, rfl⟩
abbrev main_c_29 : Ref sig .tc := ⟨.hbm, 226, rfl⟩
abbrev main_v157 : Ref sig .tc := ⟨.hbm, 227, rfl⟩
abbrev main_v158 : Ref sig .tc := ⟨.hbm, 228, rfl⟩
abbrev main_c_30 : Ref sig .tc := ⟨.hbm, 229, rfl⟩
abbrev main_v159 : Ref sig .tc := ⟨.hbm, 230, rfl⟩
abbrev main_v160 : Ref sig .tc := ⟨.hbm, 231, rfl⟩
abbrev main_v161 : Ref sig .tc := ⟨.hbm, 232, rfl⟩
abbrev main_v162 : Ref sig .tc := ⟨.hbm, 233, rfl⟩
abbrev main_v163 : Ref sig .tc := ⟨.hbm, 234, rfl⟩
abbrev main_cst_31 : Ref sig .tc := ⟨.hbm, 235, rfl⟩
abbrev main_v164 : Ref sig .tc := ⟨.hbm, 236, rfl⟩
abbrev main_v165 : Ref sig .tc := ⟨.hbm, 237, rfl⟩
abbrev main_cst_32 : Ref sig .tc := ⟨.hbm, 238, rfl⟩
abbrev main_call6_v0 : Ref sig .tc := ⟨.hbm, 239, rfl⟩
abbrev main_call6_v1 : Ref sig .tc := ⟨.hbm, 240, rfl⟩
abbrev main_call6_v2 : Ref sig .tc := ⟨.hbm, 241, rfl⟩
abbrev main_v166 : Ref sig .tc := ⟨.hbm, 242, rfl⟩
abbrev main_cst_33 : Ref sig .tc := ⟨.hbm, 243, rfl⟩
abbrev main_v167 : Ref sig .tc := ⟨.hbm, 244, rfl⟩
abbrev main_cst_34 : Ref sig .tc := ⟨.hbm, 245, rfl⟩
abbrev main_v168 : Ref sig .tc := ⟨.hbm, 246, rfl⟩
abbrev main_v169 : Ref sig .tc := ⟨.hbm, 247, rfl⟩
abbrev main_v170 : Ref sig .tc := ⟨.hbm, 248, rfl⟩
abbrev main_v171 : Ref sig .tc := ⟨.hbm, 249, rfl⟩
abbrev main_v172 : Ref sig .tc := ⟨.hbm, 250, rfl⟩
abbrev main_v173 : Ref sig .tc := ⟨.hbm, 251, rfl⟩
abbrev main_cst_35 : Ref sig .tc := ⟨.hbm, 252, rfl⟩
abbrev main_v174 : Ref sig .tc := ⟨.hbm, 253, rfl⟩
abbrev main_v175 : Ref sig .tc := ⟨.hbm, 254, rfl⟩
abbrev main_v176 : Ref sig .tc := ⟨.hbm, 255, rfl⟩
abbrev main_v177 : Ref sig .tc := ⟨.hbm, 256, rfl⟩
abbrev main_cst_36 : Ref sig .tc := ⟨.hbm, 257, rfl⟩
abbrev main_call7_v0 : Ref sig .tc := ⟨.hbm, 258, rfl⟩
abbrev main_call7_v1 : Ref sig .tc := ⟨.hbm, 259, rfl⟩
abbrev main_call7_v2 : Ref sig .tc := ⟨.hbm, 260, rfl⟩
abbrev main_v178 : Ref sig .tc := ⟨.hbm, 261, rfl⟩
abbrev main_v179 : Ref sig .tc := ⟨.hbm, 262, rfl⟩
abbrev main_v180 : Ref sig .tc := ⟨.hbm, 263, rfl⟩
abbrev main_v181 : Ref sig .tc := ⟨.hbm, 264, rfl⟩
abbrev main_v182 : Ref sig .tc := ⟨.hbm, 265, rfl⟩
abbrev main_v183 : Ref sig .tc := ⟨.hbm, 266, rfl⟩
abbrev main_v184 : Ref sig .tc := ⟨.hbm, 267, rfl⟩
abbrev main_v185 : Ref sig .tc := ⟨.hbm, 268, rfl⟩
abbrev main_v186 : Ref sig .tc := ⟨.hbm, 269, rfl⟩
abbrev main_v187 : Ref sig .tc := ⟨.hbm, 270, rfl⟩
abbrev main_v188 : Ref sig .tc := ⟨.hbm, 271, rfl⟩
abbrev main_v189 : Ref sig .tc := ⟨.hbm, 272, rfl⟩
abbrev main_v190 : Ref sig .tc := ⟨.hbm, 273, rfl⟩
abbrev main_v191 : Ref sig .tc := ⟨.hbm, 274, rfl⟩
abbrev main_v192 : Ref sig .tc := ⟨.hbm, 275, rfl⟩
abbrev main_v193 : Ref sig .tc := ⟨.hbm, 276, rfl⟩

abbrev nD : Nat := 1
abbrev τ : Topo := Topo.v7x

variable {F : FTy → Type} [FloatOps F]
-- ==== Kernel2.lean ====
abbrev S4x2048x4096 : Shape := ⟨3, ![4, 2048, 4096]⟩
abbrev S2x4096 : Shape := ⟨2, ![2, 4096]⟩
abbrev S1x4096x10240 : Shape := ⟨3, ![1, 4096, 10240]⟩
abbrev S1x4096 : Shape := ⟨2, ![1, 4096]⟩
abbrev S4096 : Shape := ⟨1, ![4096]⟩
abbrev S_ : Shape := ⟨0, ![]⟩
abbrev S4x2048 : Shape := ⟨2, ![4, 2048]⟩
abbrev S4x2048x1 : Shape := ⟨3, ![4, 2048, 1]⟩
abbrev S1x1x4096 : Shape := ⟨3, ![1, 1, 4096]⟩
abbrev S8192x4096 : Shape := ⟨2, ![8192, 4096]⟩
abbrev S4096x10240 : Shape := ⟨2, ![4096, 10240]⟩
abbrev S8192x10240 : Shape := ⟨2, ![8192, 10240]⟩
abbrev S1024x4096 : Shape := ⟨2, ![1024, 4096]⟩
abbrev S4096x512 : Shape := ⟨2, ![4096, 512]⟩
abbrev S1024x512 : Shape := ⟨2, ![1024, 512]⟩
abbrev S8192x2048 : Shape := ⟨2, ![8192, 2048]⟩
abbrev S4x2048x2048 : Shape := ⟨3, ![4, 2048, 2048]⟩
abbrev S4x2x2048 : Shape := ⟨3, ![4, 2, 2048]⟩
abbrev S4x2050x2048 : Shape := ⟨3, ![4, 2050, 2048]⟩
abbrev S1x4x2x2048 : Shape := ⟨4, ![1, 4, 2, 2048]⟩

abbrev nBuf : Space → Nat
  | .hbm => 38
  | .vmem => 6
  | .smem => 0
  | _ => 0

abbrev bufTy : (tb : Table) → Fin (tcTables nBuf tb) → BufTy
  | .hbm, ⟨0, _⟩ => ⟨S4x2048x4096, .f32⟩
  | .hbm, ⟨1, _⟩ => ⟨S2x4096, .f32⟩
  | .hbm, ⟨2, _⟩ => ⟨S1x4096x10240, .f32⟩
  | .hbm, ⟨3, _⟩ => ⟨S1x4096, .f32⟩
  | .hbm, ⟨4, _⟩ => ⟨S4096, .f32⟩
  | .hbm, ⟨5, _⟩ => ⟨S4x2048x4096, .f32⟩
  | .hbm, ⟨6, _⟩ => ⟨S_, .f32⟩
  | .hbm, ⟨7, _⟩ => ⟨S4x2048, .f32⟩
  | .hbm, ⟨8, _⟩ => ⟨S4x2048x1, .f32⟩
  | .hbm, ⟨9, _⟩ => ⟨S_, .f32⟩
  | .hbm, ⟨10, _⟩ => ⟨S4x2048x1, .f32⟩
  | .hbm, ⟨11, _⟩ => ⟨S4x2048x1, .f32⟩
  | .hbm, ⟨12, _⟩ => ⟨S_, .f32⟩
  | .hbm, ⟨13, _⟩ => ⟨S4x2048x1, .f32⟩
  | .hbm, ⟨14, _⟩ => ⟨S4x2048x1, .f32⟩
  | .hbm, ⟨15, _⟩ => ⟨S4x2048x1, .f32⟩
  | .hbm, ⟨16, _⟩ => ⟨S4x2048x4096, .f32⟩
  | .hbm, ⟨17, _⟩ => ⟨S4x2048x4096, .f32⟩
  | .hbm, ⟨18, _⟩ => ⟨S1x1x4096, .f32⟩
  | .hbm, ⟨19, _⟩ => ⟨S4x2048x4096, .f32⟩
  | .hbm, ⟨20, _⟩ => ⟨S4x2048x4096, .f32⟩
  | .hbm, ⟨21, _⟩ => ⟨S8192x4096, .f32⟩
  | .hbm, ⟨22, _⟩ => ⟨S8192x4096, .bf16⟩
  | .hbm, ⟨23, _⟩ => ⟨S4096x10240, .f32⟩
  | .hbm, ⟨24, _⟩ => ⟨S4096x10240, .bf16⟩
  | .hbm, ⟨25, _⟩ => ⟨S8192x10240, .f32⟩
  | .hbm, ⟨26, _⟩ => ⟨S8192x2048, .f32⟩
  | .hbm, ⟨27, _⟩ => ⟨S4x2048x2048, .f32⟩
  | .hbm, ⟨28, _⟩ => ⟨S8192x2048, .f32⟩
  | .hbm, ⟨29, _⟩ => ⟨S4x2048x2048, .f32⟩
  | .hbm, ⟨30, _⟩ => ⟨S8192x2048, .f32⟩
  | .hbm, ⟨31, _⟩ => ⟨S4x2048x2048, .f32⟩
  | .hbm, ⟨32, _⟩ => ⟨S4x2048x2048, .f32⟩
  | .hbm, ⟨33, _⟩ => ⟨S_, .f32⟩
  | .hbm, ⟨34, _⟩ => ⟨S4x2x2048, .f32⟩
  | .hbm, ⟨35, _⟩ => ⟨S4x2050x2048, .f32⟩
  | .hbm, ⟨36, _⟩ => ⟨S4x2x2048, .f32⟩
  | .hbm, ⟨37, _⟩ => ⟨S1x4x2x2048, .f32⟩
  | .local _ .vmem, ⟨0, _⟩ => ⟨S1024x4096, .bf16⟩
  | .local _ .vmem, ⟨1, _⟩ => ⟨S1024x4096, .bf16⟩
  | .local _ .vmem, ⟨2, _⟩ => ⟨S4096x512, .bf16⟩
  | .local _ .vmem, ⟨3, _⟩ => ⟨S4096x512, .bf16⟩
  | .local _ .vmem, ⟨4, _⟩ => ⟨S1024x512, .f32⟩
  | .local _ .vmem, ⟨5, _⟩ => ⟨S1024x512, .f32⟩
  | _, _ => ⟨S4x2048x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_cst : Ref sig .tc := ⟨.hbm, 6, rfl⟩
abbrev main_v3 : Ref sig .tc := ⟨.hbm, 7, rfl⟩
abbrev main_v4 : Ref sig .tc := ⟨.hbm, 8, rfl⟩
abbrev main_cst_0 : Ref sig .tc := ⟨.hbm, 9, rfl⟩
abbrev main_v5 : Ref sig .tc := ⟨.hbm, 10, rfl⟩
abbrev main_v6 : Ref sig .tc := ⟨.hbm, 11, rfl⟩
abbrev main_cst_1 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_cst_2 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩
abbrev main_v30 : Ref sig .tc := ⟨.hbm, 37, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![8, 20], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S4096x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference2Ideal.lean ====
abbrev S4x2048x4096 : Shape := ⟨3, ![4, 2048, 4096]⟩
abbrev S2x4096 : Shape := ⟨2, ![2, 4096]⟩
abbrev S1x4096x10240 : Shape := ⟨3, ![1, 4096, 10240]⟩
abbrev S1x4096 : Shape := ⟨2, ![1, 4096]⟩
abbrev S4096 : Shape := ⟨1, ![4096]⟩
abbrev S_ : Shape := ⟨0, ![]⟩
abbrev S4x2048 : Shape := ⟨2, ![4, 2048]⟩
abbrev S4x2048x1 : Shape := ⟨3, ![4, 2048, 1]⟩
abbrev S1x1x4096 : Shape := ⟨3, ![1, 1, 4096]⟩
abbrev S4096x10240 : Shape := ⟨2, ![4096, 10240]⟩
abbrev S4x2048x10240 : Shape := ⟨3, ![4, 2048, 10240]⟩
abbrev S4x2048x2048 : Shape := ⟨3, ![4, 2048, 2048]⟩
abbrev S4x2x2048 : Shape := ⟨3, ![4, 2, 2048]⟩
abbrev S4x2050x2048 : Shape := ⟨3, ![4, 2050, 2048]⟩
abbrev S8192x10240 : Shape := ⟨2, ![8192, 10240]⟩
abbrev S1x4x2x2048 : Shape := ⟨4, ![1, 4, 2, 2048]⟩

abbrev nBuf : Space → Nat
  | .hbm => 35
  | .vmem => 0
  | .smem => 0
  | _ => 0

abbrev bufTy : (tb : Table) → Fin (tcTables nBuf tb) → BufTy
  | .hbm, ⟨0, _⟩ => ⟨S4x2048x4096, .f32⟩
  | .hbm, ⟨1, _⟩ => ⟨S2x4096, .f32⟩
  | .hbm, ⟨2, _⟩ => ⟨S1x4096x10240, .f32⟩
  | .hbm, ⟨3, _⟩ => ⟨S1x4096, .f32⟩
  | .hbm, ⟨4, _⟩ => ⟨S4096, .f32⟩
  | .hbm, ⟨5, _⟩ => ⟨S4x2048x4096, .f32⟩
  | .hbm, ⟨6, _⟩ => ⟨S_, .f32⟩
  | .hbm, ⟨7, _⟩ => ⟨S4x2048, .f32⟩
  | .hbm, ⟨8, _⟩ => ⟨S4x2048x1, .f32⟩
  | .hbm, ⟨9, _⟩ => ⟨S_, .f32⟩
  | .hbm, ⟨10, _⟩ => ⟨S4x2048x1, .f32⟩
  | .hbm, ⟨11, _⟩ => ⟨S4x2048x1, .f32⟩
  | .hbm, ⟨12, _⟩ => ⟨S_, .f32⟩
  | .hbm, ⟨13, _⟩ => ⟨S4x2048x1, .f32⟩
  | .hbm, ⟨14, _⟩ => ⟨S4x2048x1, .f32⟩
  | .hbm, ⟨15, _⟩ => ⟨S4x2048x1, .f32⟩
  | .hbm, ⟨16, _⟩ => ⟨S4x2048x4096, .f32⟩
  | .hbm, ⟨17, _⟩ => ⟨S4x2048x4096, .f32⟩
  | .hbm, ⟨18, _⟩ => ⟨S1x1x4096, .f32⟩
  | .hbm, ⟨19, _⟩ => ⟨S4x2048x4096, .f32⟩
  | .hbm, ⟨20, _⟩ => ⟨S4x2048x4096, .f32⟩
  | .hbm, ⟨21, _⟩ => ⟨S4096x10240, .f32⟩
  | .hbm, ⟨22, _⟩ => ⟨S4x2048x10240, .f32⟩
  | .hbm, ⟨23, _⟩ => ⟨S4x2048x2048, .f32⟩
  | .hbm, ⟨24, _⟩ => ⟨S4x2048x2048, .f32⟩
  | .hbm, ⟨25, _⟩ => ⟨S4x2048x2048, .f32⟩
  | .hbm, ⟨26, _⟩ => ⟨S4x2048x2048, .f32⟩
  | .hbm, ⟨27, _⟩ => ⟨S4x2048x2048, .f32⟩
  | .hbm, ⟨28, _⟩ => ⟨S4x2048x2048, .f32⟩
  | .hbm, ⟨29, _⟩ => ⟨S_, .f32⟩
  | .hbm, ⟨30, _⟩ => ⟨S4x2x2048, .f32⟩
  | .hbm, ⟨31, _⟩ => ⟨S4x2050x2048, .f32⟩
  | .hbm, ⟨32, _⟩ => ⟨S8192x10240, .f32⟩
  | .hbm, ⟨33, _⟩ => ⟨S4x2x2048, .f32⟩
  | .hbm, ⟨34, _⟩ => ⟨S1x4x2x2048, .f32⟩
  | _, _ => ⟨S4x2048x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_cst : Ref sig .tc := ⟨.hbm, 6, rfl⟩
abbrev main_v3 : Ref sig .tc := ⟨.hbm, 7, rfl⟩
abbrev main_v4 : Ref sig .tc := ⟨.hbm, 8, rfl⟩
abbrev main_cst_0 : Ref sig .tc := ⟨.hbm, 9, rfl⟩
abbrev main_v5 : Ref sig .tc := ⟨.hbm, 10, rfl⟩
abbrev main_v6 : Ref sig .tc := ⟨.hbm, 11, rfl⟩
abbrev main_cst_1 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_cst_2 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩

abbrev nD : Nat := 1
abbrev τ : Topo := Topo.v7x

variable {F : FTy → Type} [FloatOps F]
-- ==== Kernel3.lean ====
abbrev S4x2048x4096 : Shape := ⟨3, ![4, 2048, 4096]⟩
abbrev S2x4096 : Shape := ⟨2, ![2, 4096]⟩
abbrev S1x4096x9264 : Shape := ⟨3, ![1, 4096, 9264]⟩
abbrev S1x4096 : Shape := ⟨2, ![1, 4096]⟩
abbrev S4096 : Shape := ⟨1, ![4096]⟩
abbrev S_ : Shape := ⟨0, ![]⟩
abbrev S4x2048 : Shape := ⟨2, ![4, 2048]⟩
abbrev S4x2048x1 : Shape := ⟨3, ![4, 2048, 1]⟩
abbrev S1x1x4096 : Shape := ⟨3, ![1, 1, 4096]⟩
abbrev S4096x9264 : Shape := ⟨2, ![4096, 9264]⟩
abbrev S4096x2048 : Shape := ⟨2, ![4096, 2048]⟩
abbrev S4096x4096 : Shape := ⟨2, ![4096, 4096]⟩
abbrev S4096x3072 : Shape := ⟨2, ![4096, 3072]⟩
abbrev S4096x9216 : Shape := ⟨2, ![4096, 9216]⟩
abbrev S8192x4096 : Shape := ⟨2, ![8192, 4096]⟩
abbrev S8192x9216 : Shape := ⟨2, ![8192, 9216]⟩
abbrev S1024x4096 : Shape := ⟨2, ![1024, 4096]⟩
abbrev S4096x512 : Shape := ⟨2, ![4096, 512]⟩
abbrev S1024x512 : Shape := ⟨2, ![1024, 512]⟩
abbrev S8192x2048 : Shape := ⟨2, ![8192, 2048]⟩
abbrev S8192x3072 : Shape := ⟨2, ![8192, 3072]⟩

abbrev nBuf : Space → Nat
  | .hbm => 33
  | .vmem => 6
  | .smem => 0
  | _ => 0

abbrev bufTy : (tb : Table) → Fin (tcTables nBuf tb) → BufTy
  | .hbm, ⟨0, _⟩ => ⟨S4x2048x4096, .f32⟩
  | .hbm, ⟨1, _⟩ => ⟨S2x4096, .f32⟩
  | .hbm, ⟨2, _⟩ => ⟨S1x4096x9264, .f32⟩
  | .hbm, ⟨3, _⟩ => ⟨S1x4096, .f32⟩
  | .hbm, ⟨4, _⟩ => ⟨S4096, .f32⟩
  | .hbm, ⟨5, _⟩ => ⟨S4x2048x4096, .f32⟩
  | .hbm, ⟨6, _⟩ => ⟨S_, .f32⟩
  | .hbm, ⟨7, _⟩ => ⟨S4x2048, .f32⟩
  | .hbm, ⟨8, _⟩ => ⟨S4x2048x1, .f32⟩
  | .hbm, ⟨9, _⟩ => ⟨S_, .f32⟩
  | .hbm, ⟨10, _⟩ => ⟨S4x2048x1, .f32⟩
  | .hbm, ⟨11, _⟩ => ⟨S4x2048x1, .f32⟩
  | .hbm, ⟨12, _⟩ => ⟨S_, .f32⟩
  | .hbm, ⟨13, _⟩ => ⟨S4x2048x1, .f32⟩
  | .hbm, ⟨14, _⟩ => ⟨S4x2048x1, .f32⟩
  | .hbm, ⟨15, _⟩ => ⟨S4x2048x1, .f32⟩
  | .hbm, ⟨16, _⟩ => ⟨S4x2048x4096, .f32⟩
  | .hbm, ⟨17, _⟩ => ⟨S4x2048x4096, .f32⟩
  | .hbm, ⟨18, _⟩ => ⟨S1x1x4096, .f32⟩
  | .hbm, ⟨19, _⟩ => ⟨S4x2048x4096, .f32⟩
  | .hbm, ⟨20, _⟩ => ⟨S4x2048x4096, .f32⟩
  | .hbm, ⟨21, _⟩ => ⟨S4096x9264, .f32⟩
  | .hbm, ⟨22, _⟩ => ⟨S4096x2048, .f32⟩
  | .hbm, ⟨23, _⟩ => ⟨S4096x4096, .f32⟩
  | .hbm, ⟨24, _⟩ => ⟨S4096x3072, .f32⟩
  | .hbm, ⟨25, _⟩ => ⟨S4096x9216, .f32⟩
  | .hbm, ⟨26, _⟩ => ⟨S4096x9216, .bf16⟩
  | .hbm, ⟨27, _⟩ => ⟨S8192x4096, .f32⟩
  | .hbm, ⟨28, _⟩ => ⟨S8192x4096, .bf16⟩
  | .hbm, ⟨29, _⟩ => ⟨S8192x9216, .f32⟩
  | .hbm, ⟨30, _⟩ => ⟨S8192x2048, .f32⟩
  | .hbm, ⟨31, _⟩ => ⟨S8192x3072, .f32⟩
  | .hbm, ⟨32, _⟩ => ⟨S8192x4096, .f32⟩
  | .local _ .vmem, ⟨0, _⟩ => ⟨S1024x4096, .bf16⟩
  | .local _ .vmem, ⟨1, _⟩ => ⟨S1024x4096, .bf16⟩
  | .local _ .vmem, ⟨2, _⟩ => ⟨S4096x512, .bf16⟩
  | .local _ .vmem, ⟨3, _⟩ => ⟨S4096x512, .bf16⟩
  | .local _ .vmem, ⟨4, _⟩ => ⟨S1024x512, .f32⟩
  | .local _ .vmem, ⟨5, _⟩ => ⟨S1024x512, .f32⟩
  | _, _ => ⟨S4x2048x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_cst : Ref sig .tc := ⟨.hbm, 6, rfl⟩
abbrev main_v3 : Ref sig .tc := ⟨.hbm, 7, rfl⟩
abbrev main_v4 : Ref sig .tc := ⟨.hbm, 8, rfl⟩
abbrev main_cst_0 : Ref sig .tc := ⟨.hbm, 9, rfl⟩
abbrev main_v5 : Ref sig .tc := ⟨.hbm, 10, rfl⟩
abbrev main_v6 : Ref sig .tc := ⟨.hbm, 11, rfl⟩
abbrev main_cst_1 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![8, 18], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S4096x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference3Ideal.lean ====
abbrev S4x2048x4096 : Shape := ⟨3, ![4, 2048, 4096]⟩
abbrev S2x4096 : Shape := ⟨2, ![2, 4096]⟩
abbrev S1x4096x9264 : Shape := ⟨3, ![1, 4096, 9264]⟩
abbrev S1x4096 : Shape := ⟨2, ![1, 4096]⟩
abbrev S4096 : Shape := ⟨1, ![4096]⟩
abbrev S_ : Shape := ⟨0, ![]⟩
abbrev S4x2048 : Shape := ⟨2, ![4, 2048]⟩
abbrev S4x2048x1 : Shape := ⟨3, ![4, 2048, 1]⟩
abbrev S1x1x4096 : Shape := ⟨3, ![1, 1, 4096]⟩
abbrev S4096x9264 : Shape := ⟨2, ![4096, 9264]⟩
abbrev S4x2048x9264 : Shape := ⟨3, ![4, 2048, 9264]⟩
abbrev S4x2048x2048 : Shape := ⟨3, ![4, 2048, 2048]⟩
abbrev S4x2048x3072 : Shape := ⟨3, ![4, 2048, 3072]⟩
abbrev S4x2048x48 : Shape := ⟨3, ![4, 2048, 48]⟩
abbrev S8192x2048 : Shape := ⟨2, ![8192, 2048]⟩
abbrev S8192x3072 : Shape := ⟨2, ![8192, 3072]⟩
abbrev S8192x4096 : Shape := ⟨2, ![8192, 4096]⟩

abbrev nBuf : Space → Nat
  | .hbm => 30
  | .vmem => 0
  | .smem => 0
  | _ => 0

abbrev bufTy : (tb : Table) → Fin (tcTables nBuf tb) → BufTy
  | .hbm, ⟨0, _⟩ => ⟨S4x2048x4096, .f32⟩
  | .hbm, ⟨1, _⟩ => ⟨S2x4096, .f32⟩
  | .hbm, ⟨2, _⟩ => ⟨S1x4096x9264, .f32⟩
  | .hbm, ⟨3, _⟩ => ⟨S1x4096, .f32⟩
  | .hbm, ⟨4, _⟩ => ⟨S4096, .f32⟩
  | .hbm, ⟨5, _⟩ => ⟨S4x2048x4096, .f32⟩
  | .hbm, ⟨6, _⟩ => ⟨S_, .f32⟩
  | .hbm, ⟨7, _⟩ => ⟨S4x2048, .f32⟩
  | .hbm, ⟨8, _⟩ => ⟨S4x2048x1, .f32⟩
  | .hbm, ⟨9, _⟩ => ⟨S_, .f32⟩
  | .hbm, ⟨10, _⟩ => ⟨S4x2048x1, .f32⟩
  | .hbm, ⟨11, _⟩ => ⟨S4x2048x1, .f32⟩
  | .hbm, ⟨12, _⟩ => ⟨S_, .f32⟩
  | .hbm, ⟨13, _⟩ => ⟨S4x2048x1, .f32⟩
  | .hbm, ⟨14, _⟩ => ⟨S4x2048x1, .f32⟩
  | .hbm, ⟨15, _⟩ => ⟨S4x2048x1, .f32⟩
  | .hbm, ⟨16, _⟩ => ⟨S4x2048x4096, .f32⟩
  | .hbm, ⟨17, _⟩ => ⟨S4x2048x4096, .f32⟩
  | .hbm, ⟨18, _⟩ => ⟨S1x1x4096, .f32⟩
  | .hbm, ⟨19, _⟩ => ⟨S4x2048x4096, .f32⟩
  | .hbm, ⟨20, _⟩ => ⟨S4x2048x4096, .f32⟩
  | .hbm, ⟨21, _⟩ => ⟨S4096x9264, .f32⟩
  | .hbm, ⟨22, _⟩ => ⟨S4x2048x9264, .f32⟩
  | .hbm, ⟨23, _⟩ => ⟨S4x2048x2048, .f32⟩
  | .hbm, ⟨24, _⟩ => ⟨S4x2048x3072, .f32⟩
  | .hbm, ⟨25, _⟩ => ⟨S4x2048x48, .f32⟩
  | .hbm, ⟨26, _⟩ => ⟨S4x2048x4096, .f32⟩
  | .hbm, ⟨27, _⟩ => ⟨S8192x2048, .f32⟩
  | .hbm, ⟨28, _⟩ => ⟨S8192x3072, .f32⟩
  | .hbm, ⟨29, _⟩ => ⟨S8192x4096, .f32⟩
  | _, _ => ⟨S4x2048x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_cst : Ref sig .tc := ⟨.hbm, 6, rfl⟩
abbrev main_v3 : Ref sig .tc := ⟨.hbm, 7, rfl⟩
abbrev main_v4 : Ref sig .tc := ⟨.hbm, 8, rfl⟩
abbrev main_cst_0 : Ref sig .tc := ⟨.hbm, 9, rfl⟩
abbrev main_v5 : Ref sig .tc := ⟨.hbm, 10, rfl⟩
abbrev main_v6 : Ref sig .tc := ⟨.hbm, 11, rfl⟩
abbrev main_cst_1 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩

abbrev nD : Nat := 1
abbrev τ : Topo := Topo.v7x

variable {F : FTy → Type} [FloatOps F]
-- ==== Kernel4.lean ====
abbrev S4x2048x2048 : Shape := ⟨3, ![4, 2048, 2048]⟩
abbrev S8192x2048 : Shape := ⟨2, ![8192, 2048]⟩
abbrev S1x4096x4096 : Shape := ⟨3, ![1, 4096, 4096]⟩
abbrev S4x2048x4096 : Shape := ⟨3, ![4, 2048, 4096]⟩
abbrev S8192x4096 : Shape := ⟨2, ![8192, 4096]⟩
abbrev S4096x4096 : Shape := ⟨2, ![4096, 4096]⟩
abbrev S1024x4096 : Shape := ⟨2, ![1024, 4096]⟩
abbrev S4096x512 : Shape := ⟨2, ![4096, 512]⟩
abbrev S1024x512 : Shape := ⟨2, ![1024, 512]⟩

abbrev nBuf : Space → Nat
  | .hbm => 13
  | .vmem => 8
  | .smem => 0
  | _ => 0

abbrev bufTy : (tb : Table) → Fin (tcTables nBuf tb) → BufTy
  | .hbm, ⟨0, _⟩ => ⟨S4x2048x2048, .f32⟩
  | .hbm, ⟨1, _⟩ => ⟨S8192x2048, .f32⟩
  | .hbm, ⟨2, _⟩ => ⟨S1x4096x4096, .f32⟩
  | .hbm, ⟨3, _⟩ => ⟨S4x2048x4096, .f32⟩
  | .hbm, ⟨4, _⟩ => ⟨S4x2048x2048, .bf16⟩
  | .hbm, ⟨5, _⟩ => ⟨S4x2048x2048, .f32⟩
  | .hbm, ⟨6, _⟩ => ⟨S4x2048x2048, .bf16⟩
  | .hbm, ⟨7, _⟩ => ⟨S4x2048x4096, .bf16⟩
  | .hbm, ⟨8, _⟩ => ⟨S8192x4096, .bf16⟩
  | .hbm, ⟨9, _⟩ => ⟨S4096x4096, .f32⟩
  | .hbm, ⟨10, _⟩ => ⟨S4096x4096, .bf16⟩
  | .hbm, ⟨11, _⟩ => ⟨S8192x4096, .f32⟩
  | .hbm, ⟨12, _⟩ => ⟨S8192x4096, .f32⟩
  | .local _ .vmem, ⟨0, _⟩ => ⟨S1024x4096, .bf16⟩
  | .local _ .vmem, ⟨1, _⟩ => ⟨S1024x4096, .bf16⟩
  | .local _ .vmem, ⟨2, _⟩ => ⟨S4096x512, .bf16⟩
  | .local _ .vmem, ⟨3, _⟩ => ⟨S4096x512, .bf16⟩
  | .local _ .vmem, ⟨4, _⟩ => ⟨S1024x512, .f32⟩
  | .local _ .vmem, ⟨5, _⟩ => ⟨S1024x512, .f32⟩
  | .local _ .vmem, ⟨6, _⟩ => ⟨S1024x512, .f32⟩
  | .local _ .vmem, ⟨7, _⟩ => ⟨S1024x512, .f32⟩
  | _, _ => ⟨S4x2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![8, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S4096x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1024x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== Reference4Ideal.lean ====
abbrev S4x2048x2048 : Shape := ⟨3, ![4, 2048, 2048]⟩
abbrev S8192x2048 : Shape := ⟨2, ![8192, 2048]⟩
abbrev S1x4096x4096 : Shape := ⟨3, ![1, 4096, 4096]⟩
abbrev S4x2048x4096 : Shape := ⟨3, ![4, 2048, 4096]⟩
abbrev S4096x4096 : Shape := ⟨2, ![4096, 4096]⟩
abbrev S8192x4096 : Shape := ⟨2, ![8192, 4096]⟩

abbrev nBuf : Space → Nat
  | .hbm => 10
  | .vmem => 0
  | .smem => 0
  | _ => 0

abbrev bufTy : (tb : Table) → Fin (tcTables nBuf tb) → BufTy
  | .hbm, ⟨0, _⟩ => ⟨S4x2048x2048, .f32⟩
  | .hbm, ⟨1, _⟩ => ⟨S8192x2048, .f32⟩
  | .hbm, ⟨2, _⟩ => ⟨S1x4096x4096, .f32⟩
  | .hbm, ⟨3, _⟩ => ⟨S4x2048x4096, .f32⟩
  | .hbm, ⟨4, _⟩ => ⟨S4x2048x2048, .f32⟩
  | .hbm, ⟨5, _⟩ => ⟨S4x2048x4096, .f32⟩
  | .hbm, ⟨6, _⟩ => ⟨S4096x4096, .f32⟩
  | .hbm, ⟨7, _⟩ => ⟨S4x2048x4096, .f32⟩
  | .hbm, ⟨8, _⟩ => ⟨S4x2048x4096, .f32⟩
  | .hbm, ⟨9, _⟩ => ⟨S8192x4096, .f32⟩
  | _, _ => ⟨S4x2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩

abbrev nD : Nat := 1
abbrev τ : Topo := Topo.v7x

variable {F : FTy → Type} [FloatOps F]
-- ==== Kernel5.lean ====
abbrev S4x2048x4096 : Shape := ⟨3, ![4, 2048, 4096]⟩
abbrev S2x4096 : Shape := ⟨2, ![2, 4096]⟩
abbrev S2x4096x2048 : Shape := ⟨3, ![2, 4096, 2048]⟩
abbrev S1x4096 : Shape := ⟨2, ![1, 4096]⟩
abbrev S4096 : Shape := ⟨1, ![4096]⟩
abbrev S_ : Shape := ⟨0, ![]⟩
abbrev S4x2048 : Shape := ⟨2, ![4, 2048]⟩
abbrev S4x2048x1 : Shape := ⟨3, ![4, 2048, 1]⟩
abbrev S1x1x4096 : Shape := ⟨3, ![1, 1, 4096]⟩
abbrev S8192x4096 : Shape := ⟨2, ![8192, 4096]⟩
abbrev S1x4096x2048 : Shape := ⟨3, ![1, 4096, 2048]⟩
abbrev S4096x2048 : Shape := ⟨2, ![4096, 2048]⟩
abbrev S8192x2048 : Shape := ⟨2, ![8192, 2048]⟩
abbrev S1024x4096 : Shape := ⟨2, ![1024, 4096]⟩
abbrev S4096x512 : Shape := ⟨2, ![4096, 512]⟩
abbrev S1024x512 : Shape := ⟨2, ![1024, 512]⟩

abbrev nBuf : Space → Nat
  | .hbm => 27
  | .vmem => 6
  | .smem => 0
  | _ => 0

abbrev bufTy : (tb : Table) → Fin (tcTables nBuf tb) → BufTy
  | .hbm, ⟨0, _⟩ => ⟨S4x2048x4096, .f32⟩
  | .hbm, ⟨1, _⟩ => ⟨S2x4096, .f32⟩
  | .hbm, ⟨2, _⟩ => ⟨S2x4096x2048, .f32⟩
  | .hbm, ⟨3, _⟩ => ⟨S1x4096, .f32⟩
  | .hbm, ⟨4, _⟩ => ⟨S4096, .f32⟩
  | .hbm, ⟨5, _⟩ => ⟨S4x2048x4096, .f32⟩
  | .hbm, ⟨6, _⟩ => ⟨S_, .f32⟩
  | .hbm, ⟨7, _⟩ => ⟨S4x2048, .f32⟩
  | .hbm, ⟨8, _⟩ => ⟨S4x2048x1, .f32⟩
  | .hbm, ⟨9, _⟩ => ⟨S_, .f32⟩
  | .hbm, ⟨10, _⟩ => ⟨S4x2048x1, .f32⟩
  | .hbm, ⟨11, _⟩ => ⟨S4x2048x1, .f32⟩
  | .hbm, ⟨12, _⟩ => ⟨S_, .f32⟩
  | .hbm, ⟨13, _⟩ => ⟨S4x2048x1, .f32⟩
  | .hbm, ⟨14, _⟩ => ⟨S4x2048x1, .f32⟩
  | .hbm, ⟨15, _⟩ => ⟨S4x2048x1, .f32⟩
  | .hbm, ⟨16, _⟩ => ⟨S4x2048x4096, .f32⟩
  | .hbm, ⟨17, _⟩ => ⟨S4x2048x4096, .f32⟩
  | .hbm, ⟨18, _⟩ => ⟨S1x1x4096, .f32⟩
  | .hbm, ⟨19, _⟩ => ⟨S4x2048x4096, .f32⟩
  | .hbm, ⟨20, _⟩ => ⟨S4x2048x4096, .f32⟩
  | .hbm, ⟨21, _⟩ => ⟨S8192x4096, .f32⟩
  | .hbm, ⟨22, _⟩ => ⟨S8192x4096, .bf16⟩
  | .hbm, ⟨23, _⟩ => ⟨S1x4096x2048, .f32⟩
  | .hbm, ⟨24, _⟩ => ⟨S4096x2048, .f32⟩
  | .hbm, ⟨25, _⟩ => ⟨S4096x2048, .bf16⟩
  | .hbm, ⟨26, _⟩ => ⟨S8192x2048, .f32⟩
  | .local _ .vmem, ⟨0, _⟩ => ⟨S1024x4096, .bf16⟩
  | .local _ .vmem, ⟨1, _⟩ => ⟨S1024x4096, .bf16⟩
  | .local _ .vmem, ⟨2, _⟩ => ⟨S4096x512, .bf16⟩
  | .local _ .vmem, ⟨3, _⟩ => ⟨S4096x512, .bf16⟩
  | .local _ .vmem, ⟨4, _⟩ => ⟨S1024x512, .f32⟩
  | .local _ .vmem, ⟨5, _⟩ => ⟨S1024x512, .f32⟩
  | _, _ => ⟨S4x2048x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_cst : Ref sig .tc := ⟨.hbm, 6, rfl⟩
abbrev main_v3 : Ref sig .tc := ⟨.hbm, 7, rfl⟩
abbrev main_v4 : Ref sig .tc := ⟨.hbm, 8, rfl⟩
abbrev main_cst_0 : Ref sig .tc := ⟨.hbm, 9, rfl⟩
abbrev main_v5 : Ref sig .tc := ⟨.hbm, 10, rfl⟩
abbrev main_v6 : Ref sig .tc := ⟨.hbm, 11, rfl⟩
abbrev main_cst_1 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![8, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S4096x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference5Ideal.lean ====
abbrev S4x2048x4096 : Shape := ⟨3, ![4, 2048, 4096]⟩
abbrev S2x4096 : Shape := ⟨2, ![2, 4096]⟩
abbrev S2x4096x2048 : Shape := ⟨3, ![2, 4096, 2048]⟩
abbrev S1x4096 : Shape := ⟨2, ![1, 4096]⟩
abbrev S4096 : Shape := ⟨1, ![4096]⟩
abbrev S_ : Shape := ⟨0, ![]⟩
abbrev S4x2048 : Shape := ⟨2, ![4, 2048]⟩
abbrev S4x2048x1 : Shape := ⟨3, ![4, 2048, 1]⟩
abbrev S1x1x4096 : Shape := ⟨3, ![1, 1, 4096]⟩
abbrev S8192x4096 : Shape := ⟨2, ![8192, 4096]⟩
abbrev S1x4096x2048 : Shape := ⟨3, ![1, 4096, 2048]⟩
abbrev S4096x2048 : Shape := ⟨2, ![4096, 2048]⟩
abbrev S8192x2048 : Shape := ⟨2, ![8192, 2048]⟩

abbrev nBuf : Space → Nat
  | .hbm => 25
  | .vmem => 0
  | .smem => 0
  | _ => 0

abbrev bufTy : (tb : Table) → Fin (tcTables nBuf tb) → BufTy
  | .hbm, ⟨0, _⟩ => ⟨S4x2048x4096, .f32⟩
  | .hbm, ⟨1, _⟩ => ⟨S2x4096, .f32⟩
  | .hbm, ⟨2, _⟩ => ⟨S2x4096x2048, .f32⟩
  | .hbm, ⟨3, _⟩ => ⟨S1x4096, .f32⟩
  | .hbm, ⟨4, _⟩ => ⟨S4096, .f32⟩
  | .hbm, ⟨5, _⟩ => ⟨S4x2048x4096, .f32⟩
  | .hbm, ⟨6, _⟩ => ⟨S_, .f32⟩
  | .hbm, ⟨7, _⟩ => ⟨S4x2048, .f32⟩
  | .hbm, ⟨8, _⟩ => ⟨S4x2048x1, .f32⟩
  | .hbm, ⟨9, _⟩ => ⟨S_, .f32⟩
  | .hbm, ⟨10, _⟩ => ⟨S4x2048x1, .f32⟩
  | .hbm, ⟨11, _⟩ => ⟨S4x2048x1, .f32⟩
  | .hbm, ⟨12, _⟩ => ⟨S_, .f32⟩
  | .hbm, ⟨13, _⟩ => ⟨S4x2048x1, .f32⟩
  | .hbm, ⟨14, _⟩ => ⟨S4x2048x1, .f32⟩
  | .hbm, ⟨15, _⟩ => ⟨S4x2048x1, .f32⟩
  | .hbm, ⟨16, _⟩ => ⟨S4x2048x4096, .f32⟩
  | .hbm, ⟨17, _⟩ => ⟨S4x2048x4096, .f32⟩
  | .hbm, ⟨18, _⟩ => ⟨S1x1x4096, .f32⟩
  | .hbm, ⟨19, _⟩ => ⟨S4x2048x4096, .f32⟩
  | .hbm, ⟨20, _⟩ => ⟨S4x2048x4096, .f32⟩
  | .hbm, ⟨21, _⟩ => ⟨S8192x4096, .f32⟩
  | .hbm, ⟨22, _⟩ => ⟨S1x4096x2048, .f32⟩
  | .hbm, ⟨23, _⟩ => ⟨S4096x2048, .f32⟩
  | .hbm, ⟨24, _⟩ => ⟨S8192x2048, .f32⟩
  | _, _ => ⟨S4x2048x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_cst : Ref sig .tc := ⟨.hbm, 6, rfl⟩
abbrev main_v3 : Ref sig .tc := ⟨.hbm, 7, rfl⟩
abbrev main_v4 : Ref sig .tc := ⟨.hbm, 8, rfl⟩
abbrev main_cst_0 : Ref sig .tc := ⟨.hbm, 9, rfl⟩
abbrev main_v5 : Ref sig .tc := ⟨.hbm, 10, rfl⟩
abbrev main_v6 : Ref sig .tc := ⟨.hbm, 11, rfl⟩
abbrev main_cst_1 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩

abbrev nD : Nat := 1
abbrev τ : Topo := Topo.v7x

variable {F : FTy → Type} [FloatOps F]
-- ==== Kernel6.lean ====
abbrev S8x8x4096 : Shape := ⟨3, ![8, 8, 4096]⟩
abbrev S1x8x2x2048 : Shape := ⟨4, ![1, 8, 2, 2048]⟩
abbrev S2x4096 : Shape := ⟨2, ![2, 4096]⟩
abbrev S1x4096x10240 : Shape := ⟨3, ![1, 4096, 10240]⟩
abbrev S1x4096 : Shape := ⟨2, ![1, 4096]⟩
abbrev S4096 : Shape := ⟨1, ![4096]⟩
abbrev S_ : Shape := ⟨0, ![]⟩
abbrev S8x8 : Shape := ⟨2, ![8, 8]⟩
abbrev S8x8x1 : Shape := ⟨3, ![8, 8, 1]⟩
abbrev S1x1x4096 : Shape := ⟨3, ![1, 1, 4096]⟩
abbrev S64x4096 : Shape := ⟨2, ![64, 4096]⟩
abbrev S4096x10240 : Shape := ⟨2, ![4096, 10240]⟩
abbrev S64x10240 : Shape := ⟨2, ![64, 10240]⟩
abbrev S4096x512 : Shape := ⟨2, ![4096, 512]⟩
abbrev S64x512 : Shape := ⟨2, ![64, 512]⟩
abbrev S64x2048 : Shape := ⟨2, ![64, 2048]⟩
abbrev S8x8x2048 : Shape := ⟨3, ![8, 8, 2048]⟩
abbrev S8x2x2048 : Shape := ⟨3, ![8, 2, 2048]⟩
abbrev S8x10x2048 : Shape := ⟨3, ![8, 10, 2048]⟩

abbrev nBuf : Space → Nat
  | .hbm => 38
  | .vmem => 5
  | .smem => 0
  | _ => 0

abbrev bufTy : (tb : Table) → Fin (tcTables nBuf tb) → BufTy
  | .hbm, ⟨0, _⟩ => ⟨S8x8x4096, .f32⟩
  | .hbm, ⟨1, _⟩ => ⟨S1x8x2x2048, .f32⟩
  | .hbm, ⟨2, _⟩ => ⟨S2x4096, .f32⟩
  | .hbm, ⟨3, _⟩ => ⟨S1x4096x10240, .f32⟩
  | .hbm, ⟨4, _⟩ => ⟨S1x4096, .f32⟩
  | .hbm, ⟨5, _⟩ => ⟨S4096, .f32⟩
  | .hbm, ⟨6, _⟩ => ⟨S8x8x4096, .f32⟩
  | .hbm, ⟨7, _⟩ => ⟨S_, .f32⟩
  | .hbm, ⟨8, _⟩ => ⟨S8x8, .f32⟩
  | .hbm, ⟨9, _⟩ => ⟨S8x8x1, .f32⟩
  | .hbm, ⟨10, _⟩ => ⟨S_, .f32⟩
  | .hbm, ⟨11, _⟩ => ⟨S8x8x1, .f32⟩
  | .hbm, ⟨12, _⟩ => ⟨S8x8x1, .f32⟩
  | .hbm, ⟨13, _⟩ => ⟨S_, .f32⟩
  | .hbm, ⟨14, _⟩ => ⟨S8x8x1, .f32⟩
  | .hbm, ⟨15, _⟩ => ⟨S8x8x1, .f32⟩
  | .hbm, ⟨16, _⟩ => ⟨S8x8x1, .f32⟩
  | .hbm, ⟨17, _⟩ => ⟨S8x8x4096, .f32⟩
  | .hbm, ⟨18, _⟩ => ⟨S8x8x4096, .f32⟩
  | .hbm, ⟨19, _⟩ => ⟨S1x1x4096, .f32⟩
  | .hbm, ⟨20, _⟩ => ⟨S8x8x4096, .f32⟩
  | .hbm, ⟨21, _⟩ => ⟨S8x8x4096, .f32⟩
  | .hbm, ⟨22, _⟩ => ⟨S64x4096, .f32⟩
  | .hbm, ⟨23, _⟩ => ⟨S64x4096, .bf16⟩
  | .hbm, ⟨24, _⟩ => ⟨S4096x10240, .f32⟩
  | .hbm, ⟨25, _⟩ => ⟨S4096x10240, .bf16⟩
  | .hbm, ⟨26, _⟩ => ⟨S64x10240, .f32⟩
  | .hbm, ⟨27, _⟩ => ⟨S64x2048, .f32⟩
  | .hbm, ⟨28, _⟩ => ⟨S8x8x2048, .f32⟩
  | .hbm, ⟨29, _⟩ => ⟨S64x2048, .f32⟩
  | .hbm, ⟨30, _⟩ => ⟨S8x8x2048, .f32⟩
  | .hbm, ⟨31, _⟩ => ⟨S64x2048, .f32⟩
  | .hbm, ⟨32, _⟩ => ⟨S8x8x2048, .f32⟩
  | .hbm, ⟨33, _⟩ => ⟨S8x8x2048, .f32⟩
  | .hbm, ⟨34, _⟩ => ⟨S8x2x2048, .f32⟩
  | .hbm, ⟨35, _⟩ => ⟨S8x10x2048, .f32⟩
  | .hbm, ⟨36, _⟩ => ⟨S8x2x2048, .f32⟩
  | .hbm, ⟨37, _⟩ => ⟨S1x8x2x2048, .f32⟩
  | .local _ .vmem, ⟨0, _⟩ => ⟨S64x4096, .bf16⟩
  | .local _ .vmem, ⟨1, _⟩ => ⟨S4096x512, .bf16⟩
  | .local _ .vmem, ⟨2, _⟩ => ⟨S4096x512, .bf16⟩
  | .local _ .vmem, ⟨3, _⟩ => ⟨S64x512, .f32⟩
  | .local _ .vmem, ⟨4, _⟩ => ⟨S64x512, .f32⟩
  | _, _ => ⟨S8x8x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_cst : Ref sig .tc := ⟨.hbm, 7, rfl⟩
abbrev main_v3 : Ref sig .tc := ⟨.hbm, 8, rfl⟩
abbrev main_v4 : Ref sig .tc := ⟨.hbm, 9, rfl⟩
abbrev main_cst_0 : Ref sig .tc := ⟨.hbm, 10, rfl⟩
abbrev main_v5 : Ref sig .tc := ⟨.hbm, 11, rfl⟩
abbrev main_v6 : Ref sig .tc := ⟨.hbm, 12, rfl⟩
abbrev main_cst_1 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩
abbrev main_v30 : Ref sig .tc := ⟨.hbm, 37, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![1, 20], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 1 → Memref sig .tc .vmem S64x4096 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false]

abbrev stage0_1 : Fin 2 → Memref sig .tc .vmem S4096x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S64x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference6Ideal.lean ====
abbrev S8x8x4096 : Shape := ⟨3, ![8, 8, 4096]⟩
abbrev S1x8x2x2048 : Shape := ⟨4, ![1, 8, 2, 2048]⟩
abbrev S2x4096 : Shape := ⟨2, ![2, 4096]⟩
abbrev S1x4096x10240 : Shape := ⟨3, ![1, 4096, 10240]⟩
abbrev S1x4096 : Shape := ⟨2, ![1, 4096]⟩
abbrev S4096 : Shape := ⟨1, ![4096]⟩
abbrev S_ : Shape := ⟨0, ![]⟩
abbrev S8x8 : Shape := ⟨2, ![8, 8]⟩
abbrev S8x8x1 : Shape := ⟨3, ![8, 8, 1]⟩
abbrev S1x1x4096 : Shape := ⟨3, ![1, 1, 4096]⟩
abbrev S4096x10240 : Shape := ⟨2, ![4096, 10240]⟩
abbrev S8x8x10240 : Shape := ⟨3, ![8, 8, 10240]⟩
abbrev S8x8x2048 : Shape := ⟨3, ![8, 8, 2048]⟩
abbrev S8x2x2048 : Shape := ⟨3, ![8, 2, 2048]⟩
abbrev S8x10x2048 : Shape := ⟨3, ![8, 10, 2048]⟩
abbrev S64x10240 : Shape := ⟨2, ![64, 10240]⟩

abbrev nBuf : Space → Nat
  | .hbm => 35
  | .vmem => 0
  | .smem => 0
  | _ => 0

abbrev bufTy : (tb : Table) → Fin (tcTables nBuf tb) → BufTy
  | .hbm, ⟨0, _⟩ => ⟨S8x8x4096, .f32⟩
  | .hbm, ⟨1, _⟩ => ⟨S1x8x2x2048, .f32⟩
  | .hbm, ⟨2, _⟩ => ⟨S2x4096, .f32⟩
  | .hbm, ⟨3, _⟩ => ⟨S1x4096x10240, .f32⟩
  | .hbm, ⟨4, _⟩ => ⟨S1x4096, .f32⟩
  | .hbm, ⟨5, _⟩ => ⟨S4096, .f32⟩
  | .hbm, ⟨6, _⟩ => ⟨S8x8x4096, .f32⟩
  | .hbm, ⟨7, _⟩ => ⟨S_, .f32⟩
  | .hbm, ⟨8, _⟩ => ⟨S8x8, .f32⟩
  | .hbm, ⟨9, _⟩ => ⟨S8x8x1, .f32⟩
  | .hbm, ⟨10, _⟩ => ⟨S_, .f32⟩
  | .hbm, ⟨11, _⟩ => ⟨S8x8x1, .f32⟩
  | .hbm, ⟨12, _⟩ => ⟨S8x8x1, .f32⟩
  | .hbm, ⟨13, _⟩ => ⟨S_, .f32⟩
  | .hbm, ⟨14, _⟩ => ⟨S8x8x1, .f32⟩
  | .hbm, ⟨15, _⟩ => ⟨S8x8x1, .f32⟩
  | .hbm, ⟨16, _⟩ => ⟨S8x8x1, .f32⟩
  | .hbm, ⟨17, _⟩ => ⟨S8x8x4096, .f32⟩
  | .hbm, ⟨18, _⟩ => ⟨S8x8x4096, .f32⟩
  | .hbm, ⟨19, _⟩ => ⟨S1x1x4096, .f32⟩
  | .hbm, ⟨20, _⟩ => ⟨S8x8x4096, .f32⟩
  | .hbm, ⟨21, _⟩ => ⟨S8x8x4096, .f32⟩
  | .hbm, ⟨22, _⟩ => ⟨S4096x10240, .f32⟩
  | .hbm, ⟨23, _⟩ => ⟨S8x8x10240, .f32⟩
  | .hbm, ⟨24, _⟩ => ⟨S8x8x2048, .f32⟩
  | .hbm, ⟨25, _⟩ => ⟨S8x8x2048, .f32⟩
  | .hbm, ⟨26, _⟩ => ⟨S8x8x2048, .f32⟩
  | .hbm, ⟨27, _⟩ => ⟨S8x8x2048, .f32⟩
  | .hbm, ⟨28, _⟩ => ⟨S8x8x2048, .f32⟩
  | .hbm, ⟨29, _⟩ => ⟨S8x8x2048, .f32⟩
  | .hbm, ⟨30, _⟩ => ⟨S8x2x2048, .f32⟩
  | .hbm, ⟨31, _⟩ => ⟨S8x10x2048, .f32⟩
  | .hbm, ⟨32, _⟩ => ⟨S64x10240, .f32⟩
  | .hbm, ⟨33, _⟩ => ⟨S8x2x2048, .f32⟩
  | .hbm, ⟨34, _⟩ => ⟨S1x8x2x2048, .f32⟩
  | _, _ => ⟨S8x8x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_cst : Ref sig .tc := ⟨.hbm, 7, rfl⟩
abbrev main_v3 : Ref sig .tc := ⟨.hbm, 8, rfl⟩
abbrev main_v4 : Ref sig .tc := ⟨.hbm, 9, rfl⟩
abbrev main_cst_0 : Ref sig .tc := ⟨.hbm, 10, rfl⟩
abbrev main_v5 : Ref sig .tc := ⟨.hbm, 11, rfl⟩
abbrev main_v6 : Ref sig .tc := ⟨.hbm, 12, rfl⟩
abbrev main_cst_1 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩

abbrev nD : Nat := 1
abbrev τ : Topo := Topo.v7x

variable {F : FTy → Type} [FloatOps F]
-- ==== Kernel7.lean ====
abbrev S8192x9216 : Shape := ⟨2, ![8192, 9216]⟩
abbrev S1x128 : Shape := ⟨2, ![1, 128]⟩
abbrev S1x3x128 : Shape := ⟨3, ![1, 3, 128]⟩
abbrev S2048 : Shape := ⟨1, ![2048]⟩
abbrev S64 : Shape := ⟨1, ![64]⟩
abbrev S_ : Shape := ⟨0, ![]⟩
abbrev S2048x1 : Shape := ⟨2, ![2048, 1]⟩
abbrev S1x64 : Shape := ⟨2, ![1, 64]⟩
abbrev S2048x64 : Shape := ⟨2, ![2048, 64]⟩
abbrev S2048x128 : Shape := ⟨2, ![2048, 128]⟩
abbrev S1x2048x1x128 : Shape := ⟨4, ![1, 2048, 1, 128]⟩
abbrev S4x2048x1x128 : Shape := ⟨4, ![4, 2048, 1, 128]⟩
abbrev S8192x128 : Shape := ⟨2, ![8192, 128]⟩
abbrev S128 : Shape := ⟨1, ![128]⟩
abbrev S3x128 : Shape := ⟨2, ![3, 128]⟩
abbrev S8192x2048 : Shape := ⟨2, ![8192, 2048]⟩
abbrev S8192x1024 : Shape := ⟨2, ![8192, 1024]⟩
abbrev S8192x3072 : Shape := ⟨2, ![8192, 3072]⟩
abbrev S256x2048 : Shape := ⟨2, ![256, 2048]⟩
abbrev S256x3072 : Shape := ⟨2, ![256, 3072]⟩
abbrev S256x128 : Shape := ⟨2, ![256, 128]⟩
abbrev S256x1024 : Shape := ⟨2, ![256, 1024]⟩
abbrev S256 : Shape := ⟨1, ![256]⟩
abbrev S256x1 : Shape := ⟨2, ![256, 1]⟩
abbrev S4x2048x4x2x128 : Shape := ⟨5, ![4, 2048, 4, 2, 128]⟩
abbrev S4x2048x1024 : Shape := ⟨3, ![4, 2048, 1024]⟩
abbrev S4x512x1024 : Shape := ⟨3, ![4, 512, 1024]⟩
abbrev S4x512x4x2x128 : Shape := ⟨5, ![4, 512, 4, 2, 128]⟩
abbrev S1x4x2048x4x2x128 : Shape := ⟨6, ![1, 4, 2048, 4, 2, 128]⟩
abbrev S1x4x512x4x2x128 : Shape := ⟨6, ![1, 4, 512, 4, 2, 128]⟩

abbrev nBuf : Space → Nat
  | .hbm => 47
  | .vmem => 20
  | .smem => 0
  | _ => 0

abbrev bufTy : (tb : Table) → Fin (tcTables nBuf tb) → BufTy
  | .hbm, ⟨0, _⟩ => ⟨S8192x9216, .f32⟩
  | .hbm, ⟨1, _⟩ => ⟨S1x128, .f32⟩
  | .hbm, ⟨2, _⟩ => ⟨S1x3x128, .f32⟩
  | .hbm, ⟨3, _⟩ => ⟨S2048, .i32⟩
  | .hbm, ⟨4, _⟩ => ⟨S64, .f32⟩
  | .hbm, ⟨5, _⟩ => ⟨S64, .f32⟩
  | .hbm, ⟨6, _⟩ => ⟨S_, .f32⟩
  | .hbm, ⟨7, _⟩ => ⟨S64, .f32⟩
  | .hbm, ⟨8, _⟩ => ⟨S64, .f32⟩
  | .hbm, ⟨9, _⟩ => ⟨S_, .f32⟩
  | .hbm, ⟨10, _⟩ => ⟨S64, .f32⟩
  | .hbm, ⟨11, _⟩ => ⟨S64, .f32⟩
  | .hbm, ⟨12, _⟩ => ⟨S2048, .f32⟩
  | .hbm, ⟨13, _⟩ => ⟨S2048x1, .f32⟩
  | .hbm, ⟨14, _⟩ => ⟨S1x64, .f32⟩
  | .hbm, ⟨15, _⟩ => ⟨S2048x64, .f32⟩
  | .hbm, ⟨16, _⟩ => ⟨S2048x64, .f32⟩
  | .hbm, ⟨17, _⟩ => ⟨S2048x64, .f32⟩
  | .hbm, ⟨18, _⟩ => ⟨S2048x64, .f32⟩
  | .hbm, ⟨19, _⟩ => ⟨S2048x64, .f32⟩
  | .hbm, ⟨20, _⟩ => ⟨S2048x128, .f32⟩
  | .hbm, ⟨21, _⟩ => ⟨S1x2048x1x128, .f32⟩
  | .hbm, ⟨22, _⟩ => ⟨S4x2048x1x128, .f32⟩
  | .hbm, ⟨23, _⟩ => ⟨S8192x128, .f32⟩
  | .hbm, ⟨24, _⟩ => ⟨S2048x64, .f32⟩
  | .hbm, ⟨25, _⟩ => ⟨S2048x64, .f32⟩
  | .hbm, ⟨26, _⟩ => ⟨S2048x64, .f32⟩
  | .hbm, ⟨27, _⟩ => ⟨S2048x128, .f32⟩
  | .hbm, ⟨28, _⟩ => ⟨S1x2048x1x128, .f32⟩
  | .hbm, ⟨29, _⟩ => ⟨S4x2048x1x128, .f32⟩
  | .hbm, ⟨30, _⟩ => ⟨S8192x128, .f32⟩
  | .hbm, ⟨31, _⟩ => ⟨S128, .f32⟩
  | .hbm, ⟨32, _⟩ => ⟨S3x128, .f32⟩
  | .hbm, ⟨33, _⟩ => ⟨S1x128, .f32⟩
  | .hbm, ⟨34, _⟩ => ⟨S8192x2048, .bf16⟩
  | .hbm, ⟨35, _⟩ => ⟨S8192x1024, .f32⟩
  | .hbm, ⟨36, _⟩ => ⟨S8192x1024, .f32⟩
  | .hbm, ⟨37, _⟩ => ⟨S8192x1024, .f32⟩
  | .hbm, ⟨38, _⟩ => ⟨S8192x3072, .bf16⟩
  | .hbm, ⟨39, _⟩ => ⟨S4x2048x4x2x128, .f32⟩
  | .hbm, ⟨40, _⟩ => ⟨S4x2048x4x2x128, .f32⟩
  | .hbm, ⟨41, _⟩ => ⟨S4x2048x1024, .f32⟩
  | .hbm, ⟨42, _⟩ => ⟨S4x512x1024, .f32⟩
  | .hbm, ⟨43, _⟩ => ⟨S4x512x4x2x128, .f32⟩
  | .hbm, ⟨44, _⟩ => ⟨S1x4x2048x4x2x128, .f32⟩
  | .hbm, ⟨45, _⟩ => ⟨S1x4x2048x4x2x128, .f32⟩
  | .hbm, ⟨46, _⟩ => ⟨S1x4x512x4x2x128, .f32⟩
  | .local _ .vmem, ⟨0, _⟩ => ⟨S256x2048, .f32⟩
  | .local _ .vmem, ⟨1, _⟩ => ⟨S256x2048, .f32⟩
  | .local _ .vmem, ⟨2, _⟩ => ⟨S256x3072, .f32⟩
  | .local _ .vmem, ⟨3, _⟩ => ⟨S256x3072, .f32⟩
  | .local _ .vmem, ⟨4, _⟩ => ⟨S256x128, .f32⟩
  | .local _ .vmem, ⟨5, _⟩ => ⟨S256x128, .f32⟩
  | .local _ .vmem, ⟨6, _⟩ => ⟨S256x128, .f32⟩
  | .local _ .vmem, ⟨7, _⟩ => ⟨S256x128, .f32⟩
  | .local _ .vmem, ⟨8, _⟩ => ⟨S1x128, .f32⟩
  | .local _ .vmem, ⟨9, _⟩ => ⟨S3x128, .f32⟩
  | .local _ .vmem, ⟨10, _⟩ => ⟨S256x2048, .bf16⟩
  | .local _ .vmem, ⟨11, _⟩ => ⟨S256x2048, .bf16⟩
  | .local _ .vmem, ⟨12, _⟩ => ⟨S256x1024, .f32⟩
  | .local _ .vmem, ⟨13, _⟩ => ⟨S256x1024, .f32⟩
  | .local _ .vmem, ⟨14, _⟩ => ⟨S256x1024, .f32⟩
  | .local _ .vmem, ⟨15, _⟩ => ⟨S256x1024, .f32⟩
  | .local _ .vmem, ⟨16, _⟩ => ⟨S256x1024, .f32⟩
  | .local _ .vmem, ⟨17, _⟩ => ⟨S256x1024, .f32⟩
  | .local _ .vmem, ⟨18, _⟩ => ⟨S256x3072, .bf16⟩
  | .local _ .vmem, ⟨19, _⟩ => ⟨S256x3072, .bf16⟩
  | _, _ => ⟨S8192x9216, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_cst : Ref sig .tc := ⟨.hbm, 6, rfl⟩
abbrev main_v3 : Ref sig .tc := ⟨.hbm, 7, rfl⟩
abbrev main_v4 : Ref sig .tc := ⟨.hbm, 8, rfl⟩
abbrev main_cst_0 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_v24 : Ref sig .tc := ⟨.hbm, 29, rfl⟩
abbrev main_v25 : Ref sig .tc := ⟨.hbm, 30, rfl⟩
abbrev main_v26 : Ref sig .tc := ⟨.hbm, 31, rfl⟩
abbrev main_v27 : Ref sig .tc := ⟨.hbm, 32, rfl⟩
abbrev main_v28 : Ref sig .tc := ⟨.hbm, 33, rfl⟩
abbrev main_v29_0 : Ref sig .tc := ⟨.hbm, 34, rfl⟩
abbrev main_v29_1 : Ref sig .tc := ⟨.hbm, 35, rfl⟩
abbrev main_v29_2 : Ref sig .tc := ⟨.hbm, 36, rfl⟩
abbrev main_v29_3 : Ref sig .tc := ⟨.hbm, 37, rfl⟩
abbrev main_v29_4 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_v34 : Ref sig .tc := ⟨.hbm, 43, rfl⟩
abbrev main_v35 : Ref sig .tc := ⟨.hbm, 44, rfl⟩
abbrev main_v36 : Ref sig .tc := ⟨.hbm, 45, rfl⟩
abbrev main_v37 : Ref sig .tc := ⟨.hbm, 46, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg9_1 : Ref sig .tc := ⟨.vmem, 17, rfl⟩
abbrev cc0_stg10_0 : Ref sig .tc := ⟨.vmem, 18, rfl⟩
abbrev cc0_stg10_1 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem8_1 : DmaSem sig := 15
abbrev cc0_sem9_0 : DmaSem sig := 16
abbrev cc0_sem9_1 : DmaSem sig := 17
abbrev cc0_sem10_0 : DmaSem sig := 18
abbrev cc0_sem10_1 : DmaSem sig := 19

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c2_i32 : BitVec 32 := 2#32
  let c0_i32 : BitVec 32 := 0#32
  ![arg0.toNat, c2_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x3072 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S3x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S256x2048 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S256x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S256x3072 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]
-- ==== Reference7Ideal.lean ====
abbrev S8192x9216 : Shape := ⟨2, ![8192, 9216]⟩
abbrev S1x128 : Shape := ⟨2, ![1, 128]⟩
abbrev S1x3x128 : Shape := ⟨3, ![1, 3, 128]⟩
abbrev S8192x2048 : Shape := ⟨2, ![8192, 2048]⟩
abbrev S4x2048x2048 : Shape := ⟨3, ![4, 2048, 2048]⟩
abbrev S8192x3072 : Shape := ⟨2, ![8192, 3072]⟩
abbrev S4x2048x3072 : Shape := ⟨3, ![4, 2048, 3072]⟩
abbrev S2048 : Shape := ⟨1, ![2048]⟩
abbrev S128 : Shape := ⟨1, ![128]⟩
abbrev S3x128 : Shape := ⟨2, ![3, 128]⟩
abbrev S4x2048x16x128 : Shape := ⟨4, ![4, 2048, 16, 128]⟩
abbrev S_ : Shape := ⟨0, ![]⟩
abbrev S4x2048x16 : Shape := ⟨3, ![4, 2048, 16]⟩
abbrev S4x2048x16x1 : Shape := ⟨4, ![4, 2048, 16, 1]⟩
abbrev S1x1x1x128 : Shape := ⟨4, ![1, 1, 1, 128]⟩
abbrev S64 : Shape := ⟨1, ![64]⟩
abbrev S2048x1 : Shape := ⟨2, ![2048, 1]⟩
abbrev S1x64 : Shape := ⟨2, ![1, 64]⟩
abbrev S2048x64 : Shape := ⟨2, ![2048, 64]⟩
abbrev S2048x1x64 : Shape := ⟨3, ![2048, 1, 64]⟩
abbrev S4x2048x16x64 : Shape := ⟨4, ![4, 2048, 16, 64]⟩
abbrev S1x2048x1x64 : Shape := ⟨4, ![1, 2048, 1, 64]⟩
abbrev S4x2048x3x4x2x128 : Shape := ⟨6, ![4, 2048, 3, 4, 2, 128]⟩
abbrev S4x2048x3x4x1x128 : Shape := ⟨6, ![4, 2048, 3, 4, 1, 128]⟩
abbrev S4x2048x3x4x128 : Shape := ⟨5, ![4, 2048, 3, 4, 128]⟩
abbrev S3x1x128 : Shape := ⟨3, ![3, 1, 128]⟩
abbrev S4x2048x3x4 : Shape := ⟨4, ![4, 2048, 3, 4]⟩
abbrev S4x2048x3x4x1 : Shape := ⟨5, ![4, 2048, 3, 4, 1]⟩
abbrev S1x1x3x1x128 : Shape := ⟨5, ![1, 1, 3, 1, 128]⟩
abbrev S4x2048x12x128 : Shape := ⟨4, ![4, 2048, 12, 128]⟩
abbrev S4x2048x12x64 : Shape := ⟨4, ![4, 2048, 12, 64]⟩
abbrev S4x2048x1x4x2x128 : Shape := ⟨6, ![4, 2048, 1, 4, 2, 128]⟩
abbrev S4x2048x4x2x128 : Shape := ⟨5, ![4, 2048, 4, 2, 128]⟩
abbrev S4x512x4x2x128 : Shape := ⟨5, ![4, 512, 4, 2, 128]⟩
abbrev S1x4x2048x4x2x128 : Shape := ⟨6, ![1, 4, 2048, 4, 2, 128]⟩
abbrev S1x4x512x4x2x128 : Shape := ⟨6, ![1, 4, 512, 4, 2, 128]⟩

abbrev nBuf : Space → Nat
  | .hbm => 138
  | .vmem => 0
  | .smem => 0
  | _ => 0

abbrev hbmTy0_0 (i : Nat) : BufTy := match i % 128 with
  | 0 => ⟨S8192x9216, .f32⟩
  | 1 => ⟨S1x128, .f32⟩
  | 2 => ⟨S1x3x128, .f32⟩
  | 3 => ⟨S8192x2048, .f32⟩
  | 4 => ⟨S4x2048x2048, .f32⟩
  | 5 => ⟨S8192x3072, .f32⟩
  | 6 => ⟨S4x2048x3072, .f32⟩
  | 7 => ⟨S2048, .i32⟩
  | 8 => ⟨S128, .f32⟩
  | 9 => ⟨S3x128, .f32⟩
  | 10 => ⟨S4x2048x16x128, .f32⟩
  | 11 => ⟨S4x2048x16x128, .f32⟩
  | 12 => ⟨S_, .f32⟩
  | 13 => ⟨S4x2048x16, .f32⟩
  | 14 => ⟨S4x2048x16x1, .f32⟩
  | 15 => ⟨S_, .f32⟩
  | 16 => ⟨S4x2048x16x1, .f32⟩
  | 17 => ⟨S4x2048x16x1, .f32⟩
  | 18 => ⟨S_, .f32⟩
  | 19 => ⟨S4x2048x16x1, .f32⟩
  | 20 => ⟨S4x2048x16x1, .f32⟩
  | 21 => ⟨S4x2048x16x1, .f32⟩
  | 22 => ⟨S4x2048x16x128, .f32⟩
  | 23 => ⟨S4x2048x16x128, .f32⟩
  | 24 => ⟨S1x1x1x128, .f32⟩
  | 25 => ⟨S4x2048x16x128, .f32⟩
  | 26 => ⟨S4x2048x16x128, .f32⟩
  | 27 => ⟨S64, .f32⟩
  | 28 => ⟨S64, .f32⟩
  | 29 => ⟨S_, .f32⟩
  | 30 => ⟨S64, .f32⟩
  | 31 => ⟨S64, .f32⟩
  | 32 => ⟨S_, .f32⟩
  | 33 => ⟨S64, .f32⟩
  | 34 => ⟨S64, .f32⟩
  | 35 => ⟨S2048, .f32⟩
  | 36 => ⟨S2048x1, .f32⟩
  | 37 => ⟨S1x64, .f32⟩
  | 38 => ⟨S2048x64, .f32⟩
  | 39 => ⟨S2048x64, .f32⟩
  | 40 => ⟨S2048x64, .f32⟩
  | 41 => ⟨S2048x64, .f32⟩
  | 42 => ⟨S2048x1x64, .f32⟩
  | 43 => ⟨S2048x64, .f32⟩
  | 44 => ⟨S2048x1x64, .f32⟩
  | 45 => ⟨S4x2048x16x64, .f32⟩
  | 46 => ⟨S4x2048x16x64, .f32⟩
  | 47 => ⟨S1x2048x1x64, .f32⟩
  | 48 => ⟨S4x2048x16x64, .f32⟩
  | 49 => ⟨S4x2048x16x64, .f32⟩
  | 50 => ⟨S1x2048x1x64, .f32⟩
  | 51 => ⟨S4x2048x16x64, .f32⟩
  | 52 => ⟨S4x2048x16x64, .f32⟩
  | 53 => ⟨S4x2048x16x64, .f32⟩
  | 54 => ⟨S1x2048x1x64, .f32⟩
  | 55 => ⟨S4x2048x16x64, .f32⟩
  | 56 => ⟨S4x2048x16x64, .f32⟩
  | 57 => ⟨S1x2048x1x64, .f32⟩
  | 58 => ⟨S4x2048x16x64, .f32⟩
  | 59 => ⟨S4x2048x16x64, .f32⟩
  | 60 => ⟨S4x2048x16x64, .f32⟩
  | 61 => ⟨S4x2048x16x128, .f32⟩
  | 62 => ⟨S4x2048x3x4x2x128, .f32⟩
  | 63 => ⟨S4x2048x3x4x1x128, .f32⟩
  | 64 => ⟨S4x2048x3x4x128, .f32⟩
  | 65 => ⟨S3x1x128, .f32⟩
  | 66 => ⟨S4x2048x3x4x128, .f32⟩
  | 67 => ⟨S_, .f32⟩
  | 68 => ⟨S4x2048x3x4, .f32⟩
  | 69 => ⟨S4x2048x3x4x1, .f32⟩
  | 70 => ⟨S_, .f32⟩
  | 71 => ⟨S4x2048x3x4x1, .f32⟩
  | 72 => ⟨S4x2048x3x4x1, .f32⟩
  | 73 => ⟨S_, .f32⟩
  | 74 => ⟨S4x2048x3x4x1, .f32⟩
  | 75 => ⟨S4x2048x3x4x1, .f32⟩
  | 76 => ⟨S4x2048x3x4x1, .f32⟩
  | 77 => ⟨S4x2048x3x4x128, .f32⟩
  | 78 => ⟨S4x2048x3x4x128, .f32⟩
  | 79 => ⟨S1x1x3x1x128, .f32⟩
  | 80 => ⟨S4x2048x3x4x128, .f32⟩
  | 81 => ⟨S4x2048x3x4x128, .f32⟩
  | 82 => ⟨S4x2048x12x128, .f32⟩
  | 83 => ⟨S64, .f32⟩
  | 84 => ⟨S64, .f32⟩
  | 85 => ⟨S_, .f32⟩
  | 86 => ⟨S64, .f32⟩
  | 87 => ⟨S64, .f32⟩
  | 88 => ⟨S_, .f32⟩
  | 89 => ⟨S64, .f32⟩
  | 90 => ⟨S64, .f32⟩
  | 91 => ⟨S2048, .f32⟩
  | 92 => ⟨S2048x1, .f32⟩
  | 93 => ⟨S1x64, .f32⟩
  | 94 => ⟨S2048x64, .f32⟩
  | 95 => ⟨S2048x64, .f32⟩
  | 96 => ⟨S2048x64, .f32⟩
  | 97 => ⟨S2048x64, .f32⟩
  | 98 => ⟨S2048x1x64, .f32⟩
  | 99 => ⟨S2048x64, .f32⟩
  | 100 => ⟨S2048x1x64, .f32⟩
  | 101 => ⟨S4x2048x12x64, .f32⟩
  | 102 => ⟨S4x2048x12x64, .f32⟩
  | 103 => ⟨S1x2048x1x64, .f32⟩
  | 104 => ⟨S4x2048x12x64, .f32⟩
  | 105 => ⟨S4x2048x12x64, .f32⟩
  | 106 => ⟨S1x2048x1x64, .f32⟩
  | 107 => ⟨S4x2048x12x64, .f32⟩
  | 108 => ⟨S4x2048x12x64, .f32⟩
  | 109 => ⟨S4x2048x12x64, .f32⟩
  | 110 => ⟨S1x2048x1x64, .f32⟩
  | 111 => ⟨S4x2048x12x64, .f32⟩
  | 112 => ⟨S4x2048x12x64, .f32⟩
  | 113 => ⟨S1x2048x1x64, .f32⟩
  | 114 => ⟨S4x2048x12x64, .f32⟩
  | 115 => ⟨S4x2048x12x64, .f32⟩
  | 116 => ⟨S4x2048x12x64, .f32⟩
  | 117 => ⟨S4x2048x12x128, .f32⟩
  | 118 => ⟨S4x2048x3x4x128, .f32⟩
  | 119 => ⟨S4x2048x3x4x1x128, .f32⟩
  | 120 => ⟨S4x2048x3x4x128, .f32⟩
  | 121 => ⟨S4x2048x3x4x1x128, .f32⟩
  | 122 => ⟨S4x2048x3x4x1x128, .f32⟩
  | 123 => ⟨S4x2048x3x4x2x128, .f32⟩
  | 124 => ⟨S4x2048x1x4x2x128, .f32⟩
  | 125 => ⟨S4x2048x4x2x128, .f32⟩
  | 126 => ⟨S4x2048x1x4x2x128, .f32⟩
  | 127 => ⟨S4x2048x4x2x128, .f32⟩
  | _ => ⟨S8192x9216, .f32⟩

abbrev hbmTy0_1 (i : Nat) : BufTy := match i % 128 with
  | 0 => ⟨S4x2048x1x4x2x128, .f32⟩
  | 1 => ⟨S4x2048x4x2x128, .f32⟩
  | 2 => ⟨S4x512x4x2x128, .f32⟩
  | 3 => ⟨S8192x2048, .f32⟩
  | 4 => ⟨S8192x2048, .bf16⟩
  | 5 => ⟨S8192x3072, .f32⟩
  | 6 => ⟨S8192x3072, .bf16⟩
  | 7 => ⟨S1x4x2048x4x2x128, .f32⟩
  | 8 => ⟨S1x4x2048x4x2x128, .f32⟩
  | 9 => ⟨S1x4x512x4x2x128, .f32⟩
  | _ => ⟨S8192x9216, .f32⟩

abbrev hbmTy (i : Nat) : BufTy := match i / 128 with
  | 0 => hbmTy0_0 i
  | 1 => hbmTy0_1 i
  | _ => ⟨S8192x9216, .f32⟩

abbrev bufTy : (tb : Table) → Fin (tcTables nBuf tb) → BufTy
  | .hbm, ⟨i, _⟩ => hbmTy i
  | _, _ => ⟨S8192x9216, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_cst : Ref sig .tc := ⟨.hbm, 12, rfl⟩
abbrev main_v9 : Ref sig .tc := ⟨.hbm, 13, rfl⟩
abbrev main_v10 : Ref sig .tc := ⟨.hbm, 14, rfl⟩
abbrev main_cst_0 : Ref sig .tc := ⟨.hbm, 15, rfl⟩
abbrev main_v11 : Ref sig .tc := ⟨.hbm, 16, rfl⟩
abbrev main_v12 : Ref sig .tc := ⟨.hbm, 17, rfl⟩
abbrev main_cst_1 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_cst_2 : Ref sig .tc := ⟨.hbm, 29, rfl⟩
abbrev main_v23 : Ref sig .tc := ⟨.hbm, 30, rfl⟩
abbrev main_v24 : Ref sig .tc := ⟨.hbm, 31, rfl⟩
abbrev main_cst_3 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_v32 : Ref sig .tc := ⟨.hbm, 40, rfl⟩
abbrev main_v33 : Ref sig .tc := ⟨.hbm, 41, rfl⟩
abbrev main_v34 : Ref sig .tc := ⟨.hbm, 42, rfl⟩
abbrev main_v35 : Ref sig .tc := ⟨.hbm, 43, rfl⟩
abbrev main_v36 : Ref sig .tc := ⟨.hbm, 44, rfl⟩
abbrev main_v37 : Ref sig .tc := ⟨.hbm, 45, rfl⟩
abbrev main_v38 : Ref sig .tc := ⟨.hbm, 46, rfl⟩
abbrev main_v39 : Ref sig .tc := ⟨.hbm, 47, rfl⟩
abbrev main_v40 : Ref sig .tc := ⟨.hbm, 48, rfl⟩
abbrev main_v41 : Ref sig .tc := ⟨.hbm, 49, rfl⟩
abbrev main_v42 : Ref sig .tc := ⟨.hbm, 50, rfl⟩
abbrev main_v43 : Ref sig .tc := ⟨.hbm, 51, rfl⟩
abbrev main_v44 : Ref sig .tc := ⟨.hbm, 52, rfl⟩
abbrev main_v45 : Ref sig .tc := ⟨.hbm, 53, rfl⟩
abbrev main_v46 : Ref sig .tc := ⟨.hbm, 54, rfl⟩
abbrev main_v47 : Ref sig .tc := ⟨.hbm, 55, rfl⟩
abbrev main_v48 : Ref sig .tc := ⟨.hbm, 56, rfl⟩
abbrev main_v49 : Ref sig .tc := ⟨.hbm, 57, rfl⟩
abbrev main_v50 : Ref sig .tc := ⟨.hbm, 58, rfl⟩
abbrev main_v51 : Ref sig .tc := ⟨.hbm, 59, rfl⟩
abbrev main_v52 : Ref sig .tc := ⟨.hbm, 60, rfl⟩
abbrev main_v53 : Ref sig .tc := ⟨.hbm, 61, rfl⟩
abbrev main_v54 : Ref sig .tc := ⟨.hbm, 62, rfl⟩
abbrev main_v55 : Ref sig .tc := ⟨.hbm, 63, rfl⟩
abbrev main_v56 : Ref sig .tc := ⟨.hbm, 64, rfl⟩
abbrev main_v57 : Ref sig .tc := ⟨.hbm, 65, rfl⟩
abbrev main_v58 : Ref sig .tc := ⟨.hbm, 66, rfl⟩
abbrev main_cst_4 : Ref sig .tc := ⟨.hbm, 67, rfl⟩
abbrev main_v59 : Ref sig .tc := ⟨.hbm, 68, rfl⟩
abbrev main_v60 : Ref sig .tc := ⟨.hbm, 69, rfl⟩
abbrev main_cst_5 : Ref sig .tc := ⟨.hbm, 70, rfl⟩
abbrev main_v61 : Ref sig .tc := ⟨.hbm, 71, rfl⟩
abbrev main_v62 : Ref sig .tc := ⟨.hbm, 72, rfl⟩
abbrev main_cst_6 : Ref sig .tc := ⟨.hbm, 73, rfl⟩
abbrev main_v63 : Ref sig .tc := ⟨.hbm, 74, rfl⟩
abbrev main_v64 : Ref sig .tc := ⟨.hbm, 75, rfl⟩
abbrev main_v65 : Ref sig .tc := ⟨.hbm, 76, rfl⟩
abbrev main_v66 : Ref sig .tc := ⟨.hbm, 77, rfl⟩
abbrev main_v67 : Ref sig .tc := ⟨.hbm, 78, rfl⟩
abbrev main_v68 : Ref sig .tc := ⟨.hbm, 79, rfl⟩
abbrev main_v69 : Ref sig .tc := ⟨.hbm, 80, rfl⟩
abbrev main_v70 : Ref sig .tc := ⟨.hbm, 81, rfl⟩
abbrev main_v71 : Ref sig .tc := ⟨.hbm, 82, rfl⟩
abbrev main_v72 : Ref sig .tc := ⟨.hbm, 83, rfl⟩
abbrev main_v73 : Ref sig .tc := ⟨.hbm, 84, rfl⟩
abbrev main_cst_7 : Ref sig .tc := ⟨.hbm, 85, rfl⟩
abbrev main_v74 : Ref sig .tc := ⟨.hbm, 86, rfl⟩
abbrev main_v75 : Ref sig .tc := ⟨.hbm, 87, rfl⟩
abbrev main_cst_8 : Ref sig .tc := ⟨.hbm, 88, rfl⟩
abbrev main_v76 : Ref sig .tc := ⟨.hbm, 89, rfl⟩
abbrev main_v77 : Ref sig .tc := ⟨.hbm, 90, rfl⟩
abbrev main_v78 : Ref sig .tc := ⟨.hbm, 91, rfl⟩
abbrev main_v79 : Ref sig .tc := ⟨.hbm, 92, rfl⟩
abbrev main_v80 : Ref sig .tc := ⟨.hbm, 93, rfl⟩
abbrev main_v81 : Ref sig .tc := ⟨.hbm, 94, rfl⟩
abbrev main_v82 : Ref sig .tc := ⟨.hbm, 95, rfl⟩
abbrev main_v83 : Ref sig .tc := ⟨.hbm, 96, rfl⟩
abbrev main_v84 : Ref sig .tc := ⟨.hbm, 97, rfl⟩
abbrev main_v85 : Ref sig .tc := ⟨.hbm, 98, rfl⟩
abbrev main_v86 : Ref sig .tc := ⟨.hbm, 99, rfl⟩
abbrev main_v87 : Ref sig .tc := ⟨.hbm, 100, rfl⟩
abbrev main_v88 : Ref sig .tc := ⟨.hbm, 101, rfl⟩
abbrev main_v89 : Ref sig .tc := ⟨.hbm, 102, rfl⟩
abbrev main_v90 : Ref sig .tc := ⟨.hbm, 103, rfl⟩
abbrev main_v91 : Ref sig .tc := ⟨.hbm, 104, rfl⟩
abbrev main_v92 : Ref sig .tc := ⟨.hbm, 105, rfl⟩
abbrev main_v93 : Ref sig .tc := ⟨.hbm, 106, rfl⟩
abbrev main_v94 : Ref sig .tc := ⟨.hbm, 107, rfl⟩
abbrev main_v95 : Ref sig .tc := ⟨.hbm, 108, rfl⟩
abbrev main_v96 : Ref sig .tc := ⟨.hbm, 109, rfl⟩
abbrev main_v97 : Ref sig .tc := ⟨.hbm, 110, rfl⟩
abbrev main_v98 : Ref sig .tc := ⟨.hbm, 111, rfl⟩
abbrev main_v99 : Ref sig .tc := ⟨.hbm, 112, rfl⟩
abbrev main_v100 : Ref sig .tc := ⟨.hbm, 113, rfl⟩
abbrev main_v101 : Ref sig .tc := ⟨.hbm, 114, rfl⟩
abbrev main_v102 : Ref sig .tc := ⟨.hbm, 115, rfl⟩
abbrev main_v103 : Ref sig .tc := ⟨.hbm, 116, rfl⟩
abbrev main_v104 : Ref sig .tc := ⟨.hbm, 117, rfl⟩
abbrev main_v105 : Ref sig .tc := ⟨.hbm, 118, rfl⟩
abbrev main_v106 : Ref sig .tc := ⟨.hbm, 119, rfl⟩
abbrev main_v107 : Ref sig .tc := ⟨.hbm, 120, rfl⟩
abbrev main_v108 : Ref sig .tc := ⟨.hbm, 121, rfl⟩
abbrev main_v109 : Ref sig .tc := ⟨.hbm, 122, rfl⟩
abbrev main_v110 : Ref sig .tc := ⟨.hbm, 123, rfl⟩
abbrev main_v111 : Ref sig .tc := ⟨.hbm, 124, rfl⟩
abbrev main_v112 : Ref sig .tc := ⟨.hbm, 125, rfl⟩
abbrev main_v113 : Ref sig .tc := ⟨.hbm, 126, rfl⟩
abbrev main_v114 : Ref sig .tc := ⟨.hbm, 127, rfl⟩
abbrev main_v115 : Ref sig .tc := ⟨.hbm, 128, rfl⟩
abbrev main_v116 : Ref sig .tc := ⟨.hbm, 129, rfl⟩
abbrev main_v117 : Ref sig .tc := ⟨.hbm, 130, rfl⟩
abbrev main_v118 : Ref sig .tc := ⟨.hbm, 131, rfl⟩
abbrev main_v119 : Ref sig .tc := ⟨.hbm, 132, rfl⟩
abbrev main_v120 : Ref sig .tc := ⟨.hbm, 133, rfl⟩
abbrev main_v121 : Ref sig .tc := ⟨.hbm, 134, rfl⟩
abbrev main_v122 : Ref sig .tc := ⟨.hbm, 135, rfl⟩
abbrev main_v123 : Ref sig .tc := ⟨.hbm, 136, rfl⟩
abbrev main_v124 : Ref sig .tc := ⟨.hbm, 137, rfl⟩

abbrev nD : Nat := 1
abbrev τ : Topo := Topo.v7x

variable {F : FTy → Type} [FloatOps F]
-- ==== Kernel8.lean ====
abbrev S64x9216 : Shape := ⟨2, ![64, 9216]⟩
abbrev S1x128 : Shape := ⟨2, ![1, 128]⟩
abbrev S1x3x128 : Shape := ⟨3, ![1, 3, 128]⟩
abbrev S1x8x512x4x2x128 : Shape := ⟨6, ![1, 8, 512, 4, 2, 128]⟩
abbrev S8 : Shape := ⟨1, ![8]⟩
abbrev S_ : Shape := ⟨0, ![]⟩
abbrev S64 : Shape := ⟨1, ![64]⟩
abbrev S8x1 : Shape := ⟨2, ![8, 1]⟩
abbrev S1x64 : Shape := ⟨2, ![1, 64]⟩
abbrev S8x64 : Shape := ⟨2, ![8, 64]⟩
abbrev S8x128 : Shape := ⟨2, ![8, 128]⟩
abbrev S1x8x1x128 : Shape := ⟨4, ![1, 8, 1, 128]⟩
abbrev S8x8x1x128 : Shape := ⟨4, ![8, 8, 1, 128]⟩
abbrev S64x128 : Shape := ⟨2, ![64, 128]⟩
abbrev S128 : Shape := ⟨1, ![128]⟩
abbrev S3x128 : Shape := ⟨2, ![3, 128]⟩
abbrev S64x2048 : Shape := ⟨2, ![64, 2048]⟩
abbrev S64x1024 : Shape := ⟨2, ![64, 1024]⟩
abbrev S64x3072 : Shape := ⟨2, ![64, 3072]⟩
abbrev S64x1 : Shape := ⟨2, ![64, 1]⟩
abbrev S8x8x4x2x128 : Shape := ⟨5, ![8, 8, 4, 2, 128]⟩
abbrev S8x8x1024 : Shape := ⟨3, ![8, 8, 1024]⟩
abbrev S8x512x4x2x128 : Shape := ⟨5, ![8, 512, 4, 2, 128]⟩
abbrev S8x512x1024 : Shape := ⟨3, ![8, 512, 1024]⟩
abbrev S8x520x1024 : Shape := ⟨3, ![8, 520, 1024]⟩
abbrev S1x8x8x4x2x128 : Shape := ⟨6, ![1, 8, 8, 4, 2, 128]⟩

abbrev nBuf : Space → Nat
  | .hbm => 54
  | .vmem => 11
  | .smem => 0
  | _ => 0

abbrev bufTy : (tb : Table) → Fin (tcTables nBuf tb) → BufTy
  | .hbm, ⟨0, _⟩ => ⟨S64x9216, .f32⟩
  | .hbm, ⟨1, _⟩ => ⟨S1x128, .f32⟩
  | .hbm, ⟨2, _⟩ => ⟨S1x3x128, .f32⟩
  | .hbm, ⟨3, _⟩ => ⟨S1x8x512x4x2x128, .f32⟩
  | .hbm, ⟨4, _⟩ => ⟨S8, .i32⟩
  | .hbm, ⟨5, _⟩ => ⟨S_, .i32⟩
  | .hbm, ⟨6, _⟩ => ⟨S8, .i32⟩
  | .hbm, ⟨7, _⟩ => ⟨S8, .i32⟩
  | .hbm, ⟨8, _⟩ => ⟨S64, .f32⟩
  | .hbm, ⟨9, _⟩ => ⟨S64, .f32⟩
  | .hbm, ⟨10, _⟩ => ⟨S_, .f32⟩
  | .hbm, ⟨11, _⟩ => ⟨S64, .f32⟩
  | .hbm, ⟨12, _⟩ => ⟨S64, .f32⟩
  | .hbm, ⟨13, _⟩ => ⟨S_, .f32⟩
  | .hbm, ⟨14, _⟩ => ⟨S64, .f32⟩
  | .hbm, ⟨15, _⟩ => ⟨S64, .f32⟩
  | .hbm, ⟨16, _⟩ => ⟨S8, .f32⟩
  | .hbm, ⟨17, _⟩ => ⟨S8x1, .f32⟩
  | .hbm, ⟨18, _⟩ => ⟨S1x64, .f32⟩
  | .hbm, ⟨19, _⟩ => ⟨S8x64, .f32⟩
  | .hbm, ⟨20, _⟩ => ⟨S8x64, .f32⟩
  | .hbm, ⟨21, _⟩ => ⟨S8x64, .f32⟩
  | .hbm, ⟨22, _⟩ => ⟨S8x64, .f32⟩
  | .hbm, ⟨23, _⟩ => ⟨S8x64, .f32⟩
  | .hbm, ⟨24, _⟩ => ⟨S8x128, .f32⟩
  | .hbm, ⟨25, _⟩ => ⟨S1x8x1x128, .f32⟩
  | .hbm, ⟨26, _⟩ => ⟨S8x8x1x128, .f32⟩
  | .hbm, ⟨27, _⟩ => ⟨S64x128, .f32⟩
  | .hbm, ⟨28, _⟩ => ⟨S8x64, .f32⟩
  | .hbm, ⟨29, _⟩ => ⟨S8x64, .f32⟩
  | .hbm, ⟨30, _⟩ => ⟨S8x64, .f32⟩
  | .hbm, ⟨31, _⟩ => ⟨S8x128, .f32⟩
  | .hbm, ⟨32, _⟩ => ⟨S1x8x1x128, .f32⟩
  | .hbm, ⟨33, _⟩ => ⟨S8x8x1x128, .f32⟩
  | .hbm, ⟨34, _⟩ => ⟨S64x128, .f32⟩
  | .hbm, ⟨35, _⟩ => ⟨S128, .f32⟩
  | .hbm, ⟨36, _⟩ => ⟨S3x128, .f32⟩
  | .hbm, ⟨37, _⟩ => ⟨S1x128, .f32⟩
  | .hbm, ⟨38, _⟩ => ⟨S64x2048, .bf16⟩
  | .hbm, ⟨39, _⟩ => ⟨S64x1024, .f32⟩
  | .hbm, ⟨40, _⟩ => ⟨S64x1024, .f32⟩
  | .hbm, ⟨41, _⟩ => ⟨S64x1024, .f32⟩
  | .hbm, ⟨42, _⟩ => ⟨S64x3072, .bf16⟩
  | .hbm, ⟨43, _⟩ => ⟨S8x8x4x2x128, .f32⟩
  | .hbm, ⟨44, _⟩ => ⟨S8x8x4x2x128, .f32⟩
  | .hbm, ⟨45, _⟩ => ⟨S8x8x1024, .f32⟩
  | .hbm, ⟨46, _⟩ => ⟨S8x512x4x2x128, .f32⟩
  | .hbm, ⟨47, _⟩ => ⟨S8x512x1024, .f32⟩
  | .hbm, ⟨48, _⟩ => ⟨S8x520x1024, .f32⟩
  | .hbm, ⟨49, _⟩ => ⟨S8x512x1024, .f32⟩
  | .hbm, ⟨50, _⟩ => ⟨S8x512x4x2x128, .f32⟩
  | .hbm, ⟨51, _⟩ => ⟨S1x8x8x4x2x128, .f32⟩
  | .hbm, ⟨52, _⟩ => ⟨S1x8x8x4x2x128, .f32⟩
  | .hbm, ⟨53, _⟩ => ⟨S1x8x512x4x2x128, .f32⟩
  | .local _ .vmem, ⟨0, _⟩ => ⟨S64x2048, .f32⟩
  | .local _ .vmem, ⟨1, _⟩ => ⟨S64x3072, .f32⟩
  | .local _ .vmem, ⟨2, _⟩ => ⟨S64x128, .f32⟩
  | .local _ .vmem, ⟨3, _⟩ => ⟨S64x128, .f32⟩
  | .local _ .vmem, ⟨4, _⟩ => ⟨S1x128, .f32⟩
  | .local _ .vmem, ⟨5, _⟩ => ⟨S3x128, .f32⟩
  | .local _ .vmem, ⟨6, _⟩ => ⟨S64x2048, .bf16⟩
  | .local _ .vmem, ⟨7, _⟩ => ⟨S64x1024, .f32⟩
  | .local _ .vmem, ⟨8, _⟩ => ⟨S64x1024, .f32⟩
  | .local _ .vmem, ⟨9, _⟩ => ⟨S64x1024, .f32⟩
  | .local _ .vmem, ⟨10, _⟩ => ⟨S64x3072, .bf16⟩
  | _, _ => ⟨S64x9216, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_c : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_cst : Ref sig .tc := ⟨.hbm, 10, rfl⟩
abbrev main_v5 : Ref sig .tc := ⟨.hbm, 11, rfl⟩
abbrev main_v6 : Ref sig .tc := ⟨.hbm, 12, rfl⟩
abbrev main_cst_0 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩
abbrev main_v30 : Ref sig .tc := ⟨.hbm, 37, rfl⟩
abbrev main_v31_0 : Ref sig .tc := ⟨.hbm, 38, rfl⟩
abbrev main_v31_1 : Ref sig .tc := ⟨.hbm, 39, rfl⟩
abbrev main_v31_2 : Ref sig .tc := ⟨.hbm, 40, rfl⟩
abbrev main_v31_3 : Ref sig .tc := ⟨.hbm, 41, rfl⟩
abbrev main_v31_4 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_v40 : Ref sig .tc := ⟨.hbm, 51, rfl⟩
abbrev main_v41 : Ref sig .tc := ⟨.hbm, 52, rfl⟩
abbrev main_v42 : Ref sig .tc := ⟨.hbm, 53, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c2_i32 : BitVec 32 := 2#32
  let c0_i32 : BitVec 32 := 0#32
  ![arg0.toNat, c2_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S64x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S64x3072 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S64x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S64x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S3x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S64x2048 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S64x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]

abbrev stage0_8 : Fin 1 → Memref sig .tc .vmem S64x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![true]

abbrev stage0_9 : Fin 1 → Memref sig .tc .vmem S64x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![true]

abbrev stage0_10 : Fin 1 → Memref sig .tc .vmem S64x3072 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![true]
-- ==== Reference8Ideal.lean ====
abbrev S64x9216 : Shape := ⟨2, ![64, 9216]⟩
abbrev S1x128 : Shape := ⟨2, ![1, 128]⟩
abbrev S1x3x128 : Shape := ⟨3, ![1, 3, 128]⟩
abbrev S1x8x512x4x2x128 : Shape := ⟨6, ![1, 8, 512, 4, 2, 128]⟩
abbrev S64x2048 : Shape := ⟨2, ![64, 2048]⟩
abbrev S8x8x2048 : Shape := ⟨3, ![8, 8, 2048]⟩
abbrev S64x3072 : Shape := ⟨2, ![64, 3072]⟩
abbrev S8x8x3072 : Shape := ⟨3, ![8, 8, 3072]⟩
abbrev S8 : Shape := ⟨1, ![8]⟩
abbrev S_ : Shape := ⟨0, ![]⟩
abbrev S128 : Shape := ⟨1, ![128]⟩
abbrev S3x128 : Shape := ⟨2, ![3, 128]⟩
abbrev S8x8x16x128 : Shape := ⟨4, ![8, 8, 16, 128]⟩
abbrev S8x8x16 : Shape := ⟨3, ![8, 8, 16]⟩
abbrev S8x8x16x1 : Shape := ⟨4, ![8, 8, 16, 1]⟩
abbrev S1x1x1x128 : Shape := ⟨4, ![1, 1, 1, 128]⟩
abbrev S64 : Shape := ⟨1, ![64]⟩
abbrev S8x1 : Shape := ⟨2, ![8, 1]⟩
abbrev S1x64 : Shape := ⟨2, ![1, 64]⟩
abbrev S8x64 : Shape := ⟨2, ![8, 64]⟩
abbrev S8x1x64 : Shape := ⟨3, ![8, 1, 64]⟩
abbrev S8x8x16x64 : Shape := ⟨4, ![8, 8, 16, 64]⟩
abbrev S1x8x1x64 : Shape := ⟨4, ![1, 8, 1, 64]⟩
abbrev S8x8x3x4x2x128 : Shape := ⟨6, ![8, 8, 3, 4, 2, 128]⟩
abbrev S8x8x3x4x1x128 : Shape := ⟨6, ![8, 8, 3, 4, 1, 128]⟩
abbrev S8x8x3x4x128 : Shape := ⟨5, ![8, 8, 3, 4, 128]⟩
abbrev S3x1x128 : Shape := ⟨3, ![3, 1, 128]⟩
abbrev S8x8x3x4 : Shape := ⟨4, ![8, 8, 3, 4]⟩
abbrev S8x8x3x4x1 : Shape := ⟨5, ![8, 8, 3, 4, 1]⟩
abbrev S1x1x3x1x128 : Shape := ⟨5, ![1, 1, 3, 1, 128]⟩
abbrev S8x8x12x128 : Shape := ⟨4, ![8, 8, 12, 128]⟩
abbrev S8x8x12x64 : Shape := ⟨4, ![8, 8, 12, 64]⟩
abbrev S8x8x1x4x2x128 : Shape := ⟨6, ![8, 8, 1, 4, 2, 128]⟩
abbrev S8x8x4x2x128 : Shape := ⟨5, ![8, 8, 4, 2, 128]⟩
abbrev S8x512x4x2x128 : Shape := ⟨5, ![8, 512, 4, 2, 128]⟩
abbrev S8x520x4x2x128 : Shape := ⟨5, ![8, 520, 4, 2, 128]⟩
abbrev S1x8x8x4x2x128 : Shape := ⟨6, ![1, 8, 8, 4, 2, 128]⟩

abbrev nBuf : Space → Nat
  | .hbm => 144
  | .vmem => 0
  | .smem => 0
  | _ => 0

abbrev hbmTy0_0 (i : Nat) : BufTy := match i % 128 with
  | 0 => ⟨S64x9216, .f32⟩
  | 1 => ⟨S1x128, .f32⟩
  | 2 => ⟨S1x3x128, .f32⟩
  | 3 => ⟨S1x8x512x4x2x128, .f32⟩
  | 4 => ⟨S64x2048, .f32⟩
  | 5 => ⟨S8x8x2048, .f32⟩
  | 6 => ⟨S64x3072, .f32⟩
  | 7 => ⟨S8x8x3072, .f32⟩
  | 8 => ⟨S8, .i32⟩
  | 9 => ⟨S_, .i32⟩
  | 10 => ⟨S8, .i32⟩
  | 11 => ⟨S8, .i32⟩
  | 12 => ⟨S128, .f32⟩
  | 13 => ⟨S3x128, .f32⟩
  | 14 => ⟨S8x8x16x128, .f32⟩
  | 15 => ⟨S8x8x16x128, .f32⟩
  | 16 => ⟨S_, .f32⟩
  | 17 => ⟨S8x8x16, .f32⟩
  | 18 => ⟨S8x8x16x1, .f32⟩
  | 19 => ⟨S_, .f32⟩
  | 20 => ⟨S8x8x16x1, .f32⟩
  | 21 => ⟨S8x8x16x1, .f32⟩
  | 22 => ⟨S_, .f32⟩
  | 23 => ⟨S8x8x16x1, .f32⟩
  | 24 => ⟨S8x8x16x1, .f32⟩
  | 25 => ⟨S8x8x16x1, .f32⟩
  | 26 => ⟨S8x8x16x128, .f32⟩
  | 27 => ⟨S8x8x16x128, .f32⟩
  | 28 => ⟨S1x1x1x128, .f32⟩
  | 29 => ⟨S8x8x16x128, .f32⟩
  | 30 => ⟨S8x8x16x128, .f32⟩
  | 31 => ⟨S64, .f32⟩
  | 32 => ⟨S64, .f32⟩
  | 33 => ⟨S_, .f32⟩
  | 34 => ⟨S64, .f32⟩
  | 35 => ⟨S64, .f32⟩
  | 36 => ⟨S_, .f32⟩
  | 37 => ⟨S64, .f32⟩
  | 38 => ⟨S64, .f32⟩
  | 39 => ⟨S8, .f32⟩
  | 40 => ⟨S8x1, .f32⟩
  | 41 => ⟨S1x64, .f32⟩
  | 42 => ⟨S8x64, .f32⟩
  | 43 => ⟨S8x64, .f32⟩
  | 44 => ⟨S8x64, .f32⟩
  | 45 => ⟨S8x64, .f32⟩
  | 46 => ⟨S8x1x64, .f32⟩
  | 47 => ⟨S8x64, .f32⟩
  | 48 => ⟨S8x1x64, .f32⟩
  | 49 => ⟨S8x8x16x64, .f32⟩
  | 50 => ⟨S8x8x16x64, .f32⟩
  | 51 => ⟨S1x8x1x64, .f32⟩
  | 52 => ⟨S8x8x16x64, .f32⟩
  | 53 => ⟨S8x8x16x64, .f32⟩
  | 54 => ⟨S1x8x1x64, .f32⟩
  | 55 => ⟨S8x8x16x64, .f32⟩
  | 56 => ⟨S8x8x16x64, .f32⟩
  | 57 => ⟨S8x8x16x64, .f32⟩
  | 58 => ⟨S1x8x1x64, .f32⟩
  | 59 => ⟨S8x8x16x64, .f32⟩
  | 60 => ⟨S8x8x16x64, .f32⟩
  | 61 => ⟨S1x8x1x64, .f32⟩
  | 62 => ⟨S8x8x16x64, .f32⟩
  | 63 => ⟨S8x8x16x64, .f32⟩
  | 64 => ⟨S8x8x16x64, .f32⟩
  | 65 => ⟨S8x8x16x128, .f32⟩
  | 66 => ⟨S8x8x3x4x2x128, .f32⟩
  | 67 => ⟨S8x8x3x4x1x128, .f32⟩
  | 68 => ⟨S8x8x3x4x128, .f32⟩
  | 69 => ⟨S3x1x128, .f32⟩
  | 70 => ⟨S8x8x3x4x128, .f32⟩
  | 71 => ⟨S_, .f32⟩
  | 72 => ⟨S8x8x3x4, .f32⟩
  | 73 => ⟨S8x8x3x4x1, .f32⟩
  | 74 => ⟨S_, .f32⟩
  | 75 => ⟨S8x8x3x4x1, .f32⟩
  | 76 => ⟨S8x8x3x4x1, .f32⟩
  | 77 => ⟨S_, .f32⟩
  | 78 => ⟨S8x8x3x4x1, .f32⟩
  | 79 => ⟨S8x8x3x4x1, .f32⟩
  | 80 => ⟨S8x8x3x4x1, .f32⟩
  | 81 => ⟨S8x8x3x4x128, .f32⟩
  | 82 => ⟨S8x8x3x4x128, .f32⟩
  | 83 => ⟨S1x1x3x1x128, .f32⟩
  | 84 => ⟨S8x8x3x4x128, .f32⟩
  | 85 => ⟨S8x8x3x4x128, .f32⟩
  | 86 => ⟨S8x8x12x128, .f32⟩
  | 87 => ⟨S64, .f32⟩
  | 88 => ⟨S64, .f32⟩
  | 89 => ⟨S_, .f32⟩
  | 90 => ⟨S64, .f32⟩
  | 91 => ⟨S64, .f32⟩
  | 92 => ⟨S_, .f32⟩
  | 93 => ⟨S64, .f32⟩
  | 94 => ⟨S64, .f32⟩
  | 95 => ⟨S8, .f32⟩
  | 96 => ⟨S8x1, .f32⟩
  | 97 => ⟨S1x64, .f32⟩
  | 98 => ⟨S8x64, .f32⟩
  | 99 => ⟨S8x64, .f32⟩
  | 100 => ⟨S8x64, .f32⟩
  | 101 => ⟨S8x64, .f32⟩
  | 102 => ⟨S8x1x64, .f32⟩
  | 103 => ⟨S8x64, .f32⟩
  | 104 => ⟨S8x1x64, .f32⟩
  | 105 => ⟨S8x8x12x64, .f32⟩
  | 106 => ⟨S8x8x12x64, .f32⟩
  | 107 => ⟨S1x8x1x64, .f32⟩
  | 108 => ⟨S8x8x12x64, .f32⟩
  | 109 => ⟨S8x8x12x64, .f32⟩
  | 110 => ⟨S1x8x1x64, .f32⟩
  | 111 => ⟨S8x8x12x64, .f32⟩
  | 112 => ⟨S8x8x12x64, .f32⟩
  | 113 => ⟨S8x8x12x64, .f32⟩
  | 114 => ⟨S1x8x1x64, .f32⟩
  | 115 => ⟨S8x8x12x64, .f32⟩
  | 116 => ⟨S8x8x12x64, .f32⟩
  | 117 => ⟨S1x8x1x64, .f32⟩
  | 118 => ⟨S8x8x12x64, .f32⟩
  | 119 => ⟨S8x8x12x64, .f32⟩
  | 120 => ⟨S8x8x12x64, .f32⟩
  | 121 => ⟨S8x8x12x128, .f32⟩
  | 122 => ⟨S8x8x3x4x128, .f32⟩
  | 123 => ⟨S8x8x3x4x1x128, .f32⟩
  | 124 => ⟨S8x8x3x4x128, .f32⟩
  | 125 => ⟨S8x8x3x4x1x128, .f32⟩
  | 126 => ⟨S8x8x3x4x1x128, .f32⟩
  | 127 => ⟨S8x8x3x4x2x128, .f32⟩
  | _ => ⟨S64x9216, .f32⟩

abbrev hbmTy0_1 (i : Nat) : BufTy := match i % 128 with
  | 0 => ⟨S8x8x1x4x2x128, .f32⟩
  | 1 => ⟨S8x8x4x2x128, .f32⟩
  | 2 => ⟨S8x8x1x4x2x128, .f32⟩
  | 3 => ⟨S8x8x4x2x128, .f32⟩
  | 4 => ⟨S8x8x1x4x2x128, .f32⟩
  | 5 => ⟨S8x8x4x2x128, .f32⟩
  | 6 => ⟨S8x512x4x2x128, .f32⟩
  | 7 => ⟨S8x520x4x2x128, .f32⟩
  | 8 => ⟨S8x512x4x2x128, .f32⟩
  | 9 => ⟨S64x2048, .f32⟩
  | 10 => ⟨S64x2048, .bf16⟩
  | 11 => ⟨S64x3072, .f32⟩
  | 12 => ⟨S64x3072, .bf16⟩
  | 13 => ⟨S1x8x8x4x2x128, .f32⟩
  | 14 => ⟨S1x8x8x4x2x128, .f32⟩
  | 15 => ⟨S1x8x512x4x2x128, .f32⟩
  | _ => ⟨S64x9216, .f32⟩

abbrev hbmTy (i : Nat) : BufTy := match i / 128 with
  | 0 => hbmTy0_0 i
  | 1 => hbmTy0_1 i
  | _ => ⟨S64x9216, .f32⟩

abbrev bufTy : (tb : Table) → Fin (tcTables nBuf tb) → BufTy
  | .hbm, ⟨i, _⟩ => hbmTy i
  | _, _ => ⟨S64x9216, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_c : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_cst : Ref sig .tc := ⟨.hbm, 16, rfl⟩
abbrev main_v11 : Ref sig .tc := ⟨.hbm, 17, rfl⟩
abbrev main_v12 : Ref sig .tc := ⟨.hbm, 18, rfl⟩
abbrev main_cst_0 : Ref sig .tc := ⟨.hbm, 19, rfl⟩
abbrev main_v13 : Ref sig .tc := ⟨.hbm, 20, rfl⟩
abbrev main_v14 : Ref sig .tc := ⟨.hbm, 21, rfl⟩
abbrev main_cst_1 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_cst_2 : Ref sig .tc := ⟨.hbm, 33, rfl⟩
abbrev main_v25 : Ref sig .tc := ⟨.hbm, 34, rfl⟩
abbrev main_v26 : Ref sig .tc := ⟨.hbm, 35, rfl⟩
abbrev main_cst_3 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_v38 : Ref sig .tc := ⟨.hbm, 48, rfl⟩
abbrev main_v39 : Ref sig .tc := ⟨.hbm, 49, rfl⟩
abbrev main_v40 : Ref sig .tc := ⟨.hbm, 50, rfl⟩
abbrev main_v41 : Ref sig .tc := ⟨.hbm, 51, rfl⟩
abbrev main_v42 : Ref sig .tc := ⟨.hbm, 52, rfl⟩
abbrev main_v43 : Ref sig .tc := ⟨.hbm, 53, rfl⟩
abbrev main_v44 : Ref sig .tc := ⟨.hbm, 54, rfl⟩
abbrev main_v45 : Ref sig .tc := ⟨.hbm, 55, rfl⟩
abbrev main_v46 : Ref sig .tc := ⟨.hbm, 56, rfl⟩
abbrev main_v47 : Ref sig .tc := ⟨.hbm, 57, rfl⟩
abbrev main_v48 : Ref sig .tc := ⟨.hbm, 58, rfl⟩
abbrev main_v49 : Ref sig .tc := ⟨.hbm, 59, rfl⟩
abbrev main_v50 : Ref sig .tc := ⟨.hbm, 60, rfl⟩
abbrev main_v51 : Ref sig .tc := ⟨.hbm, 61, rfl⟩
abbrev main_v52 : Ref sig .tc := ⟨.hbm, 62, rfl⟩
abbrev main_v53 : Ref sig .tc := ⟨.hbm, 63, rfl⟩
abbrev main_v54 : Ref sig .tc := ⟨.hbm, 64, rfl⟩
abbrev main_v55 : Ref sig .tc := ⟨.hbm, 65, rfl⟩
abbrev main_v56 : Ref sig .tc := ⟨.hbm, 66, rfl⟩
abbrev main_v57 : Ref sig .tc := ⟨.hbm, 67, rfl⟩
abbrev main_v58 : Ref sig .tc := ⟨.hbm, 68, rfl⟩
abbrev main_v59 : Ref sig .tc := ⟨.hbm, 69, rfl⟩
abbrev main_v60 : Ref sig .tc := ⟨.hbm, 70, rfl⟩
abbrev main_cst_4 : Ref sig .tc := ⟨.hbm, 71, rfl⟩
abbrev main_v61 : Ref sig .tc := ⟨.hbm, 72, rfl⟩
abbrev main_v62 : Ref sig .tc := ⟨.hbm, 73, rfl⟩
abbrev main_cst_5 : Ref sig .tc := ⟨.hbm, 74, rfl⟩
abbrev main_v63 : Ref sig .tc := ⟨.hbm, 75, rfl⟩
abbrev main_v64 : Ref sig .tc := ⟨.hbm, 76, rfl⟩
abbrev main_cst_6 : Ref sig .tc := ⟨.hbm, 77, rfl⟩
abbrev main_v65 : Ref sig .tc := ⟨.hbm, 78, rfl⟩
abbrev main_v66 : Ref sig .tc := ⟨.hbm, 79, rfl⟩
abbrev main_v67 : Ref sig .tc := ⟨.hbm, 80, rfl⟩
abbrev main_v68 : Ref sig .tc := ⟨.hbm, 81, rfl⟩
abbrev main_v69 : Ref sig .tc := ⟨.hbm, 82, rfl⟩
abbrev main_v70 : Ref sig .tc := ⟨.hbm, 83, rfl⟩
abbrev main_v71 : Ref sig .tc := ⟨.hbm, 84, rfl⟩
abbrev main_v72 : Ref sig .tc := ⟨.hbm, 85, rfl⟩
abbrev main_v73 : Ref sig .tc := ⟨.hbm, 86, rfl⟩
abbrev main_v74 : Ref sig .tc := ⟨.hbm, 87, rfl⟩
abbrev main_v75 : Ref sig .tc := ⟨.hbm, 88, rfl⟩
abbrev main_cst_7 : Ref sig .tc := ⟨.hbm, 89, rfl⟩
abbrev main_v76 : Ref sig .tc := ⟨.hbm, 90, rfl⟩
abbrev main_v77 : Ref sig .tc := ⟨.hbm, 91, rfl⟩
abbrev main_cst_8 : Ref sig .tc := ⟨.hbm, 92, rfl⟩
abbrev main_v78 : Ref sig .tc := ⟨.hbm, 93, rfl⟩
abbrev main_v79 : Ref sig .tc := ⟨.hbm, 94, rfl⟩
abbrev main_v80 : Ref sig .tc := ⟨.hbm, 95, rfl⟩
abbrev main_v81 : Ref sig .tc := ⟨.hbm, 96, rfl⟩
abbrev main_v82 : Ref sig .tc := ⟨.hbm, 97, rfl⟩
abbrev main_v83 : Ref sig .tc := ⟨.hbm, 98, rfl⟩
abbrev main_v84 : Ref sig .tc := ⟨.hbm, 99, rfl⟩
abbrev main_v85 : Ref sig .tc := ⟨.hbm, 100, rfl⟩
abbrev main_v86 : Ref sig .tc := ⟨.hbm, 101, rfl⟩
abbrev main_v87 : Ref sig .tc := ⟨.hbm, 102, rfl⟩
abbrev main_v88 : Ref sig .tc := ⟨.hbm, 103, rfl⟩
abbrev main_v89 : Ref sig .tc := ⟨.hbm, 104, rfl⟩
abbrev main_v90 : Ref sig .tc := ⟨.hbm, 105, rfl⟩
abbrev main_v91 : Ref sig .tc := ⟨.hbm, 106, rfl⟩
abbrev main_v92 : Ref sig .tc := ⟨.hbm, 107, rfl⟩
abbrev main_v93 : Ref sig .tc := ⟨.hbm, 108, rfl⟩
abbrev main_v94 : Ref sig .tc := ⟨.hbm, 109, rfl⟩
abbrev main_v95 : Ref sig .tc := ⟨.hbm, 110, rfl⟩
abbrev main_v96 : Ref sig .tc := ⟨.hbm, 111, rfl⟩
abbrev main_v97 : Ref sig .tc := ⟨.hbm, 112, rfl⟩
abbrev main_v98 : Ref sig .tc := ⟨.hbm, 113, rfl⟩
abbrev main_v99 : Ref sig .tc := ⟨.hbm, 114, rfl⟩
abbrev main_v100 : Ref sig .tc := ⟨.hbm, 115, rfl⟩
abbrev main_v101 : Ref sig .tc := ⟨.hbm, 116, rfl⟩
abbrev main_v102 : Ref sig .tc := ⟨.hbm, 117, rfl⟩
abbrev main_v103 : Ref sig .tc := ⟨.hbm, 118, rfl⟩
abbrev main_v104 : Ref sig .tc := ⟨.hbm, 119, rfl⟩
abbrev main_v105 : Ref sig .tc := ⟨.hbm, 120, rfl⟩
abbrev main_v106 : Ref sig .tc := ⟨.hbm, 121, rfl⟩
abbrev main_v107 : Ref sig .tc := ⟨.hbm, 122, rfl⟩
abbrev main_v108 : Ref sig .tc := ⟨.hbm, 123, rfl⟩
abbrev main_v109 : Ref sig .tc := ⟨.hbm, 124, rfl⟩
abbrev main_v110 : Ref sig .tc := ⟨.hbm, 125, rfl⟩
abbrev main_v111 : Ref sig .tc := ⟨.hbm, 126, rfl⟩
abbrev main_v112 : Ref sig .tc := ⟨.hbm, 127, rfl⟩
abbrev main_v113 : Ref sig .tc := ⟨.hbm, 128, rfl⟩
abbrev main_v114 : Ref sig .tc := ⟨.hbm, 129, rfl⟩
abbrev main_v115 : Ref sig .tc := ⟨.hbm, 130, rfl⟩
abbrev main_v116 : Ref sig .tc := ⟨.hbm, 131, rfl⟩
abbrev main_v117 : Ref sig .tc := ⟨.hbm, 132, rfl⟩
abbrev main_v118 : Ref sig .tc := ⟨.hbm, 133, rfl⟩
abbrev main_v119 : Ref sig .tc := ⟨.hbm, 134, rfl⟩
abbrev main_v120 : Ref sig .tc := ⟨.hbm, 135, rfl⟩
abbrev main_v121 : Ref sig .tc := ⟨.hbm, 136, rfl⟩
abbrev main_v122 : Ref sig .tc := ⟨.hbm, 137, rfl⟩
abbrev main_v123 : Ref sig .tc := ⟨.hbm, 138, rfl⟩
abbrev main_v124 : Ref sig .tc := ⟨.hbm, 139, rfl⟩
abbrev main_v125 : Ref sig .tc := ⟨.hbm, 140, rfl⟩
abbrev main_v126 : Ref sig .tc := ⟨.hbm, 141, rfl⟩
abbrev main_v127 : Ref sig .tc := ⟨.hbm, 142, rfl⟩
abbrev main_v128 : Ref sig .tc := ⟨.hbm, 143, rfl⟩

abbrev nD : Nat := 1
abbrev τ : Topo := Topo.v7x

variable {F : FTy → Type} [FloatOps F]
-- ==== Proof.Weights.lean ====
/- The masked softmax weight of one row of scores, over the extended reals: what it is, that both ways of writing it down (multiplying by a guarded reciprocal; dividing, then
   masking) give it, and that it does not depend on how the keys are numbered or on masked-out keys being left away. -/
module

public import Idealize.ShloMosaic.PureOps.Ideal
public import Mathlib.Data.Finset.Lattice.Fold
public import Mathlib.Algebra.BigOperators.Group.Finset.Basic
public import Mathlib.Data.EReal.Inv

@[expose] public section

noncomputable section

namespace Cert.Nsa

open Idealize.ShloMosaic

variable {ι κ : Type} [Fintype ι] [Fintype κ]

open Classical in
/-- The score where the key is seen, `-∞` where it is not. -/
def masked (mask : ι → Prop) (s : ι → EReal) (k : ι) : EReal := if mask k then s k else ⊥

/-- The greatest score seen (`-∞` if none is). -/
def mx (mask : ι → Prop) (s : ι → EReal) : EReal := Finset.univ.fold max ⊥ (masked mask s)

open Classical in
/-- The exponential of a seen key, zero for the others. -/
def ew (mask : ι → Prop) (s : ι → EReal) (k : ι) : EReal := if mask k then Ideal.exp (masked mask s k - mx mask s) else 0

/-- The row's denominator. -/
def den (mask : ι → Prop) (s : ι → EReal) : EReal := ∑ k, ew mask s k

/-- The weight of a key. -/
def wt (mask : ι → Prop) (s : ι → EReal) (k : ι) : EReal := ew mask s k * (den mask s)⁻¹

theorem exp_nonneg (x : EReal) : 0 ≤ Ideal.exp x := by
  induction x with
  | bot => simp
  | top => simp
  | coe r => simp only [Ideal.exp_coe]; exact_mod_cast (Real.exp_pos r).le

theorem ew_nonneg (mask : ι → Prop) (s : ι → EReal) (k : ι) : 0 ≤ ew mask s k := by
  unfold ew; split
  · exact exp_nonneg _
  · exact le_rfl

theorem den_nonneg (mask : ι → Prop) (s : ι → EReal) : 0 ≤ den mask s :=
  Finset.sum_nonneg fun k _ => ew_nonneg mask s k

/-- Multiplying by the reciprocal, guarded against an empty row. -/
theorem mul_guarded (mask : ι → Prop) (s : ι → EReal) (k : ι) :
    ew mask s k * (if 0 < den mask s then Ideal.div 1 (den mask s) else 0) = wt mask s k := by
  unfold wt
  by_cases h : 0 < den mask s
  · rw [if_pos h, Ideal.div, if_neg h.ne', one_mul]
  · rw [if_neg h, le_antisymm (not_lt.mp h) (den_nonneg mask s), EReal.inv_zero]

/-- The greatest score is the fold over any numbering that reaches every seen key. -/
theorem mx_eq_sup (mask : ι → Prop) (s : ι → EReal) : mx mask s = Finset.univ.sup (masked mask s) := rfl

theorem mx_comp (mask : ι → Prop) (s : ι → EReal) (f : κ → ι) (hf : ∀ i, mask i → ∃ k, f k = i) :
    mx (fun k => mask (f k)) (fun k => s (f k)) = mx mask s := by
  rw [mx_eq_sup, mx_eq_sup]
  apply le_antisymm
  · refine Finset.sup_le fun k _ => ?_
    exact Finset.le_sup (f := masked mask s) (Finset.mem_univ (f k))
  · refine Finset.sup_le fun i _ => ?_
    by_cases h : mask i
    · obtain ⟨k, rfl⟩ := hf i h
      exact Finset.le_sup (f := masked (fun k => mask (f k)) (fun k => s (f k))) (Finset.mem_univ k)
    · unfold masked; rw [if_neg h]; exact bot_le

theorem ew_comp (mask : ι → Prop) (s : ι → EReal) (f : κ → ι) (hf : ∀ i, mask i → ∃ k, f k = i) (k : κ) :
    ew (fun k => mask (f k)) (fun k => s (f k)) k = ew mask s (f k) := by
  unfold ew; rw [mx_comp mask s f hf]; rfl

/-- A sum over the keys of something that vanishes off the mask, over another numbering. -/
theorem sum_comp (mask : ι → Prop) (F : ι → EReal) (hF : ∀ i, ¬ mask i → F i = 0) (f : κ → ι) (hinj : Function.Injective f)
    (hf : ∀ i, mask i → ∃ k, f k = i) : ∑ k, F (f k) = ∑ i, F i := by
  classical
  rw [← Finset.sum_image (s := Finset.univ) (g := f) (f := F) (fun a _ b _ h => hinj h)]
  refine Finset.sum_subset (Finset.subset_univ _) fun i _ hi => hF i fun hm => hi ?_
  obtain ⟨k, hk⟩ := hf i hm
  exact Finset.mem_image.mpr ⟨k, Finset.mem_univ _, hk⟩

theorem ew_off (mask : ι → Prop) (s : ι → EReal) (i : ι) (h : ¬ mask i) : ew mask s i = 0 := by unfold ew; rw [if_neg h]

theorem wt_off (mask : ι → Prop) (s : ι → EReal) (i : ι) (h : ¬ mask i) : wt mask s i = 0 := by
  unfold wt; rw [ew_off mask s i h, zero_mul]

theorem den_comp (mask : ι → Prop) (s : ι → EReal) (f : κ → ι) (hinj : Function.Injective f)
    (hf : ∀ i, mask i → ∃ k, f k = i) : den (fun k => mask (f k)) (fun k => s (f k)) = den mask s := by
  unfold den
  rw [Finset.sum_congr rfl fun k _ => ew_comp mask s f hf k]
  exact sum_comp mask _ (fun i h => ew_off mask s i h) f hinj hf

/-- The weight of a key under another numbering of the keys. -/
theorem wt_comp (mask : ι → Prop) (s : ι → EReal) (f : κ → ι) (hinj : Function.Injective f)
    (hf : ∀ i, mask i → ∃ k, f k = i) (k : κ) :
    wt (fun k => mask (f k)) (fun k => s (f k)) k = wt mask s (f k) := by
  unfold wt; rw [ew_comp mask s f hf, den_comp mask s f hinj hf]

/-- The attended value under another numbering of the keys. -/
theorem attend_comp (mask : ι → Prop) (s v : ι → EReal) (f : κ → ι) (hinj : Function.Injective f)
    (hf : ∀ i, mask i → ∃ k, f k = i) :
    ∑ k, wt (fun k => mask (f k)) (fun k => s (f k)) k * v (f k) = ∑ i, wt mask s i * v i := by
  rw [Finset.sum_congr rfl fun k _ => by rw [wt_comp mask s f hinj hf k]]
  exact sum_comp mask (fun i => wt mask s i * v i) (fun i h => by rw [wt_off mask s i h, zero_mul]) f hinj hf

/-- The greatest score of a row with a seen key and finite scores is one of the scores, hence finite. -/
theorem mx_mem (mask : ι → Prop) (s : ι → EReal) (k0 : ι) (h0 : mask k0) (hs : ∀ k, s k ≠ ⊥) :
    ∃ k, mask k ∧ mx mask s = s k := by
  rw [mx_eq_sup]
  obtain ⟨k, -, hk⟩ := Finset.exists_mem_eq_sup Finset.univ ⟨k0, Finset.mem_univ _⟩ (masked mask s)
  by_cases hm : mask k
  · exact ⟨k, hm, by rw [hk]; unfold masked; rw [if_pos hm]⟩
  · exfalso
    have h1 : masked mask s k0 ≤ Finset.univ.sup (masked mask s) := Finset.le_sup (Finset.mem_univ k0)
    rw [hk] at h1; unfold masked at h1; rw [if_pos h0, if_neg hm] at h1
    exact hs k0 (le_bot_iff.mp h1)

theorem exp_masked (mask : ι → Prop) (s : ι → EReal) (k0 : ι) (h0 : mask k0) (hs : ∀ k, s k ≠ ⊥) (hs' : ∀ k, s k ≠ ⊤) (k : ι) :
    Ideal.exp (masked mask s k - mx mask s) = ew mask s k := by
  unfold ew
  split
  · rfl
  · rename_i h
    unfold masked; rw [if_neg h]
    show Ideal.exp (⊥ - _) = 0
    rw [EReal.bot_sub, Ideal.exp_bot]

theorem den_ne_zero (mask : ι → Prop) (s : ι → EReal) (k0 : ι) (h0 : mask k0) (hs : ∀ k, s k ≠ ⊥) (hs' : ∀ k, s k ≠ ⊤) :
    den mask s ≠ 0 := by
  obtain ⟨k, hm, hk⟩ := mx_mem mask s k0 h0 hs
  have h1 : ew mask s k = 1 := by
    unfold ew masked; rw [if_pos hm, if_pos hm, hk, EReal.sub_self (hs' k) (hs k)]
    show Ideal.exp ((0 : ℝ) : EReal) = 1
    rw [Ideal.exp_coe, Real.exp_zero]; rfl
  have h2 : ew mask s k ≤ den mask s := Finset.single_le_sum (fun i _ => ew_nonneg mask s i) (Finset.mem_univ k)
  rw [h1] at h2
  intro h; rw [h] at h2; exact absurd h2 (by norm_num)

open Classical in
/-- Dividing the exponentials of ALL entries (`-∞` where masked) by their sum, and masking the quotient afterwards. -/
theorem div_masked (mask : ι → Prop) (s : ι → EReal) (hs : ∀ k, s k ≠ ⊥) (hs' : ∀ k, s k ≠ ⊤) (k : ι) :
    (if mask k then Ideal.div (Ideal.exp (masked mask s k - mx mask s)) (∑ j, Ideal.exp (masked mask s j - mx mask s)) else 0)
      = wt mask s k := by
  by_cases h : mask k
  · rw [if_pos h, Finset.sum_congr rfl fun j _ => exp_masked mask s k h hs hs' j, exp_masked mask s k h hs hs' k]
    show Ideal.div _ (den mask s) = _
    rw [Ideal.div, if_neg (den_ne_zero mask s k h hs hs')]; rfl
  · rw [if_neg h, wt_off mask s k h]

end Cert.Nsa

end
-- ==== Proof.Ranks.lean ====
/- The sixteen best of thirty-two scores, chosen in two ways: by counting, for each position, how many positions beat it (a greater score, or an equal one further left); and by a
   stable descending sort whose first sixteen positions are kept. The two choose the same positions. -/
module

public import Idealize.ShloMosaic.Lib.SortPrefix
public import Mathlib.Data.EReal.Basic
public import Mathlib.Data.Fintype.Card

@[expose] public section

noncomputable section

namespace Cert.Nsa

open Idealize.ShloMosaic

variable {n : ℕ}

open Classical in
/-- How many positions beat position `j`. -/
def rank (s : Fin n → EReal) (j : Fin n) : ℕ :=
  (Finset.univ.filter fun j' : Fin n => s j < s j' ∨ (s j' = s j ∧ j' < j)).card

open Classical in
/-- `j` before `j'` in the descending stable sort, the position deciding between equal scores. -/
def bef (s : Fin n → EReal) (j j' : Fin n) : Bool :=
  decide (s j' < s j) || (decide (s j = s j') && decide (j < j'))

open Classical in
theorem bef_strict (s : Fin n → EReal) : StrictTotalBefore (bef s) := by
  have h := StrictTotalBefore.of_key_then_position (n := n) (fun a b : EReal => decide (b < a)) s
    (fun a => by simp) (fun a b c h1 h2 => by simp only [decide_eq_true_eq] at *; exact lt_trans h2 h1)
    (fun a b => by simp only [decide_eq_true_eq]; rcases lt_trichotomy a b with h | h | h <;> tauto)
  exact h

/-- The comparator alone (without the positions) sorts a list of increasing positions the same way: the sort is stable. -/
theorem stableSort_eq (s : Fin n → EReal) (R : Fin n → Fin n → Bool) (hR : ∀ a b, R a b = true ↔ s b < s a)
    (l : List (Fin n)) (hl : l.Pairwise (· < ·)) : stableSort R l = stableSort (bef s) l := by
  induction l with
  | nil => rfl
  | cons a l ih =>
    rw [List.pairwise_cons] at hl
    unfold stableSort
    rw [ih hl.2]
    refine insertBefore_congr _ _ a _ fun b hb => ?_
    have hb' : b ∈ l := (perm_stableSort _ l).mem_iff.mp hb
    have hlt := hl.1 b hb'
    have h1 : bef s b a = true ↔ s a < s b := by
      unfold bef
      simp only [Bool.or_eq_true, Bool.and_eq_true, decide_eq_true_eq]
      exact ⟨fun h => h.elim id fun h => absurd h.2 (lt_asymm hlt), Or.inl⟩
    rw [Bool.eq_iff_iff, hR, h1]

theorem sortedFrom_eq (s : Fin n → EReal) (R : Fin n → Fin n → Bool) (hR : ∀ a b, R a b = true ↔ s b < s a) :
    sortedFrom R = sortedFrom (bef s) := by
  have h : sortPositions n R = sortPositions n (bef s) := stableSort_eq s R hR _ (List.pairwise_lt_finRange n)
  funext k
  unfold sortedFrom
  rw [List.get_of_eq h]
  rfl

/-- The position sorted to place `k` is beaten by exactly `k` positions. -/
theorem rank_sortedFrom (s : Fin n → EReal) (k : Fin n) : rank s (sortedFrom (bef s) k) = k.val := by
  classical
  have hB := bef_strict s
  have hinj := sortedFrom_injective (bef s)
  have hord : ∀ i j : Fin n, i < j → bef s (sortedFrom (bef s) i) (sortedFrom (bef s) j) = true := by
    intro i j hij
    have h0 := sortedFrom_noInversion (bef s) (bef s) (fun a b h => hB.asymm a b h) (fun _ _ h => h) hB.negTrans i j hij
    rcases hB.total _ _ (fun e => absurd (hinj e) hij.ne) with h | h
    · exact h
    · rw [h] at h0; exact absurd h0 (by decide)
  have hset : (Finset.univ.filter fun j' : Fin n => s (sortedFrom (bef s) k) < s j' ∨ (s j' = s (sortedFrom (bef s) k) ∧ j' < sortedFrom (bef s) k))
      = (Finset.univ.filter fun i : Fin n => i < k).image (sortedFrom (bef s)) := by
    ext j'
    simp only [Finset.mem_filter, Finset.mem_univ, true_and, Finset.mem_image]
    have hb : bef s j' (sortedFrom (bef s) k) = true ↔ (s (sortedFrom (bef s) k) < s j' ∨ (s j' = s (sortedFrom (bef s) k) ∧ j' < sortedFrom (bef s) k)) := by
      unfold bef; simp only [Bool.or_eq_true, Bool.and_eq_true, decide_eq_true_eq]
    rw [← hb]
    constructor
    · intro h
      obtain ⟨i, rfl⟩ := sortedFrom_surjective (bef s) j'
      refine ⟨i, ?_, rfl⟩
      rcases lt_trichotomy i k with h' | h' | h'
      · exact h'
      · subst h'; rw [hB.irrefl] at h; exact absurd h (by decide)
      · have := hB.asymm _ _ (hord k i h'); rw [h] at this; exact absurd this (by decide)
    · rintro ⟨i, hi, rfl⟩; exact hord i k hi
  have hcard : (Finset.univ.filter fun i : Fin n => i < k).card = k.val := by
    rw [show (Finset.univ.filter fun i : Fin n => i < k) = Finset.Iio k by ext; simp]
    exact Fin.card_Iio k
  unfold rank
  refine Eq.trans (congrArg Finset.card ?_) ((Finset.card_image_of_injective _ hinj).trans hcard)
  convert hset

/-- A position is beaten by fewer than `m` positions exactly when the sort puts it among the first `m`. -/
theorem rank_lt_iff (s : Fin n → EReal) (m : ℕ) (j : Fin n) :
    rank s j < m ↔ ∃ k : Fin n, k.val < m ∧ sortedFrom (bef s) k = j := by
  obtain ⟨k, rfl⟩ := sortedFrom_surjective (bef s) j
  rw [rank_sortedFrom]
  constructor
  · exact fun h => ⟨k, h, rfl⟩
  · rintro ⟨k', h', e⟩; rw [← sortedFrom_injective _ e]; exact h'

end Cert.Nsa

end
-- ==== Proof.Spec.lean ====
/-
  What one row of the attention is, over the extended reals, for one query of one head of one group: three masked
  softmax averages of values (over the compressed blocks, over the keys of the selected blocks, over the window), each
  times its gate, added.
-/
module

public import proofs.«01_k».proof.Proof.Weights
public import proofs.«01_k».proof.Proof.Ranks

@[expose] public section

noncomputable section

namespace Cert.Nsa

open Idealize.ShloMosaic

/-- A score: the product of a query and a key over the head's 128 entries, times the scale. -/
def score {ι : Type} (q : Fin 128 → EReal) (k : ι → Fin 128 → EReal) (j : ι) : EReal :=
  (∑ d, q d * k j d) * Ideal.ofBits .f32 0x3DB504F3#32

/-- The average of the values, weighted by the masked softmax of the scores. -/
def attend {ι : Type} [Fintype ι] (mask : ι → Prop) (q : Fin 128 → EReal) (k v : ι → Fin 128 → EReal) (d : Fin 128) : EReal :=
  ∑ j, wt mask (score q k) j * v j d

/-- A query at position `t` sees the compressed blocks of 32 that have ended. -/
def cmask (t : ℕ) (b : Fin 64) : Prop := (b.val + 1) * 32 ≤ t + 1

/-- How much the four heads of the group attend to the two compressed blocks in a block of 64. -/
def impOf (qs : Fin 4 → Fin 128 → EReal) (kc : Fin 64 → Fin 128 → EReal) (t : ℕ) (j : Fin 32) : EReal :=
  ∑ h, (wt (cmask t) (score (qs h) kc) ⟨2 * j.val, by omega⟩ + wt (cmask t) (score (qs h) kc) ⟨2 * j.val + 1, by omega⟩)

/-- The score of a block of 64: its importance, with a bonus for the first block, the query's own and the one before;
    `-∞` for the blocks that come after the query's. -/
def bscore (qs : Fin 4 → Fin 128 → EReal) (kc : Fin 64 → Fin 128 → EReal) (t : ℕ) (j : Fin 32) : EReal :=
  if j.val ≤ t / 64 then impOf qs kc t j + Ideal.ofBits .f32 0x447A0000#32 *
    (if j.val = 0 ∨ j.val = t / 64 ∨ j.val + 1 = t / 64 then 1 else 0) else ⊥

/-- The keys of the sixteen best blocks, up to the query's position. -/
def smask (qs : Fin 4 → Fin 128 → EReal) (kc : Fin 64 → Fin 128 → EReal) (t : ℕ) (k : Fin 2048) : Prop :=
  rank (bscore qs kc t) (⟨k.val / 64, by omega⟩ : Fin 32) < 16 ∧ k.val ≤ t

/-- The last 512 keys. -/
def wmask (t : ℕ) (k : Fin 2048) : Prop := k.val ≤ t ∧ t < k.val + 512

/-- The row. -/
def row (t : ℕ) (g : Fin 3 → EReal) (qs : Fin 4 → Fin 128 → EReal) (h : Fin 4) (kc vc : Fin 64 → Fin 128 → EReal)
    (ks vs kw vw : Fin 2048 → Fin 128 → EReal) (d : Fin 128) : EReal :=
  g 0 * attend (cmask t) (qs h) kc vc d + g 1 * attend (smask qs kc t) (qs h) ks vs d + g 2 * attend (wmask t) (qs h) kw vw d

/-- A row of an array whose rows are the positions of four batch rows. -/
def rowOf (b : Fin 4) (t : Fin 2048) : Fin 8192 := ⟨b.val * 2048 + t.val, by omega⟩

section
variable (Q : Fin 8192 → Fin 2048 → EReal) (C : Fin 8192 → Fin 1024 → EReal) (KV : Fin 8192 → Fin 3072 → EReal)
  (G : Fin 8192 → Fin 512 → EReal) (W : Fin 32 → Fin 4 → Fin 2 → EReal)

/-- The queries of a position, for a group. -/
def queries (b : Fin 4) (t : Fin 2048) (g h : Fin 4) (e : Fin 128) : EReal :=
  Q (rowOf b t) ⟨g.val * 512 + h.val * 128 + e.val, by omega⟩

/-- The compressed keys (`s = 0`) and values (`s = 1`) of a group: each block of 32 positions pooled with learned weights. -/
def pooled (b g : Fin 4) (s : Fin 2) (n : Fin 64) (e : Fin 128) : EReal :=
  ∑ j : Fin 32, C (rowOf b ⟨n.val * 32 + j.val, by omega⟩) ⟨g.val * 256 + s.val * 128 + e.val, by omega⟩ * W j g s

/-- The keys (`s = 0`) and values (`s = 1`) of a branch (`r = 1` selected, `r = 2` window) and group. -/
def keyval (b : Fin 4) (r : Fin 3) (g : Fin 4) (s : Fin 2) (k : Fin 2048) (e : Fin 128) : EReal :=
  KV (rowOf b k) ⟨r.val * 1024 + g.val * 256 + s.val * 128 + e.val, by omega⟩

/-- A branch's gate for a head. -/
def gate (b : Fin 4) (t : Fin 2048) (g h : Fin 4) (r : Fin 3) : EReal :=
  Ideal.logistic (G (rowOf b t) ⟨g.val * 128 + (h.val * 3 + r.val), by omega⟩)

/-- The attention's output for a batch row, position, group, head and entry. -/
def out (b : Fin 4) (t : Fin 2048) (g h : Fin 4) (d : Fin 128) : EReal :=
  row t.val (gate G b t g h) (queries Q b t g) h (pooled C W b g 0) (pooled C W b g 1) (keyval KV b 1 g 0) (keyval KV b 1 g 1)
    (keyval KV b 2 g 0) (keyval KV b 2 g 1) d

end

end Cert.Nsa

end

end
-- ==== Proof.Body.lean ====
/-
  The pieces of the attention's body, as its lines write them: the scaled scores of a block of queries against `n` keys,
  the masked softmax of the rows, and a branch's gated share of the output; and that every store of the body is one of
  these. The three branches see 64, 2048 and 768 keys.
-/
module

public import proofs.«01_k».proof.Proof.Gen.KernelIdeal.Skeleton
public import proofs.«01_k».proof.Proof.Spec
public import Idealize.ShloMosaic.Lib.Pipeline.ValueKit

@[expose] public section

set_option maxRecDepth 16384

noncomputable section

open Idealize.ShloMosaic Idealize.ShloMosaic.TcCoe Idealize.SL.Sem

namespace Cert.KernelIdeal.Body

open Cert.KernelIdeal Cert.KernelIdeal.Gen

/-- The named constant that stands for a key not seen. -/
def low : Ideal .f32 := Named.named (F := Ideal) κ "mask" 0xF149F2CA#32

theorem low_eq : low = (⊥ : EReal) := IdealRules.named_const.ideal_named_scalar _ _ _ _ rfl

theorem ninf_eq : Ideal.ofBits .f32 0xFF800000#32 = (⊥ : EReal) := by simp [Ideal.ofBits, Ideal.ieee]

open Cert.Nsa (score)

/-! ## The branch over 64 keys -/

/-- The scaled scores. -/
def sc64 (q : FVec Ideal S256x128 .bf16) (k : FVec Ideal S64x128 .bf16) : FVec Ideal S256x64 .f32 :=
  mulf (matmul dot_S256x128_S64x128_S256x64_1_1_0_0_n_n none q k (constant S256x64 .f32 0x00000000#32))
    (broadcast S256x64 (Scalar.ofBits .f32 0x3DB504F3#32))

/-- The exponentials of a row's masked scores. -/
def ex64 (mask : IVec S256x64 1) (s : FVec Ideal S256x64 .f32) : FVec Ideal S256x64 .f32 :=
  select mask (exp (subf (select mask s (broadcast S256x64 low)) (broadcastTo S256x64 (shapeCast S256x1
      (multiReduction .maximumf [1] S256 (select mask s (broadcast S256x64 low)) 0xFF800000#32 reduces_S256x64_S256
        (.inl rfl) rfl) shapeCasts_S256_S256x1) broadcasts_S256x1_S256x64)))
    (broadcast S256x64 (Scalar.ofBits .f32 0x00000000#32))

/-- Their sums, a column. -/
def su64 (e : FVec Ideal S256x64 .f32) : FVec Ideal S256x1 .f32 :=
  shapeCast S256x1 (multiReduction .add [1] S256 e 0x00000000#32 reduces_S256x64_S256 (.inl rfl) rfl) shapeCasts_S256_S256x1

/-- The weights: the exponentials times the guarded reciprocal of their sum. -/
def sm64 (mask : IVec S256x64 1) (s : FVec Ideal S256x64 .f32) : FVec Ideal S256x64 .f32 :=
  mulf (ex64 mask s) (broadcastTo S256x64
    (select (cmpf .ogt (su64 (ex64 mask s)) (broadcast S256x1 (Scalar.ofBits .f32 0x00000000#32)))
      (divf (broadcast S256x1 (Scalar.ofBits .f32 0x3F800000#32)) (su64 (ex64 mask s)))
      (broadcast S256x1 (Scalar.ofBits .f32 0x00000000#32))) broadcasts_S256x1_S256x64)

/-- A branch's gated share. -/
def sh64 (g : FVec Ideal S256x1 .f32) (p : FVec Ideal S256x64 .f32) (v : FVec Ideal S64x128 .bf16) : FVec Ideal S256x128 .f32 :=
  mulf (broadcastTo S256x128 g broadcasts_S256x1_S256x128)
    (matmul dot_S256x64_S64x128_S256x128_1_0_0_1_n_n none (truncf .bf16 p bitsLt_bf16_f32) v (constant S256x128 .f32 0x00000000#32))

theorem sc64_at (q : FVec Ideal S256x128 .bf16) (k : FVec Ideal S64x128 .bf16) (i : Fin 256) (j : Fin 64) :
    sc64 q k (ix2 i j) = score (fun d => q (ix2 i d)) (fun j d => k (ix2 j d)) j := by
  pointwise [sc64, score]

theorem ex64_at (mask : IVec S256x64 1) (s : FVec Ideal S256x64 .f32) (i : Fin 256) (j : Fin 64) :
    ex64 mask s (ix2 i j) = Cert.Nsa.ew (fun k => mask (ix2 i k) = 1#1) (fun k => s (ix2 i k)) j := by
  pointwise [ex64]
  simp only [low_eq, Cert.Nsa.ew, Cert.Nsa.mx]
  have hm : (fun x => Scalar.select (mask (ix2 i x)) (s (ix2 i x)) (⊥ : EReal))
      = Cert.Nsa.masked (fun k => mask (ix2 i k) = 1#1) (fun k => s (ix2 i k)) := by
    funext x; simp only [Cert.Nsa.masked, Scalar.select]; congr
  have hj := congrFun hm j
  rw [hj, hm, ninf_eq]
  simp only [Scalar.select]
  congr

theorem su64_at (e : FVec Ideal S256x64 .f32) (i : Fin 256) : su64 e (ix2 i 0) = ∑ k, e (ix2 i k) := by
  pointwise [su64]

theorem sm64_at (mask : IVec S256x64 1) (s : FVec Ideal S256x64 .f32) (i : Fin 256) (j : Fin 64) :
    sm64 mask s (ix2 i j) = Cert.Nsa.wt (fun k => mask (ix2 i k) = 1#1) (fun k => s (ix2 i k)) j := by
  pointwise [sm64]
  rw [← Cert.Nsa.mul_guarded]
  simp only [su64_at, ex64_at, Cert.Nsa.den]
  congr

theorem sh64_at (g : FVec Ideal S256x1 .f32) (p : FVec Ideal S256x64 .f32) (v : FVec Ideal S64x128 .bf16) (i : Fin 256) (d : Fin 128) :
    sh64 g p v (ix2 i d) = g (ix2 i 0) * ∑ k, p (ix2 i k) * v (ix2 k d) := by
  pointwise [sh64]

/-! ## The branch over 2048 keys -/

/-- The scaled scores. -/
def sc2048 (q : FVec Ideal S256x128 .bf16) (k : FVec Ideal S2048x128 .bf16) : FVec Ideal S256x2048 .f32 :=
  mulf (matmul dot_S256x128_S2048x128_S256x2048_1_1_0_0_n_n none q k (constant S256x2048 .f32 0x00000000#32))
    (broadcast S256x2048 (Scalar.ofBits .f32 0x3DB504F3#32))

/-- The exponentials of a row's masked scores. -/
def ex2048 (mask : IVec S256x2048 1) (s : FVec Ideal S256x2048 .f32) : FVec Ideal S256x2048 .f32 :=
  select mask (exp (subf (select mask s (broadcast S256x2048 low)) (broadcastTo S256x2048 (shapeCast S256x1
      (multiReduction .maximumf [1] S256 (select mask s (broadcast S256x2048 low)) 0xFF800000#32 reduces_S256x2048_S256
        (.inl rfl) rfl) shapeCasts_S256_S256x1) broadcasts_S256x1_S256x2048)))
    (broadcast S256x2048 (Scalar.ofBits .f32 0x00000000#32))

/-- Their sums, a column. -/
def su2048 (e : FVec Ideal S256x2048 .f32) : FVec Ideal S256x1 .f32 :=
  shapeCast S256x1 (multiReduction .add [1] S256 e 0x00000000#32 reduces_S256x2048_S256 (.inl rfl) rfl) shapeCasts_S256_S256x1

/-- The weights: the exponentials times the guarded reciprocal of their sum. -/
def sm2048 (mask : IVec S256x2048 1) (s : FVec Ideal S256x2048 .f32) : FVec Ideal S256x2048 .f32 :=
  mulf (ex2048 mask s) (broadcastTo S256x2048
    (select (cmpf .ogt (su2048 (ex2048 mask s)) (broadcast S256x1 (Scalar.ofBits .f32 0x00000000#32)))
      (divf (broadcast S256x1 (Scalar.ofBits .f32 0x3F800000#32)) (su2048 (ex2048 mask s)))
      (broadcast S256x1 (Scalar.ofBits .f32 0x00000000#32))) broadcasts_S256x1_S256x2048)

/-- A branch's gated share. -/
def sh2048 (g : FVec Ideal S256x1 .f32) (p : FVec Ideal S256x2048 .f32) (v : FVec Ideal S2048x128 .bf16) : FVec Ideal S256x128 .f32 :=
  mulf (broadcastTo S256x128 g broadcasts_S256x1_S256x128)
    (matmul dot_S256x2048_S2048x128_S256x128_1_0_0_1_n_n none (truncf .bf16 p bitsLt_bf16_f32) v (constant S256x128 .f32 0x00000000#32))

theorem sc2048_at (q : FVec Ideal S256x128 .bf16) (k : FVec Ideal S2048x128 .bf16) (i : Fin 256) (j : Fin 2048) :
    sc2048 q k (ix2 i j) = score (fun d => q (ix2 i d)) (fun j d => k (ix2 j d)) j := by
  pointwise [sc2048, score]

theorem ex2048_at (mask : IVec S256x2048 1) (s : FVec Ideal S256x2048 .f32) (i : Fin 256) (j : Fin 2048) :
    ex2048 mask s (ix2 i j) = Cert.Nsa.ew (fun k => mask (ix2 i k) = 1#1) (fun k => s (ix2 i k)) j := by
  pointwise [ex2048]
  simp only [low_eq, Cert.Nsa.ew, Cert.Nsa.mx]
  have hm : (fun x => Scalar.select (mask (ix2 i x)) (s (ix2 i x)) (⊥ : EReal))
      = Cert.Nsa.masked (fun k => mask (ix2 i k) = 1#1) (fun k => s (ix2 i k)) := by
    funext x; simp only [Cert.Nsa.masked, Scalar.select]; congr
  have hj := congrFun hm j
  rw [hj, hm, ninf_eq]
  simp only [Scalar.select]
  congr

theorem su2048_at (e : FVec Ideal S256x2048 .f32) (i : Fin 256) : su2048 e (ix2 i 0) = ∑ k, e (ix2 i k) := by
  pointwise [su2048]

theorem sm2048_at (mask : IVec S256x2048 1) (s : FVec Ideal S256x2048 .f32) (i : Fin 256) (j : Fin 2048) :
    sm2048 mask s (ix2 i j) = Cert.Nsa.wt (fun k => mask (ix2 i k) = 1#1) (fun k => s (ix2 i k)) j := by
  pointwise [sm2048]
  rw [← Cert.Nsa.mul_guarded]
  simp only [su2048_at, ex2048_at, Cert.Nsa.den]
  congr

theorem sh2048_at (g : FVec Ideal S256x1 .f32) (p : FVec Ideal S256x2048 .f32) (v : FVec Ideal S2048x128 .bf16) (i : Fin 256) (d : Fin 128) :
    sh2048 g p v (ix2 i d) = g (ix2 i 0) * ∑ k, p (ix2 i k) * v (ix2 k d) := by
  pointwise [sh2048]

/-! ## The branch over 768 keys -/

/-- The scaled scores. -/
def sc768 (q : FVec Ideal S256x128 .bf16) (k : FVec Ideal S768x128 .bf16) : FVec Ideal S256x768 .f32 :=
  mulf (matmul dot_S256x128_S768x128_S256x768_1_1_0_0_n_n none q k (constant S256x768 .f32 0x00000000#32))
    (broadcast S256x768 (Scalar.ofBits .f32 0x3DB504F3#32))

/-- The exponentials of a row's masked scores. -/
def ex768 (mask : IVec S256x768 1) (s : FVec Ideal S256x768 .f32) : FVec Ideal S256x768 .f32 :=
  select mask (exp (subf (select mask s (broadcast S256x768 low)) (broadcastTo S256x768 (shapeCast S256x1
      (multiReduction .maximumf [1] S256 (select mask s (broadcast S256x768 low)) 0xFF800000#32 reduces_S256x768_S256
        (.inl rfl) rfl) shapeCasts_S256_S256x1) broadcasts_S256x1_S256x768)))
    (broadcast S256x768 (Scalar.ofBits .f32 0x00000000#32))

/-- Their sums, a column. -/
def su768 (e : FVec Ideal S256x768 .f32) : FVec Ideal S256x1 .f32 :=
  shapeCast S256x1 (multiReduction .add [1] S256 e 0x00000000#32 reduces_S256x768_S256 (.inl rfl) rfl) shapeCasts_S256_S256x1

/-- The weights: the exponentials times the guarded reciprocal of their sum. -/
def sm768 (mask : IVec S256x768 1) (s : FVec Ideal S256x768 .f32) : FVec Ideal S256x768 .f32 :=
  mulf (ex768 mask s) (broadcastTo S256x768
    (select (cmpf .ogt (su768 (ex768 mask s)) (broadcast S256x1 (Scalar.ofBits .f32 0x00000000#32)))
      (divf (broadcast S256x1 (Scalar.ofBits .f32 0x3F800000#32)) (su768 (ex768 mask s)))
      (broadcast S256x1 (Scalar.ofBits .f32 0x00000000#32))) broadcasts_S256x1_S256x768)

/-- A branch's gated share. -/
def sh768 (g : FVec Ideal S256x1 .f32) (p : FVec Ideal S256x768 .f32) (v : FVec Ideal S768x128 .bf16) : FVec Ideal S256x128 .f32 :=
  mulf (broadcastTo S256x128 g broadcasts_S256x1_S256x128)
    (matmul dot_S256x768_S768x128_S256x128_1_0_0_1_n_n none (truncf .bf16 p bitsLt_bf16_f32) v (constant S256x128 .f32 0x00000000#32))

theorem sc768_at (q : FVec Ideal S256x128 .bf16) (k : FVec Ideal S768x128 .bf16) (i : Fin 256) (j : Fin 768) :
    sc768 q k (ix2 i j) = score (fun d => q (ix2 i d)) (fun j d => k (ix2 j d)) j := by
  pointwise [sc768, score]

theorem ex768_at (mask : IVec S256x768 1) (s : FVec Ideal S256x768 .f32) (i : Fin 256) (j : Fin 768) :
    ex768 mask s (ix2 i j) = Cert.Nsa.ew (fun k => mask (ix2 i k) = 1#1) (fun k => s (ix2 i k)) j := by
  pointwise [ex768]
  simp only [low_eq, Cert.Nsa.ew, Cert.Nsa.mx]
  have hm : (fun x => Scalar.select (mask (ix2 i x)) (s (ix2 i x)) (⊥ : EReal))
      = Cert.Nsa.masked (fun k => mask (ix2 i k) = 1#1) (fun k => s (ix2 i k)) := by
    funext x; simp only [Cert.Nsa.masked, Scalar.select]; congr
  have hj := congrFun hm j
  rw [hj, hm, ninf_eq]
  simp only [Scalar.select]
  congr

theorem su768_at (e : FVec Ideal S256x768 .f32) (i : Fin 256) : su768 e (ix2 i 0) = ∑ k, e (ix2 i k) := by
  pointwise [su768]

theorem sm768_at (mask : IVec S256x768 1) (s : FVec Ideal S256x768 .f32) (i : Fin 256) (j : Fin 768) :
    sm768 mask s (ix2 i j) = Cert.Nsa.wt (fun k => mask (ix2 i k) = 1#1) (fun k => s (ix2 i k)) j := by
  pointwise [sm768]
  rw [← Cert.Nsa.mul_guarded]
  simp only [su768_at, ex768_at, Cert.Nsa.den]
  congr

theorem sh768_at (g : FVec Ideal S256x1 .f32) (p : FVec Ideal S256x768 .f32) (v : FVec Ideal S768x128 .bf16) (i : Fin 256) (d : Fin 128) :
    sh768 g p v (ix2 i d) = g (ix2 i 0) * ∑ k, p (ix2 i k) * v (ix2 k d) := by
  pointwise [sh768]

/-! ## The stores of the body are these pieces -/

section stores

variable (r : FVec Ideal S256x128 .f32)

/-- The first store of a head: the gated share of the compressed branch, of the gate's column `3 h`. -/
def stC (g : FVec Ideal S256x1 .f32) (m : IVec S256x64 1) (q : FVec Ideal S256x128 .bf16) (k v : FVec Ideal S64x128 .bf16) :
    FVec Ideal S256x128 .f32 :=
  shapeCast S256x128 (sh64 g (sm64 m (sc64 q k)) v) shapeCasts_S256x128_S256x128

/-- The second: what is there, plus the gated share of the selected branch. -/
def stS (g : FVec Ideal S256x1 .f32) (m : IVec S256x2048 1) (q : FVec Ideal S256x128 .bf16) (k v : FVec Ideal S2048x128 .bf16)
    (old : FVec Ideal S256x128 .f32) : FVec Ideal S256x128 .f32 :=
  shapeCast S256x128 (addf old (sh2048 g (sm2048 m (sc2048 q k)) v)) shapeCasts_S256x128_S256x128

/-- The third: what is there, plus the gated share of the window. -/
def stW (g : FVec Ideal S256x1 .f32) (m : IVec S256x768 1) (q : FVec Ideal S256x128 .bf16) (k v : FVec Ideal S768x128 .bf16)
    (old : FVec Ideal S256x128 .f32) : FVec Ideal S256x128 .f32 :=
  shapeCast S256x128 (addf old (sh768 g (sm768 m (sc768 q k)) v)) shapeCasts_S256x128_S256x128

theorem stC_at (g : FVec Ideal S256x1 .f32) (m : IVec S256x64 1) (q : FVec Ideal S256x128 .bf16) (k v : FVec Ideal S64x128 .bf16)
    (i : Fin 256) (d : Fin 128) : stC g m q k v (ix2 i d) = g (ix2 i 0)
      * ∑ j, Cert.Nsa.wt (fun k => m (ix2 i k) = 1#1) (fun j => score (fun d => q (ix2 i d)) (fun j d => k (ix2 j d)) j) j * v (ix2 j d) := by
  pointwise [stC]
  simp only [sh64_at, sm64_at, sc64_at]

theorem stS_at (g : FVec Ideal S256x1 .f32) (m : IVec S256x2048 1) (q : FVec Ideal S256x128 .bf16) (k v : FVec Ideal S2048x128 .bf16)
    (old : FVec Ideal S256x128 .f32) (i : Fin 256) (d : Fin 128) : stS g m q k v old (ix2 i d) = old (ix2 i d) + g (ix2 i 0)
      * ∑ j, Cert.Nsa.wt (fun k => m (ix2 i k) = 1#1) (fun j => score (fun d => q (ix2 i d)) (fun j d => k (ix2 j d)) j) j * v (ix2 j d) := by
  pointwise [stS]
  simp only [sh2048_at, sm2048_at, sc2048_at]

theorem stW_at (g : FVec Ideal S256x1 .f32) (m : IVec S256x768 1) (q : FVec Ideal S256x128 .bf16) (k v : FVec Ideal S768x128 .bf16)
    (old : FVec Ideal S256x128 .f32) (i : Fin 256) (d : Fin 128) : stW g m q k v old (ix2 i d) = old (ix2 i d) + g (ix2 i 0)
      * ∑ j, Cert.Nsa.wt (fun k => m (ix2 i k) = 1#1) (fun j => score (fun d => q (ix2 i d)) (fun j d => k (ix2 j d)) j) j * v (ix2 j d) := by
  pointwise [stW]
  simp only [sh768_at, sm768_at, sc768_at]

theorem c0 (m : IVec S256x64 1) (q : FVec Ideal S256x128 .bf16) (k v : FVec Ideal S64x128 .bf16) :
    k0_pay11 r m (k0_pay6 v) (k0_pay8 k q) low = stC (extractStridedSlice S256x1 ![0, 0] r slices_S256x128_o0_0_S256x1) m q (k0_pay5 k) (k0_pay6 v) := rfl

theorem c1 (m : IVec S256x64 1) (q : FVec Ideal S256x128 .bf16) (k v : FVec Ideal S64x128 .bf16) :
    k0_pay15 r v (k0_pay12 m k q) (k0_pay13 m k q) = stC (extractStridedSlice S256x1 ![0, 3] r slices_S256x128_o0_3_S256x1) m q k v := rfl

theorem c2 (m : IVec S256x64 1) (q : FVec Ideal S256x128 .bf16) (k v : FVec Ideal S64x128 .bf16) :
    k0_pay18 r v (k0_pay16 m k q) = stC (extractStridedSlice S256x1 ![0, 6] r slices_S256x128_o0_6_S256x1) m q k v := rfl

theorem c3 (m : IVec S256x64 1) (q : FVec Ideal S256x128 .bf16) (k v : FVec Ideal S64x128 .bf16) :
    k0_pay21 r m k v q = stC (extractStridedSlice S256x1 ![0, 9] r slices_S256x128_o0_9_S256x1) m q k v := rfl

/-- The sum of the heads' weights over the compressed keys. -/
theorem imp (m : IVec S256x64 1) (q0 q1 q2 q3 : FVec Ideal S256x128 .bf16) (k : FVec Ideal S64x128 .bf16) :
    k0_pay20 m (k0_pay5 k) (k0_pay17 m (k0_pay5 k) (k0_pay10 m k0_pay7 (k0_pay8 k q0) low) (k0_pay12 m (k0_pay5 k) q1) (k0_pay13 m (k0_pay5 k) q1) q2) q3
      = addf (addf (addf (addf k0_pay7 (sm64 m (sc64 q0 (k0_pay5 k)))) (sm64 m (sc64 q1 (k0_pay5 k)))) (sm64 m (sc64 q2 (k0_pay5 k))))
        (sm64 m (sc64 q3 (k0_pay5 k))) := rfl

theorem s0 (m : IVec S256x2048 1) (q : FVec Ideal S256x128 .bf16) (k v : FVec Ideal S2048x128 .bf16) (old : FVec Ideal S256x128 .f32) :
    k0_pay49 r m k v q old = stS (extractStridedSlice S256x1 ![0, 1] r slices_S256x128_o0_1_S256x1) m q k v old := rfl

theorem s1 (m : IVec S256x2048 1) (q : FVec Ideal S256x128 .bf16) (k v : FVec Ideal S2048x128 .bf16) (old : FVec Ideal S256x128 .f32) :
    k0_pay51 r m v (k0_pay50 m k q) old = stS (extractStridedSlice S256x1 ![0, 4] r slices_S256x128_o0_4_S256x1) m q k v old := rfl

theorem s2 (m : IVec S256x2048 1) (q : FVec Ideal S256x128 .bf16) (k v : FVec Ideal S2048x128 .bf16) (old : FVec Ideal S256x128 .f32) :
    k0_pay54 r v (k0_pay52 m k q) (k0_pay53 m k q) old = stS (extractStridedSlice S256x1 ![0, 7] r slices_S256x128_o0_7_S256x1) m q k v old := rfl

theorem s3 (m : IVec S256x2048 1) (q : FVec Ideal S256x128 .bf16) (k v : FVec Ideal S2048x128 .bf16) (old : FVec Ideal S256x128 .f32) :
    k0_pay57 r v (k0_pay55 m k q) (k0_pay56 m k q) old = stS (extractStridedSlice S256x1 ![0, 10] r slices_S256x128_o0_10_S256x1) m q k v old := rfl

theorem w0 (a : BitVec 32) (b : IVec S256x1 32) (w : FVec Ideal S768x256 .bf16) (q : FVec Ideal S256x128 .bf16) (old : FVec Ideal S256x128 .f32) :
    k0_pay63 r (k0_pay59 w) (k0_pay60 a b) (k0_pay61 a b w q) k0_pay62 old
      = stW (extractStridedSlice S256x1 ![0, 2] r slices_S256x128_o0_2_S256x1) (k0_pay60 a b) q (k0_pay58 w) (k0_pay59 w) old := rfl

theorem w1 (m : IVec S256x768 1) (q : FVec Ideal S256x128 .bf16) (k v : FVec Ideal S768x128 .bf16) (old : FVec Ideal S256x128 .f32) :
    k0_pay68 r v (k0_pay64 k m q) (k0_pay66 k m q) (k0_pay67 k m q) old = stW (extractStridedSlice S256x1 ![0, 5] r slices_S256x128_o0_5_S256x1) m q k v old := rfl

theorem w2 (m : IVec S256x768 1) (q : FVec Ideal S256x128 .bf16) (k v : FVec Ideal S768x128 .bf16) (old : FVec Ideal S256x128 .f32) :
    k0_pay71 v old (k0_pay69 r) (k0_pay70 k m q) = stW (extractStridedSlice S256x1 ![0, 8] r slices_S256x128_o0_8_S256x1) m q k v old := rfl

theorem w3 (m : IVec S256x768 1) (q : FVec Ideal S256x128 .bf16) (k v : FVec Ideal S768x128 .bf16) (old : FVec Ideal S256x128 .f32) :
    k0_pay72 r k v m q old = stW (extractStridedSlice S256x1 ![0, 11] r slices_S256x128_o0_11_S256x1) m q k v old := rfl

end stores

end Cert.KernelIdeal.Body

end

end
-- ==== Proof.Sel.lean ====
/-
  The body's integer parts: the positions of the queries, the masks of the three branches, the score of the blocks and
  their ranks. Each is said at one entry, with the words read as numbers.
-/
module

public import proofs.«01_k».proof.Proof.Body
public import proofs.«01_k».proof.Proof.Ranks
public import Idealize.ShloMosaic.Lib.WordCmp
public import Mathlib.Data.BitVec

@[expose] public section

set_option maxRecDepth 16384

noncomputable section

open Idealize.ShloMosaic Idealize.ShloMosaic.TcCoe Idealize.SL.Sem

namespace Cert.KernelIdeal.Body

open Cert.KernelIdeal Cert.KernelIdeal.Gen

/-! ## The rank -/

/-- The numbers of the 32 blocks, as the body writes them. -/
def blkNo : IVec S1x32 32 := iota .tc S1x32 32 [1] iota_S1x32_d1_w32

/-- One if block `k` comes before block `j` in the order of the scores of row `i`. -/
def beat (s : FVec Ideal S256x32 .f32) (i : Fin 256) (j k : Fin 32) : BitVec 32 :=
  BitVec.setWidth 32 (IntOp.ori (BitVec.ofBool (decide (s (ix2 i j) < s (ix2 i k))))
    (IntOp.andi (BitVec.ofBool (decide (s (ix2 i k) = s (ix2 i j))))
      (IntOp.cmpi CmpIPredicate.sgt (BitVec.ofNat 32 j) (BitVec.ofNat 32 k))))

theorem rank28 (a : IVec S256x32 1) (b c : FVec Ideal S256x32 .f32) (i : Fin 256) (j : Fin 32) :
    k0_pay28 blkNo a b c (ix2 i j) = beat (k0_pay27 a b c) i j 0 + beat (k0_pay27 a b c) i j 1 + beat (k0_pay27 a b c) i j 2 + beat (k0_pay27 a b c) i j 3 := by
  pointwise [k0_pay28, blkNo, beat]
  first
  | rfl
  | simp only [IntOp.addi, BitVec.zero_add]

theorem rank32 (a : IVec S256x32 1) (b c : FVec Ideal S256x32 .f32) (o : IVec S256x32 32) (i : Fin 256) (j : Fin 32) :
    k0_pay32 blkNo (k0_pay27 a b c) o (k0_pay30 a b c) (k0_pay31 a b c) (ix2 i j) = o (ix2 i j) + beat (k0_pay27 a b c) i j 4 + beat (k0_pay27 a b c) i j 5 + beat (k0_pay27 a b c) i j 6 + beat (k0_pay27 a b c) i j 7 + beat (k0_pay27 a b c) i j 8 := by
  pointwise [k0_pay32, k0_pay30, k0_pay31, k0_pay29, blkNo, beat]
  first
  | rfl
  | simp only [IntOp.addi, BitVec.zero_add]

theorem rank33 (s : FVec Ideal S256x32 .f32) (o : IVec S256x32 32) (i : Fin 256) (j : Fin 32) :
    k0_pay33 blkNo s o (ix2 i j) = o (ix2 i j) + beat s i j 9 + beat s i j 10 + beat s i j 11 + beat s i j 12 := by
  pointwise [k0_pay33, blkNo, beat]
  first
  | rfl
  | simp only [IntOp.addi, BitVec.zero_add]

theorem rank38 (s : FVec Ideal S256x32 .f32) (o : IVec S256x32 32) (i : Fin 256) (j : Fin 32) :
    k0_pay38 blkNo s o (k0_pay35 s) (k0_pay36 s) (k0_pay37 blkNo) (ix2 i j) = o (ix2 i j) + beat s i j 13 + beat s i j 14 + beat s i j 15 + beat s i j 16 + beat s i j 17 := by
  pointwise [k0_pay38, k0_pay35, k0_pay36, k0_pay37, k0_pay34, blkNo, beat]
  first
  | rfl
  | simp only [IntOp.addi, BitVec.zero_add]

theorem rank41 (s : FVec Ideal S256x32 .f32) (o : IVec S256x32 32) (i : Fin 256) (j : Fin 32) :
    k0_pay41 blkNo s o (k0_pay39 s) (k0_pay40 s) (ix2 i j) = o (ix2 i j) + beat s i j 18 + beat s i j 19 + beat s i j 20 + beat s i j 21 := by
  pointwise [k0_pay41, k0_pay40, k0_pay39, blkNo, beat]
  first
  | rfl
  | simp only [IntOp.addi, BitVec.zero_add]

theorem rank43 (s : FVec Ideal S256x32 .f32) (o : IVec S256x32 32) (i : Fin 256) (j : Fin 32) :
    k0_pay43 blkNo s o (k0_pay42 blkNo s) (ix2 i j) = o (ix2 i j) + beat s i j 22 + beat s i j 23 + beat s i j 24 + beat s i j 25 + beat s i j 26 := by
  pointwise [k0_pay43, k0_pay42, blkNo, beat]
  first
  | rfl
  | simp only [IntOp.addi, BitVec.zero_add]

theorem rank47 (s : FVec Ideal S256x32 .f32) (o : IVec S256x32 32) (i : Fin 256) (j : Fin 32) :
    k0_pay47 blkNo s o (k0_pay45 s) (k0_pay46 s) 27#32 (ix2 i j) = o (ix2 i j) + beat s i j 27 + beat s i j 28 + beat s i j 29 + beat s i j 30 + beat s i j 31 := by
  pointwise [k0_pay47, k0_pay45, k0_pay46, k0_pay44, blkNo, beat]
  first
  | rfl
  | simp only [IntOp.addi, BitVec.zero_add]

/-- The rank word of a row of scores. -/
def rankWord (a : IVec S256x32 1) (b c : FVec Ideal S256x32 .f32) : IVec S256x32 32 :=
  let s := k0_pay27 a b c
  let r14 := k0_pay28 blkNo a b c
  let r17 := k0_pay32 blkNo s r14 (k0_pay30 a b c) (k0_pay31 a b c)
  let r18 := k0_pay33 blkNo s r17
  let r21 := k0_pay38 blkNo s r18 (k0_pay35 s) (k0_pay36 s) (k0_pay37 blkNo)
  let r24 := k0_pay41 blkNo s r21 (k0_pay39 s) (k0_pay40 s)
  let r26 := k0_pay43 blkNo s r24 (k0_pay42 blkNo s)
  k0_pay47 blkNo s r26 (k0_pay45 s) (k0_pay46 s) 27#32

theorem rankWord_sum (a : IVec S256x32 1) (b c : FVec Ideal S256x32 .f32) (i : Fin 256) (j : Fin 32) :
    rankWord a b c (ix2 i j) = ∑ k, beat (k0_pay27 a b c) i j k := by
  unfold rankWord
  simp only [rank47, rank43, rank41, rank38, rank33, rank32, rank28]
  generalize k0_pay27 a b c = s
  simp only [Fin.sum_univ_succ, Fin.sum_univ_zero]
  simp only [add_assoc, zero_add, add_zero]
  rfl

open Classical in
theorem beat_eq (s : FVec Ideal S256x32 .f32) (i : Fin 256) (j k : Fin 32) :
    beat s i j k = if s (ix2 i j) < s (ix2 i k) ∨ s (ix2 i k) = s (ix2 i j) ∧ k < j then 1 else 0 := by
  have h : IntOp.cmpi CmpIPredicate.sgt (BitVec.ofNat 32 j) (BitVec.ofNat 32 k) = BitVec.ofBool (decide (k < j)) :=
    (by decide +kernel : ∀ j k : Fin 32, IntOp.cmpi CmpIPredicate.sgt (BitVec.ofNat 32 j) (BitVec.ofNat 32 k) = BitVec.ofBool (decide (k < j))) j k
  rw [beat, h, WordCmp.andi_ofBool, WordCmp.ori_ofBool]
  by_cases h1 : s (ix2 i j) < s (ix2 i k) <;> by_cases h2 : s (ix2 i k) = s (ix2 i j) <;> by_cases h3 : k < j <;>
    simp [h1, h2, h3]

/-- The rank word read as a number is how many blocks come before. -/
theorem rankWord_at (a : IVec S256x32 1) (b c : FVec Ideal S256x32 .f32) (i : Fin 256) (j : Fin 32) :
    rankWord a b c (ix2 i j) = BitVec.ofNat 32 (Cert.Nsa.rank (fun k => k0_pay27 a b c (ix2 i k)) j) := by
  rw [rankWord_sum]
  simp only [beat_eq, Cert.Nsa.rank]
  rw [Finset.sum_boole]
  rfl

/-! ## Words read as numbers -/

theorem sle_nat {a b : ℕ} (ha : a < 2 ^ 31) (hb : b < 2 ^ 31) :
    IntOp.cmpi .sle (BitVec.ofNat 32 a) (BitVec.ofNat 32 b) = BitVec.ofBool (decide (a ≤ b)) :=
  WordCmp.cmpi_sle_ofNat ha hb

theorem slt_nat {a b : ℕ} (ha : a < 2 ^ 31) (hb : b < 2 ^ 31) :
    IntOp.cmpi .slt (BitVec.ofNat 32 a) (BitVec.ofNat 32 b) = BitVec.ofBool (decide (a < b)) :=
  WordCmp.cmpi_slt_ofNat ha hb

theorem bit_one (p : Prop) [Decidable p] : BitVec.ofBool (decide p) = 1#1 ↔ p := by
  by_cases h : p <;> simp [h]

/-- A bit as a number. -/
theorem sitofp_bit (p : Prop) [Decidable p] :
    FloatOps.sitofp (F := Ideal) .f32 (BitVec.setWidth 32 (BitVec.ofBool (decide p))) = if p then (1 : EReal) else 0 := by
  change (((BitVec.setWidth 32 (BitVec.ofBool (decide p))).toInt : ℝ) : EReal) = _
  by_cases h : p <;> simp [h]

theorem half_eq : Ideal.ofBits .f32 0x3F000000#32 = ((1 / 2 : ℝ) : EReal) := by
  simp [Ideal.ofBits, Ideal.ieee, -EReal.coe_mul]; norm_num

/-- The position of a row of a block. -/
theorem pos_at (t : grid0.Coords) (i : Fin 256) : k0_pay3 t (ix2 i 0) = BitVec.ofNat 32 ((t 2).val * 256 + i.val) := by
  pointwise [k0_pay3]
  simp [IntOp.addi, Scalar.muli, IntOp.muli, BitVec.ofNat_add, BitVec.ofNat_mul]

/-- Which compressed block a column holds: the even ones first, then the odd ones. -/
def blkOf (j : Fin 64) : Fin 64 := ⟨if j.val < 32 then 2 * j.val else 2 * (j.val - 32) + 1, by split <;> omega⟩

/-- Dividing a position by 64, as the body does it. -/
theorem div64 (p : ℕ) (hp : p < 2048) : Scalar.select
        (IntOp.andi
          (IntOp.cmpi CmpIPredicate.ne
            (IntOp.subi (BitVec.setWidth 32 (IntOp.cmpi CmpIPredicate.sgt (BitVec.ofNat 32 p) 0#32))
              (BitVec.setWidth 32 (IntOp.cmpi CmpIPredicate.slt (BitVec.ofNat 32 p) 0#32)))
            (Scalar.subi (Scalar.extui (Scalar.cmpi CmpIPredicate.sgt 64#32 0#32))
              (Scalar.extui (Scalar.cmpi CmpIPredicate.slt 64#32 0#32))))
          (IntOp.cmpi CmpIPredicate.ne (IntOp.remsi ArithUnit.vector (BitVec.ofNat 32 p) 64#32) 0#32))
        (IntOp.subi (IntOp.divsi ArithUnit.vector (BitVec.ofNat 32 p) 64#32) 1#32)
        (IntOp.divsi ArithUnit.vector (BitVec.ofNat 32 p) 64#32) = BitVec.ofNat 32 (p / 64) :=
  (by decide +kernel : ∀ p : Fin 2048, Scalar.select
        (IntOp.andi
          (IntOp.cmpi CmpIPredicate.ne
            (IntOp.subi (BitVec.setWidth 32 (IntOp.cmpi CmpIPredicate.sgt (BitVec.ofNat 32 p) 0#32))
              (BitVec.setWidth 32 (IntOp.cmpi CmpIPredicate.slt (BitVec.ofNat 32 p) 0#32)))
            (Scalar.subi (Scalar.extui (Scalar.cmpi CmpIPredicate.sgt 64#32 0#32))
              (Scalar.extui (Scalar.cmpi CmpIPredicate.slt 64#32 0#32))))
          (IntOp.cmpi CmpIPredicate.ne (IntOp.remsi ArithUnit.vector (BitVec.ofNat 32 p) 64#32) 0#32))
        (IntOp.subi (IntOp.divsi ArithUnit.vector (BitVec.ofNat 32 p) 64#32) 1#32)
        (IntOp.divsi ArithUnit.vector (BitVec.ofNat 32 p) 64#32) = BitVec.ofNat 32 (p.val / 64)) ⟨p, hp⟩

/-! ## The masks and the score -/

theorem cmask_at (t : grid0.Coords) (i : Fin 256) (j : Fin 64) (p : ℕ) (hp : p < 2048) (h : k0_pay3 t (ix2 i 0) = BitVec.ofNat 32 p) :
    k0_pay4 t (ix2 i j) = 1#1 ↔ ((blkOf j).val + 1) * 32 ≤ p + 1 := by
  pointwise [k0_pay4]
  rw [h]
  rw [(by decide +kernel : ∀ j : Fin 64, IntOp.subi
        (IntOp.muli
          (IntOp.addi
            (Scalar.select (IntOp.cmpi CmpIPredicate.slt (BitVec.ofNat 32 ↑j) 32#32)
              (IntOp.muli (2#32) (BitVec.ofNat 32 ↑j))
              (IntOp.addi (IntOp.muli (2#32) (IntOp.subi (BitVec.ofNat 32 ↑j) 32#32)) 1#32))
            1#32)
          32#32)
        1#32 = BitVec.ofNat 32 (((blkOf j).val + 1) * 32 - 1)) j, sle_nat (by have := (blkOf j).isLt; omega) (by omega), bit_one]
  omega

theorem cur_at (z : IVec S256x1 32) (i : Fin 256) (p : ℕ) (hp : p < 2048) (h : z (ix2 i 0) = BitVec.ofNat 32 p) :
    k0_pay23 z (ix2 i 0) = BitVec.ofNat 32 (p / 64) := by
  pointwise [k0_pay23]
  rw [h, div64 p hp]

theorem valid_at (z : IVec S256x1 32) (i : Fin 256) (j : Fin 32) (p : ℕ) (hp : p < 2048) (h : z (ix2 i 0) = BitVec.ofNat 32 p) :
    k0_pay24 z (ix2 i j) = BitVec.ofBool (decide (j.val ≤ p / 64)) := by
  have e : k0_pay24 z (ix2 i j) = IntOp.cmpi CmpIPredicate.sle (BitVec.ofNat 32 j) (k0_pay23 z (ix2 i 0)) := by
    pointwise [k0_pay24]
  rw [e, cur_at z i p hp h, sle_nat (by omega) (by omega)]

/-- The score before masking. -/
theorem pre_at (z : IVec S256x1 32) (p : FVec Ideal S256x64 .f32) (q : FVec Ideal S256x32 .f32) (i : Fin 256) (j : Fin 32)
    (n : ℕ) (hn : n < 2048) (h : z (ix2 i 0) = BitVec.ofNat 32 n) :
    k0_pay25 z p q (ix2 i j) = q (ix2 i j) + p (ix2 i (⟨32 + j.val, by omega⟩ : Fin 64)) + Ideal.ofBits .f32 0x447A0000#32 *
      (if j.val = 0 ∨ j.val = n / 64 ∨ j.val + 1 = n / 64 then 1 else 0) := by
  pointwise [k0_pay25]
  rw [cur_at z i n hn h]
  congr 2
  have hc : n / 64 < 32 := by omega
  generalize n / 64 = c at *
  have e := (by decide +kernel : ∀ j c : Fin 32, IntOp.ori
                (IntOp.ori (IntOp.cmpi CmpIPredicate.eq (BitVec.ofNat 32 ↑j) 0#32)
                  (IntOp.cmpi CmpIPredicate.eq (BitVec.ofNat 32 ↑j) (BitVec.ofNat 32 c)))
                (IntOp.cmpi CmpIPredicate.eq (BitVec.ofNat 32 ↑j) (IntOp.subi (BitVec.ofNat 32 c) 1#32))
                = BitVec.ofBool (decide (j.val = 0 ∨ j.val = c.val ∨ j.val + 1 = c.val))) j ⟨c, hc⟩
  simp only at e
  rw [e]
  exact sitofp_bit _

theorem score_at (a : IVec S256x32 1) (b : FVec Ideal S256x32 .f32) (i : Fin 256) (j : Fin 32) :
    k0_pay27 a b k0_pay26 (ix2 i j) = Scalar.select (a (ix2 i j)) (b (ix2 i j)) (⊥ : EReal) := by
  pointwise [k0_pay27, k0_pay26]
  rw [ninf_eq]

theorem smask_at (z : IVec S256x1 32) (o : IVec S256x32 32) (i : Fin 256) (j : Fin 2048)
    (p : ℕ) (hp : p < 2048) (h : z (ix2 i 0) = BitVec.ofNat 32 p) (R : Fin 32 → ℕ) (hR : ∀ k, R k < 33) (ho : ∀ k, o (ix2 i k) = BitVec.ofNat 32 (R k)) :
    k0_pay48 (F := Ideal) z o 16#32 (ix2 i j) = 1#1 ↔ R ⟨j.val / 64, by omega⟩ < 16 ∧ j.val ≤ p := by
  pointwise [k0_pay48]
  simp only [h, ho, div64 _ j.isLt, sle_nat (by omega : j.val < 2^31) (by omega : p < 2^31)]
  have h16 : ∀ x : Fin 32, IntOp.cmpi CmpIPredicate.slt (BitVec.ofNat 32 (R x)) 16#32 = BitVec.ofBool (decide (R x < 16)) :=
    fun x => slt_nat (by have := hR x; omega) (by omega)
  have hq : j.val / 64 < 32 := by omega
  have heq : ∀ x : Fin 32, IntOp.cmpi CmpIPredicate.eq (BitVec.ofNat 32 (j.val / 64)) (BitVec.ofNat 32 x)
      = BitVec.ofBool (decide (⟨j.val / 64, hq⟩ = x)) := fun x =>
    (by decide +kernel : ∀ y x : Fin 32, IntOp.cmpi CmpIPredicate.eq (BitVec.ofNat 32 y.val) (BitVec.ofNat 32 x)
      = BitVec.ofBool (decide (y = x))) ⟨j.val / 64, hq⟩ x
  simp only [h16, heq, sitofp_bit, WordCmp.andi_ofBool]
  have hs : (∑ x : Fin 32, (if R x < 16 then (1 : EReal) else 0) * (if (⟨j.val / 64, hq⟩ : Fin 32) = x then 1 else 0))
      = if R ⟨j.val / 64, hq⟩ < 16 then 1 else 0 := by
    simp only [mul_ite, mul_one, mul_zero, Finset.sum_ite_eq, Finset.mem_univ, if_true]
  have hx : Ideal.ofBits FTy.f32 1056964608#32 < (if R ⟨j.val / 64, hq⟩ < 16 then (1 : EReal) else 0) ↔ R ⟨j.val / 64, hq⟩ < 16 := by
    rw [half_eq]
    by_cases hr : R ⟨j.val / 64, hq⟩ < 16
    · simp only [hr, if_true, iff_true]; exact_mod_cast (by norm_num : (1 / 2 : ℝ) < 1)
    · simp only [hr, if_false, iff_false, not_lt]; exact_mod_cast (by norm_num : (0 : ℝ) ≤ 1 / 2)
  rw [hs, decide_eq_decide.mpr hx, ← Bool.decide_and, bit_one]

theorem wmask_at (t : grid0.Coords) (z : IVec S256x1 32) (i : Fin 256) (j : Fin 768)
    (p : ℕ) (hp : p < 2048) (h : z (ix2 i 0) = BitVec.ofNat 32 p) :
    k0_pay60 (Scalar.muli (BitVec.ofNat 32 (t 2).val) 256#32) z (ix2 i j) = 1#1
      ↔ ((t 2).val * 256 - 512) + j.val ≤ p ∧ p < ((t 2).val * 256 - 512) + j.val + 512 := by
  pointwise [k0_pay60]
  have e := (by decide +kernel : ∀ a : Fin 8, Scalar.maxsi (Scalar.subi (Scalar.muli (BitVec.ofNat 32 a.val) 256#32) 512#32) 0#32
    = BitVec.ofNat 32 (a.val * 256 - 512)) (t 2)
  have ht : (t 2).val < 8 := (t 2).isLt
  rw [e, h]
  have hw : (t 2).val * 256 - 512 < 2048 := by omega
  generalize (t 2).val * 256 - 512 = w at *
  have ea : IntOp.addi (BitVec.ofNat 32 w) (BitVec.ofNat 32 j.val) = BitVec.ofNat 32 (w + j.val) := by
    simp [IntOp.addi, BitVec.ofNat_add]
  rw [ea, sle_nat (by omega) (by omega)]
  by_cases hle : w + j.val ≤ p
  · have es : IntOp.subi (BitVec.ofNat 32 p) (BitVec.ofNat 32 (w + j.val)) = BitVec.ofNat 32 (p - (w + j.val)) := by
      apply BitVec.eq_of_toNat_eq
      simp [IntOp.subi]
      omega
    rw [es, slt_nat (b := 512) (by omega) (by omega), WordCmp.andi_ofBool, ← Bool.decide_and, bit_one]
    omega
  · simp only [hle, decide_false, false_and, iff_false]
    generalize IntOp.cmpi CmpIPredicate.slt _ _ = b
    revert b; decide

end Cert.KernelIdeal.Body

end

end
-- ==== Proof.Words.lean ====
/-
  What one run of the attention's body leaves in the block of the output: for each of the four heads the compressed
  branch's share, then the selected branch's and the window's added to it, each over the block's own queries, keys and
  values. The body keeps the sum in a scratch buffer, a quarter per head; here its loads are read back to the stores.
-/
module

public import proofs.«01_k».proof.Proof.Sel
public import proofs.«01_k».proof.Proof.Gen.KernelIdeal.Frame
public import Idealize.ShloMosaic.Lib.Pipeline.ReadBack

@[expose] public section

set_option maxRecDepth 16384

noncomputable section

open Idealize.ShloMosaic Idealize.ShloMosaic.TcCoe Idealize.SL.Sem

namespace Cert.KernelIdeal.Body

open Cert.KernelIdeal Cert.KernelIdeal.Gen

/-! ## The pieces of the blocks that the body loads -/

/-- The queries of the four heads. -/
def qh0 (x : Vec Ideal S256x512 .bf16) : FVec Ideal S256x128 .bf16 := View.ld x (Rect.unit ![0, 0] (Shape.size S256x128) inb_S256x512_S256x128_0_0)
def qh1 (x : Vec Ideal S256x512 .bf16) : FVec Ideal S256x128 .bf16 := View.ld x (Rect.unit ![0, 128] (Shape.size S256x128) inb_S256x512_S256x128_0_128)
def qh2 (x : Vec Ideal S256x512 .bf16) : FVec Ideal S256x128 .bf16 := View.ld x (Rect.unit ![0, 256] (Shape.size S256x128) inb_S256x512_S256x128_0_256)
def qh3 (x : Vec Ideal S256x512 .bf16) : FVec Ideal S256x128 .bf16 := View.ld x (Rect.unit ![0, 384] (Shape.size S256x128) inb_S256x512_S256x128_0_384)

/-- The compressed keys and values. -/
def kcm (x : Vec Ideal S64x256 .bf16) : FVec Ideal S64x128 .bf16 := k0_pay5 (View.ld x (Rect.unit ![0, 0] (Shape.size S64x128) inb_S64x256_S64x128_0_0))
def vcm (x : Vec Ideal S64x256 .bf16) : FVec Ideal S64x128 .bf16 := k0_pay6 (View.ld x (Rect.unit ![0, 128] (Shape.size S64x128) inb_S64x256_S64x128_0_128))

/-- The selected branch's keys and values, all 2048. -/
def ksl (x : Vec Ideal S2048x256 .bf16) : FVec Ideal S2048x128 .bf16 := View.ld x (Rect.unit ![0, 0] (Shape.size S2048x128) inb_S2048x256_S2048x128_0_0)
def vsl (x : Vec Ideal S2048x256 .bf16) : FVec Ideal S2048x128 .bf16 := View.ld x (Rect.unit ![0, 128] (Shape.size S2048x128) inb_S2048x256_S2048x128_0_128)

/-- The window's 768 keys and values. -/
def kwn (i : grid0.Coords) (x : Vec Ideal S2048x256 .bf16) : FVec Ideal S768x128 .bf16 := k0_pay58 (View.ld x (Rect.unit (k0_off1 i) (Shape.size S768x256) (k0_off1_inb i)))
def vwn (i : grid0.Coords) (x : Vec Ideal S2048x256 .bf16) : FVec Ideal S768x128 .bf16 := k0_pay59 (View.ld x (Rect.unit (k0_off1 i) (Shape.size S768x256) (k0_off1_inb i)))

/-- The gates. -/
def gts (x : Vec Ideal S256x128 .f32) : FVec Ideal S256x128 .f32 := k0_pay2 (View.ld x (Rect.unit ![0, 0] (Shape.size S256x128) inb_S256x128_S256x128_0_0))

/-- The heads' weights over the compressed keys, summed. -/
def impAll (i : grid0.Coords) (x0 : Vec Ideal S256x512 .bf16) (x1 : Vec Ideal S64x256 .bf16) : FVec Ideal S256x64 .f32 :=
  addf (addf (addf (addf k0_pay7 (sm64 (k0_pay4 i) (sc64 (qh0 x0) (kcm x1)))) (sm64 (k0_pay4 i) (sc64 (qh1 x0) (kcm x1))))
    (sm64 (k0_pay4 i) (sc64 (qh2 x0) (kcm x1)))) (sm64 (k0_pay4 i) (sc64 (qh3 x0) (kcm x1)))

/-- The score of the blocks before masking. -/
def preS (i : grid0.Coords) (x0 : Vec Ideal S256x512 .bf16) (x1 : Vec Ideal S64x256 .bf16) : FVec Ideal S256x32 .f32 :=
  k0_pay25 (k0_pay3 i) (impAll i x0 x1) (extractStridedSlice S256x32 ![0, 0] (impAll i x0 x1) slices_S256x64_o0_0_S256x32)

/-- The selected branch's mask. -/
def slm (i : grid0.Coords) (x0 : Vec Ideal S256x512 .bf16) (x1 : Vec Ideal S64x256 .bf16) : IVec S256x2048 1 :=
  k0_pay48 (F := Ideal) (k0_pay3 i) (rankWord (k0_pay24 (k0_pay3 i)) (preS i x0 x1) k0_pay26) 16#32

/-- The window's mask. -/
def wnm (i : grid0.Coords) : IVec S256x768 1 := k0_pay60 (Scalar.muli (BitVec.ofNat 32 (i 2).val) 256#32) (k0_pay3 i)

/-- What the body leaves for one head, from the three columns of the gates and the head's queries. -/
def hd (i : grid0.Coords) (g0 g1 g2 : FVec Ideal S256x1 .f32) (q : FVec Ideal S256x128 .bf16) (x0 : Vec Ideal S256x512 .bf16)
    (x1 : Vec Ideal S64x256 .bf16) (x2 x3 : Vec Ideal S2048x256 .bf16) : FVec Ideal S256x128 .f32 :=
  stW g2 (wnm i) q (kwn i x3) (vwn i x3) (stS g1 (slm i x0 x1) q (ksl x2) (vsl x2) (stC g0 (k0_pay4 i) q (kcm x1) (vcm x1)))

variable (c : Dev nD) (i : grid0.Coords)
  (arg3 : Memref sig .tc .vmem S256x512 .bf16) (harg3 : arg3.IsWhole) (arg4 : Memref sig .tc .vmem S64x256 .bf16) (harg4 : arg4.IsWhole)
  (arg5 : Memref sig .tc .vmem S2048x256 .bf16) (harg5 : arg5.IsWhole) (arg6 : Memref sig .tc .vmem S2048x256 .bf16) (harg6 : arg6.IsWhole)
  (arg7 : Memref sig .tc .vmem S256x128 .f32) (harg7 : arg7.IsWhole) (arg8 : Memref sig .tc .vmem S256x512 .bf16) (harg8 : arg8.IsWhole)
  (arg9 : Memref sig .tc .vmem S256x512 .f32) (harg9 : arg9.IsWhole)
  (x0 : Vec Ideal S256x512 .bf16) (x1 : Vec Ideal S64x256 .bf16) (x2 x3 : Vec Ideal S2048x256 .bf16) (x4 : Vec Ideal S256x128 .f32)

/-! ## The words of the body -/

theorem w_cst : (kernelRun0_A.sl.cst_13 : Ideal .f32) = low := rfl
theorem w_r : kernelRun0_A.sl.r (F := Ideal) c arg7 harg7 x4 = gts x4 := by
  simp only [kernelRun0_A.sl.r, View.readAt_eq_ld, Memref.IsWhole.read_unread]; rfl
theorem w_r1 : kernelRun0_A.sl.r_1 (F := Ideal) c arg4 harg4 x1 = kcm x1 := by
  simp only [kernelRun0_A.sl.r_1, View.readAt_eq_ld, Memref.IsWhole.read_unread]; rfl
theorem w_r2 : kernelRun0_A.sl.r_2 (F := Ideal) c arg4 harg4 x1 = vcm x1 := by
  simp only [kernelRun0_A.sl.r_2, View.readAt_eq_ld, Memref.IsWhole.read_unread]; rfl
theorem w_r31 : kernelRun0_A.sl.r_31 (F := Ideal) c arg5 harg5 x2 = ksl x2 := by
  simp only [kernelRun0_A.sl.r_31, View.readAt_eq_ld, Memref.IsWhole.read_unread]; rfl
theorem w_r32 : kernelRun0_A.sl.r_32 (F := Ideal) c arg5 harg5 x2 = vsl x2 := by
  simp only [kernelRun0_A.sl.r_32, View.readAt_eq_ld, Memref.IsWhole.read_unread]; rfl
theorem w_r38 : kernelRun0_A.sl.r_38 (F := Ideal) c i arg6 harg6 x3 = kwn i x3 := by
  simp only [kernelRun0_A.sl.r_38, View.readAt_eq_ld, Memref.IsWhole.read_unread]; rfl
theorem w_r39 : kernelRun0_A.sl.r_39 (F := Ideal) c i arg6 harg6 x3 = vwn i x3 := by
  simp only [kernelRun0_A.sl.r_39, View.readAt_eq_ld, Memref.IsWhole.read_unread]; rfl
theorem w_r40 : kernelRun0_A.sl.r_40 i = wnm i := rfl

theorem w_r9 : kernelRun0_A.sl.r_9 (F := Ideal) c i arg3 harg3 arg4 harg4 x0 x1 = impAll i x0 x1 := by
  simp only [kernelRun0_A.sl.r_9, kernelRun0_A.sl.r_8, kernelRun0_A.sl.r_6, kernelRun0_A.sl.r_5, kernelRun0_A.sl.r_4, kernelRun0_A.sl.r_3, w_r1, w_cst,
    View.readAt_eq_ld, Memref.IsWhole.read_unread]
  exact imp (k0_pay4 i) (qh0 x0) (qh1 x0) (qh2 x0) (qh3 x0) (View.ld x1 (Rect.unit ![0, 0] (Shape.size S64x128) inb_S64x256_S64x128_0_0))

theorem w_r10 : kernelRun0_A.sl.r_10 (F := Ideal) c i arg3 harg3 arg4 harg4 x0 x1
    = extractStridedSlice S256x32 ![0, 0] (impAll i x0 x1) slices_S256x64_o0_0_S256x32 := by
  rw [← w_r9 c i arg3 harg3 arg4 harg4 x0 x1]; rfl

theorem w_r12 : kernelRun0_A.sl.r_12 (F := Ideal) c i arg3 harg3 arg4 harg4 x0 x1 = preS i x0 x1 := by
  rw [kernelRun0_A.sl.r_12, w_r9, w_r10]; rfl

theorem w_r29 : kernelRun0_A.sl.r_29 (F := Ideal) c i arg3 harg3 arg4 harg4 x0 x1
    = rankWord (k0_pay24 (k0_pay3 i)) (preS i x0 x1) k0_pay26 := by
  rw [← w_r12 c i arg3 harg3 arg4 harg4 x0 x1]; rfl

theorem w_r30 : kernelRun0_A.sl.r_30 (F := Ideal) c i arg3 harg3 arg4 harg4 x0 x1 = slm i x0 x1 := by
  rw [kernelRun0_A.sl.r_30, w_r29]; rfl

theorem w_v664 : kernelRun0_A.sl.v664 (F := Ideal) c i arg3 harg3 arg4 harg4 arg7 harg7 arg9 x0 x1 x4 = stC (extractStridedSlice S256x1 ![0, 0] (gts x4) slices_S256x128_o0_0_S256x1) (k0_pay4 i) (qh0 x0) (kcm x1) (vcm x1) := by
  rw [kernelRun0_A.sl.v664]
  simp only [kernelRun0_A.sl.HS0_4]
  simp (disch := decide) only [↓ View.readCov_skip, ↓ View.readCov_cons_toLoadRect]
  simp only [w_r, w_r2, w_cst, kernelRun0_A.sl.r_3, View.readAt_eq_ld, Memref.IsWhole.read_unread]
  exact c0 (gts x4) (k0_pay4 i) (qh0 x0) (View.ld x1 (Rect.unit ![0, 0] (Shape.size S64x128) inb_S64x256_S64x128_0_0)) (View.ld x1 (Rect.unit ![0, 128] (Shape.size S64x128) inb_S64x256_S64x128_0_128))

theorem w_v697 : kernelRun0_A.sl.v697 (F := Ideal) c i arg3 harg3 arg4 harg4 arg5 harg5 arg7 harg7 arg9 x0 x1 x2 x4 = stC (extractStridedSlice S256x1 ![0, 3] (gts x4) slices_S256x128_o0_3_S256x1) (k0_pay4 i) (qh1 x0) (kcm x1) (vcm x1) := by
  rw [kernelRun0_A.sl.v697]
  simp only [kernelRun0_A.sl.HS0_5, kernelRun0_A.sl.HS0_4]
  simp (disch := decide) only [↓ View.readCov_skip, ↓ View.readCov_cons_toLoadRect]
  simp only [w_r, w_r2, kernelRun0_A.sl.r_5, kernelRun0_A.sl.r_6, w_r1, View.readAt_eq_ld, Memref.IsWhole.read_unread]
  exact c1 (gts x4) (k0_pay4 i) (qh1 x0) (kcm x1) (vcm x1)

theorem w_v730 : kernelRun0_A.sl.v730 (F := Ideal) c i arg3 harg3 arg4 harg4 arg5 harg5 arg7 harg7 arg9 x0 x1 x2 x4 = stC (extractStridedSlice S256x1 ![0, 6] (gts x4) slices_S256x128_o0_6_S256x1) (k0_pay4 i) (qh2 x0) (kcm x1) (vcm x1) := by
  rw [kernelRun0_A.sl.v730]
  simp only [kernelRun0_A.sl.HS0_6, kernelRun0_A.sl.HS0_5, kernelRun0_A.sl.HS0_4]
  simp (disch := decide) only [↓ View.readCov_skip, ↓ View.readCov_cons_toLoadRect]
  simp only [w_r, w_r2, kernelRun0_A.sl.r_7, w_r1, View.readAt_eq_ld, Memref.IsWhole.read_unread]
  exact c2 (gts x4) (k0_pay4 i) (qh2 x0) (kcm x1) (vcm x1)

theorem w_v763 : kernelRun0_A.sl.v763 (F := Ideal) c i arg3 harg3 arg4 harg4 arg5 harg5 arg7 harg7 arg9 x0 x1 x2 x4 = stC (extractStridedSlice S256x1 ![0, 9] (gts x4) slices_S256x128_o0_9_S256x1) (k0_pay4 i) (qh3 x0) (kcm x1) (vcm x1) := by
  rw [kernelRun0_A.sl.v763]
  simp only [kernelRun0_A.sl.HS0_7, kernelRun0_A.sl.HS0_6, kernelRun0_A.sl.HS0_5, kernelRun0_A.sl.HS0_4]
  simp (disch := decide) only [↓ View.readCov_skip, ↓ View.readCov_cons_toLoadRect]
  simp only [w_r, w_r2, w_r1, View.readAt_eq_ld, Memref.IsWhole.read_unread]
  exact c3 (gts x4) (k0_pay4 i) (qh3 x0) (kcm x1) (vcm x1)

theorem w_v815 : kernelRun0_A.sl.v815 (F := Ideal) c i arg3 harg3 arg4 harg4 arg5 harg5 arg7 harg7 arg9 x0 x1 x2 x4 = stS (extractStridedSlice S256x1 ![0, 1] (gts x4) slices_S256x128_o0_1_S256x1) (slm i x0 x1) (qh0 x0) (ksl x2) (vsl x2) (stC (extractStridedSlice S256x1 ![0, 0] (gts x4) slices_S256x128_o0_0_S256x1) (k0_pay4 i) (qh0 x0) (kcm x1) (vcm x1)) := by
  rw [kernelRun0_A.sl.v815]
  simp only [kernelRun0_A.sl.HS0_8, kernelRun0_A.sl.HS0_7, kernelRun0_A.sl.HS0_6, kernelRun0_A.sl.HS0_5]
  simp (disch := decide) only [↓ View.readCov_skip, ↓ View.readCov_cons_toLoadRect]
  simp only [w_r, w_r30, w_r32, w_r31, w_v664, View.readAt_eq_ld, Memref.IsWhole.read_unread]
  exact s0 (gts x4) (slm i x0 x1) (qh0 x0) (ksl x2) (vsl x2) _

theorem w_v848 : kernelRun0_A.sl.v848 (F := Ideal) c i arg3 harg3 arg4 harg4 arg5 harg5 arg6 harg6 arg7 harg7 arg9 x0 x1 x2 x3 x4 = stS (extractStridedSlice S256x1 ![0, 4] (gts x4) slices_S256x128_o0_4_S256x1) (slm i x0 x1) (qh1 x0) (ksl x2) (vsl x2) (stC (extractStridedSlice S256x1 ![0, 3] (gts x4) slices_S256x128_o0_3_S256x1) (k0_pay4 i) (qh1 x0) (kcm x1) (vcm x1)) := by
  rw [kernelRun0_A.sl.v848]
  simp only [kernelRun0_A.sl.HS0_9, kernelRun0_A.sl.HS0_8, kernelRun0_A.sl.HS0_7, kernelRun0_A.sl.HS0_6]
  simp (disch := decide) only [↓ View.readCov_skip, ↓ View.readCov_cons_toLoadRect]
  simp only [w_r, w_r30, w_r32, kernelRun0_A.sl.r_33, w_r31, w_v697, View.readAt_eq_ld, Memref.IsWhole.read_unread]
  exact s1 (gts x4) (slm i x0 x1) (qh1 x0) (ksl x2) (vsl x2) _

theorem w_v881 : kernelRun0_A.sl.v881 (F := Ideal) c i arg3 harg3 arg4 harg4 arg5 harg5 arg6 harg6 arg7 harg7 arg9 x0 x1 x2 x3 x4 = stS (extractStridedSlice S256x1 ![0, 7] (gts x4) slices_S256x128_o0_7_S256x1) (slm i x0 x1) (qh2 x0) (ksl x2) (vsl x2) (stC (extractStridedSlice S256x1 ![0, 6] (gts x4) slices_S256x128_o0_6_S256x1) (k0_pay4 i) (qh2 x0) (kcm x1) (vcm x1)) := by
  rw [kernelRun0_A.sl.v881]
  simp only [kernelRun0_A.sl.HS0_10, kernelRun0_A.sl.HS0_9, kernelRun0_A.sl.HS0_8, kernelRun0_A.sl.HS0_7]
  simp (disch := decide) only [↓ View.readCov_skip, ↓ View.readCov_cons_toLoadRect]
  simp only [w_r, w_r30, w_r32, kernelRun0_A.sl.r_34, kernelRun0_A.sl.r_35, w_r31, w_v730, View.readAt_eq_ld, Memref.IsWhole.read_unread]
  exact s2 (gts x4) (slm i x0 x1) (qh2 x0) (ksl x2) (vsl x2) _

theorem w_v914 : kernelRun0_A.sl.v914 (F := Ideal) c i arg3 harg3 arg4 harg4 arg5 harg5 arg6 harg6 arg7 harg7 arg9 x0 x1 x2 x3 x4 = stS (extractStridedSlice S256x1 ![0, 10] (gts x4) slices_S256x128_o0_10_S256x1) (slm i x0 x1) (qh3 x0) (ksl x2) (vsl x2) (stC (extractStridedSlice S256x1 ![0, 9] (gts x4) slices_S256x128_o0_9_S256x1) (k0_pay4 i) (qh3 x0) (kcm x1) (vcm x1)) := by
  rw [kernelRun0_A.sl.v914]
  simp only [kernelRun0_A.sl.HS0_11, kernelRun0_A.sl.HS0_10, kernelRun0_A.sl.HS0_9, kernelRun0_A.sl.HS0_8]
  simp (disch := decide) only [↓ View.readCov_skip, ↓ View.readCov_cons_toLoadRect]
  simp only [w_r, w_r30, w_r32, kernelRun0_A.sl.r_36, kernelRun0_A.sl.r_37, w_r31, w_v763, View.readAt_eq_ld, Memref.IsWhole.read_unread]
  exact s3 (gts x4) (slm i x0 x1) (qh3 x0) (ksl x2) (vsl x2) _

/-- The output's block at one entry, by head. -/
def blockOut (h : Fin 4) : FVec Ideal S256x128 .f32 :=
  match h with
  | 0 => hd i (extractStridedSlice S256x1 ![0, 0] (gts x4) slices_S256x128_o0_0_S256x1) (extractStridedSlice S256x1 ![0, 1] (gts x4) slices_S256x128_o0_1_S256x1) (extractStridedSlice S256x1 ![0, 2] (gts x4) slices_S256x128_o0_2_S256x1) (qh0 x0) x0 x1 x2 x3
  | 1 => hd i (extractStridedSlice S256x1 ![0, 3] (gts x4) slices_S256x128_o0_3_S256x1) (extractStridedSlice S256x1 ![0, 4] (gts x4) slices_S256x128_o0_4_S256x1) (extractStridedSlice S256x1 ![0, 5] (gts x4) slices_S256x128_o0_5_S256x1) (qh1 x0) x0 x1 x2 x3
  | 2 => hd i (extractStridedSlice S256x1 ![0, 6] (gts x4) slices_S256x128_o0_6_S256x1) (extractStridedSlice S256x1 ![0, 7] (gts x4) slices_S256x128_o0_7_S256x1) (extractStridedSlice S256x1 ![0, 8] (gts x4) slices_S256x128_o0_8_S256x1) (qh2 x0) x0 x1 x2 x3
  | 3 => hd i (extractStridedSlice S256x1 ![0, 9] (gts x4) slices_S256x128_o0_9_S256x1) (extractStridedSlice S256x1 ![0, 10] (gts x4) slices_S256x128_o0_10_S256x1) (extractStridedSlice S256x1 ![0, 11] (gts x4) slices_S256x128_o0_11_S256x1) (qh3 x0) x0 x1 x2 x3

/-- The whole block. -/
def whole (y : S256x512.Idx) : EReal :=
  blockOut i x0 x1 x2 x3 x4 (⟨(y 1).val / 128, by have : (y 1).val < 512 := (y 1).isLt; omega⟩ : Fin 4)
    (ix2 (y 0 : Fin 256) (⟨(y 1).val % 128, by omega⟩ : Fin 128))

theorem whole_at (h : Fin 4) (x : S256x128.Idx) (y : S256x512.Idx) (e0 : (y 0).val = (x 0).val) (e1 : (y 1).val = h.val * 128 + (x 1).val) :
    whole i x0 x1 x2 x3 x4 y = blockOut i x0 x1 x2 x3 x4 h x := by
  have hx : (x 1).val < 128 := (x 1).isLt
  unfold whole
  have a : (⟨(y 1).val / 128, by have : (y 1).val < 512 := (y 1).isLt; omega⟩ : Fin 4) = h := Fin.ext (by simp only; omega)
  have b : ix2 (y 0 : Fin 256) (⟨(y 1).val % 128, by omega⟩ : Fin 128) = x := by
    funext d
    fin_cases d
    · exact Fin.ext e0
    · exact Fin.ext (by change (y 1).val % 128 = (x 1).val; omega)
  rw [a]
  exact congrArg (blockOut i x0 x1 x2 x3 x4 h) b

theorem p0 : k0_pay63 (kernelRun0_A.sl.r c arg7 harg7 x4) (kernelRun0_A.sl.r_39 c i arg6 harg6 x3) (kernelRun0_A.sl.r_40 i) (kernelRun0_A.sl.r_41 c i arg3 harg3 arg6 harg6 x0 x3) k0_pay62 (kernelRun0_A.sl.v815 c i arg3 harg3 arg4 harg4 arg5 harg5 arg7 harg7 arg9 x0 x1 x2 x4) = blockOut i x0 x1 x2 x3 x4 0 := by
  simp only [kernelRun0_A.sl.r_41, w_r, w_r39, w_r40, w_v815, View.readAt_eq_ld, Memref.IsWhole.read_unread]
  exact w0 (gts x4) (Scalar.muli (BitVec.ofNat 32 (i 2).val) 256#32) (k0_pay3 i) (View.ld x3 (Rect.unit (k0_off1 i) (Shape.size S768x256) (k0_off1_inb i))) (qh0 x0) _

theorem p1 : k0_pay68 (kernelRun0_A.sl.r c arg7 harg7 x4) (kernelRun0_A.sl.r_39 c i arg6 harg6 x3) (kernelRun0_A.sl.r_42 c i arg3 harg3 arg6 harg6 x0 x3) (kernelRun0_A.sl.r_43 c i arg3 harg3 arg6 harg6 x0 x3) (kernelRun0_A.sl.r_44 c i arg3 harg3 arg6 harg6 x0 x3) (kernelRun0_A.sl.v848 c i arg3 harg3 arg4 harg4 arg5 harg5 arg6 harg6 arg7 harg7 arg9 x0 x1 x2 x3 x4) = blockOut i x0 x1 x2 x3 x4 1 := by
  simp only [kernelRun0_A.sl.r_42, kernelRun0_A.sl.r_43, kernelRun0_A.sl.r_44, w_r38, w_r, w_r39, w_r40, w_v848, View.readAt_eq_ld, Memref.IsWhole.read_unread]
  exact w1 (gts x4) (wnm i) (qh1 x0) (kwn i x3) (vwn i x3) _

theorem p2 : k0_pay71 (kernelRun0_A.sl.r_39 c i arg6 harg6 x3) (kernelRun0_A.sl.v881 c i arg3 harg3 arg4 harg4 arg5 harg5 arg6 harg6 arg7 harg7 arg9 x0 x1 x2 x3 x4) (kernelRun0_A.sl.r_45 c arg7 harg7 x4) (kernelRun0_A.sl.r_46 c i arg3 harg3 arg6 harg6 x0 x3) = blockOut i x0 x1 x2 x3 x4 2 := by
  simp only [kernelRun0_A.sl.r_45, kernelRun0_A.sl.r_46, w_r38, w_r, w_r39, w_r40, w_v881, View.readAt_eq_ld, Memref.IsWhole.read_unread]
  exact w2 (gts x4) (wnm i) (qh2 x0) (kwn i x3) (vwn i x3) _

theorem p3 : kernelRun0_A.sl.r_47 c i arg3 harg3 arg4 harg4 arg5 harg5 arg6 harg6 arg7 harg7 arg9 x0 x1 x2 x3 x4 = blockOut i x0 x1 x2 x3 x4 3 := by
  simp only [kernelRun0_A.sl.r_47, w_r38, w_r, w_r39, w_r40, w_v914, View.readAt_eq_ld, Memref.IsWhole.read_unread]
  exact w3 (gts x4) (wnm i) (qh3 x0) (kwn i x3) (vwn i x3) _

theorem w_v924 : kernelRun0_A.sl.v924 (F := Ideal) c i arg3 harg3 arg4 harg4 arg5 harg5 arg6 harg6 arg7 harg7 arg9 x0 x1 x2 x3 x4 = whole i x0 x1 x2 x3 x4 := by
  rw [kernelRun0_A.sl.v924, View.readCov_eq_canon']
  funext y
  have hy : (Rect.unit (s := S256x512) ![0, 0] ![256, 512] inb_S256x512_S256x512_0_0).toLoadRect.idx y = y := by
    funext d; fin_cases d <;> exact Fin.ext (by simp [Rect.toLoadRect])
  rw [hy]
  simp only [kernelRun0_A.sl.HS0_12, kernelRun0_A.sl.HS0_11, kernelRun0_A.sl.HS0_10, kernelRun0_A.sl.HS0_9]
  refine View.canon_append_of_piecesOf (whole i x0 x1 x2 x3 x4) (kernelRun0_A.sl.HS0_8 (F := Ideal) c i arg3 harg3 arg4 harg4 arg5 harg5 arg7 harg7 arg9 x0 x1 x2 x4) [_, _, _, _] ?_ y ?_
  · refine ⟨?_, ?_, ?_, ?_, trivial⟩
    · exact fun x => by rw [p3]; exact (whole_at i x0 x1 x2 x3 x4 3 x _ (by change 0 + 1 * (x 0).val = _; omega) (by change 384 + 1 * (x 1).val = 3 * 128 + (x 1).val; omega)).symm
    · exact fun x => by rw [p2]; exact (whole_at i x0 x1 x2 x3 x4 2 x _ (by change 0 + 1 * (x 0).val = _; omega) (by change 256 + 1 * (x 1).val = 2 * 128 + (x 1).val; omega)).symm
    · exact fun x => by rw [p1]; exact (whole_at i x0 x1 x2 x3 x4 1 x _ (by change 0 + 1 * (x 0).val = _; omega) (by change 128 + 1 * (x 1).val = 1 * 128 + (x 1).val; omega)).symm
    · exact fun x => by rw [p0]; exact (whole_at i x0 x1 x2 x3 x4 0 x _ (by change 0 + 1 * (x 0).val = _; omega) (by change 0 + 1 * (x 1).val = 0 * 128 + (x 1).val; omega)).symm
  · exact View.cover_of_tiledL (s := S256x512) [_, _, _, _] ![256, 128] (by sl_kernel_rfl) y

/-- The block of the output that a run leaves. -/
theorem out_eq : out0_A_5 (F := Ideal) c i arg3 harg3 arg4 harg4 arg5 harg5 arg6 harg6 arg7 harg7 arg8 harg8 arg9 harg9 x0 x1 x2 x3 x4 = whole i x0 x1 x2 x3 x4 := by
  rw [out0_A_5, View.read_writes_eq_canon _ _ _ (cover0_A_5 c i arg3 harg3 arg4 harg4 arg5 harg5 arg6 harg6 arg7 harg7 arg8 harg8 arg9 harg9 x0 x1 x2 x3 x4)]
  have e : (kernelRun0_A (F := Ideal) c i arg3 harg3 arg4 harg4 arg5 harg5 arg6 harg6 arg7 harg7 arg8 harg8 arg9 harg9 x0 x1 x2 x3 x4).1
      = [⟨Rect.unit ![0, 0] ![256, 512] inb_S256x512_S256x512_0_0, k0_pay1 (kernelRun0_A.sl.v924 (F := Ideal) c i arg3 harg3 arg4 harg4 arg5 harg5 arg6 harg6 arg7 harg7 arg9 x0 x1 x2 x3 x4)⟩] := rfl
  rw [e, View.canon_cons_unit_zero (S := S256x512) (by funext d; fin_cases d <;> rfl), w_v924]
  rfl

end Cert.KernelIdeal.Body

end

end
-- ==== Proof.Row.lean ====
/-
  One entry of what the body leaves is one entry of the attention's row.
-/
module

public import proofs.«01_k».proof.Proof.Words

@[expose] public section

set_option maxRecDepth 16384

noncomputable section

open Idealize.ShloMosaic Idealize.ShloMosaic.TcCoe Idealize.SL.Sem

namespace Cert.KernelIdeal.Body

open Cert.KernelIdeal Cert.KernelIdeal.Gen Cert.Nsa

theorem blkOf_inj : Function.Injective blkOf := by decide +kernel
theorem blkOf_surj : Function.Surjective blkOf := by decide +kernel

/-- The four heads' queries at a row. -/
def qrows (x0 : Vec Ideal S256x512 .bf16) (r : Fin 256) (h : Fin 4) (e : Fin 128) : EReal :=
  x0 (ix2 r (⟨h.val * 128 + e.val, by omega⟩ : Fin 512))

theorem qh0_at (x0 : Vec Ideal S256x512 .bf16) (r : Fin 256) (e : Fin 128) : qh0 x0 (ix2 r e) = qrows x0 r 0 e := by
  rw [qh0, View.ld_unit]; pointwise [qrows]
theorem qh1_at (x0 : Vec Ideal S256x512 .bf16) (r : Fin 256) (e : Fin 128) : qh1 x0 (ix2 r e) = qrows x0 r 1 e := by
  rw [qh1, View.ld_unit]; pointwise [qrows]
theorem qh2_at (x0 : Vec Ideal S256x512 .bf16) (r : Fin 256) (e : Fin 128) : qh2 x0 (ix2 r e) = qrows x0 r 2 e := by
  rw [qh2, View.ld_unit]; pointwise [qrows]
theorem qh3_at (x0 : Vec Ideal S256x512 .bf16) (r : Fin 256) (e : Fin 128) : qh3 x0 (ix2 r e) = qrows x0 r 3 e := by
  rw [qh3, View.ld_unit]; pointwise [qrows]

section
variable (i : grid0.Coords) (r : Fin 256) (x0 : Vec Ideal S256x512 .bf16) (x1 : Vec Ideal S64x256 .bf16) (x2 x3 : Vec Ideal S2048x256 .bf16)
  (KC VC : Fin 64 → Fin 128 → EReal) (hkc : ∀ j e, kcm x1 (ix2 j e) = KC (blkOf j) e) (hvc : ∀ j e, vcm x1 (ix2 j e) = VC (blkOf j) e)
  (p : ℕ) (hp : p = (i 2).val * 256 + r.val)

include hp in
theorem p_lt : p < 2048 := by have : (i 2).val < 8 := (i 2).isLt; omega

include hp in
theorem pos : k0_pay3 i (ix2 r 0) = BitVec.ofNat 32 p := by rw [pos_at, hp]

include hp in
theorem cmask_fun : (fun k => k0_pay4 i (ix2 r k) = 1#1) = fun k => cmask p (blkOf k) :=
  funext fun k => propext (cmask_at i r k p (p_lt i r p hp) (pos i r p hp))

include hkc in
theorem score_fun (q : FVec Ideal S256x128 .bf16) (qr : Fin 128 → EReal) (hq : ∀ e, q (ix2 r e) = qr e) :
    (fun j => score (fun d => q (ix2 r d)) (fun j d => kcm x1 (ix2 j d)) j) = fun j => score qr KC (blkOf j) := by
  funext j
  simp only [score, hq, hkc]

include hp hkc in
/-- One head's weight of a column. -/
theorem weight (q : FVec Ideal S256x128 .bf16) (qr : Fin 128 → EReal) (hq : ∀ e, q (ix2 r e) = qr e) (j : Fin 64) :
    sm64 (k0_pay4 i) (sc64 q (kcm x1)) (ix2 r j) = wt (cmask p) (score qr KC) (blkOf j) := by
  rw [sm64_at]
  simp only [sc64_at]
  rw [cmask_fun i r p hp, score_fun r x1 KC hkc q qr hq]
  exact wt_comp (cmask p) (score qr KC) blkOf blkOf_inj (fun b _ => blkOf_surj b) j

include hp hkc in
theorem impAll_at (j : Fin 64) : impAll i x0 x1 (ix2 r j) = ∑ h, wt (cmask p) (score (qrows x0 r h) KC) (blkOf j) := by
  have z : (k0_pay7 : FVec Ideal S256x64 .f32) (ix2 r j) = (0 : EReal) := by pointwise [k0_pay7]
  pointwise [impAll]
  rw [z, weight i r x1 KC hkc p hp _ _ (qh0_at x0 r), weight i r x1 KC hkc p hp _ _ (qh1_at x0 r), weight i r x1 KC hkc p hp _ _ (qh2_at x0 r), weight i r x1 KC hkc p hp _ _ (qh3_at x0 r)]
  simp only [Fin.sum_univ_four, zero_add]

include hp hkc in
theorem bscore_at (j : Fin 32) : k0_pay27 (k0_pay24 (k0_pay3 i)) (preS i x0 x1) k0_pay26 (ix2 r j) = bscore (qrows x0 r) KC p j := by
  rw [score_at, valid_at _ _ _ p (p_lt i r p hp) (pos i r p hp), preS, pre_at _ _ _ _ _ p (p_lt i r p hp) (pos i r p hp)]
  have e : extractStridedSlice S256x32 ![0, 0] (impAll i x0 x1) slices_S256x64_o0_0_S256x32 (ix2 r j)
      = impAll i x0 x1 (ix2 r (⟨j.val, by omega⟩ : Fin 64)) := by pointwise []
  rw [e, impAll_at i r x0 x1 KC hkc p hp, impAll_at i r x0 x1 KC hkc p hp, bscore, impOf, Finset.sum_add_distrib]
  have b0 : blkOf ⟨j.val, by omega⟩ = ⟨2 * j.val, by omega⟩ := Fin.ext (by simp [blkOf])
  have b1 : blkOf ⟨32 + j.val, by omega⟩ = ⟨2 * j.val + 1, by omega⟩ := Fin.ext (by simp [blkOf])
  rw [b0, b1]
  by_cases hj : j.val ≤ p / 64 <;> simp [hj, Scalar.select]

include hp hkc in
theorem smask_fun : (fun k => slm i x0 x1 (ix2 r k) = 1#1) = fun k => smask (qrows x0 r) KC p k := by
  funext k
  refine propext ((smask_at _ _ r k p (p_lt i r p hp) (pos i r p hp) (fun j => rank (bscore (qrows x0 r) KC p) j) (fun j => ?_) (fun j => ?_)).trans Iff.rfl)
  · unfold rank; exact lt_of_le_of_lt (Finset.card_le_univ _) (by simp)
  · rw [rankWord_at]
    simp only [bscore_at i r x0 x1 KC hkc p hp]

include hp hkc hvc in
theorem hd_at (g0 g1 g2 : FVec Ideal S256x1 .f32) (q : FVec Ideal S256x128 .bf16) (h : Fin 4) (hq : ∀ e, q (ix2 r e) = qrows x0 r h e)
    (KW VW : Fin 2048 → Fin 128 → EReal)
    (hkw : ∀ (j : Fin 768) (a : Fin 2048) e, a.val = (i 2).val * 256 - 512 + j.val → kwn i x3 (ix2 j e) = KW a e)
    (hvw : ∀ (j : Fin 768) (a : Fin 2048) e, a.val = (i 2).val * 256 - 512 + j.val → vwn i x3 (ix2 j e) = VW a e) (d : Fin 128) :
    hd i g0 g1 g2 q x0 x1 x2 x3 (ix2 r d)
      = row p ![g0 (ix2 r 0), g1 (ix2 r 0), g2 (ix2 r 0)] (qrows x0 r) h KC VC (fun k e => ksl x2 (ix2 k e)) (fun k e => vsl x2 (ix2 k e)) KW VW d := by
  have hi : (i 2).val < 8 := (i 2).isLt
  have hr : r.val < 256 := r.isLt
  have hq' : (fun d => q (ix2 r d)) = qrows x0 r h := funext hq
  rw [hd, stW_at, stS_at, stC_at, cmask_fun i r p hp, score_fun r x1 KC hkc q _ hq, smask_fun i r x0 x1 KC hkc p hp, hq', row]
  simp only [hvc]
  have ec := attend_comp (cmask p) (score (qrows x0 r h) KC) (fun b => VC b d) blkOf blkOf_inj (fun b _ => blkOf_surj b)
  let f : Fin 768 → Fin 2048 := fun j => ⟨(i 2).val * 256 - 512 + j.val, by omega⟩
  have hf : Function.Injective f := fun a b hab => Fin.ext (by have := congrArg Fin.val hab; simp only [f] at this; omega)
  have ew := attend_comp (wmask p) (score (qrows x0 r h) KW) (fun b => VW b d) f hf (fun b hb => by
    obtain ⟨h1, h2⟩ := hb
    exact ⟨⟨b.val - ((i 2).val * 256 - 512), by omega⟩, Fin.ext (by simp only [f]; omega)⟩)
  have em : (fun k => wnm i (ix2 r k) = 1#1) = fun k => wmask p (f k) := funext fun k =>
    propext ((wmask_at i _ r k p (p_lt i r p hp) (pos i r p hp)).trans Iff.rfl)
  have es : (fun j => score (qrows x0 r h) (fun j d => kwn i x3 (ix2 j d)) j) = fun j => score (qrows x0 r h) KW (f j) := by
    funext j
    simp only [score, hkw j (f j) _ rfl]
  have ev : ∀ j, vwn i x3 (ix2 j d) = VW (f j) d := fun j => hvw j (f j) d rfl
  rw [em, es]
  simp only [ev]
  congr 1
  · congr 1
    exact congrArg (g0 (ix2 r 0) * ·) ec
  · exact congrArg (g2 (ix2 r 0) * ·) ew

end

end Cert.KernelIdeal.Body

end

end
-- ==== Proof.Arr.lean ====
/-
  What the arrays hold that a block of the attention reads, and what the output array holds at the end.
-/
module

public import proofs.«01_k».proof.Proof.Row
public import proofs.«01_k».proof.Proof.Gen.KernelIdeal.Value
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.KernelIdeal.Body

open Cert.KernelIdeal Cert.KernelIdeal.Gen Cert.Nsa

variable (m : (ℓ : Loc nD τ sig) → Buf (Elt Ideal) ℓ) (c : Dev nD)

/-- Each window's block index at every point of the grid. -/
theorem idx : ∀ t : Fin cfg0.N, win0_0.index t = ![(grid0.coords t 0).val * 8 + (grid0.coords t 2).val, (grid0.coords t 1).val]
    ∧ win0_1.index t = ![(grid0.coords t 0).val, (grid0.coords t 1).val]
    ∧ win0_2.index t = ![(grid0.coords t 0).val, 4 + (grid0.coords t 1).val]
    ∧ win0_3.index t = ![(grid0.coords t 0).val, 8 + (grid0.coords t 1).val]
    ∧ win0_4.index t = ![(grid0.coords t 0).val * 8 + (grid0.coords t 2).val, (grid0.coords t 1).val]
    ∧ win0_5.index t = ![(grid0.coords t 0).val * 8 + (grid0.coords t 2).val, (grid0.coords t 1).val] :=
  (by decide +kernel : ∀ t : Fin grid0.N, _)

/-- The five arrays a block reads, by coordinates. -/
def aQ (i : Fin 8192) (j : Fin 2048) : EReal := (m ((c : Thread nD τ).loc main_arg0) : FVec Ideal S8192x2048 .bf16) (ix2 i j)
def aC (i : Fin 8192) (j : Fin 1024) : EReal := (m ((c : Thread nD τ).loc main_arg1) : FVec Ideal S8192x1024 .f32) (ix2 i j)
def aKV (i : Fin 8192) (j : Fin 3072) : EReal := (m ((c : Thread nD τ).loc main_arg2) : FVec Ideal S8192x3072 .bf16) (ix2 i j)
def aG (i : Fin 8192) (j : Fin 512) : EReal := (m ((c : Thread nD τ).loc main_arg3) : FVec Ideal S8192x512 .f32) (ix2 i j)
def aW (i : Fin 32) (j : Fin 4) (s : Fin 2) : EReal := (m ((c : Thread nD τ).loc main_arg4) : FVec Ideal S32x4x2 .f32) (ix3 i j s)

/-- The compressed rows, as the host prepares them: pooled over blocks of 32, the even blocks before the odd ones. -/
def comp (C : FVec Ideal S8192x1024 .f32) (W : FVec Ideal S32x4x2 .f32) : FVec Ideal S256x1024 .bf16 :=
  truncf .bf16 (shapeCast S256x1024
    (concatenate S4x64x1024 1
      [⟨S4x32x1024, Host.slice S4x32x1024 ![0, 0, 0] ![1, 2, 1] (Host.reduceAdd
          (mulf (shapeCast S4x64x32x1024 C shapeCasts_S8192x1024_S4x64x32x1024)
            (broadcastInDim S4x64x32x1024 ![0, 1, 2, 3] bcast_S1x1x32x1024_S4x64x32x1024_0_1_2_3
              (broadcastInDim S1x1x32x1024 ![2, 3] bcast_S32x1024_S1x1x32x1024_2_3
                (shapeCast S32x1024 (broadcastInDim S32x8x128 ![0, 1] bcast_S32x8_S32x8x128_0_1
                  (shapeCast S32x8 W shapeCasts_S32x4x2_S32x8)) shapeCasts_S32x8x128_S32x1024))))
          (constant S_ .f32 0x00000000#32) reducesTo_S4x64x32x1024_S4x64x1024_d2 h_S_) slicesBy_S4x64x1024_S4x32x1024_0s1_0s2_0s1⟩,
       ⟨S4x32x1024, Host.slice S4x32x1024 ![0, 1, 0] ![1, 2, 1] (Host.reduceAdd
          (mulf (shapeCast S4x64x32x1024 C shapeCasts_S8192x1024_S4x64x32x1024)
            (broadcastInDim S4x64x32x1024 ![0, 1, 2, 3] bcast_S1x1x32x1024_S4x64x32x1024_0_1_2_3
              (broadcastInDim S1x1x32x1024 ![2, 3] bcast_S32x1024_S1x1x32x1024_2_3
                (shapeCast S32x1024 (broadcastInDim S32x8x128 ![0, 1] bcast_S32x8_S32x8x128_0_1
                  (shapeCast S32x8 W shapeCasts_S32x4x2_S32x8)) shapeCasts_S32x8x128_S32x1024))))
          (constant S_ .f32 0x00000000#32) reducesTo_S4x64x32x1024_S4x64x1024_d2 h_S_) slicesBy_S4x64x1024_S4x32x1024_0s1_1s2_0s1⟩]
      concatenates_S4x32x1024_S4x32x1024_S4x64x1024_d1) shapeCasts_S4x64x1024_S256x1024) bitsLt_bf16_f32

theorem entry : V m c main_v12 = comp (m ((c : Thread nD τ).loc main_arg1)) (m ((c : Thread nD τ).loc main_arg4)) := by
  entry_read
  rfl

/-- The compressed rows read by batch row, column and group. -/
theorem comp_at (C : FVec Ideal S8192x1024 .f32) (W : FVec Ideal S32x4x2 .f32) (b g : Fin 4) (s : Fin 2) (j : Fin 64) (e : Fin 128)
    (n : Fin 256) (k : Fin 1024) (hn : n.val = b.val * 64 + j.val) (hk : k.val = g.val * 256 + s.val * 128 + e.val) :
    comp C W (ix2 n k) = pooled (fun i j => C (ix2 i j)) (fun i j s => W (ix3 i j s)) b g s (blkOf j) e := by
  have e0 : n.val % 64 = j.val := by omega
  have e1 : n.val / 64 = b.val := by omega
  have e2 : k.val / 128 / 2 = g.val := by omega
  have e3 : k.val / 128 % 2 = s.val := by omega
  have hks : k = ⟨g.val * 256 + s.val * 128 + e.val, by omega⟩ := Fin.ext hk
  pointwise [comp]
  unfold pooled rowOf blkOf
  by_cases h : j.val < 32
  · rw [dif_pos (by omega)]
    refine Finset.sum_congr rfl fun x _ => ?_
    congr 3
    · congr 1
      simp only [h, if_true, dif_pos]; omega
    · exact Fin.ext e2
    · exact Fin.ext e3
  · rw [dif_neg (by omega)]
    refine Finset.sum_congr rfl fun x _ => ?_
    congr 3
    · congr 1
      simp only [h, if_false, dif_neg, not_false_eq_true]; omega
    · exact Fin.ext e2
    · exact Fin.ext e3

theorem off : ∀ t : Fin grid0.N, k0_off1 (grid0.coords t) 0 = (grid0.coords t 2).val * 256 - 512 ∧ k0_off1 (grid0.coords t) 1 = 0 := by
  decide +kernel

section
variable (t : Fin cfg0.N)

theorem hb (t : Fin cfg0.N) : (grid0.coords t 0).val < 4 := (grid0.coords t 0).isLt
theorem hg (t : Fin cfg0.N) : (grid0.coords t 1).val < 4 := (grid0.coords t 1).isLt
theorem hq (t : Fin cfg0.N) : (grid0.coords t 2).val < 8 := (grid0.coords t 2).isLt

/-- The batch row, group and position of a row of a point's block. -/
def bOf : Fin 4 := ⟨(grid0.coords t 0).val, hb t⟩
def gOf : Fin 4 := ⟨(grid0.coords t 1).val, hg t⟩
def tOf (r : Fin 256) : Fin 2048 := ⟨(grid0.coords t 2).val * 256 + r.val, by have := hq t; omega⟩

theorem qrows_at (r : Fin 256) : qrows (iblk m c 0 t) r = queries (aQ m c) (bOf t) (tOf t r) (gOf t) := by
  have := hb t; have := hg t; have := hq t
  funext h e
  change _ = V m c main_arg0 (ix2 _ _)
  unfold qrows
  blk_point [iblk, idx t, rowOf, bOf, tOf, gOf]

theorem ksl_at (k : Fin 2048) (e : Fin 128) : ksl (iblk m c 2 t) (ix2 k e) = keyval (aKV m c) (bOf t) 1 (gOf t) 0 k e := by
  have := hb t; have := hg t; have := hq t
  rw [ksl, View.ld_unit]
  change _ = V m c main_arg2 (ix2 _ _)
  pointwise [k0_pay28, k0_pay29]
  blk_point [iblk, idx t, rowOf, bOf, tOf, gOf]

theorem vsl_at (k : Fin 2048) (e : Fin 128) : vsl (iblk m c 2 t) (ix2 k e) = keyval (aKV m c) (bOf t) 1 (gOf t) 1 k e := by
  have := hb t; have := hg t; have := hq t
  rw [vsl, View.ld_unit]
  change _ = V m c main_arg2 (ix2 _ _)
  pointwise [k0_pay28, k0_pay29]
  blk_point [iblk, idx t, rowOf, bOf, tOf, gOf]

theorem kwn_at (j : Fin 768) (a : Fin 2048) (e : Fin 128) (ha : a.val = (grid0.coords t 2).val * 256 - 512 + j.val) :
    kwn (grid0.coords t) (iblk m c 3 t) (ix2 j e) = keyval (aKV m c) (bOf t) 2 (gOf t) 0 a e := by
  have := hb t; have := hg t; have := hq t
  rw [kwn, View.ld_unit]
  change _ = V m c main_arg2 (ix2 _ _)
  pointwise [k0_pay58]
  blk_point [iblk, idx t, rowOf, bOf, tOf, gOf]
  · rw [(off t).1]; omega
  · rw [(off t).2]; omega

theorem vwn_at (j : Fin 768) (a : Fin 2048) (e : Fin 128) (ha : a.val = (grid0.coords t 2).val * 256 - 512 + j.val) :
    vwn (grid0.coords t) (iblk m c 3 t) (ix2 j e) = keyval (aKV m c) (bOf t) 2 (gOf t) 1 a e := by
  have := hb t; have := hg t; have := hq t
  rw [vwn, View.ld_unit]
  change _ = V m c main_arg2 (ix2 _ _)
  pointwise [k0_pay59]
  blk_point [iblk, idx t, rowOf, bOf, tOf, gOf]
  · rw [(off t).1]; omega
  · rw [(off t).2]; omega

theorem gts_at (r : Fin 256) (h : Fin 4) (b : Fin 3) (n : Fin 128) (hn : n.val = h.val * 3 + b.val) :
    gts (iblk m c 4 t) (ix2 r n) = gate (aG m c) (bOf t) (tOf t r) (gOf t) h b := by
  have := hb t; have := hg t; have := hq t
  rw [gts, View.ld_unit]
  unfold gate aG
  pointwise [k0_pay2]
  refine congrArg Ideal.logistic ?_
  change _ = V m c main_arg3 (ix2 _ _)
  blk_point [iblk, idx t, rowOf, bOf, tOf, gOf]

theorem rd1 (t : Fin cfg0.N) (j : Fin 64) (k : Fin 256) (a : Fin 256) (b : Fin 1024)
    (ha : a.val = (grid0.coords t 0).val * 64 + j.val) (hb : b.val = (grid0.coords t 1).val * 256 + k.val) :
    iblk m c 1 t (ix2 j k) = V m c main_v12 (ix2 a b) := by
  blk_point [iblk, idx t]

theorem kcm_at (j : Fin 64) (e : Fin 128) : kcm (iblk m c 1 t) (ix2 j e) = pooled (aC m c) (aW m c) (bOf t) (gOf t) 0 (blkOf j) e := by
  have h0 := hb t; have h1 := hg t
  rw [kcm, View.ld_unit]
  pointwise [k0_pay5]
  refine (rd1 m c t j _ ⟨(grid0.coords t 0).val * 64 + j.val, by omega⟩ ⟨(grid0.coords t 1).val * 256 + e.val, by omega⟩ rfl rfl).trans ?_
  rw [entry]
  exact comp_at _ _ (bOf t) (gOf t) 0 j e _ _ rfl (by simp [gOf])

theorem vcm_at (j : Fin 64) (e : Fin 128) : vcm (iblk m c 1 t) (ix2 j e) = pooled (aC m c) (aW m c) (bOf t) (gOf t) 1 (blkOf j) e := by
  have h0 := hb t; have h1 := hg t
  rw [vcm, View.ld_unit]
  pointwise [k0_pay6]
  refine (rd1 m c t j _ ⟨(grid0.coords t 0).val * 64 + j.val, by omega⟩ ⟨(grid0.coords t 1).val * 256 + 128 + e.val, by omega⟩ rfl (by simp; omega)).trans ?_
  rw [entry]
  exact comp_at _ _ (bOf t) (gOf t) 1 j e _ _ rfl (by simp [gOf])

/-- One entry of a head's block is the attention's entry. -/
theorem head_at (r : Fin 256) (h : Fin 4) (d : Fin 128) (g0 g1 g2 : FVec Ideal S256x1 .f32) (q : FVec Ideal S256x128 .bf16)
    (hq : ∀ e, q (ix2 r e) = qrows (iblk m c 0 t) r h e)
    (h0 : g0 (ix2 r 0) = gate (aG m c) (bOf t) (tOf t r) (gOf t) h 0) (h1 : g1 (ix2 r 0) = gate (aG m c) (bOf t) (tOf t r) (gOf t) h 1)
    (h2 : g2 (ix2 r 0) = gate (aG m c) (bOf t) (tOf t r) (gOf t) h 2) :
    hd (grid0.coords t) g0 g1 g2 q (iblk m c 0 t) (iblk m c 1 t) (iblk m c 2 t) (iblk m c 3 t) (ix2 r d)
      = out (aQ m c) (aC m c) (aKV m c) (aG m c) (aW m c) (bOf t) (tOf t r) (gOf t) h d := by
  rw [hd_at (grid0.coords t) r _ _ _ _ _ _ (kcm_at m c t) (vcm_at m c t) (tOf t r).val rfl g0 g1 g2 q h hq _ _
    (fun j a e => kwn_at m c t j a e) (fun j a e => vwn_at m c t j a e) d]
  rw [out, qrows_at, h0, h1, h2]
  simp only [ksl_at, vsl_at, row, Matrix.cons_val_zero, Matrix.cons_val_one, Matrix.cons_val]

theorem block_at (r : Fin 256) (h : Fin 4) (d : Fin 128) :
    blockOut (grid0.coords t) (iblk m c 0 t) (iblk m c 1 t) (iblk m c 2 t) (iblk m c 3 t) (iblk m c 4 t) h (ix2 r d)
      = out (aQ m c) (aC m c) (aKV m c) (aG m c) (aW m c) (bOf t) (tOf t r) (gOf t) h d := by
  have sl : ∀ (n : ℕ) (hs) (h : Fin 4) (b : Fin 3) (hn : n = h.val * 3 + b.val),
      extractStridedSlice S256x1 ![0, n] (gts (iblk m c 4 t)) hs (ix2 r 0) = gate (aG m c) (bOf t) (tOf t r) (gOf t) h b := by
    intro n hs h b hn
    rw [← gts_at m c t r h b ⟨n, by omega⟩ hn]
    pointwise []
  match h with
  | 0 => exact head_at m c t r 0 d _ _ _ _ (qh0_at _ r) (sl _ _ 0 0 rfl) (sl _ _ 0 1 rfl) (sl _ _ 0 2 rfl)
  | 1 => exact head_at m c t r 1 d _ _ _ _ (qh1_at _ r) (sl _ _ 1 0 rfl) (sl _ _ 1 1 rfl) (sl _ _ 1 2 rfl)
  | 2 => exact head_at m c t r 2 d _ _ _ _ (qh2_at _ r) (sl _ _ 2 0 rfl) (sl _ _ 2 1 rfl) (sl _ _ 2 2 rfl)
  | 3 => exact head_at m c t r 3 d _ _ _ _ (qh3_at _ r) (sl _ _ 3 0 rfl) (sl _ _ 3 1 rfl) (sl _ _ 3 2 rfl)

end

/-- The attention's output at a row and a column. -/
def resultAt (a : Fin 8192) (k : Fin 2048) : EReal :=
  out (aQ m c) (aC m c) (aKV m c) (aG m c) (aW m c) ⟨a.val / 2048, by omega⟩ ⟨a.val % 2048, by omega⟩
    ⟨k.val / 512, by omega⟩ ⟨k.val % 512 / 128, by omega⟩ ⟨k.val % 128, by omega⟩

/-- The attention's output as an array. -/
def result : FVec Ideal S8192x2048 .bf16 := fun j => resultAt m c (j 0) (j 1)

theorem result_at (a : Fin 8192) (k : Fin 2048) (b g h : Fin 4) (t : Fin 2048) (d : Fin 128) (ha : a.val = b.val * 2048 + t.val)
    (hk : k.val = g.val * 512 + h.val * 128 + d.val) :
    result m c (ix2 a k) = out (aQ m c) (aC m c) (aKV m c) (aG m c) (aW m c) b t g h d := by
  have e0 : (⟨a.val / 2048, by omega⟩ : Fin 4) = b := Fin.ext (by change a.val / 2048 = _; omega)
  have e1 : (⟨a.val % 2048, by omega⟩ : Fin 2048) = t := Fin.ext (by change a.val % 2048 = _; omega)
  have e2 : (⟨k.val / 512, by omega⟩ : Fin 4) = g := Fin.ext (by change k.val / 512 = _; omega)
  have e3 : (⟨k.val % 512 / 128, by omega⟩ : Fin 4) = h := Fin.ext (by change k.val % 512 / 128 = _; omega)
  have e4 : (⟨k.val % 128, by omega⟩ : Fin 128) = d := Fin.ext (by change k.val % 128 = _; omega)
  change resultAt m c a k = _
  rw [resultAt, e0, e1, e2, e3, e4]

/-- The output array at the end of the run. -/
theorem final : (dats m 0 c).arrAt 5 (cfgs 0).N = result m c := by
  refine (dats m 0 c).arrAt_eq_of_covers 5 _ (by decide +kernel) fun t _ y => ?_
  have h0 := hb t; have h1 := hg t; have h2 := hq t
  rw [after0_5, outsAt0, out_eq]
  have hy0 : (y 0).val < 256 := (y 0).isLt
  have hy1 : (y 1).val < 512 := (y 1).isLt
  rw [whole_at _ _ _ _ _ _ ⟨(y 1).val / 128, by omega⟩ (ix2 (⟨(y 0).val, hy0⟩ : Fin 256) (⟨(y 1).val % 128, by omega⟩ : Fin 128)) y rfl
    (by change (y 1).val = (y 1).val / 128 * 128 + (y 1).val % 128; omega), block_at]
  refine (result_at m c ⟨((grid0.coords t 0).val * 8 + (grid0.coords t 2).val) * 256 + (y 0).val, by omega⟩
    ⟨(grid0.coords t 1).val * 512 + (y 1).val, by omega⟩ _ _ _ _ _ ?_ ?_).symm.trans ?_
  · simp only [bOf, tOf]; omega
  · simp only [gOf]; omega
  · generalize result m c = R
    blk_point [iblk, idx t]

end Cert.KernelIdeal.Body

end

end
-- ==== Proof.RefArg.lean ====
/-
  The reference's arguments as functions of plain positions, and its gates.
-/
module

public import proofs.«01_k».proof.Proof.Spec
public import proofs.«01_k».proof.Proof.Gen.ReferenceIdeal.Read
public import Idealize.ShloMosaic.Lib.Pipeline.ValueKit

@[expose] public section

set_option maxRecDepth 16384

noncomputable section

open Idealize.ShloMosaic Idealize.ShloMosaic.TcCoe Idealize.SL.Sem

namespace Cert.ReferenceIdeal.Read

open Cert.ReferenceIdeal Cert.ReferenceIdeal.Gen Cert.Nsa

abbrev rQ (x0 : FVec Ideal S8192x2048 .bf16) (i : Fin 8192) (j : Fin 2048) : EReal := x0 (ix2 i j)
abbrev rC (x1 : FVec Ideal S8192x1024 .f32) (i : Fin 8192) (j : Fin 1024) : EReal := x1 (ix2 i j)
abbrev rKV (x2 : FVec Ideal S8192x3072 .bf16) (i : Fin 8192) (j : Fin 3072) : EReal := x2 (ix2 i j)
abbrev rG (x3 : FVec Ideal S8192x512 .f32) (i : Fin 8192) (j : Fin 512) : EReal := x3 (ix2 i j)
abbrev rW (x4 : FVec Ideal S32x4x2 .f32) (j : Fin 32) (g : Fin 4) (s : Fin 2) : EReal := x4 (ix3 j g s)

theorem one_bits : Ideal.ofBits .f32 0x3F800000#32 = (1 : EReal) := by
  simp [Ideal.ofBits, Ideal.ieee, -EReal.coe_mul]; norm_num

theorem v17_at (x3 : FVec Ideal S8192x512 .f32) (b : Fin 4) (t : Fin 2048) (g h : Fin 4) (r : Fin 3) :
    val_main_v17 (F := Ideal) x3 (ix5 b t g h r) = gate (rG x3) b t g h r := by
  pointwise [val_main_v17, val_main_v16, val_main_v15, val_main_v14, val_main_v13, val_main_v12, val_main_v11, val_main_v10, val_main_v9, val_main_cst, val_main_cst_0]
  unfold gate Ideal.logistic
  rfl

end Cert.ReferenceIdeal.Read

end

end
-- ==== Proof.RefMax.lean ====
/-
  The maximum over the last of five axes, as the reference takes it, at one index: a fold over that axis.
-/
module

public import proofs.«01_k».proof.Proof.Spec
public import proofs.«01_k».proof.Proof.Gen.ReferenceIdeal.Read
public import Idealize.ShloMosaic.Lib.Pipeline.ValueKit

@[expose] public section

set_option maxRecDepth 16384

noncomputable section

open Idealize.ShloMosaic Idealize.ShloMosaic.TcCoe Idealize.SL.Sem

namespace Cert.ReferenceIdeal.Read

open Cert.ReferenceIdeal Cert.ReferenceIdeal.Gen Cert.Nsa

theorem hostMax {n0 n1 n2 n3 n4 : ℕ} (v : FVec Ideal ⟨5, ![n0, n1, n2, n3, n4]⟩ .f32) (w : FVec Ideal ⟨0, ![]⟩ .f32)
    (h : (⟨5, ![n0, n1, n2, n3, n4]⟩ : Shape).ReducesTo [4] ⟨4, ![n0, n1, n2, n3]⟩) (hu : 0 < (⟨0, ![]⟩ : Shape).numel)
    (a : Fin n0) (b : Fin n1) (c : Fin n2) (d : Fin n3) :
    Host.reduce FloatOps.maximumf v w h hu (ix4 a b c d) = Finset.univ.fold max (w ix0) fun x : Fin n4 => v (ix5 a b c d x) := by
  have h0 : Shape.Idx.first hu = ix0 := funext fun a => a.elim0
  rw [Host.reduce_eq_fold, Shape.ReducesTo.fold_fiber_r5_a4, h0]
  rfl

theorem max_at {s : Shape} (x y : FVec Ideal s .f32) (i : s.Idx) (a : EReal) (h : x i = a) : maximumf x y i = max a (y i) := by
  subst h
  rfl

theorem v43_at (x0 : FVec Ideal S8192x2048 .bf16) (x1 : FVec Ideal S8192x1024 .f32) (x4 : FVec Ideal S32x4x2 .f32) (b g h : Fin 4) (t : Fin 2048) :
    val_main_v43 (F := Ideal) x0 x1 x4 (ix4 b g h t) = Finset.univ.fold max (Ideal.ofBits .f32 0xFF800000#32)
      fun x : Fin 64 => val_main_v42 (F := Ideal) x0 x1 x4 (ix5 b g h t x) := by
  unfold val_main_v43
  generalize val_main_v42 (F := Ideal) x0 x1 x4 = y
  rw [hostMax]
  rfl

theorem v133_at (x0 : FVec Ideal S8192x2048 .bf16) (x1 : FVec Ideal S8192x1024 .f32) (x2 : FVec Ideal S8192x3072 .bf16) (x4 : FVec Ideal S32x4x2 .f32) (b g h : Fin 4) (t : Fin 2048) :
    val_main_v133 (F := Ideal) x0 x1 x2 x4 (ix4 b g t h) = Finset.univ.fold max (Ideal.ofBits .f32 0xFF800000#32)
      fun x : Fin 1024 => val_main_v132 (F := Ideal) x0 x1 x2 x4 (ix5 b g t h x) := by
  unfold val_main_v133
  generalize val_main_v132 (F := Ideal) x0 x1 x2 x4 = y
  rw [hostMax]
  rfl

theorem v167_at (x0 : FVec Ideal S8192x2048 .bf16) (x2 : FVec Ideal S8192x3072 .bf16) (b g h : Fin 4) (t : Fin 2048) :
    val_main_v167 (F := Ideal) x0 x2 (ix4 b g h t) = Finset.univ.fold max (Ideal.ofBits .f32 0xFF800000#32)
      fun x : Fin 2048 => val_main_v166 (F := Ideal) x0 x2 (ix5 b g h t x) := by
  unfold val_main_v167
  generalize val_main_v166 (F := Ideal) x0 x2 = y
  rw [hostMax]
  rfl

end Cert.ReferenceIdeal.Read

end

end
-- ==== Proof.Softmax.lean ====
/-
  A masked softmax written step by step (select, maximum, exponential, sum, division, select) is the weights of
  the masked softmax, where the scores are real numbers; and what keeps a score real.
-/
module

public import proofs.«01_k».proof.Proof.Spec
public import Idealize.ShloMosaic.Lib.Pipeline.ValueKit

@[expose] public section

noncomputable section

namespace Cert.Nsa

open Idealize.ShloMosaic

theorem neg_inf : Ideal.ofBits .f32 0xFF800000#32 = (⊥ : EReal) := by
  simp [Ideal.ofBits, Ideal.ieee, -EReal.coe_mul]

/-- An extended real that is a real number. -/
def Real' (x : EReal) : Prop := ∃ r : ℝ, x = (r : EReal)

theorem Real'.ne_bot {x : EReal} (h : Real' x) : x ≠ ⊥ := by obtain ⟨r, rfl⟩ := h; exact EReal.coe_ne_bot r
theorem Real'.ne_top {x : EReal} (h : Real' x) : x ≠ ⊤ := by obtain ⟨r, rfl⟩ := h; exact EReal.coe_ne_top r

theorem Real'.mul {x y : EReal} (hx : Real' x) (hy : Real' y) : Real' (x * y) := by
  obtain ⟨a, rfl⟩ := hx; obtain ⟨b, rfl⟩ := hy; exact ⟨a * b, (EReal.coe_mul a b).symm⟩

theorem Real'.sum {ι : Type} [Fintype ι] {f : ι → EReal} (h : ∀ i, Real' (f i)) : Real' (∑ i, f i) := by
  choose g hg using h
  refine ⟨∑ i, g i, ?_⟩
  rw [Finset.sum_congr rfl fun i _ => hg i]
  classical
  induction (Finset.univ : Finset ι) using Finset.induction_on with
  | empty => simp
  | insert a s ha ih => rw [Finset.sum_insert ha, Finset.sum_insert ha, ih, EReal.coe_add]

theorem scale_real : Real' (Ideal.ofBits .f32 0x3DB504F3#32) := by
  refine ⟨(Ideal.ofBits .f32 0x3DB504F3#32).toReal, (EReal.coe_toReal ?_ ?_).symm⟩
  · simp [Ideal.ofBits, Ideal.ieee, -EReal.coe_mul]
  · simp [Ideal.ofBits, Ideal.ieee, -EReal.coe_mul]

theorem score_real {ι : Type} {q : Fin 128 → EReal} {k : ι → Fin 128 → EReal} (hq : ∀ d, Real' (q d)) (hk : ∀ j d, Real' (k j d)) (j : ι) :
    Real' (score q k j) :=
  (Real'.sum fun d => (hq d).mul (hk j d)).mul scale_real

open Classical in
theorem softmax_at {n : ℕ} (c : Fin n → BitVec 1) (mask : Fin n → Prop) (s : Fin n → EReal) (hc : ∀ k, c k = 1#1 ↔ mask k)
    (hs : ∀ k, Real' (s k)) (u e p : Fin n → EReal) (m z : EReal)
    (hu : ∀ k, u k = Scalar.select (c k) (s k) (Ideal.ofBits .f32 0xFF800000#32))
    (hm : m = max (Ideal.ofBits .f32 0xFF800000#32) (Finset.univ.fold max (Ideal.ofBits .f32 0xFF800000#32) u))
    (he : ∀ k, e k = Ideal.exp (u k - m)) (hz : z = 0)
    (hp : ∀ k, p k = Scalar.select (c k) (Ideal.div (e k) (∑ j, e j)) z) (k : Fin n) : p k = wt mask s k := by
  have hu' : u = masked mask s := by
    funext j
    rw [hu, neg_inf]
    show (if c j = 1#1 then s j else ⊥) = if mask j then s j else ⊥
    by_cases h : mask j
    · rw [if_pos h, if_pos ((hc j).mpr h)]
    · rw [if_neg h, if_neg fun h' => h ((hc j).mp h')]
  have hm' : m = mx mask s := by
    rw [hm, neg_inf, hu', max_eq_right bot_le]
    rfl
  have he' : e = fun j => Ideal.exp (masked mask s j - mx mask s) := by
    funext j
    rw [he, hu', hm']
  rw [hp, he', hz, ← div_masked mask s (fun j => (hs j).ne_bot) (fun j => (hs j).ne_top) k]
  show (if c k = 1#1 then _ else (0 : EReal)) = if mask k then _ else 0
  by_cases h : mask k
  · rw [if_pos h, if_pos ((hc k).mpr h)]
  · rw [if_neg h, if_neg fun h' => h ((hc k).mp h')]

end Cert.Nsa

end

end
-- ==== Proof.RefWin.lean ====
/-
  The reference's window branch: the scores, the weights, the averages of the values of the last 512 keys.
-/
module

public import proofs.«01_k».proof.Proof.Spec
public import proofs.«01_k».proof.Proof.Gen.ReferenceIdeal.Read
public import proofs.«01_k».proof.Proof.RefArg
public import proofs.«01_k».proof.Proof.RefMax
public import proofs.«01_k».proof.Proof.Softmax
public import proofs.«01_k».proof.Proof.Words
public import Idealize.ShloMosaic.Lib.Pipeline.ValueKit

@[expose] public section

set_option maxRecDepth 16384

noncomputable section

open Idealize.ShloMosaic Idealize.ShloMosaic.TcCoe Idealize.SL.Sem

namespace Cert.ReferenceIdeal.Read

open Cert.ReferenceIdeal Cert.ReferenceIdeal.Gen Cert.Nsa

variable (x0 : FVec Ideal S8192x2048 .bf16) (x2 : FVec Ideal S8192x3072 .bf16)

theorem v165_at (b g h : Fin 4) (t : Fin 2048) (j : Fin 2048) : val_main_v165 (F := Ideal) x0 x2 (ix5 b g h t j)
    = score (queries (rQ x0) b t g h) (keyval (rKV x2) b 2 g 0) j := by
  pointwise [val_main_v165, val_main_cst_31, val_main_v164, val_main_v163, val_main_v162, val_main_v154, val_main_v153, val_main_v8, val_main_v7, val_main_v4, val_main_v3, val_main_v1, val_main_v0]
  unfold score
  refine congrArg (fun z : EReal => z * Ideal.ofBits .f32 0x3DB504F3#32) ?_
  refine Finset.sum_congr rfl fun d _ => ?_
  rw [mul_comm]
  refine congrArg₂ (fun y z : EReal => y * z) rfl ?_
  unfold keyval
  refine congrArg x2 ?_
  congr 1

theorem v156_at (b g : Fin 4) (j : Fin 2048) (d : Fin 128) : val_main_v156 (F := Ideal) x2 (ix4 b j g d)
    = keyval (rKV x2) b 2 g 1 j d := by
  pointwise [val_main_v156, val_main_v155, val_main_v8, val_main_v7, val_main_v4, val_main_v3]
  unfold keyval
  refine congrArg x2 ?_
  congr 1

theorem v161_word (t : Fin 2048) (j : Fin 2048) : val_main_v161 (F := Ideal) (ix2 t j)
    = IntOp.andi (IntOp.cmpi .sge (IntOp.subi (BitVec.ofNat 32 t.val) (BitVec.ofNat 32 j.val)) 0#32)
      (IntOp.cmpi .slt (IntOp.subi (BitVec.ofNat 32 t.val) (BitVec.ofNat 32 j.val)) 512#32) := by
  pointwise [val_main_v161, val_main_v160, val_main_v159, val_main_c_30, val_main_v158, val_main_v157, val_main_c_29, val_main_v152, val_main_v151, val_main_v150, val_main_v149, val_main_v148, val_main_v18]

theorem sub_toInt (a b : ℕ) (ha : a < 2048) (hb : b < 2048) : (BitVec.ofNat 32 a - BitVec.ofNat 32 b).toInt = (a : Int) - b := by
  have e : ∀ n, n < 2048 → (BitVec.ofNat 32 n).toInt = (n : Int) := by
    intro n hn
    rw [BitVec.toInt_eq_toNat_of_lt (by rw [BitVec.toNat_ofNat, Nat.mod_eq_of_lt (by omega)]; omega), BitVec.toNat_ofNat,
      Nat.mod_eq_of_lt (by omega)]
  rw [BitVec.toInt_sub, e a ha, e b hb]
  exact Int.bmod_eq_of_le (by omega) (by omega)

theorem v161_at (t : Fin 2048) (j : Fin 2048) : val_main_v161 (F := Ideal) (ix2 t j) = 1#1 ↔ wmask t.val j := by
  rw [v161_word]
  have h := sub_toInt t.val j.val t.isLt j.isLt
  show BitVec.ofBool (BitVec.sle 0#32 (BitVec.ofNat 32 t.val - BitVec.ofNat 32 j.val))
    &&& BitVec.ofBool (BitVec.slt (BitVec.ofNat 32 t.val - BitVec.ofNat 32 j.val) 512#32) = 1#1 ↔ _
  have e1 : BitVec.sle 0#32 (BitVec.ofNat 32 t.val - BitVec.ofNat 32 j.val) = decide (j.val ≤ t.val) := by
    rw [BitVec.sle_eq_decide, h, decide_eq_decide]
    show (0 : Int) ≤ _ ↔ _
    omega
  have e2 : BitVec.slt (BitVec.ofNat 32 t.val - BitVec.ofNat 32 j.val) 512#32 = decide (t.val < j.val + 512) := by
    rw [BitVec.slt_eq_decide, h, decide_eq_decide]
    show _ < (512 : Int) ↔ _
    omega
  rw [e1, e2]
  unfold wmask
  by_cases h1 : j.val ≤ t.val <;> by_cases h2 : t.val < j.val + 512 <;> simp [h1, h2]

theorem v166_at (b g h : Fin 4) (t : Fin 2048) (j : Fin 2048) : val_main_v166 (F := Ideal) x0 x2 (ix5 b g h t j)
    = Scalar.select (val_main_v161 (F := Ideal) (ix2 t j)) (val_main_v165 (F := Ideal) x0 x2 (ix5 b g h t j)) (Ideal.ofBits .f32 0xFF800000#32) := by
  pointwise [val_main_v166, val_main_call6_v2, val_main_call6_v1, val_main_call6_v0, val_main_cst_32]
  rfl

theorem v168_at (i : S4x4x4x2048.Idx) : val_main_v168 (F := Ideal) i = Ideal.ofBits .f32 0xFF800000#32 := rfl

theorem v170_step (b g h : Fin 4) (t : Fin 2048) : val_main_v170 (F := Ideal) x0 x2 (ix5 b g h t 0)
    = val_main_v169 (F := Ideal) x0 x2 (ix4 b g h t) := by
  pointwise [val_main_v170]

theorem v170_at (b g h : Fin 4) (t : Fin 2048) : val_main_v170 (F := Ideal) x0 x2 (ix5 b g h t 0)
    = max (Ideal.ofBits .f32 0xFF800000#32) (val_main_v167 (F := Ideal) x0 x2 (ix4 b g h t)) := by
  rw [v170_step]
  unfold val_main_v169
  exact max_at _ _ _ _ (v168_at _)

theorem v173_at (b g h : Fin 4) (t : Fin 2048) (j : Fin 2048) : val_main_v173 (F := Ideal) x0 x2 (ix5 b g h t j)
    = Ideal.exp (val_main_v166 (F := Ideal) x0 x2 (ix5 b g h t j) - val_main_v170 (F := Ideal) x0 x2 (ix5 b g h t 0)) := by
  pointwise [val_main_v173, val_main_v172, val_main_v171]

theorem v178_word (b g h : Fin 4) (t : Fin 2048) (j : Fin 2048) : val_main_v178 (F := Ideal) x0 x2 (ix5 b g h t j)
    = Scalar.select (val_main_v161 (F := Ideal) (ix2 t j)) (Ideal.div (val_main_v173 (F := Ideal) x0 x2 (ix5 b g h t j))
      (∑ x, val_main_v173 (F := Ideal) x0 x2 (ix5 b g h t x))) (val_main_call7_v2 (F := Ideal) (ix5 b g h t j)) := by
  pointwise [val_main_v178, val_main_call7_v1, val_main_v177, val_main_v176, val_main_v175, val_main_v174, val_main_cst_35]

theorem call7_zero (i : S4x4x4x2048x2048.Idx) : val_main_call7_v2 (F := Ideal) i = (0 : EReal) :=
  Ideal.ofBits_zero_f32

theorem v178_at (hq : ∀ i j, Real' (rQ x0 i j)) (hk : ∀ i j, Real' (rKV x2 i j)) (b g h : Fin 4) (t : Fin 2048) (j : Fin 2048) :
    val_main_v178 (F := Ideal) x0 x2 (ix5 b g h t j)
      = wt (wmask t.val) (score (queries (rQ x0) b t g h) (keyval (rKV x2) b 2 g 0)) j := by
  refine softmax_at (fun j : Fin 2048 => val_main_v161 (F := Ideal) (ix2 t j)) (wmask t.val) _ (v161_at t)
    (score_real (fun d => hq _ _) (fun j d => hk _ _))
    (fun j => val_main_v166 (F := Ideal) x0 x2 (ix5 b g h t j)) (fun j => val_main_v173 (F := Ideal) x0 x2 (ix5 b g h t j))
    (fun j => val_main_v178 (F := Ideal) x0 x2 (ix5 b g h t j)) (val_main_v170 (F := Ideal) x0 x2 (ix5 b g h t 0)) 0 ?_ ?_ ?_ rfl ?_ j
  · intro j; exact (v166_at x0 x2 b g h t j).trans (congrArg (fun z => Scalar.select _ z _) (v165_at x0 x2 b g h t j))
  · rw [v170_at, v167_at]
  · intro j; exact v173_at x0 x2 b g h t j
  · intro j; rw [← call7_zero (ix5 b g h t j)]; exact v178_word x0 x2 b g h t j

theorem v180_word (b g h : Fin 4) (t : Fin 2048) (d : Fin 128) : val_main_v180 (F := Ideal) x0 x2 (ix5 b t g h d)
    = ∑ j : Fin 2048, val_main_v156 (F := Ideal) x2 (ix4 b j g d) * val_main_v178 (F := Ideal) x0 x2 (ix5 b g h t j) := by
  pointwise [val_main_v180, val_main_v179]

theorem v180_at (hq : ∀ i j, Real' (rQ x0 i j)) (hk : ∀ i j, Real' (rKV x2 i j)) (b g h : Fin 4) (t : Fin 2048) (d : Fin 128) :
    val_main_v180 (F := Ideal) x0 x2 (ix5 b t g h d)
      = attend (wmask t.val) (queries (rQ x0) b t g h) (keyval (rKV x2) b 2 g 0) (keyval (rKV x2) b 2 g 1) d := by
  rw [v180_word]
  unfold attend
  refine Finset.sum_congr rfl fun j _ => ?_
  rw [v156_at, v178_at x0 x2 hq hk, mul_comm]

end Cert.ReferenceIdeal.Read

end

end
-- ==== Proof.RefComp.lean ====
/-
  The reference's compressed branch: the scores, the weights, the averages of the pooled values.
-/
module

public import proofs.«01_k».proof.Proof.Spec
public import proofs.«01_k».proof.Proof.Gen.ReferenceIdeal.Read
public import proofs.«01_k».proof.Proof.RefArg
public import proofs.«01_k».proof.Proof.RefMax
public import proofs.«01_k».proof.Proof.Softmax
public import proofs.«01_k».proof.Proof.Words
public import Idealize.ShloMosaic.Lib.Pipeline.ValueKit

@[expose] public section

set_option maxRecDepth 16384

noncomputable section

open Idealize.ShloMosaic Idealize.ShloMosaic.TcCoe Idealize.SL.Sem

namespace Cert.ReferenceIdeal.Read

open Cert.ReferenceIdeal Cert.ReferenceIdeal.Gen Cert.Nsa

variable (x0 : FVec Ideal S8192x2048 .bf16) (x1 : FVec Ideal S8192x1024 .f32) (x4 : FVec Ideal S32x4x2 .f32)

theorem v41_at (b g h : Fin 4) (t : Fin 2048) (j : Fin 64) : val_main_v41 (F := Ideal) x0 x1 x4 (ix5 b g h t j)
    = score (queries (rQ x0) b t g h) (pooled (rC x1) (rW x4) b g 0) j := by
  pointwise [val_main_v41, val_main_cst_3, val_main_v40, val_main_v39, val_main_v38, val_main_v30, val_main_v29, val_main_v21, val_main_v20, val_main_v19, val_main_v2, val_main_v1, val_main_v0]
  unfold score
  refine congrArg (fun z : EReal => z * Ideal.ofBits .f32 0x3DB504F3#32) ?_
  refine Finset.sum_congr rfl fun d _ => ?_
  rw [mul_comm]
  refine congrArg₂ (fun y z : EReal => y * z) rfl ?_
  unfold pooled
  refine Finset.sum_congr rfl fun i _ => ?_
  rw [mul_comm]
  refine congrArg₂ (fun y z : EReal => y * z) (congrArg x1 ?_) rfl
  first
    | rfl
    | (congr 1 <;> exact Fin.ext (by simp only [rowOf]; omega))

theorem v32_at (b g : Fin 4) (j : Fin 64) (d : Fin 128) : val_main_v32 (F := Ideal) x1 x4 (ix4 b j g d)
    = pooled (rC x1) (rW x4) b g 1 j d := by
  pointwise [val_main_v32, val_main_v31, val_main_v21, val_main_v20, val_main_v19, val_main_v2]
  unfold pooled
  refine Finset.sum_congr rfl fun i _ => ?_
  rw [mul_comm]
  refine congrArg₂ (fun y z : EReal => y * z) (congrArg x1 ?_) rfl
  first
    | rfl
    | (congr 1 <;> exact Fin.ext (by simp only [rowOf]; omega))

theorem v37_word (t : Fin 2048) (j : Fin 64) : val_main_v37 (F := Ideal) (ix2 t j)
    = IntOp.cmpi .sle (IntOp.subi (IntOp.muli (IntOp.addi (BitVec.ofNat 32 j.val) 1#32) 32#32) 1#32) (BitVec.ofNat 32 t.val) := by
  pointwise [val_main_v37, val_main_v36, val_main_v35, val_main_v34, val_main_v33, val_main_v28, val_main_v27, val_main_v26, val_main_v25, val_main_v24, val_main_v23, val_main_v22, val_main_v18, val_main_c, val_main_c_1, val_main_c_2]

theorem v37_at (t : Fin 2048) (j : Fin 64) : val_main_v37 (F := Ideal) (ix2 t j) = 1#1 ↔ cmask t.val j := by
  rw [v37_word]
  have e1 : IntOp.subi (IntOp.muli (IntOp.addi (BitVec.ofNat 32 j.val) 1#32) 32#32) 1#32 = BitVec.ofNat 32 ((j.val + 1) * 32 - 1) := by
    revert j; decide +kernel
  rw [e1, Idealize.ShloMosaic.WordCmp.cmpi_sle_ofNat (by omega) (by omega)]
  unfold cmask
  have : (decide ((j.val + 1) * 32 - 1 ≤ t.val) = true) ↔ (j.val + 1) * 32 ≤ t.val + 1 := by
    rw [decide_eq_true_eq]; omega
  rw [← this]
  cases decide ((j.val + 1) * 32 - 1 ≤ t.val) <;> decide

theorem v42_at (b g h : Fin 4) (t : Fin 2048) (j : Fin 64) : val_main_v42 (F := Ideal) x0 x1 x4 (ix5 b g h t j)
    = Scalar.select (val_main_v37 (F := Ideal) (ix2 t j)) (val_main_v41 (F := Ideal) x0 x1 x4 (ix5 b g h t j)) (Ideal.ofBits .f32 0xFF800000#32) := by
  pointwise [val_main_v42, val_main_call0_v2, val_main_call0_v1, val_main_call0_v0, val_main_cst_4]
  rfl

theorem v44_at (i : S4x4x4x2048.Idx) : val_main_v44 (F := Ideal) i = Ideal.ofBits .f32 0xFF800000#32 := rfl

theorem v46_step (b g h : Fin 4) (t : Fin 2048) : val_main_v46 (F := Ideal) x0 x1 x4 (ix5 b g h t 0)
    = val_main_v45 (F := Ideal) x0 x1 x4 (ix4 b g h t) := by
  pointwise [val_main_v46]

theorem v46_at (b g h : Fin 4) (t : Fin 2048) : val_main_v46 (F := Ideal) x0 x1 x4 (ix5 b g h t 0)
    = max (Ideal.ofBits .f32 0xFF800000#32) (val_main_v43 (F := Ideal) x0 x1 x4 (ix4 b g h t)) := by
  rw [v46_step]
  unfold val_main_v45
  exact max_at _ _ _ _ (v44_at _)

theorem v49_at (b g h : Fin 4) (t : Fin 2048) (j : Fin 64) : val_main_v49 (F := Ideal) x0 x1 x4 (ix5 b g h t j)
    = Ideal.exp (val_main_v42 (F := Ideal) x0 x1 x4 (ix5 b g h t j) - val_main_v46 (F := Ideal) x0 x1 x4 (ix5 b g h t 0)) := by
  pointwise [val_main_v49, val_main_v48, val_main_v47]

theorem v54_word (b g h : Fin 4) (t : Fin 2048) (j : Fin 64) : val_main_v54 (F := Ideal) x0 x1 x4 (ix5 b g h t j)
    = Scalar.select (val_main_v37 (F := Ideal) (ix2 t j)) (Ideal.div (val_main_v49 (F := Ideal) x0 x1 x4 (ix5 b g h t j))
      (∑ x, val_main_v49 (F := Ideal) x0 x1 x4 (ix5 b g h t x))) (val_main_call1_v2 (F := Ideal) (ix5 b g h t j)) := by
  pointwise [val_main_v54, val_main_call1_v1, val_main_v53, val_main_v52, val_main_v51, val_main_v50, val_main_cst_7]

theorem call1_zero (i : S4x4x4x2048x64.Idx) : val_main_call1_v2 (F := Ideal) i = (0 : EReal) :=
  Ideal.ofBits_zero_f32

theorem v54_at (hq : ∀ i j, Real' (rQ x0 i j)) (hk : ∀ b g s j d, Real' (pooled (rC x1) (rW x4) b g s j d)) (b g h : Fin 4) (t : Fin 2048) (j : Fin 64) :
    val_main_v54 (F := Ideal) x0 x1 x4 (ix5 b g h t j)
      = wt (cmask t.val) (score (queries (rQ x0) b t g h) (pooled (rC x1) (rW x4) b g 0)) j := by
  refine softmax_at (fun j : Fin 64 => val_main_v37 (F := Ideal) (ix2 t j)) (cmask t.val) _ (v37_at t)
    (score_real (fun d => hq _ _) (fun j d => hk b g 0 j d))
    (fun j => val_main_v42 (F := Ideal) x0 x1 x4 (ix5 b g h t j)) (fun j => val_main_v49 (F := Ideal) x0 x1 x4 (ix5 b g h t j))
    (fun j => val_main_v54 (F := Ideal) x0 x1 x4 (ix5 b g h t j)) (val_main_v46 (F := Ideal) x0 x1 x4 (ix5 b g h t 0)) 0 ?_ ?_ ?_ rfl ?_ j
  · intro j; exact (v42_at x0 x1 x4 b g h t j).trans (congrArg (fun z => Scalar.select _ z _) (v41_at x0 x1 x4 b g h t j))
  · rw [v46_at, v43_at]
  · intro j; exact v49_at x0 x1 x4 b g h t j
  · intro j; rw [← call1_zero (ix5 b g h t j)]; exact v54_word x0 x1 x4 b g h t j

theorem v56_word (b g h : Fin 4) (t : Fin 2048) (d : Fin 128) : val_main_v56 (F := Ideal) x0 x1 x4 (ix5 b t g h d)
    = ∑ j : Fin 64, val_main_v32 (F := Ideal) x1 x4 (ix4 b j g d) * val_main_v54 (F := Ideal) x0 x1 x4 (ix5 b g h t j) := by
  pointwise [val_main_v56, val_main_v55]

theorem v56_at (hq : ∀ i j, Real' (rQ x0 i j)) (hk : ∀ b g s j d, Real' (pooled (rC x1) (rW x4) b g s j d)) (b g h : Fin 4) (t : Fin 2048) (d : Fin 128) :
    val_main_v56 (F := Ideal) x0 x1 x4 (ix5 b t g h d)
      = attend (cmask t.val) (queries (rQ x0) b t g h) (pooled (rC x1) (rW x4) b g 0) (pooled (rC x1) (rW x4) b g 1) d := by
  rw [v56_word]
  unfold attend
  refine Finset.sum_congr rfl fun j _ => ?_
  rw [v32_at, v54_at x0 x1 x4 hq hk, mul_comm]

end Cert.ReferenceIdeal.Read

end

end
-- ==== Proof.RefTop.lean ====
/-
  The sixteen best of thirty-two scores, as the reference takes them: the positions a stable descending sort puts first.
-/
module

public import proofs.«01_k».proof.Proof.Spec
public import proofs.«01_k».proof.Proof.Gen.ReferenceIdeal.Read
public import Idealize.ShloMosaic.Lib.Pipeline.ValueKit

@[expose] public section

set_option maxRecDepth 16384

noncomputable section

open Idealize.ShloMosaic Idealize.ShloMosaic.TcCoe Idealize.SL.Sem

namespace Cert.ReferenceIdeal.Read

open Cert.ReferenceIdeal Cert.ReferenceIdeal.Gen Cert.Nsa

theorem topK_at (x : FVec Ideal S4x4x2048x32 .f32) (hs : S4x4x2048x32.Slices (fun _ => 0) S4x4x2048x16)
    (b g : Fin 4) (t : Fin 2048) (k : Fin 16) :
    (Host.topK S4x4x2048x16 3 (FloatOps.cmpfTotal .gt) x hs).2 (ix4 b g t k)
      = BitVec.ofNat 32 (sortedFrom (bef fun j : Fin 32 => x (ix4 b g t j)) ⟨k.val, by omega⟩).val := by
  have hal : ∀ j : Fin 32, (ix4 b g t (⟨k.val, by omega⟩ : Fin 32) : S4x4x2048x32.Idx).along 3 j = ix4 b g t j := by
    intro j
    unfold Shape.Idx.along
    funext a
    match a with
    | ⟨0, _⟩ => rfl
    | ⟨1, _⟩ => rfl
    | ⟨2, _⟩ => rfl
    | ⟨3, _⟩ => rfl
  have key : ∀ p : Fin 32, iotaInDim S4x4x2048x32 32 3 ((ix4 b g t (⟨k.val, by omega⟩ : Fin 32) : S4x4x2048x32.Idx).along 3 p)
      = BitVec.ofNat 32 p.val := fun p => congrArg (fun i => iotaInDim S4x4x2048x32 32 3 i) (hal p)
  have hix : (fun a => ⟨0 + ((ix4 b g t k : S4x4x2048x16.Idx) (a.cast hs.1.symm)).val,
      Nat.lt_of_lt_of_le (Nat.add_lt_add_left ((ix4 b g t k : S4x4x2048x16.Idx) _).isLt _) (hs.2 a)⟩ : S4x4x2048x32.Idx)
      = ix4 b g t (⟨k.val, by omega⟩ : Fin 32) := by
    funext a
    match a with
    | ⟨0, _⟩ => exact Fin.ext (Nat.zero_add _)
    | ⟨1, _⟩ => exact Fin.ext (Nat.zero_add _)
    | ⟨2, _⟩ => exact Fin.ext (Nat.zero_add _)
    | ⟨3, _⟩ => exact Fin.ext (Nat.zero_add _)
  unfold Host.topK Host.sort2 extractStridedSlice
  simp only []
  rw [hix, dif_pos (show 3 < S4x4x2048x32.rank by decide)]
  simp only [Nat.reduceLT, ↓reduceDIte]
  have hsort := sortedFrom_eq (fun j : Fin 32 => x (ix4 b g t j))
    (fun k k' => FloatOps.cmpfTotal .gt (x (ix4 b g t k)) (x (ix4 b g t k')) == 1#1) (by
      intro a c
      rw [beq_iff_eq]
      show BitVec.ofBool (decide (x (ix4 b g t c) < x (ix4 b g t a))) = 1#1 ↔ _
      by_cases h : x (ix4 b g t c) < x (ix4 b g t a) <;> simp [h])
  have hF : (fun p p' : Fin 32 => FloatOps.cmpfTotal .gt (x ((ix4 b g t (⟨k.val, by omega⟩ : Fin 32) : S4x4x2048x32.Idx).along 3 p))
      (x ((ix4 b g t (⟨k.val, by omega⟩ : Fin 32) : S4x4x2048x32.Idx).along 3 p')) == 1#1)
      = fun p p' => FloatOps.cmpfTotal .gt (x (ix4 b g t p)) (x (ix4 b g t p')) == 1#1 := by
    funext p p'
    rw [hal, hal]
  refine (congrArg (fun G : Fin 32 → Fin 32 => iotaInDim S4x4x2048x32 32 3
    ((ix4 b g t (⟨k.val, by omega⟩ : Fin 32) : S4x4x2048x32.Idx).along 3 (G (⟨k.val, by omega⟩ : Fin 32))))
    ((congrArg sortedFrom hF).trans hsort)).trans ?_
  exact key (sortedFrom (bef fun j : Fin 32 => x (ix4 b g t j)) (⟨k.val, by omega⟩ : Fin 32))

end Cert.ReferenceIdeal.Read

end

end
-- ==== Proof.RefBlk.lean ====
/-
  The reference's block scores: the importance of a block of 64 keys, the bonus, the order they are ranked in.
-/
module

public import proofs.«01_k».proof.Proof.Spec
public import proofs.«01_k».proof.Proof.Gen.ReferenceIdeal.Read
public import proofs.«01_k».proof.Proof.RefComp
public import proofs.«01_k».proof.Proof.RefTop
public import Idealize.ShloMosaic.Lib.Pipeline.ValueKit

@[expose] public section

set_option maxRecDepth 16384

noncomputable section

open Idealize.ShloMosaic Idealize.ShloMosaic.TcCoe Idealize.SL.Sem

namespace Cert.ReferenceIdeal.Read

open Cert.ReferenceIdeal Cert.ReferenceIdeal.Gen Cert.Nsa

variable (x0 : FVec Ideal S8192x2048 .bf16) (x1 : FVec Ideal S8192x1024 .f32) (x4 : FVec Ideal S32x4x2 .f32)

theorem v62_at (t : Fin 2048) : val_main_v62 (F := Ideal) (ix1 t) = BitVec.ofNat 32 (t.val / 64) := by
  pointwise [val_main_v62, val_main_call2_v13, val_main_call2_v12, val_main_call2_c_0, val_main_call2_v11, val_main_call2_v10, val_main_call2_v9, val_main_call2_c, val_main_call2_v8, val_main_call2_v7, val_main_call2_v6, val_main_call2_v5, val_main_call2_v4, val_main_call2_v3, val_main_call2_v2, val_main_call2_v1, val_main_call2_v0, val_main_c_11, val_main_v18]
  revert t
  decide +kernel

theorem v59_word (b g : Fin 4) (t : Fin 2048) (j : Fin 32) : val_main_v59 (F := Ideal) x0 x1 x4 (ix4 b g t j)
    = ∑ x : Fin 2, ∑ h : Fin 4, val_main_v54 (F := Ideal) x0 x1 x4 (ix5 b g h t (⟨j.val * 2 + x.val, by omega⟩ : Fin 64)) := by
  pointwise [val_main_v59, val_main_v58, val_main_v57, val_main_cst_9, val_main_cst_10]

theorem v59_at (hq : ∀ i j, Real' (rQ x0 i j)) (hk : ∀ b g s j d, Real' (pooled (rC x1) (rW x4) b g s j d)) (b g : Fin 4) (t : Fin 2048) (j : Fin 32) :
    val_main_v59 (F := Ideal) x0 x1 x4 (ix4 b g t j) = impOf (queries (rQ x0) b t g) (pooled (rC x1) (rW x4) b g 0) t.val j := by
  rw [v59_word, Finset.sum_comm]
  unfold impOf
  refine Finset.sum_congr rfl fun h _ => ?_
  rw [Fin.sum_univ_two, v54_at x0 x1 x4 hq hk, v54_at x0 x1 x4 hq hk]
  refine congrArg₂ (fun y z : EReal => y + z) (congrArg _ (Fin.ext ?_)) (congrArg _ (Fin.ext ?_))
  · show j.val * 2 + 0 = 2 * j.val
    omega
  · show j.val * 2 + 1 = 2 * j.val + 1
    omega

theorem v66_word (t : Fin 2048) (j : Fin 32) : val_main_v66 (F := Ideal) (ix2 t j)
    = IntOp.cmpi .sle (BitVec.ofNat 32 j.val) (val_main_v62 (F := Ideal) (ix1 t)) := by
  pointwise [val_main_v66, val_main_v65, val_main_v64, val_main_v63, val_main_v61, val_main_v60]

theorem v66_at (t : Fin 2048) (j : Fin 32) : val_main_v66 (F := Ideal) (ix2 t j) = 1#1 ↔ j.val ≤ t.val / 64 := by
  rw [v66_word, v62_at, Idealize.ShloMosaic.WordCmp.cmpi_sle_ofNat (by omega) (by omega)]
  by_cases h : j.val ≤ t.val / 64 <;> simp [h]

theorem v79_word (t : Fin 2048) (j : Fin 32) : val_main_v79 (F := Ideal) (ix2 t j)
    = IntOp.ori (IntOp.ori (IntOp.cmpi .eq (BitVec.ofNat 32 j.val) 0#32) (IntOp.cmpi .eq (BitVec.ofNat 32 j.val) (val_main_v62 (F := Ideal) (ix1 t))))
      (IntOp.cmpi .eq (BitVec.ofNat 32 j.val) (IntOp.subi (val_main_v62 (F := Ideal) (ix1 t)) 1#32)) := by
  pointwise [val_main_v79, val_main_v78, val_main_v77, val_main_v76, val_main_v75, val_main_v74, val_main_c_13, val_main_v73, val_main_v72, val_main_v71, val_main_v70, val_main_v69, val_main_v68, val_main_v67, val_main_c_12, val_main_v63, val_main_v61, val_main_v60]

theorem forced_bit : ∀ j q : Fin 32, IntOp.ori (IntOp.ori (IntOp.cmpi .eq (BitVec.ofNat 32 j.val) 0#32) (IntOp.cmpi .eq (BitVec.ofNat 32 j.val) (BitVec.ofNat 32 q.val)))
      (IntOp.cmpi .eq (BitVec.ofNat 32 j.val) (IntOp.subi (BitVec.ofNat 32 q.val) 1#32))
      = BitVec.ofBool (decide (j.val = 0 ∨ j.val = q.val ∨ j.val + 1 = q.val)) := by
  decide +kernel

theorem v79_at (t : Fin 2048) (j : Fin 32) : val_main_v79 (F := Ideal) (ix2 t j)
    = BitVec.ofBool (decide (j.val = 0 ∨ j.val = t.val / 64 ∨ j.val + 1 = t.val / 64)) := by
  rw [v79_word, v62_at]
  exact forced_bit j ⟨t.val / 64, by omega⟩

theorem v80_at (t : Fin 2048) (j : Fin 32) : val_main_v80 (F := Ideal) (ix2 t j)
    = if j.val = 0 ∨ j.val = t.val / 64 ∨ j.val + 1 = t.val / 64 then (1 : EReal) else 0 := by
  change (((val_main_v79 (F := Ideal) (ix2 t j)).toNat : ℝ) : EReal) = _
  rw [v79_at]
  by_cases h : j.val = 0 ∨ j.val = t.val / 64 ∨ j.val + 1 = t.val / 64
  · rw [decide_eq_true h, if_pos h]
    simp
  · rw [decide_eq_false h, if_neg h]
    simp

theorem v84_word (b g : Fin 4) (t : Fin 2048) (j : Fin 32) : val_main_v84 (F := Ideal) (ix4 b g t j)
    = Ideal.ofBits .f32 0x447A0000#32 * val_main_v80 (F := Ideal) (ix2 t j) := by
  pointwise [val_main_v84, val_main_v83, val_main_v82, val_main_v81, val_main_cst_14]

theorem v86_word (b g : Fin 4) (t : Fin 2048) (j : Fin 32) : val_main_v86 (F := Ideal) x0 x1 x4 (ix4 b g t j)
    = Scalar.select (val_main_v66 (F := Ideal) (ix2 t j)) (val_main_v59 (F := Ideal) x0 x1 x4 (ix4 b g t j) + val_main_v84 (F := Ideal) (ix4 b g t j))
      (val_main_call3_v2 (F := Ideal) (ix4 b g t j)) := by
  pointwise [val_main_v86, val_main_call3_v1, val_main_v85]

theorem call3_at (i : S4x4x2048x32.Idx) : val_main_call3_v2 (F := Ideal) i = (⊥ : EReal) := neg_inf

theorem v86_at (hq : ∀ i j, Real' (rQ x0 i j)) (hk : ∀ b g s j d, Real' (pooled (rC x1) (rW x4) b g s j d)) (b g : Fin 4) (t : Fin 2048) (j : Fin 32) :
    val_main_v86 (F := Ideal) x0 x1 x4 (ix4 b g t j) = bscore (queries (rQ x0) b t g) (pooled (rC x1) (rW x4) b g 0) t.val j := by
  rw [v86_word, v59_at x0 x1 x4 hq hk, v84_word, v80_at, call3_at]
  unfold bscore
  show (if val_main_v66 (F := Ideal) (ix2 t j) = 1#1 then _ else (⊥ : EReal)) = _
  by_cases h : j.val ≤ t.val / 64
  · rw [if_pos h, if_pos ((v66_at t j).mpr h)]
  · rw [if_neg h, if_neg fun h' => h ((v66_at t j).mp h')]

/-- The block a place of the sixteen holds. -/
def sel (b g : Fin 4) (t : Fin 2048) (k : Fin 16) : Fin 32 :=
  sortedFrom (bef (bscore (queries (rQ x0) b t g) (pooled (rC x1) (rW x4) b g 0) t.val)) (⟨k.val, by omega⟩ : Fin 32)

theorem indices_at (hq : ∀ i j, Real' (rQ x0 i j)) (hk : ∀ b g s j d, Real' (pooled (rC x1) (rW x4) b g s j d)) (b g : Fin 4) (t : Fin 2048) (k : Fin 16) :
    val_main_indices (F := Ideal) x0 x1 x4 (ix4 b g t k) = BitVec.ofNat 32 (sel x0 x1 x4 b g t k).val := by
  have h : (fun j : Fin 32 => val_main_v86 (F := Ideal) x0 x1 x4 (ix4 b g t j))
      = bscore (queries (rQ x0) b t g) (pooled (rC x1) (rW x4) b g 0) t.val := funext fun j => v86_at x0 x1 x4 hq hk b g t j
  unfold val_main_indices
  rw [topK_at, h]
  rfl

end Cert.ReferenceIdeal.Read

end

end
-- ==== Proof.RefGather.lean ====
/-
  The gathered rows, as the reference takes them: at start indices inside the array, the entry they name.
-/
module

public import proofs.«01_k».proof.Proof.Spec
public import proofs.«01_k».proof.Proof.Gen.ReferenceIdeal.Read
public import Idealize.ShloMosaic.Lib.Pipeline.ValueKit

@[expose] public section

set_option maxRecDepth 16384

noncomputable section

open Idealize.ShloMosaic Idealize.ShloMosaic.TcCoe Idealize.SL.Sem

namespace Cert.ReferenceIdeal.Read

open Cert.ReferenceIdeal Cert.ReferenceIdeal.Gen Cert.Nsa

theorem toNat_ofNat {N n : ℕ} (h : n < N) (hN : N ≤ 2048) : min (BitVec.ofNat 32 n).toInt.toNat (N - 1) = n := by
  have h1 : (BitVec.ofNat 32 n).toInt = (n : Int) := by
    rw [BitVec.toInt_eq_toNat_of_lt (by rw [BitVec.toNat_ofNat, Nat.mod_eq_of_lt (by omega)]; omega), BitVec.toNat_ofNat,
      Nat.mod_eq_of_lt (by omega)]
  rw [h1, Int.toNat_natCast]
  omega

abbrev gd := gather_S4x2048x4x2x128_S4x4x2048x16x64x3_S4x4x2048x16x64x2x128_56_012_n_n_012_5_1112128

theorem gather_at (x : FVec Ideal S4x2048x4x2x128 .f32) (idx : IVec S4x4x2048x16x64x3 32) (b g : Fin 4) (t : Fin 2048)
    (k : Fin 16) (j : Fin 64) (s : Fin 2) (d : Fin 128) (p : Fin 2048)
    (h0 : idx (ix6 b g t k j (0 : Fin 3)) = BitVec.ofNat 32 b.val) (h1 : idx (ix6 b g t k j (1 : Fin 3)) = BitVec.ofNat 32 p.val)
    (h2 : idx (ix6 b g t k j (2 : Fin 3)) = BitVec.ofNat 32 g.val) :
    Host.gather gd x idx (ix7 b g t k j s d) = x (ix5 b p g s d) := by
  have hsi : ∀ c : Fin 3, gd.siIdx (ix7 b g t k j s d) c = ix6 b g t k j c := by
    intro c
    funext a
    refine Fin.ext ?_
    match a with
    | ⟨0, _⟩ => rfl
    | ⟨1, _⟩ => rfl
    | ⟨2, _⟩ => rfl
    | ⟨3, _⟩ => rfl
    | ⟨4, _⟩ => rfl
    | ⟨5, _⟩ => rfl
  unfold Host.gather
  congr 1
  funext a
  refine Fin.ext ?_
  show gd.start _ idx a + gd.batchCoord _ a + gd.offCoord _ a = _
  rw [GatherDims.batchCoord_eq_zero _ _ _ List.not_mem_nil, Nat.add_zero]
  match a with
  | ⟨0, _⟩ =>
    change gd.start _ idx 0 + gd.offCoord _ 0 = _
    rw [GatherDims.offCoord_eq_zero _ _ _ (fun h => ((GatherDims.mem_sKept _ _).mp h).1 (by decide)), Nat.add_zero]
    unfold GatherDims.start
    rw [dif_pos (by decide)]
    exact (congrArg (fun w : BitVec 32 => min w.toInt.toNat 3) ((congrArg idx (hsi 0)).trans h0)).trans (toNat_ofNat (N := 4) b.isLt (by decide))
  | ⟨1, _⟩ =>
    change gd.start _ idx 1 + gd.offCoord _ 1 = _
    rw [GatherDims.offCoord_eq_zero _ _ _ (fun h => ((GatherDims.mem_sKept _ _).mp h).1 (by decide)), Nat.add_zero]
    unfold GatherDims.start
    rw [dif_pos (by decide)]
    exact (congrArg (fun w : BitVec 32 => min w.toInt.toNat 2047) ((congrArg idx (hsi 1)).trans h1)).trans (toNat_ofNat (N := 2048) p.isLt (by decide))
  | ⟨2, _⟩ =>
    change gd.start _ idx 2 + gd.offCoord _ 2 = _
    rw [GatherDims.offCoord_eq_zero _ _ _ (fun h => ((GatherDims.mem_sKept _ _).mp h).1 (by decide)), Nat.add_zero]
    unfold GatherDims.start
    rw [dif_pos (by decide)]
    exact (congrArg (fun w : BitVec 32 => min w.toInt.toNat 3) ((congrArg idx (hsi 2)).trans h2)).trans (toNat_ofNat (N := 4) g.isLt (by decide))
  | ⟨3, _⟩ =>
    change gd.start _ idx 3 + gd.offCoord _ 3 = _
    unfold GatherDims.start
    rw [dif_neg (by decide), Nat.zero_add]
    rfl
  | ⟨4, _⟩ =>
    change gd.start _ idx 4 + gd.offCoord _ 4 = _
    unfold GatherDims.start
    rw [dif_neg (by decide), Nat.zero_add]
    rfl

end Cert.ReferenceIdeal.Read

end

end
-- ==== Proof.RefSel.lean ====
/-
  The reference's selected branch: the keys of the sixteen blocks, their scores, weights and averages.
-/
module

public import proofs.«01_k».proof.Proof.Spec
public import proofs.«01_k».proof.Proof.Gen.ReferenceIdeal.Read
public import proofs.«01_k».proof.Proof.RefBlk
public import proofs.«01_k».proof.Proof.RefGather
public import Idealize.ShloMosaic.Lib.Pipeline.ValueKit

@[expose] public section

set_option maxRecDepth 16384

noncomputable section

open Idealize.ShloMosaic Idealize.ShloMosaic.TcCoe Idealize.SL.Sem

namespace Cert.ReferenceIdeal.Read

open Cert.ReferenceIdeal Cert.ReferenceIdeal.Gen Cert.Nsa

variable (x0 : FVec Ideal S8192x2048 .bf16) (x1 : FVec Ideal S8192x1024 .f32) (x2 : FVec Ideal S8192x3072 .bf16) (x4 : FVec Ideal S32x4x2 .f32)

theorem v6_at (b : Fin 4) (p : Fin 2048) (g : Fin 4) (s : Fin 2) (d : Fin 128) : val_main_v6 (F := Ideal) x2 (ix5 b p g s d)
    = keyval (rKV x2) b 1 g s p d := by
  pointwise [val_main_v6, val_main_v5, val_main_v4, val_main_v3]
  rfl

theorem v94_word (b g : Fin 4) (t : Fin 2048) (k : Fin 16) (j : Fin 64) : val_main_v94 (F := Ideal) x0 x1 x4 (ix5 b g t k j)
    = IntOp.addi (IntOp.muli (val_main_indices (F := Ideal) x0 x1 x4 (ix4 b g t k)) 64#32) (BitVec.ofNat 32 j.val) := by
  pointwise [val_main_v94, val_main_v93, val_main_v92, val_main_v91, val_main_v90, val_main_v89, val_main_v88, val_main_c_16, val_main_v87]

theorem key_word : ∀ p : Fin 32, ∀ j : Fin 64, IntOp.addi (IntOp.muli (BitVec.ofNat 32 p.val) 64#32) (BitVec.ofNat 32 j.val)
    = BitVec.ofNat 32 (p.val * 64 + j.val) := by
  decide +kernel

theorem v119_0 (b g : Fin 4) (t : Fin 2048) (k : Fin 16) (j : Fin 64) : val_main_v119 (F := Ideal) x0 x1 x4 (ix6 b g t k j (0 : Fin 3))
    = BitVec.ofNat 32 b.val := by
  have h : val_main_v119 (F := Ideal) x0 x1 x4 (ix6 b g t k j (0 : Fin 3))
      = Scalar.select (IntOp.cmpi .slt (BitVec.ofNat 32 b.val) 0#32) (IntOp.addi (BitVec.ofNat 32 b.val) 4#32) (BitVec.ofNat 32 b.val) := by
    pointwise [val_main_v119, val_main_v116, val_main_v114, val_main_v103, val_main_v102, val_main_v101, val_main_c_18, val_main_v100, val_main_v99, val_main_c_17, val_main_v96, val_main_v95]
  rw [h]
  clear h
  revert b
  decide +kernel

theorem v119_2 (b g : Fin 4) (t : Fin 2048) (k : Fin 16) (j : Fin 64) : val_main_v119 (F := Ideal) x0 x1 x4 (ix6 b g t k j (2 : Fin 3))
    = BitVec.ofNat 32 g.val := by
  have h : val_main_v119 (F := Ideal) x0 x1 x4 (ix6 b g t k j (2 : Fin 3))
      = Scalar.select (IntOp.cmpi .slt (BitVec.ofNat 32 g.val) 0#32) (IntOp.addi (BitVec.ofNat 32 g.val) 4#32) (BitVec.ofNat 32 g.val) := by
    pointwise [val_main_v119, val_main_v118, val_main_v115, val_main_v113, val_main_v112, val_main_v111, val_main_c_22, val_main_v110, val_main_v109, val_main_c_21, val_main_v98, val_main_v97]
  rw [h]
  clear h
  revert g
  decide +kernel

theorem v119_1 (b g : Fin 4) (t : Fin 2048) (k : Fin 16) (j : Fin 64) : val_main_v119 (F := Ideal) x0 x1 x4 (ix6 b g t k j (1 : Fin 3))
    = Scalar.select (IntOp.cmpi .slt (val_main_v94 (F := Ideal) x0 x1 x4 (ix5 b g t k j)) 0#32)
      (IntOp.addi (val_main_v94 (F := Ideal) x0 x1 x4 (ix5 b g t k j)) 2048#32) (val_main_v94 (F := Ideal) x0 x1 x4 (ix5 b g t k j)) := by
  pointwise [val_main_v119, val_main_v117, val_main_v108, val_main_v107, val_main_v106, val_main_c_20, val_main_v105, val_main_v104, val_main_c_19]

theorem wrap (p : Fin 2048) : Scalar.select (IntOp.cmpi .slt (BitVec.ofNat 32 p.val) 0#32) (IntOp.addi (BitVec.ofNat 32 p.val) 2048#32)
    (BitVec.ofNat 32 p.val) = BitVec.ofNat 32 p.val := by
  have h : IntOp.cmpi .slt (BitVec.ofNat 32 p.val) 0#32 = BitVec.ofBool (decide (p.val < 0)) :=
    Idealize.ShloMosaic.WordCmp.cmpi_slt_ofNat (a := p.val) (b := 0) (by omega) (by decide)
  rw [h]
  rfl

/-- The position of the `n`-th of the 1024 keys. -/
def kpos (b g : Fin 4) (t : Fin 2048) (n : Fin 1024) : Fin 2048 :=
  ⟨(sel x0 x1 x4 b g t ⟨n.val / 64, by omega⟩).val * 64 + n.val % 64, by
    have := (sel x0 x1 x4 b g t ⟨n.val / 64, by omega⟩).isLt; omega⟩

theorem kpos_inj (b g : Fin 4) (t : Fin 2048) : Function.Injective (kpos x0 x1 x4 b g t) := by
  intro n n' e
  have e' : (sel x0 x1 x4 b g t ⟨n.val / 64, by omega⟩).val * 64 + n.val % 64
      = (sel x0 x1 x4 b g t ⟨n'.val / 64, by omega⟩).val * 64 + n'.val % 64 := congrArg Fin.val e
  have e1 : sel x0 x1 x4 b g t ⟨n.val / 64, by omega⟩ = sel x0 x1 x4 b g t ⟨n'.val / 64, by omega⟩ := Fin.ext (by omega)
  have e2 : (⟨n.val / 64, by omega⟩ : Fin 32) = ⟨n'.val / 64, by omega⟩ := sortedFrom_injective _ e1
  have e3 : n.val / 64 = n'.val / 64 := congrArg Fin.val e2
  exact Fin.ext (by omega)

/-- The query's mask on the positions of its 1024 keys. -/
theorem smask_kpos (b g : Fin 4) (t : Fin 2048) (n : Fin 1024) :
    smask (queries (rQ x0) b t g) (pooled (rC x1) (rW x4) b g 0) t.val (kpos x0 x1 x4 b g t n) ↔ (kpos x0 x1 x4 b g t n).val ≤ t.val := by
  unfold smask
  refine ⟨fun h => h.2, fun h => ⟨?_, h⟩⟩
  have e : (⟨(kpos x0 x1 x4 b g t n).val / 64, by omega⟩ : Fin 32) = sel x0 x1 x4 b g t ⟨n.val / 64, by omega⟩ := by
    refine Fin.ext ?_
    show ((sel x0 x1 x4 b g t ⟨n.val / 64, by omega⟩).val * 64 + n.val % 64) / 64 = _
    omega
  rw [e, rank_lt_iff]
  exact ⟨⟨n.val / 64, by omega⟩, by show n.val / 64 < 16; omega, rfl⟩

/-- Every key the mask admits is one of the 1024. -/
theorem kpos_surj (b g : Fin 4) (t : Fin 2048) (i : Fin 2048)
    (h : smask (queries (rQ x0) b t g) (pooled (rC x1) (rW x4) b g 0) t.val i) : ∃ n, kpos x0 x1 x4 b g t n = i := by
  obtain ⟨k, hk, e⟩ := (rank_lt_iff _ _ _).mp h.1
  refine ⟨⟨k.val * 64 + i.val % 64, by omega⟩, Fin.ext ?_⟩
  have e0 : (⟨(k.val * 64 + i.val % 64) / 64, by omega⟩ : Fin 16) = ⟨k.val, hk⟩ := Fin.ext (by show _ / 64 = k.val; omega)
  have e1 : sel x0 x1 x4 b g t ⟨(k.val * 64 + i.val % 64) / 64, by omega⟩ = (⟨i.val / 64, by omega⟩ : Fin 32) := by
    rw [e0]; exact e
  show (sel x0 x1 x4 b g t ⟨(k.val * 64 + i.val % 64) / 64, by omega⟩).val * 64 + (k.val * 64 + i.val % 64) % 64 = i.val
  rw [e1]
  show i.val / 64 * 64 + _ = _
  omega

variable (hq : ∀ i j, Real' (rQ x0 i j)) (hk : ∀ b g s j d, Real' (pooled (rC x1) (rW x4) b g s j d))
include hq hk

theorem v94_at (b g : Fin 4) (t : Fin 2048) (n : Fin 1024) :
    val_main_v94 (F := Ideal) x0 x1 x4 (ix5 b g t (⟨n.val / 64, by omega⟩ : Fin 16) (⟨n.val % 64, by omega⟩ : Fin 64))
      = BitVec.ofNat 32 (kpos x0 x1 x4 b g t n).val := by
  rw [v94_word, indices_at x0 x1 x4 hq hk]
  exact key_word _ _

theorem v120_at (b g : Fin 4) (t : Fin 2048) (n : Fin 1024) (s : Fin 2) (d : Fin 128) :
    val_main_v120 (F := Ideal) x0 x1 x2 x4 (ix7 b g t (⟨n.val / 64, by omega⟩ : Fin 16) (⟨n.val % 64, by omega⟩ : Fin 64) s d)
      = keyval (rKV x2) b 1 g s (kpos x0 x1 x4 b g t n) d := by
  rw [← v6_at]
  unfold val_main_v120
  refine gather_at _ _ b g t _ _ s d (kpos x0 x1 x4 b g t n) (v119_0 x0 x1 x4 b g t _ _) ?_ (v119_2 x0 x1 x4 b g t _ _)
  rw [v119_1, v94_at x0 x1 x4 hq hk]
  exact wrap _

omit hq hk in
theorem v128_word (b g : Fin 4) (t : Fin 2048) (n : Fin 1024) (d : Fin 128) : val_main_v128 (F := Ideal) x0 x1 x2 x4 (ix5 b g t n d)
    = val_main_v120 (F := Ideal) x0 x1 x2 x4 (ix7 b g t (⟨n.val / 64, by omega⟩ : Fin 16) (⟨n.val % 64, by omega⟩ : Fin 64) (0 : Fin 2) d) := by
  pointwise [val_main_v128, val_main_v127, val_main_v121]

omit hq hk in
theorem v146_word (b g : Fin 4) (t : Fin 2048) (n : Fin 1024) (d : Fin 128) : val_main_v146 (F := Ideal) x0 x1 x2 x4 (ix5 b g t n d)
    = val_main_v120 (F := Ideal) x0 x1 x2 x4 (ix7 b g t (⟨n.val / 64, by omega⟩ : Fin 16) (⟨n.val % 64, by omega⟩ : Fin 64) (1 : Fin 2) d) := by
  pointwise [val_main_v146, val_main_v145, val_main_v121]

omit hq hk in
theorem v126_word (b g : Fin 4) (t : Fin 2048) (n : Fin 1024) : val_main_v126 (F := Ideal) x0 x1 x4 (ix5 b g t (0 : Fin 1) n)
    = IntOp.cmpi .sle (val_main_v94 (F := Ideal) x0 x1 x4 (ix5 b g t (⟨n.val / 64, by omega⟩ : Fin 16) (⟨n.val % 64, by omega⟩ : Fin 64)))
      (BitVec.ofNat 32 t.val) := by
  pointwise [val_main_v126, val_main_v125, val_main_v124, val_main_v123, val_main_v122, val_main_v18]

theorem v126_at (b g : Fin 4) (t : Fin 2048) (n : Fin 1024) : val_main_v126 (F := Ideal) x0 x1 x4 (ix5 b g t (0 : Fin 1) n) = 1#1
    ↔ (kpos x0 x1 x4 b g t n).val ≤ t.val := by
  rw [v126_word, v94_at x0 x1 x4 hq hk, Idealize.ShloMosaic.WordCmp.cmpi_sle_ofNat (by omega) (by omega)]
  by_cases h : (kpos x0 x1 x4 b g t n).val ≤ t.val <;> simp [h]

omit hq hk in
theorem v131_word (b g h : Fin 4) (t : Fin 2048) (n : Fin 1024) : val_main_v131 (F := Ideal) x0 x1 x2 x4 (ix5 b g t h n)
    = (∑ d : Fin 128, val_main_v1 (F := Ideal) x0 (ix5 b t g h d) * val_main_v128 (F := Ideal) x0 x1 x2 x4 (ix5 b g t n d))
      * Ideal.ofBits .f32 0x3DB504F3#32 := by
  pointwise [val_main_v131, val_main_v130, val_main_cst_23, val_main_v129]

omit hq hk in
theorem v1_at (b g h : Fin 4) (t : Fin 2048) (d : Fin 128) : val_main_v1 (F := Ideal) x0 (ix5 b t g h d) = queries (rQ x0) b t g h d := by
  pointwise [val_main_v1, val_main_v0]
  rfl

theorem v131_at (b g h : Fin 4) (t : Fin 2048) (n : Fin 1024) : val_main_v131 (F := Ideal) x0 x1 x2 x4 (ix5 b g t h n)
    = score (queries (rQ x0) b t g h) (keyval (rKV x2) b 1 g 0) (kpos x0 x1 x4 b g t n) := by
  rw [v131_word]
  unfold score
  refine congrArg (fun z : EReal => z * Ideal.ofBits .f32 0x3DB504F3#32) ?_
  refine Finset.sum_congr rfl fun d _ => ?_
  rw [v1_at, v128_word, v120_at x0 x1 x2 x4 hq hk]

omit hq hk in
theorem v132_at (b g h : Fin 4) (t : Fin 2048) (n : Fin 1024) : val_main_v132 (F := Ideal) x0 x1 x2 x4 (ix5 b g t h n)
    = Scalar.select (val_main_v126 (F := Ideal) x0 x1 x4 (ix5 b g t (0 : Fin 1) n)) (val_main_v131 (F := Ideal) x0 x1 x2 x4 (ix5 b g t h n))
      (Ideal.ofBits .f32 0xFF800000#32) := by
  pointwise [val_main_v132, val_main_call4_v2, val_main_call4_v1, val_main_call4_v0, val_main_cst_24]
  rfl

omit hq hk in
theorem v134_at (i : S4x4x2048x4.Idx) : val_main_v134 (F := Ideal) i = Ideal.ofBits .f32 0xFF800000#32 := rfl

omit hq hk in
theorem v136_step (b g h : Fin 4) (t : Fin 2048) : val_main_v136 (F := Ideal) x0 x1 x2 x4 (ix5 b g t h 0)
    = val_main_v135 (F := Ideal) x0 x1 x2 x4 (ix4 b g t h) := by
  pointwise [val_main_v136]

omit hq hk in
theorem v136_at (b g h : Fin 4) (t : Fin 2048) : val_main_v136 (F := Ideal) x0 x1 x2 x4 (ix5 b g t h 0)
    = max (Ideal.ofBits .f32 0xFF800000#32) (val_main_v133 (F := Ideal) x0 x1 x2 x4 (ix4 b g t h)) := by
  rw [v136_step]
  unfold val_main_v135
  exact max_at _ _ _ _ (v134_at _)

omit hq hk in
theorem v137_step (b g h : Fin 4) (t : Fin 2048) (n : Fin 1024) : val_main_v137 (F := Ideal) x0 x1 x2 x4 (ix5 b g t h n)
    = val_main_v136 (F := Ideal) x0 x1 x2 x4 (ix5 b g t h 0) := by
  refine (val_main_v137_apply (F := Ideal) x0 x1 x2 x4 _).trans (congrArg (val_main_v136 (F := Ideal) x0 x1 x2 x4) ?_)
  funext a
  match a with
  | ⟨0, _⟩ => rfl
  | ⟨1, _⟩ => rfl
  | ⟨2, _⟩ => rfl
  | ⟨3, _⟩ => rfl
  | ⟨4, _⟩ => rfl

omit hq hk in
theorem v139_at (b g h : Fin 4) (t : Fin 2048) (n : Fin 1024) : val_main_v139 (F := Ideal) x0 x1 x2 x4 (ix5 b g t h n)
    = Ideal.exp (val_main_v132 (F := Ideal) x0 x1 x2 x4 (ix5 b g t h n) - val_main_v136 (F := Ideal) x0 x1 x2 x4 (ix5 b g t h 0)) := by
  rw [← v137_step x0 x1 x2 x4 b g h t n, val_main_v139_apply, val_main_v138_apply]
  rfl

omit hq hk in
theorem v144_word (b g h : Fin 4) (t : Fin 2048) (n : Fin 1024) : val_main_v144 (F := Ideal) x0 x1 x2 x4 (ix5 b g t h n)
    = Scalar.select (val_main_v126 (F := Ideal) x0 x1 x4 (ix5 b g t (0 : Fin 1) n)) (Ideal.div (val_main_v139 (F := Ideal) x0 x1 x2 x4 (ix5 b g t h n))
      (∑ x, val_main_v139 (F := Ideal) x0 x1 x2 x4 (ix5 b g t h x))) (val_main_call5_v2 (F := Ideal) (ix5 b g t h n)) := by
  pointwise [val_main_v144, val_main_call5_v1, val_main_v143, val_main_v142, val_main_v141, val_main_v140, val_main_cst_27]

omit hq hk in
theorem call5_zero (i : S4x4x2048x4x1024.Idx) : val_main_call5_v2 (F := Ideal) i = (0 : EReal) :=
  Ideal.ofBits_zero_f32

theorem v144_at (hv : ∀ i j, Real' (rKV x2 i j)) (b g h : Fin 4) (t : Fin 2048) (n : Fin 1024) :
    val_main_v144 (F := Ideal) x0 x1 x2 x4 (ix5 b g t h n)
      = wt (fun n => smask (queries (rQ x0) b t g) (pooled (rC x1) (rW x4) b g 0) t.val (kpos x0 x1 x4 b g t n))
        (fun n => score (queries (rQ x0) b t g h) (keyval (rKV x2) b 1 g 0) (kpos x0 x1 x4 b g t n)) n := by
  refine softmax_at (fun n : Fin 1024 => val_main_v126 (F := Ideal) x0 x1 x4 (ix5 b g t (0 : Fin 1) n)) _ _
    (fun n => (v126_at x0 x1 x4 hq hk b g t n).trans (smask_kpos x0 x1 x4 b g t n).symm)
    (fun n => score_real (fun d => hq _ _) (fun j d => hv _ _) _)
    (fun n => val_main_v132 (F := Ideal) x0 x1 x2 x4 (ix5 b g t h n)) (fun n => val_main_v139 (F := Ideal) x0 x1 x2 x4 (ix5 b g t h n))
    (fun n => val_main_v144 (F := Ideal) x0 x1 x2 x4 (ix5 b g t h n)) (val_main_v136 (F := Ideal) x0 x1 x2 x4 (ix5 b g t h 0)) 0 ?_ ?_ ?_ rfl ?_ n
  · intro n; exact (v132_at x0 x1 x2 x4 b g h t n).trans (congrArg (fun z => Scalar.select _ z _) (v131_at x0 x1 x2 x4 hq hk b g h t n))
  · rw [v136_at, v133_at]
  · intro n; exact v139_at x0 x1 x2 x4 b g h t n
  · intro n; rw [← call5_zero (ix5 b g t h n)]; exact v144_word x0 x1 x2 x4 b g h t n

omit hq hk in
theorem v147_word (b g h : Fin 4) (t : Fin 2048) (d : Fin 128) : val_main_v147 (F := Ideal) x0 x1 x2 x4 (ix5 b t g h d)
    = ∑ n : Fin 1024, val_main_v144 (F := Ideal) x0 x1 x2 x4 (ix5 b g t h n) * val_main_v146 (F := Ideal) x0 x1 x2 x4 (ix5 b g t n d) := by
  pointwise [val_main_v147]

theorem v147_at (hv : ∀ i j, Real' (rKV x2 i j)) (b g h : Fin 4) (t : Fin 2048) (d : Fin 128) :
    val_main_v147 (F := Ideal) x0 x1 x2 x4 (ix5 b t g h d)
      = attend (smask (queries (rQ x0) b t g) (pooled (rC x1) (rW x4) b g 0) t.val) (queries (rQ x0) b t g h)
        (keyval (rKV x2) b 1 g 0) (keyval (rKV x2) b 1 g 1) d := by
  rw [v147_word]
  unfold attend
  rw [← attend_comp (smask (queries (rQ x0) b t g) (pooled (rC x1) (rW x4) b g 0) t.val)
    (score (queries (rQ x0) b t g h) (keyval (rKV x2) b 1 g 0)) (fun j => keyval (rKV x2) b 1 g 1 j d) (kpos x0 x1 x4 b g t)
    (kpos_inj x0 x1 x4 b g t) (kpos_surj x0 x1 x4 b g t)]
  refine Finset.sum_congr rfl fun n _ => ?_
  rw [v144_at x0 x1 x2 x4 hq hk hv, v146_word, v120_at x0 x1 x2 x4 hq hk]

end Cert.ReferenceIdeal.Read

end

end
-- ==== Proof.Ref.lean ====
/-
  The reference's result, entry by entry: the attention's row.
-/
module

public import proofs.«01_k».proof.Proof.Spec
public import proofs.«01_k».proof.Proof.Gen.ReferenceIdeal.Read
public import proofs.«01_k».proof.Proof.RefWin
public import proofs.«01_k».proof.Proof.RefSel
public import Idealize.ShloMosaic.Lib.Pipeline.ValueKit

@[expose] public section

set_option maxRecDepth 16384

noncomputable section

open Idealize.ShloMosaic Idealize.ShloMosaic.TcCoe Idealize.SL.Sem

namespace Cert.ReferenceIdeal.Read

open Cert.ReferenceIdeal Cert.ReferenceIdeal.Gen Cert.Nsa

variable (x0 : FVec Ideal S8192x2048 .bf16) (x1 : FVec Ideal S8192x1024 .f32) (x2 : FVec Ideal S8192x3072 .bf16) (x3 : FVec Ideal S8192x512 .f32) (x4 : FVec Ideal S32x4x2 .f32)

theorem pooled_real (hc : ∀ i j, Real' (rC x1 i j)) (hw : ∀ j g s, Real' (rW x4 j g s)) (b g : Fin 4) (s : Fin 2) (j : Fin 64) (d : Fin 128) :
    Real' (pooled (rC x1) (rW x4) b g s j d) :=
  Real'.sum fun i => (hc _ _).mul (hw _ _ _)

theorem v191_word (b g h : Fin 4) (t : Fin 2048) (d : Fin 128) : val_main_v191 (F := Ideal) x0 x1 x2 x3 x4 (ix5 b t g h d)
    = (val_main_v17 (F := Ideal) x3 (ix5 b t g h (0 : Fin 3)) * val_main_v56 (F := Ideal) x0 x1 x4 (ix5 b t g h d)
        + val_main_v17 (F := Ideal) x3 (ix5 b t g h (1 : Fin 3)) * val_main_v147 (F := Ideal) x0 x1 x2 x4 (ix5 b t g h d))
      + val_main_v17 (F := Ideal) x3 (ix5 b t g h (2 : Fin 3)) * val_main_v180 (F := Ideal) x0 x2 (ix5 b t g h d) := by
  pointwise [val_main_v191, val_main_v190, val_main_v189, val_main_v188, val_main_v187, val_main_v186, val_main_v185, val_main_v184, val_main_v183, val_main_v182, val_main_v181]

theorem v191_at (hq : ∀ i j, Real' (rQ x0 i j)) (hc : ∀ i j, Real' (rC x1 i j)) (hv : ∀ i j, Real' (rKV x2 i j)) (hw : ∀ j g s, Real' (rW x4 j g s))
    (b g h : Fin 4) (t : Fin 2048) (d : Fin 128) : val_main_v191 (F := Ideal) x0 x1 x2 x3 x4 (ix5 b t g h d)
      = out (rQ x0) (rC x1) (rKV x2) (rG x3) (rW x4) b t g h d := by
  have hk := pooled_real x1 x4 hc hw
  rw [v191_word, v17_at, v17_at, v17_at, v56_at x0 x1 x4 hq hk, v147_at x0 x1 x2 x4 hq hk hv, v180_at x0 x2 hq hv]
  rfl

theorem v193_word (b g h : Fin 4) (t : Fin 2048) (d : Fin 128) (a : Fin 8192) (k : Fin 2048) (ha : a.val = b.val * 2048 + t.val)
    (hk : k.val = g.val * 512 + h.val * 128 + d.val) : val_main_v193 (F := Ideal) x0 x1 x2 x3 x4 (ix2 a k)
      = val_main_v191 (F := Ideal) x0 x1 x2 x3 x4 (ix5 b t g h d) := by
  pointwise [val_main_v193, val_main_v192]
  congr 1
  funext i
  refine Fin.ext ?_
  match i with
  | ⟨0, _⟩ => simp; omega
  | ⟨1, _⟩ => simp; omega
  | ⟨2, _⟩ => simp; omega
  | ⟨3, _⟩ => simp; omega
  | ⟨4, _⟩ => simp; omega

end Cert.ReferenceIdeal.Read

end

end
-- ==== Proof.Attention.lean ====
/-
  The prompt's attention: for finite queries, keys, values and pooling weights, kernel and reference end with the same
  array.
-/
module

public import proofs.«01_k».proof.Defs
public import proofs.«01_k».proof.Proof.Gen.KernelIdeal
public import proofs.«01_k».proof.Proof.Gen.ReferenceIdeal
public import proofs.«01_k».proof.Proof.Gen.ReferenceIdeal.Run
public import proofs.«01_k».proof.Proof.Arr
public import proofs.«01_k».proof.Proof.Ref
public import Idealize.ShloMosaic.Lib.Claim

@[expose] public section

set_option maxRecDepth 16384

noncomputable section

open Idealize.ShloMosaic Idealize.ShloMosaic.TcCoe Idealize.SL.Sem

namespace Cert.Proof

open Cert.Nsa

instance kernelFacts : Cert.KernelIdeal.Facts := Cert.KernelIdeal.Gen.facts
instance referenceFacts : Cert.ReferenceIdeal.Facts := Cert.ReferenceIdeal.Gen.facts

theorem facts_finite : Cert.Pre_finite.Facts where
  bitsLt_bf16_f32 := by decide
  bcast_S_S8192x2048 := by decide
  bcast_S_S8192x1024 := by decide
  bcast_S_S8192x3072 := by decide
  bcast_S_S32x4x2 := by decide

instance finiteFacts : Cert.Pre_finite.Facts := facts_finite

/-- The bit pattern the precondition compares with is `⊤`. -/
theorem inf_word : Ideal.ofBits .f32 0x7F800000#32 = ⊤ := by
  simp [Ideal.ofBits, Ideal.ieee]

/-- A value whose absolute value is below `⊤` is a real number. -/
theorem real_of_lt (x : EReal) (h : BitVec.ofBool (decide ((max x (-x) : EReal) < ⊤)) = 1#1) : Real' x := by
  have hlt : (max x (-x) : EReal) < ⊤ := by
    by_contra hn
    rw [decide_eq_false hn] at h
    exact absurd h (by decide)
  induction x using EReal.rec with
  | bot => simp at hlt
  | top => simp at hlt
  | coe r => exact ⟨r, rfl⟩

/-- One test of the precondition: an array below `⊤` in absolute value holds real numbers. -/
theorem test_real {S : Shape} {t : FTy} (x : FVec Ideal S t) (y : FVec Ideal S t) (hy : ∀ i, y i = (⊤ : EReal))
    (h : cmpf .olt (Host.absf x) y = fun _ => 1#1) (i : S.Idx) : Real' (x i : EReal) := by
  refine real_of_lt _ ?_
  have e := congrFun h i
  rw [← hy i]
  exact e

section
variable (x0 : FVec Ideal Cert.Pre_finite.S8192x2048 .bf16) (x1 : FVec Ideal Cert.Pre_finite.S8192x1024 .f32) (x2 : FVec Ideal Cert.Pre_finite.S8192x3072 .bf16)
  (x3 : FVec Ideal Cert.Pre_finite.S8192x512 .f32) (x4 : FVec Ideal Cert.Pre_finite.S32x4x2 .f32)

theorem real0 (h : (Cert.Pre_finite.fn (F := Ideal) x0 x1 x2 x3 x4).1 = fun _ => 1#1) (i) : Real' (x0 i) :=
  test_real (extf .f32 x0 Cert.Pre_finite.Facts.bitsLt_bf16_f32) _ (fun _ => inf_word) h i

theorem real1 (h : (Cert.Pre_finite.fn (F := Ideal) x0 x1 x2 x3 x4).2.1 = fun _ => 1#1) (i) : Real' (x1 i) :=
  test_real x1 _ (fun _ => inf_word) h i

theorem real2 (h : (Cert.Pre_finite.fn (F := Ideal) x0 x1 x2 x3 x4).2.2.1 = fun _ => 1#1) (i) : Real' (x2 i) :=
  test_real (extf .f32 x2 Cert.Pre_finite.Facts.bitsLt_bf16_f32) _ (fun _ => inf_word) h i

theorem real4 (h : (Cert.Pre_finite.fn (F := Ideal) x0 x1 x2 x3 x4).2.2.2 = fun _ => 1#1) (i) : Real' (x4 i) :=
  test_real x4 _ (fun _ => inf_word) h i
end

open Cert.ReferenceIdeal.Read in
/-- The reference's array is the kernel's, entry by entry. -/
theorem reference_result (m : (ℓ : Loc Cert.KernelIdeal.nD Cert.KernelIdeal.τ Cert.KernelIdeal.sig) → Buf (Elt Ideal) ℓ)
    (hpre : Cert.Pre_KernelIdeal_finite m) (c : Dev Cert.KernelIdeal.nD) :
    val_main_v193 (F := Ideal) (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      = Cert.KernelIdeal.Body.result m c := by
  obtain ⟨h0, h1, h2, h4⟩ := hpre c
  have r0 := real0 _ _ _ _ _ h0
  have r1 := real1 _ _ _ _ _ h1
  have r2 := real2 _ _ _ _ _ h2
  have r4 := real4 _ _ _ _ _ h4
  have at_entry : ∀ (a : Fin 8192) (k : Fin 2048), val_main_v193 (F := Ideal) (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4)) (ix2 a k)
      = Cert.KernelIdeal.Body.result m c (ix2 a k) := by
    intro a k
    have ha : a.val = (⟨a.val / 2048, by omega⟩ : Fin 4).val * 2048 + (⟨a.val % 2048, by omega⟩ : Fin 2048).val := by
      change a.val = a.val / 2048 * 2048 + a.val % 2048; omega
    have hk : k.val = (⟨k.val / 512, by omega⟩ : Fin 4).val * 512 + (⟨k.val % 512 / 128, by omega⟩ : Fin 4).val * 128
        + (⟨k.val % 128, by omega⟩ : Fin 128).val := by
      change k.val = k.val / 512 * 512 + k.val % 512 / 128 * 128 + k.val % 128; omega
    rw [v193_word _ _ _ _ _ _ _ _ _ _ _ _ ha hk, Cert.KernelIdeal.Body.result_at m c _ _ _ _ _ _ _ ha hk]
    exact v191_at _ _ _ _ _ (fun i j => r0 _) (fun i j => r1 _) (fun i j => r2 _) (fun j g s => r4 _) _ _ _ _ _
  funext j
  have ej : j = ix2 (⟨(j 0).val, (j 0).isLt⟩ : Fin 8192) (⟨(j 1).val, (j 1).isLt⟩ : Fin 2048) := by
    funext a
    match a with
    | ⟨0, _⟩ => rfl
    | ⟨1, _⟩ => rfl
  rw [ej]
  exact at_entry _ _

/-- Kernel and reference end with the same attention. -/
theorem attention : Cert.algebraic_KernelIdeal_ReferenceIdeal_pre_finite := by
  pair_intro
  · run_from Cert.KernelIdeal.Gen.run_main m g
  · run_from Cert.ReferenceIdeal.Value.run m' g'
    obtain ⟨e0, e1, e2, e3, e4⟩ := hagree c
    refine Eq.trans ?_ (Cert.KernelIdeal.Body.final m c).symm
    refine (Cert.ReferenceIdeal.Read.val_main_v193_eq _).trans ?_
    rw [← reference_result m hpre c]
    exact congr (congr (congr (congr (congrArg Cert.ReferenceIdeal.Read.val_main_v193 e0) e1) e2) e3) e4

end Cert.Proof

end

end
-- ==== Proof.MatmulEven.lean ====
/-
  The projection into the even layer's five streams: what the array of the tiled product holds after the run.

  The kernel cuts the 8192 rows into blocks of 1024 and the 10240 columns into blocks of 512, holds the whole
  contracted axis of 4096 in each block, and writes every block of the result once. So the array ends as the plain
  product of its two operands.
-/
module

public import proofs.«01_k».proof.Proof.Gen.Kernel2Ideal.Frame
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.Kernel2Ideal.Even

open Cert.Kernel2Ideal Cert.Kernel2Ideal.Gen

variable (m : (ℓ : Loc nD τ sig) → Buf (Elt Ideal) ℓ)

/-- The plain product of a matrix of 8192 rows with one of 10240 columns. -/
def prod (A : FVec Ideal S8192x4096 .bf16) (B : FVec Ideal S4096x10240 .bf16) : FVec Ideal S8192x10240 .f32 :=
  fun j => ∑ k : Fin 4096, (A (ix2 (j 0 : Fin 8192) k) : EReal) * (B (ix2 k (j 1 : Fin 10240)) : EReal)

/-- Each window's block index at every point of the grid. -/
theorem idx : ∀ t : Fin cfg0.N, win0_0.index t = ![(grid0.coords t 0).val, 0]
    ∧ win0_1.index t = ![0, (grid0.coords t 1).val]
    ∧ win0_2.index t = ![(grid0.coords t 0).val, (grid0.coords t 1).val] :=
  (by decide +kernel : ∀ t : Fin grid0.N, _)

/-- What one point stores at an index of its block is the product at the index's place in the array. -/
theorem point (c : Dev nD) (t : Fin cfg0.N) (y) : k0_pay1 (iblk m c 0 t) (iblk m c 1 t) y
    = prod (V m c main_v16) (V m c main_v18) (((cfg0.win 2).blk t).view.emb y) := by
  pointwise [k0_pay1, prod]
  blk_point [iblk, idx t]

/-- The array of the tiled product after the run is the product of its two operands. -/
theorem final (c : Dev nD) : (dats m 0 c).arrAt 2 (cfgs 0).N = prod (V m c main_v16) (V m c main_v18) := by
  refine (dats m 0 c).arrAt_eq_of_covers 2 _ (by decide +kernel) fun t _ y => ?_
  blk_simp
  rw [after0_2]; frame_out
  exact point m c t y

end Cert.Kernel2Ideal.Even

end

end
-- ==== Proof.EvenIn.lean ====
/-
  The even layer's projection: kernel and reference end with the same two arrays.
-/
module

public import proofs.«01_k».proof.Defs
public import proofs.«01_k».proof.Proof.Gen.Kernel2Ideal
public import proofs.«01_k».proof.Proof.Gen.Reference2Ideal
public import proofs.«01_k».proof.Proof.Gen.Reference2Ideal.Run
public import proofs.«01_k».proof.Proof.MatmulEven
public import Idealize.ShloMosaic.Lib.Claim

@[expose] public section

set_option maxRecDepth 16384

noncomputable section

open Idealize.ShloMosaic Idealize.ShloMosaic.TcCoe Idealize.SL.Sem

namespace Cert.Proof

instance kernel2Facts : Cert.Kernel2Ideal.Facts := Cert.Kernel2Ideal.Gen.facts
instance reference2Facts : Cert.Reference2Ideal.Facts := Cert.Reference2Ideal.Gen.facts

open Cert.Kernel2Ideal in
/-- The kernel's second result: the last two positions of the elementwise product of two of the five column blocks. -/
def tail (Y : FVec Ideal S8192x10240 .f32) : FVec Ideal S1x4x2x2048 .f32 :=
  broadcastInDim S1x4x2x2048 ![1, 2, 3] Gen.bcast_S4x2x2048_S1x4x2x2048_1_2_3
    (extractStridedSlice S4x2x2048 ![0, 2048, 0]
      (concatenate S4x2050x2048 1
        [⟨S4x2x2048, broadcastInDim S4x2x2048 ![] Gen.bcast_S_S4x2x2048 (constant S_ .f32 0x00000000#32)⟩,
          ⟨S4x2048x2048, mulf
            (shapeCast S4x2048x2048 (extractStridedSlice S8192x2048 ![0, 2048] Y Gen.slices_S8192x10240_S8192x2048_0_2048)
              Gen.shapeCasts_S8192x2048_S4x2048x2048)
            (shapeCast S4x2048x2048 (extractStridedSlice S8192x2048 ![0, 4096] Y Gen.slices_S8192x10240_S8192x2048_0_4096)
              Gen.shapeCasts_S8192x2048_S4x2048x2048)⟩]
        Gen.concatenates_S4x2x2048_S4x2048x2048_S4x2050x2048_d1)
      Gen.slices_S4x2050x2048_S4x2x2048_0_2048_0)

section
open Cert.Kernel2Ideal Cert.Kernel2Ideal.Gen

/-- The rows after their root-mean-square normalisation, scaled by the first row of gains. -/
def normed (X : FVec Ideal S4x2048x4096 .f32) (G : FVec Ideal S2x4096 .f32) : FVec Ideal S4x2048x4096 .f32 :=
  mulf
    (mulf X (broadcastInDim S4x2048x4096 ![0, 1, 2] bcast_S4x2048x1_S4x2048x4096_0_1_2
      (Host.rsqrt (addf
        (Host.divf
          (broadcastInDim S4x2048x1 ![0, 1] bcast_S4x2048_S4x2048x1_0_1
            (Host.reduceAdd (mulf X X) (constant S_ .f32 0x00000000#32) reducesTo_S4x2048x4096_S4x2048_d2 h_S_))
          (broadcastInDim S4x2048x1 ![] bcast_S_S4x2048x1 (constant S_ .f32 0x45800000#32)))
        (broadcastInDim S4x2048x1 ![] bcast_S_S4x2048x1 (constant S_ .f32 0x358637BD#32))))))
    (broadcastInDim S4x2048x4096 ![0, 1, 2] bcast_S1x1x4096_S4x2048x4096_0_1_2
      (broadcastInDim S1x1x4096 ![2] bcast_S4096_S1x1x4096_2
        (shapeCast S4096 (extractStridedSlice S1x4096 ![0, 0] G slices_S2x4096_S1x4096_0_0) shapeCasts_S1x4096_S4096)))

variable (m : (ℓ : Loc nD τ sig) → Buf (Elt Ideal) ℓ)

/-- Two joins along the positions agree when their parts do. -/
theorem concat_congr {a a' : FVec Ideal S4x2x2048 .f32} {b b' : FVec Ideal S4x2048x2048 .f32} (ha : a = a') (hb : b = b') :
    concatenate S4x2050x2048 1 [⟨S4x2x2048, a⟩, ⟨S4x2048x2048, b⟩] concatenates_S4x2x2048_S4x2048x2048_S4x2050x2048_d1
      = concatenate S4x2050x2048 1 [⟨S4x2x2048, a'⟩, ⟨S4x2048x2048, b'⟩]
          concatenates_S4x2x2048_S4x2048x2048_S4x2050x2048_d1 := by
  rw [ha, hb]

/-- The second result is read off the array of the tiled product. -/
theorem tail_read (c : Dev nD) :
    Pipeline.afterTail₀ cfgs (dats m) 0 (V0 m) [hostOps1] c main_v30 = tail ((dats m 0 c).arrAt 2 (cfgs 0).N) := by
  unfold Pipeline.afterTail₀
  have h : ∀ A, Pipeline.withArrays (cfgs 0).spec c (V0 m c) A (Proc.devRef .tc main_v19) = A 2 := fun A =>
    Pipeline.withArrays_arr (cfgs 0).spec (by decide) c (V0 m c) A 2
  generalize Pipeline.withArrays (cfgs 0).spec c (V0 m c) = U at h ⊢
  simp only [List.flatten_cons, List.flatten_nil, List.append_nil]
  after_results_simp
  refine congrArg (fun x => broadcastInDim S1x4x2x2048 ![1, 2, 3] bcast_S4x2x2048_S1x4x2x2048_1_2_3
    (extractStridedSlice S4x2x2048 ![0, 2048, 0] x slices_S4x2050x2048_S4x2x2048_0_2048_0)) (concat_congr ?_ ?_)
  · after_results_simp
  · after_results_simp
    rw [h]
    rfl

/-- The left operand of the tiled product: the normalised rows, as a matrix. -/
theorem entry_left (c : Dev nD) : V m c main_v16 = truncf .bf16 (shapeCast S8192x4096
      (normed (m ((c : Thread nD τ).loc main_arg0)) (m ((c : Thread nD τ).loc main_arg1)))
      shapeCasts_S4x2048x4096_S8192x4096) bitsLt_bf16_f32 := by
  entry_read
  rfl

/-- The right operand of the tiled product: the weights, as a matrix. -/
theorem entry_right (c : Dev nD) : V m c main_v18 = truncf (F := Ideal) .bf16 (shapeCast S4096x10240
      (m ((c : Thread nD τ).loc main_arg2) : FVec Ideal S1x4096x10240 .f32) shapeCasts_S1x4096x10240_S4096x10240) bitsLt_bf16_f32 := by
  entry_read
  rfl
end

/-- The reference's product, one per batch row and position. -/
abbrev refProd (Z : FVec Ideal Cert.Reference2Ideal.S4x2048x4096 .f32) (W : FVec Ideal Cert.Reference2Ideal.S1x4096x10240 .f32) :
    FVec Ideal Cert.Reference2Ideal.S4x2048x10240 .f32 :=
  Host.dotGeneral Cert.Reference2Ideal.dot_S4x2048x4096_S4096x10240_S4x2048x10240_2_0_01_1_n_n none Z
    (shapeCast Cert.Reference2Ideal.S4096x10240 W Cert.Reference2Ideal.Gen.shapeCasts_S1x4096x10240_S4096x10240)

open Cert.Kernel2Ideal Cert.Kernel2Ideal.Gen in
/-- The kernel's product of the normalised rows and the weights. -/
abbrev kerProd (Z : FVec Ideal S4x2048x4096 .f32) (W : FVec Ideal S1x4096x10240 .f32) : FVec Ideal S8192x10240 .f32 :=
  Cert.Kernel2Ideal.Even.prod (truncf .bf16 (shapeCast S8192x4096 Z shapeCasts_S4x2048x4096_S8192x4096) bitsLt_bf16_f32)
    (truncf .bf16 (shapeCast S4096x10240 W shapeCasts_S1x4096x10240_S4096x10240) bitsLt_bf16_f32)

/-- The reference's product with batch row and position in one axis is the kernel's. -/
theorem prod_eq (Z : FVec Ideal Cert.Reference2Ideal.S4x2048x4096 .f32)
    (W : FVec Ideal Cert.Reference2Ideal.S1x4096x10240 .f32) :
    shapeCast Cert.Reference2Ideal.S8192x10240 (refProd Z W) Cert.Reference2Ideal.Gen.shapeCasts_S4x2048x10240_S8192x10240
      = kerProd Z W := by
  funext j
  pointwise [refProd, kerProd, Cert.Kernel2Ideal.Even.prod]

open Cert.Reference2Ideal Cert.Reference2Ideal.Gen in
/-- The reference's last two positions are the kernel's. -/
theorem tail_eq (Z : FVec Ideal S4x2048x4096 .f32) (W : FVec Ideal S1x4096x10240 .f32) :
    broadcastInDim S1x4x2x2048 ![1, 2, 3] bcast_S4x2x2048_S1x4x2x2048_1_2_3
      (extractStridedSlice S4x2x2048 ![0, 2048, 0]
        (concatenate S4x2050x2048 1
          [⟨S4x2x2048, broadcastInDim S4x2x2048 ![] bcast_S_S4x2x2048 (constant S_ .f32 0x00000000#32)⟩,
            ⟨S4x2048x2048, mulf
              (extractStridedSlice S4x2048x2048 ![0, 0, 2048] (refProd Z W) slices_S4x2048x10240_S4x2048x2048_0_0_2048)
              (extractStridedSlice S4x2048x2048 ![0, 0, 4096] (refProd Z W) slices_S4x2048x10240_S4x2048x2048_0_0_4096)⟩]
          concatenates_S4x2x2048_S4x2048x2048_S4x2050x2048_d1)
        slices_S4x2050x2048_S4x2x2048_0_2048_0)
      = tail (kerProd Z W) := by
  rw [← prod_eq]
  generalize refProd Z W = Y
  funext j
  pointwise [tail]
  have e : ∀ (p : Fin 4) (q : Fin 2), (p.val * 2048 + (2048 + q.val - 2)) % 2048 = 2048 + q.val - 2 := fun p q => by omega
  simp only [e (j 1) (j 2)]

/-- Kernel and reference end with the same projection and the same last two positions. -/
theorem even_in : Cert.algebraic_Kernel2Ideal_Reference2Ideal := by
  pair_intro
  · run_from Cert.Kernel2Ideal.Gen.run_main m g
    · exact Cert.Kernel2Ideal.Gen.W_main_arg0 m _ c
    · exact Cert.Kernel2Ideal.Gen.W_main_arg1 m _ c
    · exact Cert.Kernel2Ideal.Gen.W_main_arg2 m _ c
  · run_from Cert.Reference2Ideal.Value.run m' g'
    · obtain ⟨e0, e1, e2⟩ := hagree c
      refine Eq.trans ?_ (Cert.Kernel2Ideal.Even.final m c).symm
      rw [entry_left, entry_right]
      exact prod_eq _ _
    · obtain ⟨e0, e1, e2⟩ := hagree c
      refine Eq.trans ?_ (tail_read m c).symm
      rw [Cert.Kernel2Ideal.Even.final, entry_left, entry_right, e2]
      exact tail_eq _ _

end Cert.Proof

end

end
-- ==== Proof.MatmulOdd.lean ====
/-
  The projection into the odd layer's streams: what the array of the tiled product holds after the run.

  The kernel cuts the 8192 rows into blocks of 1024 and the 9216 columns into blocks of 512, holds the whole
  contracted axis of 4096 in each block, and writes every block of the result once. So the array ends as the plain
  product of its two operands.
-/
module

public import proofs.«01_k».proof.Proof.Gen.Kernel3Ideal.Frame
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.Kernel3Ideal.Odd

open Cert.Kernel3Ideal Cert.Kernel3Ideal.Gen

variable (m : (ℓ : Loc nD τ sig) → Buf (Elt Ideal) ℓ)

/-- The plain product of a matrix of 8192 rows with one of 9216 columns. -/
def prod (A : FVec Ideal S8192x4096 .bf16) (B : FVec Ideal S4096x9216 .bf16) : FVec Ideal S8192x9216 .f32 :=
  fun j => ∑ k : Fin 4096, (A (ix2 (j 0 : Fin 8192) k) : EReal) * (B (ix2 k (j 1 : Fin 9216)) : EReal)

/-- Each window's block index at every point of the grid. -/
theorem idx : ∀ t : Fin cfg0.N, win0_0.index t = ![(grid0.coords t 0).val, 0]
    ∧ win0_1.index t = ![0, (grid0.coords t 1).val]
    ∧ win0_2.index t = ![(grid0.coords t 0).val, (grid0.coords t 1).val] :=
  (by decide +kernel : ∀ t : Fin grid0.N, _)

/-- What one point stores at an index of its block is the product at the index's place in the array. -/
theorem point (c : Dev nD) (t : Fin cfg0.N) (y) : k0_pay1 (iblk m c 0 t) (iblk m c 1 t) y
    = prod (V m c main_v22) (V m c main_v20) (((cfg0.win 2).blk t).view.emb y) := by
  pointwise [k0_pay1, prod]
  blk_point [iblk, idx t]

/-- The array of the tiled product after the run is the product of its two operands. -/
theorem final (c : Dev nD) : (dats m 0 c).arrAt 2 (cfgs 0).N = prod (V m c main_v22) (V m c main_v20) := by
  refine (dats m 0 c).arrAt_eq_of_covers 2 _ (by decide +kernel) fun t _ y => ?_
  blk_simp
  rw [after0_2]; frame_out
  exact point m c t y

end Cert.Kernel3Ideal.Odd

end

end
-- ==== Proof.OddIn.lean ====
/-
  The odd layer's projection: kernel and reference end with the same queries, keys and values, and convolution streams.
-/
module

public import proofs.«01_k».proof.Defs
public import proofs.«01_k».proof.Proof.Gen.Kernel3Ideal
public import proofs.«01_k».proof.Proof.Gen.Reference3Ideal
public import proofs.«01_k».proof.Proof.Gen.Reference3Ideal.Run
public import proofs.«01_k».proof.Proof.MatmulOdd
public import Idealize.ShloMosaic.Lib.Claim

@[expose] public section

set_option maxRecDepth 16384

noncomputable section

open Idealize.ShloMosaic Idealize.ShloMosaic.TcCoe Idealize.SL.Sem

namespace Cert.Proof

instance kernel3Facts : Cert.Kernel3Ideal.Facts := Cert.Kernel3Ideal.Gen.facts
instance reference3Facts : Cert.Reference3Ideal.Facts := Cert.Reference3Ideal.Gen.facts

open Cert.Kernel3Ideal Cert.Kernel3Ideal.Gen in
/-- The rows after their root-mean-square normalisation, scaled by the second row of gains. -/
def oddNormed (X : FVec Ideal S4x2048x4096 .f32) (G : FVec Ideal S2x4096 .f32) : FVec Ideal S4x2048x4096 .f32 :=
  mulf
    (mulf X (broadcastInDim S4x2048x4096 ![0, 1, 2] bcast_S4x2048x1_S4x2048x4096_0_1_2
      (Host.rsqrt (addf
        (Host.divf
          (broadcastInDim S4x2048x1 ![0, 1] bcast_S4x2048_S4x2048x1_0_1
            (Host.reduceAdd (mulf X X) (constant S_ .f32 0x00000000#32) reducesTo_S4x2048x4096_S4x2048_d2 h_S_))
          (broadcastInDim S4x2048x1 ![] bcast_S_S4x2048x1 (constant S_ .f32 0x45800000#32)))
        (broadcastInDim S4x2048x1 ![] bcast_S_S4x2048x1 (constant S_ .f32 0x358637BD#32))))))
    (broadcastInDim S4x2048x4096 ![0, 1, 2] bcast_S1x1x4096_S4x2048x4096_0_1_2
      (broadcastInDim S1x1x4096 ![2] bcast_S4096_S1x1x4096_2
        (shapeCast S4096 (extractStridedSlice S1x4096 ![1, 0] G slices_S2x4096_S1x4096_1_0) shapeCasts_S1x4096_S4096)))

section
open Cert.Kernel3Ideal Cert.Kernel3Ideal.Gen

variable (m : (ℓ : Loc nD τ sig) → Buf (Elt Ideal) ℓ)

/-- The weights as the kernel orders them: the queries' columns, the convolution's, then the keys' and values'. -/
def oddWeights (W : FVec Ideal S1x4096x9264 .f32) : FVec Ideal S4096x9216 .f32 :=
  concatenate S4096x9216 1
    [⟨S4096x2048, extractStridedSlice S4096x2048 ![0, 0] (shapeCast S4096x9264 W shapeCasts_S1x4096x9264_S4096x9264) slices_S4096x9264_S4096x2048_0_0⟩,
      ⟨S4096x4096, extractStridedSlice S4096x4096 ![0, 5168] (shapeCast S4096x9264 W shapeCasts_S1x4096x9264_S4096x9264) slices_S4096x9264_S4096x4096_0_5168⟩,
      ⟨S4096x3072, extractStridedSlice S4096x3072 ![0, 2048] (shapeCast S4096x9264 W shapeCasts_S1x4096x9264_S4096x9264) slices_S4096x9264_S4096x3072_0_2048⟩]
    concatenates_S4096x2048_S4096x4096_S4096x3072_S4096x9216_d1

/-- The left operand of the tiled product: the normalised rows, as a matrix. -/
theorem odd_left (c : Dev nD) : V m c main_v22 = truncf .bf16 (shapeCast S8192x4096
      (oddNormed (m ((c : Thread nD τ).loc main_arg0)) (m ((c : Thread nD τ).loc main_arg1)))
      shapeCasts_S4x2048x4096_S8192x4096) bitsLt_bf16_f32 := by
  entry_read
  rfl

/-- The right operand of the tiled product: the weights in the kernel's order. -/
theorem odd_right (c : Dev nD) : V m c main_v20 = truncf (F := Ideal) .bf16
      (oddWeights (m ((c : Thread nD τ).loc main_arg2))) bitsLt_bf16_f32 := by
  entry_read
  rfl

/-- Each result is a block of columns of the array of the tiled product. -/
theorem odd_read_q (c : Dev nD) : Pipeline.afterTail₀ cfgs (dats m) 0 (V0 m) [hostOps1] c main_v24
    = extractStridedSlice S8192x2048 ![0, 0] ((dats m 0 c).arrAt 2 (cfgs 0).N) slices_S8192x9216_S8192x2048_0_0 := by
  unfold Pipeline.afterTail₀
  have h : ∀ A, Pipeline.withArrays (cfgs 0).spec c (V0 m c) A (Proc.devRef .tc main_v23) = A 2 := fun A =>
    Pipeline.withArrays_arr (cfgs 0).spec (by decide) c (V0 m c) A 2
  generalize Pipeline.withArrays (cfgs 0).spec c (V0 m c) = U at h ⊢
  simp only [List.flatten_cons, List.flatten_nil, List.append_nil]
  after_results_simp
  rw [h]

theorem odd_read_kv (c : Dev nD) : Pipeline.afterTail₀ cfgs (dats m) 0 (V0 m) [hostOps1] c main_v25
    = extractStridedSlice S8192x3072 ![0, 6144] ((dats m 0 c).arrAt 2 (cfgs 0).N) slices_S8192x9216_S8192x3072_0_6144 := by
  unfold Pipeline.afterTail₀
  have h : ∀ A, Pipeline.withArrays (cfgs 0).spec c (V0 m c) A (Proc.devRef .tc main_v23) = A 2 := fun A =>
    Pipeline.withArrays_arr (cfgs 0).spec (by decide) c (V0 m c) A 2
  generalize Pipeline.withArrays (cfgs 0).spec c (V0 m c) = U at h ⊢
  simp only [List.flatten_cons, List.flatten_nil, List.append_nil]
  after_results_simp
  rw [h]

theorem odd_read_conf (c : Dev nD) : Pipeline.afterTail₀ cfgs (dats m) 0 (V0 m) [hostOps1] c main_v26
    = extractStridedSlice S8192x4096 ![0, 2048] ((dats m 0 c).arrAt 2 (cfgs 0).N) slices_S8192x9216_S8192x4096_0_2048 := by
  unfold Pipeline.afterTail₀
  have h : ∀ A, Pipeline.withArrays (cfgs 0).spec c (V0 m c) A (Proc.devRef .tc main_v23) = A 2 := fun A =>
    Pipeline.withArrays_arr (cfgs 0).spec (by decide) c (V0 m c) A 2
  generalize Pipeline.withArrays (cfgs 0).spec c (V0 m c) = U at h ⊢
  simp only [List.flatten_cons, List.flatten_nil, List.append_nil]
  after_results_simp
  rw [h]
end

section
open Cert.Kernel3Ideal Cert.Kernel3Ideal.Gen

/-- Where each of the reference's columns stands in the kernel's order. -/
theorem weights_q (W : FVec Ideal S1x4096x9264 .f32) (k : Fin 4096) (j : Fin 2048) :
    oddWeights W (ix2 k (⟨j.val, by omega⟩ : Fin 9216)) = W (ix3 (0 : Fin 1) k (⟨j.val, by omega⟩ : Fin 9264)) := by
  pointwise [oddWeights]

theorem weights_conf (W : FVec Ideal S1x4096x9264 .f32) (k : Fin 4096) (j : Fin 4096) :
    oddWeights W (ix2 k (⟨2048 + j.val, by omega⟩ : Fin 9216)) = W (ix3 (0 : Fin 1) k (⟨5168 + j.val, by omega⟩ : Fin 9264)) := by
  pointwise [oddWeights]

theorem weights_kv (W : FVec Ideal S1x4096x9264 .f32) (k : Fin 4096) (j : Fin 3072) :
    oddWeights W (ix2 k (⟨6144 + j.val, by omega⟩ : Fin 9216)) = W (ix3 (0 : Fin 1) k (⟨2048 + j.val, by omega⟩ : Fin 9264)) := by
  pointwise [oddWeights]
  rw [dif_neg (by omega), dif_neg (by omega)]
  exact congrArg (fun x => W (ix3 (0 : Fin 1) k x)) (Fin.ext (by change 2048 + (6144 + j.val - 2048 - 4096) = 2048 + j.val; omega))

/-- The kernel's product of the normalised rows and the weights. -/
abbrev oddProd (Z : FVec Ideal S4x2048x4096 .f32) (W : FVec Ideal S1x4096x9264 .f32) : FVec Ideal S8192x9216 .f32 :=
  Cert.Kernel3Ideal.Odd.prod (truncf .bf16 (shapeCast S8192x4096 Z shapeCasts_S4x2048x4096_S8192x4096) bitsLt_bf16_f32)
    (truncf .bf16 (oddWeights W) bitsLt_bf16_f32)

/-- The reference's product, one per batch row and position. -/
abbrev oddRefProd (Z : FVec Ideal Cert.Reference3Ideal.S4x2048x4096 .f32) (W : FVec Ideal Cert.Reference3Ideal.S1x4096x9264 .f32) :
    FVec Ideal Cert.Reference3Ideal.S4x2048x9264 .f32 :=
  Host.dotGeneral Cert.Reference3Ideal.dot_S4x2048x4096_S4096x9264_S4x2048x9264_2_0_01_1_n_n none Z
    (shapeCast Cert.Reference3Ideal.S4096x9264 W Cert.Reference3Ideal.Gen.shapeCasts_S1x4096x9264_S4096x9264)

/-- An entry of the reference's product is a sum over the contracted axis. -/
theorem oddRef_at (Z : FVec Ideal S4x2048x4096 .f32) (W : FVec Ideal S1x4096x9264 .f32) (b : Fin 4) (t : Fin 2048) (j : Fin 9264) :
    oddRefProd Z W (ix3 b t j) = ∑ k : Fin 4096, (Z (ix3 b t k) : EReal) * (W (ix3 (0 : Fin 1) k j) : EReal) := by
  pointwise [oddRefProd]

/-- An entry of the kernel's product is a sum over the contracted axis. -/
theorem oddProd_at (Z : FVec Ideal S4x2048x4096 .f32) (W : FVec Ideal S1x4096x9264 .f32) (a : Fin 8192) (j : Fin 9216) :
    oddProd Z W (ix2 a j) = ∑ k : Fin 4096, (Z (ix3 (⟨a.val / 2048, by omega⟩ : Fin 4) (⟨a.val % 2048, by omega⟩ : Fin 2048) k) : EReal)
      * (oddWeights W (ix2 k j) : EReal) := by
  generalize hB : oddWeights W = B
  unfold oddProd
  rw [hB]
  pointwise [Cert.Kernel3Ideal.Odd.prod]
end

section
open Cert.Reference3Ideal Cert.Reference3Ideal.Gen

theorem odd_q_eq (Z : FVec Ideal S4x2048x4096 .f32) (W : FVec Ideal S1x4096x9264 .f32) :
    shapeCast S8192x2048 (extractStridedSlice S4x2048x2048 ![0, 0, 0] (oddRefProd Z W) slices_S4x2048x9264_S4x2048x2048_0_0_0)
        shapeCasts_S4x2048x2048_S8192x2048
      = extractStridedSlice Cert.Kernel3Ideal.S8192x2048 ![0, 0] (oddProd Z W) Cert.Kernel3Ideal.Gen.slices_S8192x9216_S8192x2048_0_0 := by
  have hl := oddRef_at Z W
  have hr := oddProd_at Z W
  generalize oddRefProd Z W = Y at hl ⊢
  generalize oddProd Z W = Y' at hr ⊢
  funext i
  have e1 : shapeCast S8192x2048 (extractStridedSlice S4x2048x2048 ![0, 0, 0] Y slices_S4x2048x9264_S4x2048x2048_0_0_0)
        shapeCasts_S4x2048x2048_S8192x2048 i
      = Y (ix3 (⟨(i 0).val / 2048, by have := (i 0).isLt; change (i 0).val < 8192 at this; omega⟩ : Fin 4) (⟨(i 0).val % 2048, by omega⟩ : Fin 2048)
          (⟨(i 1).val, by have := (i 1).isLt; change (i 1).val < 2048 at this; omega⟩ : Fin 9264)) := by
    pointwise []
  have e2 : extractStridedSlice Cert.Kernel3Ideal.S8192x2048 ![0, 0] Y' Cert.Kernel3Ideal.Gen.slices_S8192x9216_S8192x2048_0_0 i
      = Y' (ix2 (⟨(i 0).val, (i 0).isLt⟩ : Fin 8192) (⟨(i 1).val, by have := (i 1).isLt; change (i 1).val < 2048 at this; omega⟩ : Fin 9216)) := by
    pointwise []
  rw [e1, e2, hl, hr]
  exact Finset.sum_congr rfl fun k _ => congrArg _ (weights_q W k ⟨(i 1).val, (i 1).isLt⟩).symm

theorem odd_kv_eq (Z : FVec Ideal S4x2048x4096 .f32) (W : FVec Ideal S1x4096x9264 .f32) :
    shapeCast S8192x3072 (extractStridedSlice S4x2048x3072 ![0, 0, 2048] (oddRefProd Z W) slices_S4x2048x9264_S4x2048x3072_0_0_2048)
        shapeCasts_S4x2048x3072_S8192x3072
      = extractStridedSlice Cert.Kernel3Ideal.S8192x3072 ![0, 6144] (oddProd Z W) Cert.Kernel3Ideal.Gen.slices_S8192x9216_S8192x3072_0_6144 := by
  have hl := oddRef_at Z W
  have hr := oddProd_at Z W
  generalize oddRefProd Z W = Y at hl ⊢
  generalize oddProd Z W = Y' at hr ⊢
  funext i
  have e1 : shapeCast S8192x3072 (extractStridedSlice S4x2048x3072 ![0, 0, 2048] Y slices_S4x2048x9264_S4x2048x3072_0_0_2048)
        shapeCasts_S4x2048x3072_S8192x3072 i
      = Y (ix3 (⟨(i 0).val / 2048, by have := (i 0).isLt; change (i 0).val < 8192 at this; omega⟩ : Fin 4) (⟨(i 0).val % 2048, by omega⟩ : Fin 2048)
          (⟨2048 + (i 1).val, by have := (i 1).isLt; change (i 1).val < 3072 at this; omega⟩ : Fin 9264)) := by
    pointwise []
  have e2 : extractStridedSlice Cert.Kernel3Ideal.S8192x3072 ![0, 6144] Y' Cert.Kernel3Ideal.Gen.slices_S8192x9216_S8192x3072_0_6144 i
      = Y' (ix2 (⟨(i 0).val, (i 0).isLt⟩ : Fin 8192) (⟨6144 + (i 1).val, by have := (i 1).isLt; change (i 1).val < 3072 at this; omega⟩ : Fin 9216)) := by
    pointwise []
  rw [e1, e2, hl, hr]
  exact Finset.sum_congr rfl fun k _ => congrArg _ (weights_kv W k ⟨(i 1).val, (i 1).isLt⟩).symm

theorem odd_conf_eq (Z : FVec Ideal S4x2048x4096 .f32) (W : FVec Ideal S1x4096x9264 .f32) :
    shapeCast S8192x4096 (extractStridedSlice S4x2048x4096 ![0, 0, 5168] (oddRefProd Z W) slices_S4x2048x9264_S4x2048x4096_0_0_5168)
        shapeCasts_S4x2048x4096_S8192x4096
      = extractStridedSlice Cert.Kernel3Ideal.S8192x4096 ![0, 2048] (oddProd Z W) Cert.Kernel3Ideal.Gen.slices_S8192x9216_S8192x4096_0_2048 := by
  have hl := oddRef_at Z W
  have hr := oddProd_at Z W
  generalize oddRefProd Z W = Y at hl ⊢
  generalize oddProd Z W = Y' at hr ⊢
  funext i
  have e1 : shapeCast S8192x4096 (extractStridedSlice S4x2048x4096 ![0, 0, 5168] Y slices_S4x2048x9264_S4x2048x4096_0_0_5168)
        shapeCasts_S4x2048x4096_S8192x4096 i
      = Y (ix3 (⟨(i 0).val / 2048, by have := (i 0).isLt; change (i 0).val < 8192 at this; omega⟩ : Fin 4) (⟨(i 0).val % 2048, by omega⟩ : Fin 2048)
          (⟨5168 + (i 1).val, by have := (i 1).isLt; change (i 1).val < 4096 at this; omega⟩ : Fin 9264)) := by
    pointwise []
  have e2 : extractStridedSlice Cert.Kernel3Ideal.S8192x4096 ![0, 2048] Y' Cert.Kernel3Ideal.Gen.slices_S8192x9216_S8192x4096_0_2048 i
      = Y' (ix2 (⟨(i 0).val, (i 0).isLt⟩ : Fin 8192) (⟨2048 + (i 1).val, by have := (i 1).isLt; change (i 1).val < 4096 at this; omega⟩ : Fin 9216)) := by
    pointwise []
  rw [e1, e2, hl, hr]
  exact Finset.sum_congr rfl fun k _ => congrArg _ (weights_conf W k ⟨(i 1).val, (i 1).isLt⟩).symm
end

/-- Kernel and reference end with the same queries, keys and values, and convolution streams. -/
theorem odd_in : Cert.algebraic_Kernel3Ideal_Reference3Ideal := by
  pair_intro
  · run_from Cert.Kernel3Ideal.Gen.run_main m g
    · exact Cert.Kernel3Ideal.Gen.W_main_arg0 m _ c
    · exact Cert.Kernel3Ideal.Gen.W_main_arg1 m _ c
    · exact Cert.Kernel3Ideal.Gen.W_main_arg2 m _ c
  · run_from Cert.Reference3Ideal.Value.run m' g'
    · obtain ⟨e0, e1, e2⟩ := hagree c
      refine Eq.trans ?_ (odd_read_q m c).symm
      rw [Cert.Kernel3Ideal.Odd.final, odd_left, odd_right]
      exact odd_q_eq _ _
    · obtain ⟨e0, e1, e2⟩ := hagree c
      refine Eq.trans ?_ (odd_read_kv m c).symm
      rw [Cert.Kernel3Ideal.Odd.final, odd_left, odd_right]
      exact odd_kv_eq _ _
    · obtain ⟨e0, e1, e2⟩ := hagree c
      refine Eq.trans ?_ (odd_read_conf m c).symm
      rw [Cert.Kernel3Ideal.Odd.final, odd_left, odd_right]
      exact odd_conf_eq _ _

end Cert.Proof

end

end
-- ==== Proof.MatmulOut.lean ====
/-
  The projection out of a layer, added to the hidden states: what the array of the tiled product holds after the run.

  The kernel cuts the 8192 rows into blocks of 1024 and the 4096 columns into blocks of 512, holds the whole
  contracted axis of 4096 in each block, and writes every block of the result once. So the array ends as the hidden states plus
  the plain product of the two operands.
-/
module

public import proofs.«01_k».proof.Proof.Gen.Kernel4Ideal.Frame
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.Kernel4Ideal.Out

open Cert.Kernel4Ideal Cert.Kernel4Ideal.Gen

variable (m : (ℓ : Loc nD τ sig) → Buf (Elt Ideal) ℓ)

/-- A matrix plus the plain product of a matrix of 8192 rows with one of 4096 columns. -/
def prod (A : FVec Ideal S8192x4096 .bf16) (B : FVec Ideal S4096x4096 .bf16) (R : FVec Ideal S8192x4096 .f32) :
    FVec Ideal S8192x4096 .f32 :=
  fun j => (R j : EReal) + ∑ k : Fin 4096, (A (ix2 (j 0 : Fin 8192) k) : EReal) * (B (ix2 k (j 1 : Fin 4096)) : EReal)

/-- Each window's block index at every point of the grid. -/
theorem idx : ∀ t : Fin cfg0.N, win0_0.index t = ![(grid0.coords t 0).val, 0]
    ∧ win0_1.index t = ![0, (grid0.coords t 1).val]
    ∧ win0_2.index t = ![(grid0.coords t 0).val, (grid0.coords t 1).val]
    ∧ win0_3.index t = ![(grid0.coords t 0).val, (grid0.coords t 1).val] :=
  (by decide +kernel : ∀ t : Fin grid0.N, _)

/-- What one point stores at an index of its block is the sum at the index's place in the array. -/
theorem point (c : Dev nD) (t : Fin cfg0.N) (y) : k0_pay1 (iblk m c 2 t) (iblk m c 0 t) (iblk m c 1 t) y
    = prod (V m c main_v4) (V m c main_v6) (V m c main_v7) (((cfg0.win 3).blk t).view.emb y) := by
  pointwise [k0_pay1, prod]
  blk_point [iblk, idx t]

/-- The array of the tiled product after the run is the hidden states plus the product of the two operands. -/
theorem final (c : Dev nD) : (dats m 0 c).arrAt 3 (cfgs 0).N = prod (V m c main_v4) (V m c main_v6) (V m c main_v7) := by
  refine (dats m 0 c).arrAt_eq_of_covers 3 _ (by decide +kernel) fun t _ y => ?_
  blk_simp
  rw [after0_3]; frame_out
  exact point m c t y

end Cert.Kernel4Ideal.Out

end

end
-- ==== Proof.MixOut.lean ====
/-
  The projection out of a layer: kernel and reference end with the same hidden states.
-/
module

public import proofs.«01_k».proof.Defs
public import proofs.«01_k».proof.Proof.Gen.Kernel4Ideal
public import proofs.«01_k».proof.Proof.Gen.Reference4Ideal
public import proofs.«01_k».proof.Proof.Gen.Reference4Ideal.Run
public import proofs.«01_k».proof.Proof.MatmulOut
public import Idealize.ShloMosaic.Lib.Claim

@[expose] public section

set_option maxRecDepth 16384

noncomputable section

open Idealize.ShloMosaic Idealize.ShloMosaic.TcCoe Idealize.SL.Sem

namespace Cert.Proof

instance kernel4Facts : Cert.Kernel4Ideal.Facts := Cert.Kernel4Ideal.Gen.facts
instance reference4Facts : Cert.Reference4Ideal.Facts := Cert.Reference4Ideal.Gen.facts

section
open Cert.Kernel4Ideal Cert.Kernel4Ideal.Gen

variable (m : (ℓ : Loc nD τ sig) → Buf (Elt Ideal) ℓ)

/-- The two mixers' outputs side by side. -/
def joined (A : FVec Ideal S4x2048x2048 .f32) (B : FVec Ideal S8192x2048 .f32) : FVec Ideal S4x2048x4096 .f32 :=
  concatenate S4x2048x4096 2 [⟨S4x2048x2048, A⟩, ⟨S4x2048x2048, shapeCast S4x2048x2048 B shapeCasts_S8192x2048_S4x2048x2048⟩]
    concatenates_S4x2048x2048_S4x2048x2048_S4x2048x4096_d2

/-- The left operand of the tiled product: the two mixers' outputs side by side, as a matrix. -/
theorem out_left (c : Dev nD) : V m c main_v4 = truncf (F := Ideal) .bf16 (shapeCast S8192x4096
      (joined (m ((c : Thread nD τ).loc main_arg0)) (m ((c : Thread nD τ).loc main_arg1)))
      shapeCasts_S4x2048x4096_S8192x4096) bitsLt_bf16_f32 := by
  entry_read
  rfl

/-- The right operand of the tiled product: the weights, as a matrix. -/
theorem out_right (c : Dev nD) : V m c main_v6 = truncf (F := Ideal) .bf16 (shapeCast S4096x4096
      (m ((c : Thread nD τ).loc main_arg2) : FVec Ideal S1x4096x4096 .f32) shapeCasts_S1x4096x4096_S4096x4096) bitsLt_bf16_f32 := by
  entry_read
  rfl

/-- The matrix added to the product: the hidden states. -/
theorem out_resid (c : Dev nD) : V m c main_v7 = shapeCast S8192x4096
      (m ((c : Thread nD τ).loc main_arg3) : FVec Ideal S4x2048x4096 .f32) shapeCasts_S4x2048x4096_S8192x4096 := by
  entry_read
  rfl
end

section
open Cert.Reference4Ideal Cert.Reference4Ideal.Gen

/-- The reference's sum with batch row and position in one axis is the kernel's. -/
theorem out_eq (Z : FVec Ideal S4x2048x4096 .f32) (W : FVec Ideal S1x4096x4096 .f32) (H : FVec Ideal S4x2048x4096 .f32) :
    shapeCast S8192x4096 (addf H (Host.dotGeneral dot_S4x2048x4096_S4096x4096_S4x2048x4096_2_0_01_1_n_n none Z
        (shapeCast S4096x4096 W shapeCasts_S1x4096x4096_S4096x4096))) shapeCasts_S4x2048x4096_S8192x4096
      = Cert.Kernel4Ideal.Out.prod (truncf .bf16 (shapeCast S8192x4096 Z Cert.Kernel4Ideal.Gen.shapeCasts_S4x2048x4096_S8192x4096) Cert.Kernel4Ideal.Gen.bitsLt_bf16_f32)
          (truncf .bf16 (shapeCast S4096x4096 W Cert.Kernel4Ideal.Gen.shapeCasts_S1x4096x4096_S4096x4096) Cert.Kernel4Ideal.Gen.bitsLt_bf16_f32)
          (shapeCast S8192x4096 H Cert.Kernel4Ideal.Gen.shapeCasts_S4x2048x4096_S8192x4096) := by
  funext j
  pointwise [Cert.Kernel4Ideal.Out.prod]
end

/-- Kernel and reference end with the same hidden states. -/
theorem mix_out : Cert.algebraic_Kernel4Ideal_Reference4Ideal := by
  pair_intro
  · run_from Cert.Kernel4Ideal.Gen.run_main m g
  · run_from Cert.Reference4Ideal.Value.run m' g'
    obtain ⟨e0, e1, e2, e3⟩ := hagree c
    refine Eq.trans ?_ (Cert.Kernel4Ideal.Out.final m c).symm
    rw [out_left, out_right, out_resid]
    exact out_eq _ _ _

end Cert.Proof

end

end
-- ==== Proof.MatmulQuery.lean ====
/-
  The experts' queries: what the array of the tiled product holds after the run.

  The kernel cuts the 8192 rows into blocks of 1024 and the 2048 columns into blocks of 512, holds the whole
  contracted axis of 4096 in each block, and writes every block of the result once. So the array ends as the plain
  product of its two operands.
-/
module

public import proofs.«01_k».proof.Proof.Gen.Kernel5Ideal.Frame
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.Kernel5Ideal.Query

open Cert.Kernel5Ideal Cert.Kernel5Ideal.Gen

variable (m : (ℓ : Loc nD τ sig) → Buf (Elt Ideal) ℓ)

/-- The plain product of a matrix of 8192 rows with one of 2048 columns. -/
def prod (A : FVec Ideal S8192x4096 .bf16) (B : FVec Ideal S4096x2048 .bf16) : FVec Ideal S8192x2048 .f32 :=
  fun j => ∑ k : Fin 4096, (A (ix2 (j 0 : Fin 8192) k) : EReal) * (B (ix2 k (j 1 : Fin 2048)) : EReal)

/-- Each window's block index at every point of the grid. -/
theorem idx : ∀ t : Fin cfg0.N, win0_0.index t = ![(grid0.coords t 0).val, 0]
    ∧ win0_1.index t = ![0, (grid0.coords t 1).val]
    ∧ win0_2.index t = ![(grid0.coords t 0).val, (grid0.coords t 1).val] :=
  (by decide +kernel : ∀ t : Fin grid0.N, _)

/-- What one point stores at an index of its block is the product at the index's place in the array. -/
theorem point (c : Dev nD) (t : Fin cfg0.N) (y) : k0_pay1 (iblk m c 0 t) (iblk m c 1 t) y
    = prod (V m c main_v16) (V m c main_v19) (((cfg0.win 2).blk t).view.emb y) := by
  pointwise [k0_pay1, prod]
  blk_point [iblk, idx t]

/-- The array of the tiled product after the run is the product of its two operands. -/
theorem final (c : Dev nD) : (dats m 0 c).arrAt 2 (cfgs 0).N = prod (V m c main_v16) (V m c main_v19) := by
  refine (dats m 0 c).arrAt_eq_of_covers 2 _ (by decide +kernel) fun t _ y => ?_
  blk_simp
  rw [after0_2]; frame_out
  exact point m c t y

end Cert.Kernel5Ideal.Query

end

end
-- ==== Proof.PeerQuery.lean ====
/-
  The experts' queries: kernel and reference end with the same array.
-/
module

public import proofs.«01_k».proof.Defs
public import proofs.«01_k».proof.Proof.Gen.Kernel5Ideal
public import proofs.«01_k».proof.Proof.Gen.Reference5Ideal
public import proofs.«01_k».proof.Proof.Gen.Reference5Ideal.Run
public import proofs.«01_k».proof.Proof.MatmulQuery
public import Idealize.ShloMosaic.Lib.Claim

@[expose] public section

set_option maxRecDepth 16384

noncomputable section

open Idealize.ShloMosaic Idealize.ShloMosaic.TcCoe Idealize.SL.Sem

namespace Cert.Proof

instance kernel5Facts : Cert.Kernel5Ideal.Facts := Cert.Kernel5Ideal.Gen.facts
instance reference5Facts : Cert.Reference5Ideal.Facts := Cert.Reference5Ideal.Gen.facts

open Cert.Kernel5Ideal Cert.Kernel5Ideal.Gen in
/-- The rows after their root-mean-square normalisation, scaled by the first row of gains. -/
def ffnNormed (X : FVec Ideal S4x2048x4096 .f32) (G : FVec Ideal S2x4096 .f32) : FVec Ideal S4x2048x4096 .f32 :=
  mulf
    (mulf X (broadcastInDim S4x2048x4096 ![0, 1, 2] bcast_S4x2048x1_S4x2048x4096_0_1_2
      (Host.rsqrt (addf
        (Host.divf
          (broadcastInDim S4x2048x1 ![0, 1] bcast_S4x2048_S4x2048x1_0_1
            (Host.reduceAdd (mulf X X) (constant S_ .f32 0x00000000#32) reducesTo_S4x2048x4096_S4x2048_d2 h_S_))
          (broadcastInDim S4x2048x1 ![] bcast_S_S4x2048x1 (constant S_ .f32 0x45800000#32)))
        (broadcastInDim S4x2048x1 ![] bcast_S_S4x2048x1 (constant S_ .f32 0x358637BD#32))))))
    (broadcastInDim S4x2048x4096 ![0, 1, 2] bcast_S1x1x4096_S4x2048x4096_0_1_2
      (broadcastInDim S1x1x4096 ![2] bcast_S4096_S1x1x4096_2
        (shapeCast S4096 (extractStridedSlice S1x4096 ![0, 0] G slices_S2x4096_S1x4096_0_0) shapeCasts_S1x4096_S4096)))

section
open Cert.Kernel5Ideal Cert.Kernel5Ideal.Gen

variable (m : (ℓ : Loc nD τ sig) → Buf (Elt Ideal) ℓ)

/-- The left operand of the tiled product: the normalised rows, as a matrix. -/
theorem query_left (c : Dev nD) : V m c main_v16 = truncf .bf16 (shapeCast S8192x4096
      (ffnNormed (m ((c : Thread nD τ).loc main_arg0)) (m ((c : Thread nD τ).loc main_arg1)))
      shapeCasts_S4x2048x4096_S8192x4096) bitsLt_bf16_f32 := by
  entry_read
  rfl

/-- The right operand of the tiled product: the first layer's weights, as a matrix. -/
theorem query_right (c : Dev nD) : V m c main_v19 = truncf (F := Ideal) .bf16 (shapeCast S4096x2048
      (extractStridedSlice S1x4096x2048 ![0, 0, 0] (m ((c : Thread nD τ).loc main_arg2) : FVec Ideal S2x4096x2048 .f32)
        slices_S2x4096x2048_S1x4096x2048_0_0_0) shapeCasts_S1x4096x2048_S4096x2048) bitsLt_bf16_f32 := by
  entry_read
  rfl
end

/-- The reference's product is the kernel's. -/
theorem query_eq (A : FVec Ideal Cert.Reference5Ideal.S8192x4096 .f32) (B : FVec Ideal Cert.Reference5Ideal.S4096x2048 .f32) :
    Host.dotGeneral Cert.Reference5Ideal.dot_S8192x4096_S4096x2048_S8192x2048_1_0_0_1_n_n none A B
      = Cert.Kernel5Ideal.Query.prod (truncf .bf16 A Cert.Kernel5Ideal.Gen.bitsLt_bf16_f32)
          (truncf .bf16 B Cert.Kernel5Ideal.Gen.bitsLt_bf16_f32) := by
  funext j
  pointwise [Cert.Kernel5Ideal.Query.prod]

/-- Kernel and reference end with the same queries. -/
theorem peer_query : Cert.algebraic_Kernel5Ideal_Reference5Ideal := by
  pair_intro
  · run_from Cert.Kernel5Ideal.Gen.run_main m g
  · run_from Cert.Reference5Ideal.Value.run m' g'
    obtain ⟨e0, e1, e2⟩ := hagree c
    refine Eq.trans ?_ (Cert.Kernel5Ideal.Query.final m c).symm
    rw [query_left, query_right]
    exact query_eq _ _

end Cert.Proof

end

end
-- ==== Proof.MatmulSample.lean ====
/-
  The projection of the samples' rows into the even layer's streams: what the array of the tiled product holds after the run.

  The kernel cuts the 64 rows into blocks of 64 and the 10240 columns into blocks of 512, holds the whole
  contracted axis of 4096 in each block, and writes every block of the result once. So the array ends as the plain
  product of its two operands.
-/
module

public import proofs.«01_k».proof.Proof.Gen.Kernel6Ideal.Frame
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.Kernel6Ideal.Sample

open Cert.Kernel6Ideal Cert.Kernel6Ideal.Gen

variable (m : (ℓ : Loc nD τ sig) → Buf (Elt Ideal) ℓ)

/-- The plain product of a matrix of 64 rows with one of 10240 columns. -/
def prod (A : FVec Ideal S64x4096 .bf16) (B : FVec Ideal S4096x10240 .bf16) : FVec Ideal S64x10240 .f32 :=
  fun j => ∑ k : Fin 4096, (A (ix2 (j 0 : Fin 64) k) : EReal) * (B (ix2 k (j 1 : Fin 10240)) : EReal)

/-- Each window's block index at every point of the grid. -/
theorem idx : ∀ t : Fin cfg0.N, win0_0.index t = ![(grid0.coords t 0).val, 0]
    ∧ win0_1.index t = ![0, (grid0.coords t 1).val]
    ∧ win0_2.index t = ![(grid0.coords t 0).val, (grid0.coords t 1).val] :=
  (by decide +kernel : ∀ t : Fin grid0.N, _)

/-- What one point stores at an index of its block is the product at the index's place in the array. -/
theorem point (c : Dev nD) (t : Fin cfg0.N) (y) : k0_pay1 (iblk m c 0 t) (iblk m c 1 t) y
    = prod (V m c main_v16) (V m c main_v18) (((cfg0.win 2).blk t).view.emb y) := by
  pointwise [k0_pay1, prod]
  blk_point [iblk, idx t]

/-- The array of the tiled product after the run is the product of its two operands. -/
theorem final (c : Dev nD) : (dats m 0 c).arrAt 2 (cfgs 0).N = prod (V m c main_v16) (V m c main_v18) := by
  refine (dats m 0 c).arrAt_eq_of_covers 2 _ (by decide +kernel) fun t _ y => ?_
  blk_simp
  rw [after0_2]; frame_out
  exact point m c t y

end Cert.Kernel6Ideal.Sample

end

end
-- ==== Proof.EvenSample.lean ====
/-
  The even layer's projection of the samples' rows: kernel and reference end with the same two arrays.
-/
module

public import proofs.«01_k».proof.Defs
public import proofs.«01_k».proof.Proof.Gen.Kernel6Ideal
public import proofs.«01_k».proof.Proof.Gen.Reference6Ideal
public import proofs.«01_k».proof.Proof.Gen.Reference6Ideal.Run
public import proofs.«01_k».proof.Proof.MatmulSample
public import Idealize.ShloMosaic.Lib.Claim

@[expose] public section

set_option maxRecDepth 16384

noncomputable section

open Idealize.ShloMosaic Idealize.ShloMosaic.TcCoe Idealize.SL.Sem

namespace Cert.Proof

instance kernel6Facts : Cert.Kernel6Ideal.Facts := Cert.Kernel6Ideal.Gen.facts
instance reference6Facts : Cert.Reference6Ideal.Facts := Cert.Reference6Ideal.Gen.facts

open Cert.Kernel6Ideal Cert.Kernel6Ideal.Gen in
/-- The rows after their root-mean-square normalisation, scaled by the first row of gains. -/
def sampleNormed (X : FVec Ideal S8x8x4096 .f32) (G : FVec Ideal S2x4096 .f32) : FVec Ideal S8x8x4096 .f32 :=
  mulf
    (mulf X (broadcastInDim S8x8x4096 ![0, 1, 2] bcast_S8x8x1_S8x8x4096_0_1_2
      (Host.rsqrt (addf
        (Host.divf
          (broadcastInDim S8x8x1 ![0, 1] bcast_S8x8_S8x8x1_0_1
            (Host.reduceAdd (mulf X X) (constant S_ .f32 0x00000000#32) reducesTo_S8x8x4096_S8x8_d2 h_S_))
          (broadcastInDim S8x8x1 ![] bcast_S_S8x8x1 (constant S_ .f32 0x45800000#32)))
        (broadcastInDim S8x8x1 ![] bcast_S_S8x8x1 (constant S_ .f32 0x358637BD#32))))))
    (broadcastInDim S8x8x4096 ![0, 1, 2] bcast_S1x1x4096_S8x8x4096_0_1_2
      (broadcastInDim S1x1x4096 ![2] bcast_S4096_S1x1x4096_2
        (shapeCast S4096 (extractStridedSlice S1x4096 ![0, 0] G slices_S2x4096_S1x4096_0_0) shapeCasts_S1x4096_S4096)))

section
open Cert.Kernel6Ideal Cert.Kernel6Ideal.Gen

/-- The kernel's second result: the last two positions of the state followed by the elementwise product of two of the
    five column blocks. -/
def sampleTail (P : FVec Ideal S1x8x2x2048 .f32) (Y : FVec Ideal S64x10240 .f32) : FVec Ideal S1x8x2x2048 .f32 :=
  broadcastInDim S1x8x2x2048 ![1, 2, 3] bcast_S8x2x2048_S1x8x2x2048_1_2_3
    (extractStridedSlice S8x2x2048 ![0, 8, 0]
      (concatenate S8x10x2048 1
        [⟨S8x2x2048, shapeCast S8x2x2048 P shapeCasts_S1x8x2x2048_S8x2x2048⟩,
          ⟨S8x8x2048, mulf
            (shapeCast S8x8x2048 (extractStridedSlice S64x2048 ![0, 2048] Y slices_S64x10240_S64x2048_0_2048)
              shapeCasts_S64x2048_S8x8x2048)
            (shapeCast S8x8x2048 (extractStridedSlice S64x2048 ![0, 4096] Y slices_S64x10240_S64x2048_0_4096)
              shapeCasts_S64x2048_S8x8x2048)⟩]
        concatenates_S8x2x2048_S8x8x2048_S8x10x2048_d1)
      slices_S8x10x2048_S8x2x2048_0_8_0)

variable (m : (ℓ : Loc nD τ sig) → Buf (Elt Ideal) ℓ)

/-- Two joins along the positions agree when their parts do. -/
theorem sample_concat_congr {a a' : FVec Ideal S8x2x2048 .f32} {b b' : FVec Ideal S8x8x2048 .f32} (ha : a = a') (hb : b = b') :
    concatenate S8x10x2048 1 [⟨S8x2x2048, a⟩, ⟨S8x8x2048, b⟩] concatenates_S8x2x2048_S8x8x2048_S8x10x2048_d1
      = concatenate S8x10x2048 1 [⟨S8x2x2048, a'⟩, ⟨S8x8x2048, b'⟩] concatenates_S8x2x2048_S8x8x2048_S8x10x2048_d1 := by
  rw [ha, hb]

/-- The second result is read off the array of the tiled product and the state. -/
theorem sample_tail_read (c : Dev nD) : Pipeline.afterTail₀ cfgs (dats m) 0 (V0 m) [hostOps1] c main_v30
    = sampleTail (m ((c : Thread nD τ).loc main_arg1)) ((dats m 0 c).arrAt 2 (cfgs 0).N) := by
  unfold Pipeline.afterTail₀
  have h : ∀ A, Pipeline.withArrays (cfgs 0).spec c (V0 m c) A (Proc.devRef .tc main_v19) = A 2 := fun A =>
    Pipeline.withArrays_arr (cfgs 0).spec (by decide) c (V0 m c) A 2
  have h1 : ∀ A, Pipeline.withArrays (cfgs 0).spec c (V0 m c) A (Proc.devRef .tc main_arg1) = m ((c : Thread nD τ).loc main_arg1) := fun A =>
    (Pipeline.withArrays_of_ne (cfgs 0).spec c (V0 m c) A main_arg1 (by exact (by decide : ∀ w, Pipeline.arrRef spec0 w ≠ main_arg1))).trans (V_main_arg1 m c)
  generalize Pipeline.withArrays (cfgs 0).spec c (V0 m c) = U at h h1 ⊢
  simp only [List.flatten_cons, List.flatten_nil, List.append_nil]
  after_results_simp
  refine congrArg (fun x => broadcastInDim S1x8x2x2048 ![1, 2, 3] bcast_S8x2x2048_S1x8x2x2048_1_2_3
    (extractStridedSlice S8x2x2048 ![0, 8, 0] x slices_S8x10x2048_S8x2x2048_0_8_0)) (sample_concat_congr ?_ ?_)
  · after_results_simp
    rw [h1]
    rfl
  · after_results_simp
    rw [h]
    rfl

/-- The left operand of the tiled product: the normalised rows, as a matrix. -/
theorem sample_left (c : Dev nD) : V m c main_v16 = truncf .bf16 (shapeCast S64x4096
      (sampleNormed (m ((c : Thread nD τ).loc main_arg0)) (m ((c : Thread nD τ).loc main_arg2)))
      shapeCasts_S8x8x4096_S64x4096) bitsLt_bf16_f32 := by
  entry_read
  rfl

/-- The right operand of the tiled product: the weights, as a matrix. -/
theorem sample_right (c : Dev nD) : V m c main_v18 = truncf (F := Ideal) .bf16 (shapeCast S4096x10240
      (m ((c : Thread nD τ).loc main_arg3) : FVec Ideal S1x4096x10240 .f32) shapeCasts_S1x4096x10240_S4096x10240) bitsLt_bf16_f32 := by
  entry_read
  rfl

/-- The kernel's product of the normalised rows and the weights. -/
abbrev sampleProd (Z : FVec Ideal S8x8x4096 .f32) (W : FVec Ideal S1x4096x10240 .f32) : FVec Ideal S64x10240 .f32 :=
  Cert.Kernel6Ideal.Sample.prod (truncf .bf16 (shapeCast S64x4096 Z shapeCasts_S8x8x4096_S64x4096) bitsLt_bf16_f32)
    (truncf .bf16 (shapeCast S4096x10240 W shapeCasts_S1x4096x10240_S4096x10240) bitsLt_bf16_f32)
end

section
open Cert.Reference6Ideal Cert.Reference6Ideal.Gen

/-- The reference's product, one per sample and position. -/
abbrev sampleRefProd (Z : FVec Ideal S8x8x4096 .f32) (W : FVec Ideal S1x4096x10240 .f32) : FVec Ideal S8x8x10240 .f32 :=
  Host.dotGeneral dot_S8x8x4096_S4096x10240_S8x8x10240_2_0_01_1_n_n none Z
    (shapeCast S4096x10240 W shapeCasts_S1x4096x10240_S4096x10240)

/-- The reference's product with sample and position in one axis is the kernel's. -/
theorem sample_prod_eq (Z : FVec Ideal S8x8x4096 .f32) (W : FVec Ideal S1x4096x10240 .f32) :
    shapeCast S64x10240 (sampleRefProd Z W) shapeCasts_S8x8x10240_S64x10240 = sampleProd Z W := by
  funext j
  pointwise [sampleRefProd, sampleProd, Cert.Kernel6Ideal.Sample.prod]

/-- The reference's last two positions are the kernel's. -/
theorem sample_tail_eq (P : FVec Ideal S1x8x2x2048 .f32) (Z : FVec Ideal S8x8x4096 .f32) (W : FVec Ideal S1x4096x10240 .f32) :
    broadcastInDim S1x8x2x2048 ![1, 2, 3] bcast_S8x2x2048_S1x8x2x2048_1_2_3
      (extractStridedSlice S8x2x2048 ![0, 8, 0]
        (concatenate S8x10x2048 1
          [⟨S8x2x2048, shapeCast S8x2x2048 P shapeCasts_S1x8x2x2048_S8x2x2048⟩,
            ⟨S8x8x2048, mulf
              (extractStridedSlice S8x8x2048 ![0, 0, 2048] (sampleRefProd Z W) slices_S8x8x10240_S8x8x2048_0_0_2048)
              (extractStridedSlice S8x8x2048 ![0, 0, 4096] (sampleRefProd Z W) slices_S8x8x10240_S8x8x2048_0_0_4096)⟩]
          concatenates_S8x2x2048_S8x8x2048_S8x10x2048_d1)
        slices_S8x10x2048_S8x2x2048_0_8_0)
      = sampleTail P (sampleProd Z W) := by
  rw [← sample_prod_eq]
  generalize sampleRefProd Z W = Y
  funext j
  pointwise [sampleTail]
  have e : ∀ (p : Fin 8) (q : Fin 2), (p.val * 8 + (8 + q.val - 2)) % 8 = 8 + q.val - 2 := fun p q => by omega
  simp only [e (j 1) (j 2)]
end

/-- Kernel and reference end with the same projection and the same last two positions. -/
theorem even_in_sample : Cert.algebraic_Kernel6Ideal_Reference6Ideal := by
  pair_intro
  · run_from Cert.Kernel6Ideal.Gen.run_main m g
    · exact Cert.Kernel6Ideal.Gen.W_main_arg0 m _ c
    · exact Cert.Kernel6Ideal.Gen.W_main_arg1 m _ c
    · exact Cert.Kernel6Ideal.Gen.W_main_arg2 m _ c
    · exact Cert.Kernel6Ideal.Gen.W_main_arg3 m _ c
  · run_from Cert.Reference6Ideal.Value.run m' g'
    · obtain ⟨e0, e1, e2, e3⟩ := hagree c
      refine Eq.trans ?_ (Cert.Kernel6Ideal.Sample.final m c).symm
      rw [sample_left, sample_right]
      exact sample_prod_eq _ _
    · obtain ⟨e0, e1, e2, e3⟩ := hagree c
      refine Eq.trans ?_ (sample_tail_read m c).symm
      rw [Cert.Kernel6Ideal.Sample.final, sample_left, sample_right, e3]
      exact sample_tail_eq _ _ _

end Cert.Proof

end

end
-- ==== Proof.Rotation.lean ====
/-
  One head's normalisation and rotation, entry by entry.
-/
module

public import Idealize.ShloMosaic.Lib.Pipeline.ValueKit

@[expose] public section

noncomputable section

namespace Cert.Nsa

open Idealize.ShloMosaic

/-- An entry divided by the root mean square of its head's 128 entries, times its gain. -/
def nrmE (x g : Fin 128 → EReal) (d : Fin 128) : EReal :=
  x d * Ideal.rsqrt (Ideal.div (∑ e, x e * x e) (Ideal.ofBits .f32 0x43000000#32) + Ideal.ofBits .f32 0x358637BD#32) * g d

/-- The rotation with the sine's sign in the table: an entry times the cosine plus the entry half a head away times the
    sine. -/
def rotE (x g co si : Fin 128 → EReal) (d : Fin 128) : EReal :=
  nrmE x g d * co d + nrmE x g ⟨(d.val + 128 - 64) % 128, by omega⟩ * si d

/-- A row's cosines, one per pair of columns half a head apart, repeated over the head's two halves. -/
def cosT (a : Fin 64 → EReal) (e : Fin 128) : EReal :=
  if h : e.val < 64 then Ideal.cos (a ⟨e.val, h⟩) else Ideal.cos (a ⟨e.val - 64, by omega⟩)

/-- A row's sines, with the minus sign in the first half. -/
def sinT (a : Fin 64 → EReal) (e : Fin 128) : EReal :=
  if h : e.val < 64 then - Ideal.sin (a ⟨e.val, h⟩) else Ideal.sin (a ⟨e.val - 64, by omega⟩)

/-- With those tables the rotation is the plane rotation of the two halves: the first takes the difference, the second
    the sum. -/
theorem rotE_eq (x g : Fin 128 → EReal) (a : Fin 64 → EReal) (d : Fin 128) : rotE x g (cosT a) (sinT a) d
    = if h : d.val < 64 then nrmE x g d * Ideal.cos (a ⟨d.val, h⟩) - nrmE x g ⟨64 + d.val, by omega⟩ * Ideal.sin (a ⟨d.val, h⟩)
      else nrmE x g ⟨64 + (d.val - 64), by omega⟩ * Ideal.cos (a ⟨d.val - 64, by omega⟩) + nrmE x g ⟨d.val - 64, by omega⟩ * Ideal.sin (a ⟨d.val - 64, by omega⟩) := by
  unfold rotE cosT sinT
  by_cases h : d.val < 64
  · have e : (⟨(d.val + 128 - 64) % 128, by omega⟩ : Fin 128) = ⟨64 + d.val, by omega⟩ := Fin.ext (by change (d.val + 128 - 64) % 128 = 64 + d.val; omega)
    rw [dif_pos h, dif_pos h, dif_pos h, e, mul_neg, sub_eq_add_neg]
  · have e : (⟨(d.val + 128 - 64) % 128, by omega⟩ : Fin 128) = ⟨d.val - 64, by omega⟩ := Fin.ext (by change (d.val + 128 - 64) % 128 = d.val - 64; omega)
    have e' : (⟨64 + (d.val - 64), by omega⟩ : Fin 128) = d := Fin.ext (by change 64 + (d.val - 64) = d.val; omega)
    rw [dif_neg h, dif_neg h, dif_neg h, e, e']

end Cert.Nsa

end

end
-- ==== Proof.QkvBody.lean ====
/-
  The queries', keys' and values' preparation: what one run of the body leaves in its five output blocks.

  Every head's 128 columns are normalised by their root mean square, scaled by a gain, and rotated: an entry times the
  cosine plus the entry half a head away times the (signed) sine. The values are copied.
-/
module

public import proofs.«01_k».proof.Proof.Gen.Kernel7Ideal.Frame
public import Idealize.ShloMosaic.Lib.Pipeline.ValueKit
public import Idealize.ShloMosaic.Lib.Pipeline.ReadBack
public import proofs.«01_k».proof.Proof.Rotation

@[expose] public section

set_option maxRecDepth 16384

noncomputable section

open Idealize.ShloMosaic Idealize.ShloMosaic.TcCoe Idealize.SL.Sem Idealize.ShloMosaic.Tactic

namespace Cert.Kernel7Ideal.Qkv

open Cert.Kernel7Ideal Cert.Kernel7Ideal.Gen Cert.Nsa

/-- One head's columns as the body computes them. -/
def rotK (v1 v3 v256 : FVec Ideal S256x128 .f32) (v257 : FVec Ideal S1x128 .f32) : FVec Ideal S256x128 .f32 :=
  addf
    (mulf (mulf (mulf v256 (broadcastTo S256x128 (rsqrt (addf (divf
        (shapeCast S256x1 (multiReduction .add [1] S256 (mulf v256 v256) 0x00000000#32 reduces_S256x128_S256 (.inl rfl) rfl) shapeCasts_S256_S256x1)
        (broadcast S256x1 (Scalar.ofBits .f32 0x43000000#32))) (broadcast S256x1 (Scalar.ofBits .f32 0x358637BD#32)))) broadcasts_S256x1_S256x128))
      (broadcastTo S256x128 (shapeCast S1x128 v257 shapeCasts_S1x128_S1x128) broadcasts_S1x128_S256x128)) v1)
    (mulf (dynamicRotate 1 64#32 none
      (mulf (mulf v256 (broadcastTo S256x128 (rsqrt (addf (divf
        (shapeCast S256x1 (multiReduction .add [1] S256 (mulf v256 v256) 0x00000000#32 reduces_S256x128_S256 (.inl rfl) rfl) shapeCasts_S256_S256x1)
        (broadcast S256x1 (Scalar.ofBits .f32 0x43000000#32))) (broadcast S256x1 (Scalar.ofBits .f32 0x358637BD#32)))) broadcasts_S256x1_S256x128))
      (broadcastTo S256x128 (shapeCast S1x128 v257 shapeCasts_S1x128_S1x128) broadcasts_S1x128_S256x128)) rotates_S256x128_d1) v3)

/-- An entry of it is the rotation's entry. -/
theorem rotK_at (v1 v3 v256 : FVec Ideal S256x128 .f32) (v257 : FVec Ideal S1x128 .f32) (r : Fin 256) (d : Fin 128) :
    rotK v1 v3 v256 v257 (ix2 r d)
      = rotE (fun e => v256 (ix2 r e)) (fun e => v257 (ix2 0 e)) (fun e => v1 (ix2 r e)) (fun e => v3 (ix2 r e)) d := by
  pointwise [rotK, rotE, nrmE]

section
variable (x0 : Vec Ideal S256x2048 .f32) (x1 : Vec Ideal S256x3072 .f32) (x2 x3 : Vec Ideal S256x128 .f32) (x4 : Vec Ideal S1x128 .f32) (x5 : Vec Ideal S3x128 .f32)

/-- The block of the queries. -/
def blkQ (y : S256x2048.Idx) : EReal :=
  rotE (fun e => x0 (ix2 (y 0 : Fin 256) (⟨(y 1).val / 128 * 128 + e.val, by have : (y 1).val < 2048 := (y 1).isLt; omega⟩ : Fin 2048)))
    (fun e => x4 (ix2 0 e)) (fun e => x2 (ix2 (y 0 : Fin 256) e)) (fun e => x3 (ix2 (y 0 : Fin 256) e)) ⟨(y 1).val % 128, by omega⟩

/-- The block of the keys and values of all three branches. -/
def blkKV (y : S256x3072.Idx) : EReal :=
  if (y 1).val / 128 % 2 = 0 then
    rotE (fun e => x1 (ix2 (y 0 : Fin 256) (⟨(y 1).val / 128 * 128 + e.val, by have : (y 1).val < 3072 := (y 1).isLt; omega⟩ : Fin 3072)))
      (fun e => x5 (ix2 (⟨(y 1).val / 1024, by have : (y 1).val < 3072 := (y 1).isLt; omega⟩ : Fin 3) e))
      (fun e => x2 (ix2 (y 0 : Fin 256) e)) (fun e => x3 (ix2 (y 0 : Fin 256) e)) ⟨(y 1).val % 128, by omega⟩
  else x1 y

/-- One branch's block of keys and values. -/
def blkBr (n : Fin 3) (y : S256x1024.Idx) : EReal :=
  blkKV x1 x2 x3 x5 (ix2 (y 0 : Fin 256) (⟨n.val * 1024 + (y 1).val, by have : (y 1).val < 1024 := (y 1).isLt; omega⟩ : Fin 3072))

/-- A head of the queries. -/
theorem q_piece (o : ℕ) (h : ∀ a, ![0, o] a + ![256, 128] a ≤ S256x2048.size a) (h2 h3 h4) (x : S256x128.Idx) (y : S256x2048.Idx)
    (e0 : (y 0).val = (x 0).val) (e1 : (y 1).val = o + (x 1).val) (ho : o % 128 = 0) :
    rotK (shapeCast S256x128 (View.ld x2 (Rect.unit (s := S256x128) ![0, 0] ![256, 128] h2)) shapeCasts_S256x128_S256x128)
      (shapeCast S256x128 (View.ld x3 (Rect.unit (s := S256x128) ![0, 0] ![256, 128] h3)) shapeCasts_S256x128_S256x128)
      (View.ld x0 (Rect.unit (s := S256x2048) ![0, o] ![256, 128] h)) (View.ld x4 (Rect.unit (s := S1x128) ![0, 0] ![1, 128] h4)) x
      = blkQ x0 x2 x3 x4 y := by
  have hx0 : (x 0).val < 256 := (x 0).isLt
  have hx1 : (x 1).val < 128 := (x 1).isLt
  obtain ⟨r, d, rfl⟩ : ∃ (r : Fin 256) (d : Fin 128), x = ix2 r d := ⟨x 0, x 1, by funext a; fin_cases a <;> rfl⟩
  change d.val < 128 at hx1
  change (y 0).val = r.val at e0
  change (y 1).val = o + d.val at e1
  have hy : (y 0 : Fin 256) = r := Fin.ext e0
  have hd : (⟨(y 1).val % 128, by omega⟩ : Fin 128) = d := Fin.ext (by change (y 1).val % 128 = d.val; omega)
  have hb : (y 1).val < 2048 := (y 1).isLt
  rw [rotK_at, blkQ, hy, hd]
  have a0 : ∀ e : Fin 128, View.ld x0 (Rect.unit (s := S256x2048) ![0, o] ![256, 128] h) (ix2 r e)
      = x0 (ix2 r (⟨(y 1).val / 128 * 128 + e.val, by omega⟩ : Fin 2048)) := fun e => by
    refine congrArg x0 ?_
    funext a
    fin_cases a
    · exact Fin.ext (by change 0 + 1 * r.val = r.val; omega)
    · exact Fin.ext (by change o + 1 * e.val = (y 1).val / 128 * 128 + e.val; omega)
  have a4 : ∀ e : Fin 128, View.ld x4 (Rect.unit (s := S1x128) ![0, 0] ![1, 128] h4) (ix2 0 e) = x4 (ix2 0 e) := fun e => by
    refine congrArg x4 ?_
    funext a
    fin_cases a
    · rfl
    · exact Fin.ext (by change 0 + 1 * e.val = e.val; omega)
  have a2 : ∀ (z : Vec Ideal S256x128 .f32) (h2) (e : Fin 128), shapeCast S256x128 (View.ld z (Rect.unit (s := S256x128) ![0, 0] ![256, 128] h2)) shapeCasts_S256x128_S256x128 (ix2 r e)
      = z (ix2 r e) := fun z h2 e => by
    have q : View.ld z (Rect.unit (s := S256x128) ![0, 0] ![256, 128] h2) = z := by
      funext w
      refine congrArg z ?_
      funext a
      fin_cases a
      · exact Fin.ext (by change 0 + 1 * (w 0).val = (w 0).val; omega)
      · exact Fin.ext (by change 0 + 1 * (w 1).val = (w 1).val; omega)
    rw [q]
    pointwise []
  simp only [a0, a4, a2]

/-- A head of the keys. -/
theorem k_piece (o n : ℕ) (h : ∀ a, ![0, o] a + ![256, 128] a ≤ S256x3072.size a) (h2 h3) (h5 : ∀ a, ![n, 0] a + ![1, 128] a ≤ S3x128.size a)
    (x : S256x128.Idx) (y : S256x3072.Idx)
    (e0 : (y 0).val = (x 0).val) (e1 : (y 1).val = o + (x 1).val) (ho : o % 256 = 0) (hn : n = o / 1024) :
    rotK (shapeCast S256x128 (View.ld x2 (Rect.unit (s := S256x128) ![0, 0] ![256, 128] h2)) shapeCasts_S256x128_S256x128)
      (shapeCast S256x128 (View.ld x3 (Rect.unit (s := S256x128) ![0, 0] ![256, 128] h3)) shapeCasts_S256x128_S256x128)
      (View.ld x1 (Rect.unit (s := S256x3072) ![0, o] ![256, 128] h)) (View.ld x5 (Rect.unit (s := S3x128) ![n, 0] ![1, 128] h5)) x
      = blkKV x1 x2 x3 x5 y := by
  have hx0 : (x 0).val < 256 := (x 0).isLt
  have hx1 : (x 1).val < 128 := (x 1).isLt
  obtain ⟨r, d, rfl⟩ : ∃ (r : Fin 256) (d : Fin 128), x = ix2 r d := ⟨x 0, x 1, by funext a; fin_cases a <;> rfl⟩
  change d.val < 128 at hx1
  change (y 0).val = r.val at e0
  change (y 1).val = o + d.val at e1
  have hy : (y 0 : Fin 256) = r := Fin.ext e0
  have hd : (⟨(y 1).val % 128, by omega⟩ : Fin 128) = d := Fin.ext (by change (y 1).val % 128 = d.val; omega)
  have hb : (y 1).val < 3072 := (y 1).isLt
  rw [rotK_at, blkKV, if_pos (by omega), hy, hd]
  have a0 : ∀ e : Fin 128, View.ld x1 (Rect.unit (s := S256x3072) ![0, o] ![256, 128] h) (ix2 r e)
      = x1 (ix2 r (⟨(y 1).val / 128 * 128 + e.val, by omega⟩ : Fin 3072)) := fun e => by
    refine congrArg x1 ?_
    funext a
    fin_cases a
    · exact Fin.ext (by change 0 + 1 * r.val = r.val; omega)
    · exact Fin.ext (by change o + 1 * e.val = (y 1).val / 128 * 128 + e.val; omega)
  have a4 : ∀ e : Fin 128, View.ld x5 (Rect.unit (s := S3x128) ![n, 0] ![1, 128] h5) (ix2 0 e) = x5 (ix2 (⟨(y 1).val / 1024, by omega⟩ : Fin 3) e) := fun e => by
    refine congrArg x5 ?_
    funext a
    fin_cases a
    · exact Fin.ext (by change n + 1 * 0 = (y 1).val / 1024; omega)
    · exact Fin.ext (by change 0 + 1 * e.val = e.val; omega)
  have a2 : ∀ (z : Vec Ideal S256x128 .f32) (h2) (e : Fin 128), shapeCast S256x128 (View.ld z (Rect.unit (s := S256x128) ![0, 0] ![256, 128] h2)) shapeCasts_S256x128_S256x128 (ix2 r e)
      = z (ix2 r e) := fun z h2 e => by
    have q : View.ld z (Rect.unit (s := S256x128) ![0, 0] ![256, 128] h2) = z := by
      funext w
      refine congrArg z ?_
      funext a
      fin_cases a
      · exact Fin.ext (by change 0 + 1 * (w 0).val = (w 0).val; omega)
      · exact Fin.ext (by change 0 + 1 * (w 1).val = (w 1).val; omega)
    rw [q]
    pointwise []
  simp only [a0, a4, a2]

/-- A head of the values. -/
theorem v_piece (o : ℕ) (h : ∀ a, ![0, o] a + ![256, 128] a ≤ S256x3072.size a) (x : S256x128.Idx) (y : S256x3072.Idx)
    (e0 : (y 0).val = (x 0).val) (e1 : (y 1).val = o + (x 1).val) (ho : o % 256 = 128) :
    View.ld x1 (Rect.unit (s := S256x3072) ![0, o] ![256, 128] h) x = blkKV x1 x2 x3 x5 y := by
  have hx1 : (x 1).val < 128 := (x 1).isLt
  rw [blkKV, if_neg (by omega)]
  refine congrArg x1 ?_
  funext a
  fin_cases a
  · exact Fin.ext (by change 0 + 1 * (x 0).val = (y 0).val; omega)
  · exact Fin.ext (by change o + 1 * (x 1).val = (y 1).val; omega)

end

section
variable (c : Dev nD) (i : grid0.Coords) (arg1 : Memref sig .tc .vmem S256x2048 .f32) (harg1 : arg1.IsWhole) (arg2 : Memref sig .tc .vmem S256x3072 .f32) (harg2 : arg2.IsWhole) (arg3 : Memref sig .tc .vmem S256x128 .f32) (harg3 : arg3.IsWhole) (arg4 : Memref sig .tc .vmem S256x128 .f32) (harg4 : arg4.IsWhole) (arg5 : Memref sig .tc .vmem S1x128 .f32) (harg5 : arg5.IsWhole) (arg6 : Memref sig .tc .vmem S3x128 .f32) (harg6 : arg6.IsWhole) (arg7 : Memref sig .tc .vmem S256x2048 .bf16) (harg7 : arg7.IsWhole) (arg8 : Memref sig .tc .vmem S256x1024 .f32) (harg8 : arg8.IsWhole) (arg9 : Memref sig .tc .vmem S256x1024 .f32) (harg9 : arg9.IsWhole) (arg10 : Memref sig .tc .vmem S256x1024 .f32) (harg10 : arg10.IsWhole) (arg11 : Memref sig .tc .vmem S256x3072 .bf16) (harg11 : arg11.IsWhole)
    (x0 : Vec Ideal S256x2048 .f32) (x1 : Vec Ideal S256x3072 .f32) (x2 x3 : Vec Ideal S256x128 .f32) (x4 : Vec Ideal S1x128 .f32) (x5 : Vec Ideal S3x128 .f32)

/-- The queries' block. -/
theorem out_q : out0_A_6 (F := Ideal) c i arg1 harg1 arg2 harg2 arg3 harg3 arg4 harg4 arg5 harg5 arg6 harg6 arg7 harg7 arg8 harg8 arg9 harg9 arg10 harg10 arg11 harg11 x0 x1 x2 x3 x4 x5 = blkQ x0 x2 x3 x4 := by
  rw [out0_A_6, View.read_writes_eq_canon _ _ _ (cover0_A_6 c i arg1 harg1 arg2 harg2 arg3 harg3 arg4 harg4 arg5 harg5 arg6 harg6 arg7 harg7 arg8 harg8 arg9 harg9 arg10 harg10 arg11 harg11 x0 x1 x2 x3 x4 x5)]
  funext y
  have hc := cover0_A_6 c i arg1 harg1 arg2 harg2 arg3 harg3 arg4 harg4 arg5 harg5 arg6 harg6 arg7 harg7 arg8 harg8 arg9 harg9 arg10 harg10 arg11 harg11 x0 x1 x2 x3 x4 x5 y
  revert hc
  dsimp only [kernelRun0_A]
  simp only [kernelRun0_A.sl.r, kernelRun0_A.sl.r_1, kernelRun0_A.sl.r_2, kernelRun0_A.sl.r_3, kernelRun0_A.sl.r_4, kernelRun0_A.sl.r_5, kernelRun0_A.sl.r_6, kernelRun0_A.sl.r_7, kernelRun0_A.sl.r_8, kernelRun0_A.sl.r_9, kernelRun0_A.sl.r_10, kernelRun0_A.sl.r_11, kernelRun0_A.sl.r_12, kernelRun0_A.sl.r_13, kernelRun0_A.sl.r_14, kernelRun0_A.sl.r_15, kernelRun0_A.sl.r_16, kernelRun0_A.sl.r_17, kernelRun0_A.sl.r_18, kernelRun0_A.sl.r_19, kernelRun0_A.sl.r_20, kernelRun0_A.sl.r_21, kernelRun0_A.sl.r_22, kernelRun0_A.sl.r_23, kernelRun0_A.sl.r_24, kernelRun0_A.sl.r_25, kernelRun0_A.sl.r_26, kernelRun0_A.sl.r_27, kernelRun0_A.sl.r_28, kernelRun0_A.sl.r_29, kernelRun0_A.sl.r_30, kernelRun0_A.sl.r_31, kernelRun0_A.sl.r_32, kernelRun0_A.sl.r_33, kernelRun0_A.sl.r_34, kernelRun0_A.sl.r_35, kernelRun0_A.sl.r_36, kernelRun0_A.sl.r_37, kernelRun0_A.sl.r_38, k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, View.readAt_eq_ld, Memref.IsWhole.read_unread]
  intro hc
  refine View.canon_append_of_piecesOf (blkQ x0 x2 x3 x4) [] [_, _, _, _, _, _, _, _, _, _, _, _, _, _, _, _] ⟨?_, ?_, ?_, ?_, ?_, ?_, ?_, ?_, ?_, ?_, ?_, ?_, ?_, ?_, ?_, ?_, trivial⟩ y hc
  · exact fun x => q_piece x0 x2 x3 x4 1920 _ _ _ _ x _ (by change 0 + 1 * (x 0).val = _; omega) (by change 1920 + 1 * (x 1).val = _; omega) rfl
  · exact fun x => q_piece x0 x2 x3 x4 1792 _ _ _ _ x _ (by change 0 + 1 * (x 0).val = _; omega) (by change 1792 + 1 * (x 1).val = _; omega) rfl
  · exact fun x => q_piece x0 x2 x3 x4 1664 _ _ _ _ x _ (by change 0 + 1 * (x 0).val = _; omega) (by change 1664 + 1 * (x 1).val = _; omega) rfl
  · exact fun x => q_piece x0 x2 x3 x4 1536 _ _ _ _ x _ (by change 0 + 1 * (x 0).val = _; omega) (by change 1536 + 1 * (x 1).val = _; omega) rfl
  · exact fun x => q_piece x0 x2 x3 x4 1408 _ _ _ _ x _ (by change 0 + 1 * (x 0).val = _; omega) (by change 1408 + 1 * (x 1).val = _; omega) rfl
  · exact fun x => q_piece x0 x2 x3 x4 1280 _ _ _ _ x _ (by change 0 + 1 * (x 0).val = _; omega) (by change 1280 + 1 * (x 1).val = _; omega) rfl
  · exact fun x => q_piece x0 x2 x3 x4 1152 _ _ _ _ x _ (by change 0 + 1 * (x 0).val = _; omega) (by change 1152 + 1 * (x 1).val = _; omega) rfl
  · exact fun x => q_piece x0 x2 x3 x4 1024 _ _ _ _ x _ (by change 0 + 1 * (x 0).val = _; omega) (by change 1024 + 1 * (x 1).val = _; omega) rfl
  · exact fun x => q_piece x0 x2 x3 x4 896 _ _ _ _ x _ (by change 0 + 1 * (x 0).val = _; omega) (by change 896 + 1 * (x 1).val = _; omega) rfl
  · exact fun x => q_piece x0 x2 x3 x4 768 _ _ _ _ x _ (by change 0 + 1 * (x 0).val = _; omega) (by change 768 + 1 * (x 1).val = _; omega) rfl
  · exact fun x => q_piece x0 x2 x3 x4 640 _ _ _ _ x _ (by change 0 + 1 * (x 0).val = _; omega) (by change 640 + 1 * (x 1).val = _; omega) rfl
  · exact fun x => q_piece x0 x2 x3 x4 512 _ _ _ _ x _ (by change 0 + 1 * (x 0).val = _; omega) (by change 512 + 1 * (x 1).val = _; omega) rfl
  · exact fun x => q_piece x0 x2 x3 x4 384 _ _ _ _ x _ (by change 0 + 1 * (x 0).val = _; omega) (by change 384 + 1 * (x 1).val = _; omega) rfl
  · exact fun x => q_piece x0 x2 x3 x4 256 _ _ _ _ x _ (by change 0 + 1 * (x 0).val = _; omega) (by change 256 + 1 * (x 1).val = _; omega) rfl
  · exact fun x => q_piece x0 x2 x3 x4 128 _ _ _ _ x _ (by change 0 + 1 * (x 0).val = _; omega) (by change 128 + 1 * (x 1).val = _; omega) rfl
  · exact fun x => q_piece x0 x2 x3 x4 0 _ _ _ _ x _ (by change 0 + 1 * (x 0).val = _; omega) (by change 0 + 1 * (x 1).val = _; omega) rfl

/-- The compressed branch's block. -/
theorem out_c : out0_A_7 (F := Ideal) c i arg1 harg1 arg2 harg2 arg3 harg3 arg4 harg4 arg5 harg5 arg6 harg6 arg7 harg7 arg8 harg8 arg9 harg9 arg10 harg10 arg11 harg11 x0 x1 x2 x3 x4 x5 = blkBr x1 x2 x3 x5 0 := by
  rw [out0_A_7, View.read_writes_eq_canon _ _ _ (cover0_A_7 c i arg1 harg1 arg2 harg2 arg3 harg3 arg4 harg4 arg5 harg5 arg6 harg6 arg7 harg7 arg8 harg8 arg9 harg9 arg10 harg10 arg11 harg11 x0 x1 x2 x3 x4 x5)]
  funext y
  have hc := cover0_A_7 c i arg1 harg1 arg2 harg2 arg3 harg3 arg4 harg4 arg5 harg5 arg6 harg6 arg7 harg7 arg8 harg8 arg9 harg9 arg10 harg10 arg11 harg11 x0 x1 x2 x3 x4 x5 y
  revert hc
  dsimp only [kernelRun0_A]
  simp only [kernelRun0_A.sl.r, kernelRun0_A.sl.r_1, kernelRun0_A.sl.r_2, kernelRun0_A.sl.r_3, kernelRun0_A.sl.r_4, kernelRun0_A.sl.r_5, kernelRun0_A.sl.r_6, kernelRun0_A.sl.r_7, kernelRun0_A.sl.r_8, kernelRun0_A.sl.r_9, kernelRun0_A.sl.r_10, kernelRun0_A.sl.r_11, kernelRun0_A.sl.r_12, kernelRun0_A.sl.r_13, kernelRun0_A.sl.r_14, kernelRun0_A.sl.r_15, kernelRun0_A.sl.r_16, kernelRun0_A.sl.r_17, kernelRun0_A.sl.r_18, kernelRun0_A.sl.r_19, kernelRun0_A.sl.r_20, kernelRun0_A.sl.r_21, kernelRun0_A.sl.r_22, kernelRun0_A.sl.r_23, kernelRun0_A.sl.r_24, kernelRun0_A.sl.r_25, kernelRun0_A.sl.r_26, kernelRun0_A.sl.r_27, kernelRun0_A.sl.r_28, kernelRun0_A.sl.r_29, kernelRun0_A.sl.r_30, kernelRun0_A.sl.r_31, kernelRun0_A.sl.r_32, kernelRun0_A.sl.r_33, kernelRun0_A.sl.r_34, kernelRun0_A.sl.r_35, kernelRun0_A.sl.r_36, kernelRun0_A.sl.r_37, kernelRun0_A.sl.r_38, k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, View.readAt_eq_ld, Memref.IsWhole.read_unread]
  intro hc
  refine View.canon_append_of_piecesOf (blkBr x1 x2 x3 x5 0) [] [_, _, _, _, _, _, _, _] ⟨?_, ?_, ?_, ?_, ?_, ?_, ?_, ?_, trivial⟩ y hc
  · exact fun x => v_piece x1 x2 x3 x5 896 _ x _ (by change 0 + 1 * (x 0).val = _; omega) (by change 0 + (896 + 1 * (x 1).val) = _; omega) rfl
  · exact fun x => k_piece x1 x2 x3 x5 768 0 _ _ _ _ x _ (by change 0 + 1 * (x 0).val = _; omega) (by change 0 + (768 + 1 * (x 1).val) = _; omega) rfl rfl
  · exact fun x => v_piece x1 x2 x3 x5 640 _ x _ (by change 0 + 1 * (x 0).val = _; omega) (by change 0 + (640 + 1 * (x 1).val) = _; omega) rfl
  · exact fun x => k_piece x1 x2 x3 x5 512 0 _ _ _ _ x _ (by change 0 + 1 * (x 0).val = _; omega) (by change 0 + (512 + 1 * (x 1).val) = _; omega) rfl rfl
  · exact fun x => v_piece x1 x2 x3 x5 384 _ x _ (by change 0 + 1 * (x 0).val = _; omega) (by change 0 + (384 + 1 * (x 1).val) = _; omega) rfl
  · exact fun x => k_piece x1 x2 x3 x5 256 0 _ _ _ _ x _ (by change 0 + 1 * (x 0).val = _; omega) (by change 0 + (256 + 1 * (x 1).val) = _; omega) rfl rfl
  · exact fun x => v_piece x1 x2 x3 x5 128 _ x _ (by change 0 + 1 * (x 0).val = _; omega) (by change 0 + (128 + 1 * (x 1).val) = _; omega) rfl
  · exact fun x => k_piece x1 x2 x3 x5 0 0 _ _ _ _ x _ (by change 0 + 1 * (x 0).val = _; omega) (by change 0 + (0 + 1 * (x 1).val) = _; omega) rfl rfl

/-- The selected branch's block. -/
theorem out_s : out0_A_8 (F := Ideal) c i arg1 harg1 arg2 harg2 arg3 harg3 arg4 harg4 arg5 harg5 arg6 harg6 arg7 harg7 arg8 harg8 arg9 harg9 arg10 harg10 arg11 harg11 x0 x1 x2 x3 x4 x5 = blkBr x1 x2 x3 x5 1 := by
  rw [out0_A_8, View.read_writes_eq_canon _ _ _ (cover0_A_8 c i arg1 harg1 arg2 harg2 arg3 harg3 arg4 harg4 arg5 harg5 arg6 harg6 arg7 harg7 arg8 harg8 arg9 harg9 arg10 harg10 arg11 harg11 x0 x1 x2 x3 x4 x5)]
  funext y
  have hc := cover0_A_8 c i arg1 harg1 arg2 harg2 arg3 harg3 arg4 harg4 arg5 harg5 arg6 harg6 arg7 harg7 arg8 harg8 arg9 harg9 arg10 harg10 arg11 harg11 x0 x1 x2 x3 x4 x5 y
  revert hc
  dsimp only [kernelRun0_A]
  simp only [kernelRun0_A.sl.r, kernelRun0_A.sl.r_1, kernelRun0_A.sl.r_2, kernelRun0_A.sl.r_3, kernelRun0_A.sl.r_4, kernelRun0_A.sl.r_5, kernelRun0_A.sl.r_6, kernelRun0_A.sl.r_7, kernelRun0_A.sl.r_8, kernelRun0_A.sl.r_9, kernelRun0_A.sl.r_10, kernelRun0_A.sl.r_11, kernelRun0_A.sl.r_12, kernelRun0_A.sl.r_13, kernelRun0_A.sl.r_14, kernelRun0_A.sl.r_15, kernelRun0_A.sl.r_16, kernelRun0_A.sl.r_17, kernelRun0_A.sl.r_18, kernelRun0_A.sl.r_19, kernelRun0_A.sl.r_20, kernelRun0_A.sl.r_21, kernelRun0_A.sl.r_22, kernelRun0_A.sl.r_23, kernelRun0_A.sl.r_24, kernelRun0_A.sl.r_25, kernelRun0_A.sl.r_26, kernelRun0_A.sl.r_27, kernelRun0_A.sl.r_28, kernelRun0_A.sl.r_29, kernelRun0_A.sl.r_30, kernelRun0_A.sl.r_31, kernelRun0_A.sl.r_32, kernelRun0_A.sl.r_33, kernelRun0_A.sl.r_34, kernelRun0_A.sl.r_35, kernelRun0_A.sl.r_36, kernelRun0_A.sl.r_37, kernelRun0_A.sl.r_38, k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, View.readAt_eq_ld, Memref.IsWhole.read_unread]
  intro hc
  refine View.canon_append_of_piecesOf (blkBr x1 x2 x3 x5 1) [] [_, _, _, _, _, _, _, _] ⟨?_, ?_, ?_, ?_, ?_, ?_, ?_, ?_, trivial⟩ y hc
  · exact fun x => v_piece x1 x2 x3 x5 1920 _ x _ (by change 0 + 1 * (x 0).val = _; omega) (by change 1024 + (896 + 1 * (x 1).val) = _; omega) rfl
  · exact fun x => k_piece x1 x2 x3 x5 1792 1 _ _ _ _ x _ (by change 0 + 1 * (x 0).val = _; omega) (by change 1024 + (768 + 1 * (x 1).val) = _; omega) rfl rfl
  · exact fun x => v_piece x1 x2 x3 x5 1664 _ x _ (by change 0 + 1 * (x 0).val = _; omega) (by change 1024 + (640 + 1 * (x 1).val) = _; omega) rfl
  · exact fun x => k_piece x1 x2 x3 x5 1536 1 _ _ _ _ x _ (by change 0 + 1 * (x 0).val = _; omega) (by change 1024 + (512 + 1 * (x 1).val) = _; omega) rfl rfl
  · exact fun x => v_piece x1 x2 x3 x5 1408 _ x _ (by change 0 + 1 * (x 0).val = _; omega) (by change 1024 + (384 + 1 * (x 1).val) = _; omega) rfl
  · exact fun x => k_piece x1 x2 x3 x5 1280 1 _ _ _ _ x _ (by change 0 + 1 * (x 0).val = _; omega) (by change 1024 + (256 + 1 * (x 1).val) = _; omega) rfl rfl
  · exact fun x => v_piece x1 x2 x3 x5 1152 _ x _ (by change 0 + 1 * (x 0).val = _; omega) (by change 1024 + (128 + 1 * (x 1).val) = _; omega) rfl
  · exact fun x => k_piece x1 x2 x3 x5 1024 1 _ _ _ _ x _ (by change 0 + 1 * (x 0).val = _; omega) (by change 1024 + (0 + 1 * (x 1).val) = _; omega) rfl rfl

/-- The window branch's block. -/
theorem out_w : out0_A_9 (F := Ideal) c i arg1 harg1 arg2 harg2 arg3 harg3 arg4 harg4 arg5 harg5 arg6 harg6 arg7 harg7 arg8 harg8 arg9 harg9 arg10 harg10 arg11 harg11 x0 x1 x2 x3 x4 x5 = blkBr x1 x2 x3 x5 2 := by
  rw [out0_A_9, View.read_writes_eq_canon _ _ _ (cover0_A_9 c i arg1 harg1 arg2 harg2 arg3 harg3 arg4 harg4 arg5 harg5 arg6 harg6 arg7 harg7 arg8 harg8 arg9 harg9 arg10 harg10 arg11 harg11 x0 x1 x2 x3 x4 x5)]
  funext y
  have hc := cover0_A_9 c i arg1 harg1 arg2 harg2 arg3 harg3 arg4 harg4 arg5 harg5 arg6 harg6 arg7 harg7 arg8 harg8 arg9 harg9 arg10 harg10 arg11 harg11 x0 x1 x2 x3 x4 x5 y
  revert hc
  dsimp only [kernelRun0_A]
  simp only [kernelRun0_A.sl.r, kernelRun0_A.sl.r_1, kernelRun0_A.sl.r_2, kernelRun0_A.sl.r_3, kernelRun0_A.sl.r_4, kernelRun0_A.sl.r_5, kernelRun0_A.sl.r_6, kernelRun0_A.sl.r_7, kernelRun0_A.sl.r_8, kernelRun0_A.sl.r_9, kernelRun0_A.sl.r_10, kernelRun0_A.sl.r_11, kernelRun0_A.sl.r_12, kernelRun0_A.sl.r_13, kernelRun0_A.sl.r_14, kernelRun0_A.sl.r_15, kernelRun0_A.sl.r_16, kernelRun0_A.sl.r_17, kernelRun0_A.sl.r_18, kernelRun0_A.sl.r_19, kernelRun0_A.sl.r_20, kernelRun0_A.sl.r_21, kernelRun0_A.sl.r_22, kernelRun0_A.sl.r_23, kernelRun0_A.sl.r_24, kernelRun0_A.sl.r_25, kernelRun0_A.sl.r_26, kernelRun0_A.sl.r_27, kernelRun0_A.sl.r_28, kernelRun0_A.sl.r_29, kernelRun0_A.sl.r_30, kernelRun0_A.sl.r_31, kernelRun0_A.sl.r_32, kernelRun0_A.sl.r_33, kernelRun0_A.sl.r_34, kernelRun0_A.sl.r_35, kernelRun0_A.sl.r_36, kernelRun0_A.sl.r_37, kernelRun0_A.sl.r_38, k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, View.readAt_eq_ld, Memref.IsWhole.read_unread]
  intro hc
  refine View.canon_append_of_piecesOf (blkBr x1 x2 x3 x5 2) [] [_, _, _, _, _, _, _, _] ⟨?_, ?_, ?_, ?_, ?_, ?_, ?_, ?_, trivial⟩ y hc
  · exact fun x => v_piece x1 x2 x3 x5 2944 _ x _ (by change 0 + 1 * (x 0).val = _; omega) (by change 2048 + (896 + 1 * (x 1).val) = _; omega) rfl
  · exact fun x => k_piece x1 x2 x3 x5 2816 2 _ _ _ _ x _ (by change 0 + 1 * (x 0).val = _; omega) (by change 2048 + (768 + 1 * (x 1).val) = _; omega) rfl rfl
  · exact fun x => v_piece x1 x2 x3 x5 2688 _ x _ (by change 0 + 1 * (x 0).val = _; omega) (by change 2048 + (640 + 1 * (x 1).val) = _; omega) rfl
  · exact fun x => k_piece x1 x2 x3 x5 2560 2 _ _ _ _ x _ (by change 0 + 1 * (x 0).val = _; omega) (by change 2048 + (512 + 1 * (x 1).val) = _; omega) rfl rfl
  · exact fun x => v_piece x1 x2 x3 x5 2432 _ x _ (by change 0 + 1 * (x 0).val = _; omega) (by change 2048 + (384 + 1 * (x 1).val) = _; omega) rfl
  · exact fun x => k_piece x1 x2 x3 x5 2304 2 _ _ _ _ x _ (by change 0 + 1 * (x 0).val = _; omega) (by change 2048 + (256 + 1 * (x 1).val) = _; omega) rfl rfl
  · exact fun x => v_piece x1 x2 x3 x5 2176 _ x _ (by change 0 + 1 * (x 0).val = _; omega) (by change 2048 + (128 + 1 * (x 1).val) = _; omega) rfl
  · exact fun x => k_piece x1 x2 x3 x5 2048 2 _ _ _ _ x _ (by change 0 + 1 * (x 0).val = _; omega) (by change 2048 + (0 + 1 * (x 1).val) = _; omega) rfl rfl

/-- The three branches' block. -/
theorem out_kv : out0_A_10 (F := Ideal) c i arg1 harg1 arg2 harg2 arg3 harg3 arg4 harg4 arg5 harg5 arg6 harg6 arg7 harg7 arg8 harg8 arg9 harg9 arg10 harg10 arg11 harg11 x0 x1 x2 x3 x4 x5 = blkKV x1 x2 x3 x5 := by
  rw [out0_A_10, View.read_writes_eq_canon _ _ _ (cover0_A_10 c i arg1 harg1 arg2 harg2 arg3 harg3 arg4 harg4 arg5 harg5 arg6 harg6 arg7 harg7 arg8 harg8 arg9 harg9 arg10 harg10 arg11 harg11 x0 x1 x2 x3 x4 x5)]
  funext y
  have hc := cover0_A_10 c i arg1 harg1 arg2 harg2 arg3 harg3 arg4 harg4 arg5 harg5 arg6 harg6 arg7 harg7 arg8 harg8 arg9 harg9 arg10 harg10 arg11 harg11 x0 x1 x2 x3 x4 x5 y
  revert hc
  dsimp only [kernelRun0_A]
  simp only [kernelRun0_A.sl.r, kernelRun0_A.sl.r_1, kernelRun0_A.sl.r_2, kernelRun0_A.sl.r_3, kernelRun0_A.sl.r_4, kernelRun0_A.sl.r_5, kernelRun0_A.sl.r_6, kernelRun0_A.sl.r_7, kernelRun0_A.sl.r_8, kernelRun0_A.sl.r_9, kernelRun0_A.sl.r_10, kernelRun0_A.sl.r_11, kernelRun0_A.sl.r_12, kernelRun0_A.sl.r_13, kernelRun0_A.sl.r_14, kernelRun0_A.sl.r_15, kernelRun0_A.sl.r_16, kernelRun0_A.sl.r_17, kernelRun0_A.sl.r_18, kernelRun0_A.sl.r_19, kernelRun0_A.sl.r_20, kernelRun0_A.sl.r_21, kernelRun0_A.sl.r_22, kernelRun0_A.sl.r_23, kernelRun0_A.sl.r_24, kernelRun0_A.sl.r_25, kernelRun0_A.sl.r_26, kernelRun0_A.sl.r_27, kernelRun0_A.sl.r_28, kernelRun0_A.sl.r_29, kernelRun0_A.sl.r_30, kernelRun0_A.sl.r_31, kernelRun0_A.sl.r_32, kernelRun0_A.sl.r_33, kernelRun0_A.sl.r_34, kernelRun0_A.sl.r_35, kernelRun0_A.sl.r_36, kernelRun0_A.sl.r_37, kernelRun0_A.sl.r_38, k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, View.readAt_eq_ld, Memref.IsWhole.read_unread]
  intro hc
  refine View.canon_append_of_piecesOf (blkKV x1 x2 x3 x5) [] [_, _, _, _, _, _, _, _, _, _, _, _, _, _, _, _, _, _, _, _, _, _, _, _] ⟨?_, ?_, ?_, ?_, ?_, ?_, ?_, ?_, ?_, ?_, ?_, ?_, ?_, ?_, ?_, ?_, ?_, ?_, ?_, ?_, ?_, ?_, ?_, ?_, trivial⟩ y hc
  · exact fun x => v_piece x1 x2 x3 x5 2944 _ x _ (by change 0 + 1 * (x 0).val = _; omega) (by change 2944 + 1 * (x 1).val = _; omega) rfl
  · exact fun x => k_piece x1 x2 x3 x5 2816 2 _ _ _ _ x _ (by change 0 + 1 * (x 0).val = _; omega) (by change 2816 + 1 * (x 1).val = _; omega) rfl rfl
  · exact fun x => v_piece x1 x2 x3 x5 2688 _ x _ (by change 0 + 1 * (x 0).val = _; omega) (by change 2688 + 1 * (x 1).val = _; omega) rfl
  · exact fun x => k_piece x1 x2 x3 x5 2560 2 _ _ _ _ x _ (by change 0 + 1 * (x 0).val = _; omega) (by change 2560 + 1 * (x 1).val = _; omega) rfl rfl
  · exact fun x => v_piece x1 x2 x3 x5 2432 _ x _ (by change 0 + 1 * (x 0).val = _; omega) (by change 2432 + 1 * (x 1).val = _; omega) rfl
  · exact fun x => k_piece x1 x2 x3 x5 2304 2 _ _ _ _ x _ (by change 0 + 1 * (x 0).val = _; omega) (by change 2304 + 1 * (x 1).val = _; omega) rfl rfl
  · exact fun x => v_piece x1 x2 x3 x5 2176 _ x _ (by change 0 + 1 * (x 0).val = _; omega) (by change 2176 + 1 * (x 1).val = _; omega) rfl
  · exact fun x => k_piece x1 x2 x3 x5 2048 2 _ _ _ _ x _ (by change 0 + 1 * (x 0).val = _; omega) (by change 2048 + 1 * (x 1).val = _; omega) rfl rfl
  · exact fun x => v_piece x1 x2 x3 x5 1920 _ x _ (by change 0 + 1 * (x 0).val = _; omega) (by change 1920 + 1 * (x 1).val = _; omega) rfl
  · exact fun x => k_piece x1 x2 x3 x5 1792 1 _ _ _ _ x _ (by change 0 + 1 * (x 0).val = _; omega) (by change 1792 + 1 * (x 1).val = _; omega) rfl rfl
  · exact fun x => v_piece x1 x2 x3 x5 1664 _ x _ (by change 0 + 1 * (x 0).val = _; omega) (by change 1664 + 1 * (x 1).val = _; omega) rfl
  · exact fun x => k_piece x1 x2 x3 x5 1536 1 _ _ _ _ x _ (by change 0 + 1 * (x 0).val = _; omega) (by change 1536 + 1 * (x 1).val = _; omega) rfl rfl
  · exact fun x => v_piece x1 x2 x3 x5 1408 _ x _ (by change 0 + 1 * (x 0).val = _; omega) (by change 1408 + 1 * (x 1).val = _; omega) rfl
  · exact fun x => k_piece x1 x2 x3 x5 1280 1 _ _ _ _ x _ (by change 0 + 1 * (x 0).val = _; omega) (by change 1280 + 1 * (x 1).val = _; omega) rfl rfl
  · exact fun x => v_piece x1 x2 x3 x5 1152 _ x _ (by change 0 + 1 * (x 0).val = _; omega) (by change 1152 + 1 * (x 1).val = _; omega) rfl
  · exact fun x => k_piece x1 x2 x3 x5 1024 1 _ _ _ _ x _ (by change 0 + 1 * (x 0).val = _; omega) (by change 1024 + 1 * (x 1).val = _; omega) rfl rfl
  · exact fun x => v_piece x1 x2 x3 x5 896 _ x _ (by change 0 + 1 * (x 0).val = _; omega) (by change 896 + 1 * (x 1).val = _; omega) rfl
  · exact fun x => k_piece x1 x2 x3 x5 768 0 _ _ _ _ x _ (by change 0 + 1 * (x 0).val = _; omega) (by change 768 + 1 * (x 1).val = _; omega) rfl rfl
  · exact fun x => v_piece x1 x2 x3 x5 640 _ x _ (by change 0 + 1 * (x 0).val = _; omega) (by change 640 + 1 * (x 1).val = _; omega) rfl
  · exact fun x => k_piece x1 x2 x3 x5 512 0 _ _ _ _ x _ (by change 0 + 1 * (x 0).val = _; omega) (by change 512 + 1 * (x 1).val = _; omega) rfl rfl
  · exact fun x => v_piece x1 x2 x3 x5 384 _ x _ (by change 0 + 1 * (x 0).val = _; omega) (by change 384 + 1 * (x 1).val = _; omega) rfl
  · exact fun x => k_piece x1 x2 x3 x5 256 0 _ _ _ _ x _ (by change 0 + 1 * (x 0).val = _; omega) (by change 256 + 1 * (x 1).val = _; omega) rfl rfl
  · exact fun x => v_piece x1 x2 x3 x5 128 _ x _ (by change 0 + 1 * (x 0).val = _; omega) (by change 128 + 1 * (x 1).val = _; omega) rfl
  · exact fun x => k_piece x1 x2 x3 x5 0 0 _ _ _ _ x _ (by change 0 + 1 * (x 0).val = _; omega) (by change 0 + 1 * (x 1).val = _; omega) rfl rfl

end

end Cert.Kernel7Ideal.Qkv

end

end
-- ==== Proof.QkvArr.lean ====
/-
  The queries', keys' and values' preparation: what the five arrays hold after the run.

  Every point of the grid writes 256 rows of each array, so an array's row is what the body leaves from that row of its
  inputs.
-/
module

public import proofs.«01_k».proof.Proof.QkvBody

@[expose] public section

set_option maxRecDepth 16384

noncomputable section

open Idealize.ShloMosaic Idealize.ShloMosaic.TcCoe Idealize.SL.Sem Idealize.ShloMosaic.Tactic
open Idealize.ShloMosaic.Pipeline (Dat)

namespace Cert.Kernel7Ideal.Qkv

open Cert.Kernel7Ideal Cert.Kernel7Ideal.Gen Cert.Nsa

section
variable (Y : FVec Ideal S8192x9216 .f32) (C S : FVec Ideal S8192x128 .f32) (G : FVec Ideal S1x128 .f32) (H : FVec Ideal S3x128 .f32)

/-- The queries, every head normalised and rotated. -/
def arrQ (j : S8192x2048.Idx) : EReal :=
  rotE (fun e => Y (ix2 (j 0 : Fin 8192) (⟨(j 1).val / 128 * 128 + e.val, by have : (j 1).val < 2048 := (j 1).isLt; omega⟩ : Fin 9216)))
    (fun e => G (ix2 0 e)) (fun e => C (ix2 (j 0 : Fin 8192) e)) (fun e => S (ix2 (j 0 : Fin 8192) e)) ⟨(j 1).val % 128, by omega⟩

/-- The keys and values of all three branches: keys normalised and rotated, values copied. -/
def arrKV (j : S8192x3072.Idx) : EReal :=
  if (j 1).val / 128 % 2 = 0 then
    rotE (fun e => Y (ix2 (j 0 : Fin 8192) (⟨6144 + ((j 1).val / 128 * 128 + e.val), by have : (j 1).val < 3072 := (j 1).isLt; omega⟩ : Fin 9216)))
      (fun e => H (ix2 (⟨(j 1).val / 1024, by have : (j 1).val < 3072 := (j 1).isLt; omega⟩ : Fin 3) e))
      (fun e => C (ix2 (j 0 : Fin 8192) e)) (fun e => S (ix2 (j 0 : Fin 8192) e)) ⟨(j 1).val % 128, by omega⟩
  else Y (ix2 (j 0 : Fin 8192) (⟨6144 + (j 1).val, by have : (j 1).val < 3072 := (j 1).isLt; omega⟩ : Fin 9216))

/-- One branch's keys and values. -/
def arrBr (n : Fin 3) (j : S8192x1024.Idx) : EReal :=
  arrKV Y C S H (ix2 (j 0 : Fin 8192) (⟨n.val * 1024 + (j 1).val, by have : (j 1).val < 1024 := (j 1).isLt; omega⟩ : Fin 3072))
end

variable (m : (ℓ : Loc nD τ sig) → Buf (Elt Ideal) ℓ)

/-- Each window's block index at every point of the grid. -/
theorem idx : ∀ t : Fin cfg0.N, win0_0.index t = ![(grid0.coords t 0).val, 0]
    ∧ win0_1.index t = ![(grid0.coords t 0).val, 2]
    ∧ win0_2.index t = ![(grid0.coords t 0).val, 0]
    ∧ win0_3.index t = ![(grid0.coords t 0).val, 0]
    ∧ win0_4.index t = ![0, 0]
    ∧ win0_5.index t = ![0, 0]
    ∧ win0_6.index t = ![(grid0.coords t 0).val, 0]
    ∧ win0_7.index t = ![(grid0.coords t 0).val, 0]
    ∧ win0_8.index t = ![(grid0.coords t 0).val, 0]
    ∧ win0_9.index t = ![(grid0.coords t 0).val, 0]
    ∧ win0_10.index t = ![(grid0.coords t 0).val, 0] :=
  (by decide +kernel : ∀ t : Fin grid0.N, _)

theorem row_lt (t : Fin cfg0.N) (r : Fin 256) : (grid0.coords t 0).val * 256 + r.val < 8192 := by
  have : (grid0.coords t 0).val < 32 := (grid0.coords t 0).isLt
  omega

/-- The row of the arrays a row of a point's blocks stands for. -/
abbrev rowAt (t : Fin cfg0.N) (r : Fin 256) : Fin 8192 := ⟨(grid0.coords t 0).val * 256 + r.val, row_lt t r⟩

theorem rd0 (c : Dev nD) (t : Fin cfg0.N) (r : Fin 256) (e : Fin 2048) :
    X0_0 m c t (ix2 r e) = V m c main_arg0 (ix2 (rowAt t r) (⟨e.val, by omega⟩ : Fin 9216)) := by
  unfold X0_0 Pipeline.Window.fill
  rw [dif_pos (moved0_0 t _)]
  blk_point [iblk, idx t]

theorem rd1 (c : Dev nD) (t : Fin cfg0.N) (r : Fin 256) (e : Fin 3072) :
    iblk m c 1 t (ix2 r e) = V m c main_arg0 (ix2 (rowAt t r) (⟨6144 + e.val, by omega⟩ : Fin 9216)) := by
  blk_point [iblk, idx t]

theorem rd2 (c : Dev nD) (t : Fin cfg0.N) (r : Fin 256) (e : Fin 128) :
    iblk m c 2 t (ix2 r e) = V m c main_v18 (ix2 (rowAt t r) e) := by
  blk_point [iblk, idx t]

theorem rd3 (c : Dev nD) (t : Fin cfg0.N) (r : Fin 256) (e : Fin 128) :
    iblk m c 3 t (ix2 r e) = V m c main_v25 (ix2 (rowAt t r) e) := by
  blk_point [iblk, idx t]

theorem rd4 (c : Dev nD) (t : Fin cfg0.N) (e : Fin 128) :
    iblk m c 4 t (ix2 (0 : Fin 1) e) = V m c main_v28 (ix2 (0 : Fin 1) e) := by
  blk_point [iblk, idx t]

theorem rd5 (c : Dev nD) (t : Fin cfg0.N) (n : Fin 3) (e : Fin 128) :
    iblk m c 5 t (ix2 n e) = V m c main_v27 (ix2 n e) := by
  blk_point [iblk, idx t]

/-- Where an index of an output's block stands in its array. -/
theorem emb6 (f : S8192x2048.Idx → EReal) (t : Fin cfg0.N) (y : S256x2048.Idx) :
    f (((cfg0.win 6).blk t).view.emb y) = f (ix2 (rowAt t (y 0)) (y 1)) := by
  blk_point [idx t]

theorem emb7 (f : S8192x1024.Idx → EReal) (t : Fin cfg0.N) (y : S256x1024.Idx) :
    f (((cfg0.win 7).blk t).view.emb y) = f (ix2 (rowAt t (y 0)) (y 1)) := by
  blk_point [idx t]

theorem emb8 (f : S8192x1024.Idx → EReal) (t : Fin cfg0.N) (y : S256x1024.Idx) :
    f (((cfg0.win 8).blk t).view.emb y) = f (ix2 (rowAt t (y 0)) (y 1)) := by
  blk_point [idx t]

theorem emb9 (f : S8192x1024.Idx → EReal) (t : Fin cfg0.N) (y : S256x1024.Idx) :
    f (((cfg0.win 9).blk t).view.emb y) = f (ix2 (rowAt t (y 0)) (y 1)) := by
  blk_point [idx t]

theorem emb10 (f : S8192x3072.Idx → EReal) (t : Fin cfg0.N) (y : S256x3072.Idx) :
    f (((cfg0.win 10).blk t).view.emb y) = f (ix2 (rowAt t (y 0)) (y 1)) := by
  blk_point [idx t]

/-- A block whose inputs are rows of the arrays is rows of the result: the queries. -/
theorem q_rows (Y : FVec Ideal S8192x9216 .f32) (C S : FVec Ideal S8192x128 .f32) (G : FVec Ideal S1x128 .f32)
    (z0 : FVec Ideal S256x2048 .f32) (z2 z3 : FVec Ideal S256x128 .f32) (z4 : FVec Ideal S1x128 .f32) (ρ : Fin 256 → Fin 8192)
    (h0 : ∀ (r : Fin 256) (e : Fin 2048), z0 (ix2 r e) = Y (ix2 (ρ r) (⟨e.val, by omega⟩ : Fin 9216)))
    (h2 : ∀ (r : Fin 256) (e : Fin 128), z2 (ix2 r e) = C (ix2 (ρ r) e))
    (h3 : ∀ (r : Fin 256) (e : Fin 128), z3 (ix2 r e) = S (ix2 (ρ r) e))
    (h4 : ∀ e : Fin 128, z4 (ix2 (0 : Fin 1) e) = G (ix2 (0 : Fin 1) e)) (y : S256x2048.Idx) :
    blkQ z0 z2 z3 z4 y = arrQ Y C S G (ix2 (ρ (y 0)) (y 1)) := by
  obtain ⟨r, d, rfl⟩ : ∃ (r : Fin 256) (d : Fin 2048), y = ix2 r d := ⟨y 0, y 1, by funext a; fin_cases a <;> rfl⟩
  have g2 : (fun e : Fin 128 => z2 (ix2 r e)) = fun e => C (ix2 (ρ r) e) := funext (h2 r)
  have g3 : (fun e : Fin 128 => z3 (ix2 r e)) = fun e => S (ix2 (ρ r) e) := funext (h3 r)
  have g4 : (fun e : Fin 128 => z4 (ix2 (0 : Fin 1) e)) = fun e => G (ix2 (0 : Fin 1) e) := funext h4
  have hd : d.val < 2048 := d.isLt
  have g0 : (fun e : Fin 128 => z0 (ix2 r (⟨d.val / 128 * 128 + e.val, by omega⟩ : Fin 2048)))
      = fun e => Y (ix2 (ρ r) (⟨d.val / 128 * 128 + e.val, by omega⟩ : Fin 9216)) := funext fun e => h0 r _
  change rotE (fun e : Fin 128 => z0 (ix2 r (⟨d.val / 128 * 128 + e.val, by omega⟩ : Fin 2048)))
        (fun e => z4 (ix2 (0 : Fin 1) e)) (fun e => z2 (ix2 r e)) (fun e => z3 (ix2 r e)) ⟨d.val % 128, by omega⟩ = _
  rw [g0, g2, g3, g4]
  rfl

/-- The same for the keys and values. -/
theorem kv_rows (Y : FVec Ideal S8192x9216 .f32) (C S : FVec Ideal S8192x128 .f32) (H : FVec Ideal S3x128 .f32)
    (z1 : FVec Ideal S256x3072 .f32) (z2 z3 : FVec Ideal S256x128 .f32) (z5 : FVec Ideal S3x128 .f32) (ρ : Fin 256 → Fin 8192)
    (h1 : ∀ (r : Fin 256) (e : Fin 3072), z1 (ix2 r e) = Y (ix2 (ρ r) (⟨6144 + e.val, by omega⟩ : Fin 9216)))
    (h2 : ∀ (r : Fin 256) (e : Fin 128), z2 (ix2 r e) = C (ix2 (ρ r) e))
    (h3 : ∀ (r : Fin 256) (e : Fin 128), z3 (ix2 r e) = S (ix2 (ρ r) e))
    (h5 : ∀ (n : Fin 3) (e : Fin 128), z5 (ix2 n e) = H (ix2 n e)) (y : S256x3072.Idx) :
    blkKV z1 z2 z3 z5 y = arrKV Y C S H (ix2 (ρ (y 0)) (y 1)) := by
  obtain ⟨r, d, rfl⟩ : ∃ (r : Fin 256) (d : Fin 3072), y = ix2 r d := ⟨y 0, y 1, by funext a; fin_cases a <;> rfl⟩
  have g2 : (fun e : Fin 128 => z2 (ix2 r e)) = fun e => C (ix2 (ρ r) e) := funext (h2 r)
  have g3 : (fun e : Fin 128 => z3 (ix2 r e)) = fun e => S (ix2 (ρ r) e) := funext (h3 r)
  have g5 : z5 = H := by
    funext w
    obtain ⟨n, e, rfl⟩ : ∃ (n : Fin 3) (e : Fin 128), w = ix2 n e := ⟨w 0, w 1, by funext a; fin_cases a <;> rfl⟩
    exact h5 n e
  have hd : d.val < 3072 := d.isLt
  have g1 : (fun e : Fin 128 => z1 (ix2 r (⟨d.val / 128 * 128 + e.val, by omega⟩ : Fin 3072)))
      = fun e => Y (ix2 (ρ r) (⟨6144 + (d.val / 128 * 128 + e.val), by omega⟩ : Fin 9216)) := funext fun e => h1 r _
  subst g5
  change (if d.val / 128 % 2 = 0 then
      rotE (fun e : Fin 128 => z1 (ix2 r (⟨d.val / 128 * 128 + e.val, by omega⟩ : Fin 3072)))
        (fun e => z5 (ix2 (⟨d.val / 1024, by omega⟩ : Fin 3) e)) (fun e => z2 (ix2 r e)) (fun e => z3 (ix2 r e)) ⟨d.val % 128, by omega⟩
      else z1 (ix2 r d)) = _
  rw [g1, g2, g3, h1]
  rfl

/-- A block of the queries is its part of the array. -/
theorem q_blk (c : Dev nD) (t : Fin cfg0.N) (y : S256x2048.Idx) :
    blkQ (X0_0 m c t) (iblk m c 2 t) (iblk m c 3 t) (iblk m c 4 t) y
      = arrQ (V m c main_arg0) (V m c main_v18) (V m c main_v25) (V m c main_v28) (ix2 (rowAt t (y 0)) (y 1)) := by
  have h0 := rd0 m c t
  have h2 := rd2 m c t
  have h3 := rd3 m c t
  have h4 := rd4 m c t
  revert h0 h2 h3 h4
  generalize X0_0 m c t = z0
  generalize iblk m c 2 t = z2
  generalize iblk m c 3 t = z3
  generalize iblk m c 4 t = z4
  generalize V m c main_arg0 = Y
  generalize V m c main_v18 = C
  generalize V m c main_v25 = S
  generalize V m c main_v28 = G
  intro h0 h2 h3 h4
  exact q_rows Y C S G z0 z2 z3 z4 (rowAt t) h0 h2 h3 h4 y

/-- A block of the keys and values is its part of the array. -/
theorem kv_blk (c : Dev nD) (t : Fin cfg0.N) (y : S256x3072.Idx) :
    blkKV (iblk m c 1 t) (iblk m c 2 t) (iblk m c 3 t) (iblk m c 5 t) y
      = arrKV (V m c main_arg0) (V m c main_v18) (V m c main_v25) (V m c main_v27) (ix2 (rowAt t (y 0)) (y 1)) := by
  have h1 := rd1 m c t
  have h2 := rd2 m c t
  have h3 := rd3 m c t
  have h5 := rd5 m c t
  revert h1 h2 h3 h5
  generalize iblk m c 1 t = z1
  generalize iblk m c 2 t = z2
  generalize iblk m c 3 t = z3
  generalize iblk m c 5 t = z5
  generalize V m c main_arg0 = Y
  generalize V m c main_v18 = C
  generalize V m c main_v25 = S
  generalize V m c main_v27 = H
  intro h1 h2 h3 h5
  exact kv_rows Y C S H z1 z2 z3 z5 (rowAt t) h1 h2 h3 h5 y

theorem final_q (c : Dev nD) : (dats m 0 c).arrAt 6 (cfgs 0).N
    = arrQ (V m c main_arg0) (V m c main_v18) (V m c main_v25) (V m c main_v28) := by
  refine (dats m 0 c).arrAt_eq_of_covers 6 _ (by decide +kernel) fun t _ y => ?_
  blk_simp
  rw [after0_6, outsAt0, out_q]
  exact (q_blk m c t y).trans (emb6 (arrQ (V m c main_arg0) (V m c main_v18) (V m c main_v25) (V m c main_v28)) t y).symm

theorem final_c (c : Dev nD) : (dats m 0 c).arrAt 7 (cfgs 0).N
    = arrBr (V m c main_arg0) (V m c main_v18) (V m c main_v25) (V m c main_v27) 0 := by
  refine (dats m 0 c).arrAt_eq_of_covers 7 _ (by decide +kernel) fun t _ y => ?_
  blk_simp
  rw [after0_7, outsAt0, out_c]
  exact (kv_blk m c t _).trans (emb7 (arrBr (V m c main_arg0) (V m c main_v18) (V m c main_v25) (V m c main_v27) 0) t y).symm

theorem final_s (c : Dev nD) : (dats m 0 c).arrAt 8 (cfgs 0).N
    = arrBr (V m c main_arg0) (V m c main_v18) (V m c main_v25) (V m c main_v27) 1 := by
  refine (dats m 0 c).arrAt_eq_of_covers 8 _ (by decide +kernel) fun t _ y => ?_
  blk_simp
  rw [after0_8, outsAt0, out_s]
  exact (kv_blk m c t _).trans (emb8 (arrBr (V m c main_arg0) (V m c main_v18) (V m c main_v25) (V m c main_v27) 1) t y).symm

theorem final_w (c : Dev nD) : (dats m 0 c).arrAt 9 (cfgs 0).N
    = arrBr (V m c main_arg0) (V m c main_v18) (V m c main_v25) (V m c main_v27) 2 := by
  refine (dats m 0 c).arrAt_eq_of_covers 9 _ (by decide +kernel) fun t _ y => ?_
  blk_simp
  rw [after0_9, outsAt0, out_w]
  exact (kv_blk m c t _).trans (emb9 (arrBr (V m c main_arg0) (V m c main_v18) (V m c main_v25) (V m c main_v27) 2) t y).symm

theorem final_kv (c : Dev nD) : (dats m 0 c).arrAt 10 (cfgs 0).N
    = arrKV (V m c main_arg0) (V m c main_v18) (V m c main_v25) (V m c main_v27) := by
  refine (dats m 0 c).arrAt_eq_of_covers 10 _ (by decide +kernel) fun t _ y => ?_
  blk_simp
  rw [after0_10, outsAt0, out_kv]
  exact (kv_blk m c t y).trans (emb10 (arrKV (V m c main_arg0) (V m c main_v18) (V m c main_v25) (V m c main_v27)) t y).symm

end Cert.Kernel7Ideal.Qkv

end

end
-- ==== Proof.RefQkv.lean ====
/-
  The reference's queries, keys and values, entry by entry: every head normalised and rotated.
-/
module

public import proofs.«01_k».proof.Proof.Gen.Reference7Ideal.Read
public import Idealize.ShloMosaic.Lib.Pipeline.ValueKit
public import proofs.«01_k».proof.Proof.Rotation

@[expose] public section

set_option maxRecDepth 16384

noncomputable section

open Idealize.ShloMosaic Idealize.ShloMosaic.TcCoe Idealize.SL.Sem

namespace Cert.Reference7Ideal.Read

open Cert.Reference7Ideal Cert.Reference7Ideal.Gen Cert.Nsa

variable (x0 : FVec Ideal S8192x9216 .f32) (x1 : FVec Ideal S1x128 .f32) (x2 : FVec Ideal S1x3x128 .f32)

/-- A row of the projection as the reference counts it: batch row and position. -/
abbrev rowR (b : Fin 4) (t : Fin 2048) : Fin 8192 := ⟨b.val * 2048 + t.val, by omega⟩

/-- The queries before the rotation. -/
theorem v7_at (b : Fin 4) (t : Fin 2048) (h : Fin 16) (d : Fin 128) :
    val_main_v7 (F := Ideal) x0 (ix4 b t h d) = x0 (ix2 (rowR b t) (⟨h.val * 128 + d.val, by omega⟩ : Fin 9216)) := by
  pointwise [val_main_v7, val_main_v1, val_main_v0]

theorem v20_at (b : Fin 4) (t : Fin 2048) (h : Fin 16) (d : Fin 128) :
    val_main_v20 (F := Ideal) x0 x1 (ix4 b t h d)
      = nrmE (fun e => x0 (ix2 (rowR b t) (⟨h.val * 128 + e.val, by omega⟩ : Fin 9216))) (fun e => x1 (ix2 0 e)) d := by
  have h7 := fun e => v7_at x0 b t h e
  unfold val_main_v20 val_main_v19 val_main_v18 val_main_v17 val_main_v16 val_main_v15 val_main_v14 val_main_v13 val_main_v12 val_main_v11 val_main_v10 val_main_v9 val_main_v8 val_main_v5 val_main_cst val_main_cst_0 val_main_cst_1
  generalize val_main_v7 (F := Ideal) x0 = y at h7 ⊢
  pointwise [nrmE]
  simp only [h7]

/-- The angles: a position times a frequency. -/
abbrev ang (t : Fin 2048) (k : Fin 64) : EReal := val_main_v32 (F := Ideal) (ix2 t k)

/-- The queries after the rotation. -/
theorem v53_at (b : Fin 4) (t : Fin 2048) (h : Fin 16) (d : Fin 128) :
    val_main_v53 (F := Ideal) x0 x1 (ix4 b t h d)
      = rotE (fun e => x0 (ix2 (rowR b t) (⟨h.val * 128 + e.val, by omega⟩ : Fin 9216))) (fun e => x1 (ix2 0 e)) (cosT (ang t)) (sinT (ang t)) d := by
  rw [rotE_eq]
  have h20 := fun e => v20_at x0 x1 b t h e
  unfold val_main_v53 val_main_v52 val_main_v51 val_main_v50 val_main_v49 val_main_v48 val_main_v47 val_main_v46 val_main_v45 val_main_v44 val_main_v43 val_main_v42 val_main_v41 val_main_v40 val_main_v39 val_main_v38 val_main_v37 val_main_v36 val_main_v35 val_main_v34 val_main_v33
  unfold ang
  generalize val_main_v20 (F := Ideal) x0 x1 = y at h20 ⊢
  generalize val_main_v32 (F := Ideal) = a
  pointwise []
  simp only [h20]

/-- The keys' and values' columns by branch, group, key or value, and column. -/
theorem v54_at (b : Fin 4) (t : Fin 2048) (n : Fin 3) (g : Fin 4) (p : Fin 2) (d : Fin 128) :
    val_main_v54 (F := Ideal) x0 (ix6 b t n g p d)
      = x0 (ix2 (rowR b t) (⟨6144 + (n.val * 1024 + g.val * 256 + p.val * 128 + d.val), by omega⟩ : Fin 9216)) := by
  pointwise [val_main_v54, val_main_v3, val_main_v2]

/-- The keys before the rotation. -/
theorem v56_at (b : Fin 4) (t : Fin 2048) (n : Fin 3) (g : Fin 4) (d : Fin 128) :
    val_main_v56 (F := Ideal) x0 (ix5 b t n g d)
      = x0 (ix2 (rowR b t) (⟨6144 + (n.val * 1024 + g.val * 256 + d.val), by omega⟩ : Fin 9216)) := by
  have h54 := fun p e => v54_at x0 b t n g p e
  unfold val_main_v56 val_main_v55
  generalize val_main_v54 (F := Ideal) x0 = y at h54 ⊢
  pointwise []
  rw [h54]
  exact congrArg (fun q => x0 (ix2 (rowR b t) q)) (Fin.ext (by
    change 6144 + (n.val * 1024 + g.val * 256 + 0 * 128 + d.val) = 6144 + (n.val * 1024 + g.val * 256 + d.val); omega))

theorem v70_at (b : Fin 4) (t : Fin 2048) (n : Fin 3) (g : Fin 4) (d : Fin 128) :
    val_main_v70 (F := Ideal) x0 x2 (ix5 b t n g d)
      = nrmE (fun e => x0 (ix2 (rowR b t) (⟨6144 + (n.val * 1024 + g.val * 256 + e.val), by omega⟩ : Fin 9216))) (fun e => x2 (ix3 0 n e)) d := by
  have h56 := fun e => v56_at x0 b t n g e
  unfold val_main_v70 val_main_v69 val_main_v68 val_main_v67 val_main_v66 val_main_v65 val_main_v64 val_main_v63 val_main_v62 val_main_v61 val_main_v60 val_main_v59 val_main_v58 val_main_v57 val_main_v6 val_main_cst_4 val_main_cst_5 val_main_cst_6
  generalize val_main_v56 (F := Ideal) x0 = y at h56 ⊢
  pointwise [nrmE]
  simp only [h56]

/-- The reference computes the angles twice, alike. -/
theorem v83_eq : val_main_v83 (F := Ideal) = val_main_v32 (F := Ideal) := rfl

/-- The keys after the rotation. -/
theorem v105_at (b : Fin 4) (t : Fin 2048) (n : Fin 3) (g : Fin 4) (d : Fin 128) :
    val_main_v105 (F := Ideal) x0 x2 (ix5 b t n g d)
      = rotE (fun e => x0 (ix2 (rowR b t) (⟨6144 + (n.val * 1024 + g.val * 256 + e.val), by omega⟩ : Fin 9216))) (fun e => x2 (ix3 0 n e)) (cosT (ang t)) (sinT (ang t)) d := by
  rw [rotE_eq]
  have h70 := fun e => v70_at x0 x2 b t n g e
  unfold val_main_v105 val_main_v104 val_main_v103 val_main_v102 val_main_v101 val_main_v100 val_main_v99 val_main_v98 val_main_v97 val_main_v96 val_main_v95 val_main_v94 val_main_v93 val_main_v92 val_main_v91 val_main_v90 val_main_v89 val_main_v88 val_main_v87 val_main_v86 val_main_v85 val_main_v84 val_main_v71
  unfold ang
  rw [v83_eq]
  generalize val_main_v70 (F := Ideal) x0 x2 = y at h70 ⊢
  generalize val_main_v32 (F := Ideal) = a
  pointwise []
  simp only [h70]

/-- The values, as they come. -/
theorem v107_at (b : Fin 4) (t : Fin 2048) (n : Fin 3) (g : Fin 4) (d : Fin 128) :
    val_main_v107 (F := Ideal) x0 (ix5 b t n g d)
      = x0 (ix2 (rowR b t) (⟨6144 + (n.val * 1024 + g.val * 256 + 128 + d.val), by omega⟩ : Fin 9216)) := by
  have h54 := fun p e => v54_at x0 b t n g p e
  unfold val_main_v107 val_main_v106
  generalize val_main_v54 (F := Ideal) x0 = y at h54 ⊢
  pointwise []
  rw [h54]
  exact congrArg (fun q => x0 (ix2 (rowR b t) q)) (Fin.ext (by
    change 6144 + (n.val * 1024 + g.val * 256 + 1 * 128 + d.val) = 6144 + (n.val * 1024 + g.val * 256 + 128 + d.val); omega))

theorem v108_at (b : Fin 4) (t : Fin 2048) (n : Fin 3) (g : Fin 4) (d : Fin 128) :
    val_main_v108 (F := Ideal) x0 x2 (ix6 b t n g (0 : Fin 1) d) = val_main_v105 (F := Ideal) x0 x2 (ix5 b t n g d) := by
  rw [val_main_v108_apply]
  exact congrArg (val_main_v105 (F := Ideal) x0 x2) (funext fun a => by fin_cases a <;> rfl)

theorem v109_at (b : Fin 4) (t : Fin 2048) (n : Fin 3) (g : Fin 4) (d : Fin 128) :
    val_main_v109 (F := Ideal) x0 (ix6 b t n g (0 : Fin 1) d) = val_main_v107 (F := Ideal) x0 (ix5 b t n g d) := by
  rw [val_main_v109_apply]
  exact congrArg (val_main_v107 (F := Ideal) x0) (funext fun a => by fin_cases a <;> rfl)

/-- Keys and values side by side: the keys. -/
theorem v110_key (b : Fin 4) (t : Fin 2048) (n : Fin 3) (g : Fin 4) (d : Fin 128) :
    val_main_v110 (F := Ideal) x0 x2 (ix6 b t n g (0 : Fin 2) d)
      = rotE (fun e => x0 (ix2 (rowR b t) (⟨6144 + (n.val * 1024 + g.val * 256 + e.val), by omega⟩ : Fin 9216))) (fun e => x2 (ix3 0 n e)) (cosT (ang t)) (sinT (ang t)) d := by
  refine Eq.trans ?_ ((v108_at x0 x2 b t n g d).trans (v105_at x0 x2 b t n g d))
  unfold val_main_v110
  generalize val_main_v108 (F := Ideal) x0 x2 = y
  generalize val_main_v109 (F := Ideal) x0 = z
  exact concatenate_pair_apply_left 4 y z concatenates_S4x2048x3x4x1x128_S4x2048x3x4x1x128_S4x2048x3x4x2x128_d4 _ rfl
    (ix6 b t n g (0 : Fin 1) d) (fun a => by fin_cases a <;> rfl)

/-- Keys and values side by side: the values. -/
theorem v110_val (b : Fin 4) (t : Fin 2048) (n : Fin 3) (g : Fin 4) (d : Fin 128) :
    val_main_v110 (F := Ideal) x0 x2 (ix6 b t n g (1 : Fin 2) d)
      = x0 (ix2 (rowR b t) (⟨6144 + (n.val * 1024 + g.val * 256 + 128 + d.val), by omega⟩ : Fin 9216)) := by
  refine Eq.trans ?_ ((v109_at x0 b t n g d).trans (v107_at x0 b t n g d))
  unfold val_main_v110
  generalize val_main_v108 (F := Ideal) x0 x2 = y
  generalize val_main_v109 (F := Ideal) x0 = z
  exact concatenate_pair_apply_right 4 y z concatenates_S4x2048x3x4x1x128_S4x2048x3x4x1x128_S4x2048x3x4x2x128_d4 _ rfl rfl
    (ix6 b t n g (0 : Fin 1) d) (fun a ha => by fin_cases a <;> first | rfl | exact absurd rfl ha) rfl

theorem v112_at (b : Fin 4) (t : Fin 2048) (g : Fin 4) (p : Fin 2) (d : Fin 128) :
    val_main_v112 (F := Ideal) x0 x2 (ix5 b t g p d) = val_main_v110 (F := Ideal) x0 x2 (ix6 b t (0 : Fin 3) g p d) := by
  unfold val_main_v112 val_main_v111
  generalize val_main_v110 (F := Ideal) x0 x2 = y
  pointwise []

theorem v114_at (b : Fin 4) (t : Fin 2048) (g : Fin 4) (p : Fin 2) (d : Fin 128) :
    val_main_v114 (F := Ideal) x0 x2 (ix5 b t g p d) = val_main_v110 (F := Ideal) x0 x2 (ix6 b t (1 : Fin 3) g p d) := by
  unfold val_main_v114 val_main_v113
  generalize val_main_v110 (F := Ideal) x0 x2 = y
  pointwise []

theorem v116_at (b : Fin 4) (t : Fin 2048) (g : Fin 4) (p : Fin 2) (d : Fin 128) :
    val_main_v116 (F := Ideal) x0 x2 (ix5 b t g p d) = val_main_v110 (F := Ideal) x0 x2 (ix6 b t (2 : Fin 3) g p d) := by
  unfold val_main_v116 val_main_v115
  generalize val_main_v110 (F := Ideal) x0 x2 = y
  pointwise []

theorem v120_at (b : Fin 4) (t : Fin 2048) (n : Fin 3) (g : Fin 4) (p : Fin 2) (d : Fin 128) :
    val_main_v120 (F := Ideal) x0 x2 (ix2 (rowR b t) (⟨n.val * 1024 + g.val * 256 + p.val * 128 + d.val, by omega⟩ : Fin 3072))
      = val_main_v110 (F := Ideal) x0 x2 (ix6 b t n g p d) := by
  unfold val_main_v120
  generalize val_main_v110 (F := Ideal) x0 x2 = y
  pointwise []
  have e1 : (⟨(b.val * 2048 + t.val) / 2048, by omega⟩ : Fin 4) = b := Fin.ext (by change (b.val * 2048 + t.val) / 2048 = b.val; omega)
  have e2 : (⟨(b.val * 2048 + t.val) % 2048, by omega⟩ : Fin 2048) = t := Fin.ext (by change (b.val * 2048 + t.val) % 2048 = t.val; omega)
  rw [e1, e2]

theorem v118_at (b : Fin 4) (t : Fin 2048) (h : Fin 16) (d : Fin 128) :
    val_main_v118 (F := Ideal) x0 x1 (ix2 (rowR b t) (⟨h.val * 128 + d.val, by omega⟩ : Fin 2048)) = val_main_v53 (F := Ideal) x0 x1 (ix4 b t h d) := by
  unfold val_main_v118
  generalize val_main_v53 (F := Ideal) x0 x1 = y
  pointwise []
  have e1 : (⟨(b.val * 2048 + t.val) / 2048, by omega⟩ : Fin 4) = b := Fin.ext (by change (b.val * 2048 + t.val) / 2048 = b.val; omega)
  have e2 : (⟨(b.val * 2048 + t.val) % 2048, by omega⟩ : Fin 2048) = t := Fin.ext (by change (b.val * 2048 + t.val) % 2048 = t.val; omega)
  rw [e1, e2]

end Cert.Reference7Ideal.Read

end

end
-- ==== Proof.QkvTables.lean ====
/-
  The kernel's tables: the cosines and signed sines of the angles, one row per row of the projection.
-/
module

public import proofs.«01_k».proof.Proof.QkvArr
public import proofs.«01_k».proof.Proof.RefQkv
public import Idealize.ShloMosaic.Lib.Claim

@[expose] public section

set_option maxRecDepth 16384

noncomputable section

open Idealize.ShloMosaic Idealize.ShloMosaic.TcCoe Idealize.SL.Sem Idealize.ShloMosaic.Tactic

namespace Cert.Kernel7Ideal.Qkv

open Cert.Kernel7Ideal Cert.Kernel7Ideal.Gen Cert.Nsa

/-- The angles as the kernel's host computes them: a position times a frequency. -/
def angK : FVec Ideal S2048x64 .f32 :=
  mulf
    (broadcastInDim S2048x64 ![0, 1] bcast_S2048x1_S2048x64_0_1
      (broadcastInDim S2048x1 ![0] bcast_S2048_S2048x1_0 (sitofp .f32 (iotaInDim S2048 32 0))))
    (broadcastInDim S2048x64 ![0, 1] bcast_S1x64_S2048x64_0_1
      (broadcastInDim S1x64 ![1] bcast_S64_S1x64_1
        (Host.powf (broadcastInDim S64 ![] bcast_S_S64 (constant S_ .f32 0x461C4000#32))
          (Host.divf (negf (sitofp .f32 (iotaInDim S64 32 0))) (broadcastInDim S64 ![] bcast_S_S64 (constant S_ .f32 0x42800000#32))))))

/-- They are the reference's. -/
theorem angK_eq : angK = Cert.Reference7Ideal.Read.val_main_v32 (F := Ideal) := rfl

/-- A table of 128 columns from its two halves, repeated for every batch row. -/
def tile (p q : FVec Ideal S2048x64 .f32) : FVec Ideal S8192x128 .f32 :=
  shapeCast S8192x128 (broadcastInDim S4x2048x1x128 ![0, 1, 2, 3] bcast_S1x2048x1x128_S4x2048x1x128_0_1_2_3
    (shapeCast S1x2048x1x128 (concatenate S2048x128 1 [⟨S2048x64, p⟩, ⟨S2048x64, q⟩] concatenates_S2048x64_S2048x64_S2048x128_d1)
      shapeCasts_S2048x128_S1x2048x1x128)) shapeCasts_S4x2048x1x128_S8192x128

theorem tile_at (p q : FVec Ideal S2048x64 .f32) (b : Fin 4) (t : Fin 2048) (e : Fin 128) :
    tile p q (ix2 (⟨b.val * 2048 + t.val, by omega⟩ : Fin 8192) e)
      = if h : e.val < 64 then p (ix2 t ⟨e.val, h⟩) else q (ix2 t ⟨e.val - 64, by omega⟩) := by
  pointwise [tile]

variable (m : (ℓ : Loc nD τ sig) → Buf (Elt Ideal) ℓ)

theorem cos_entry (c : Dev nD) : V m c main_v18 = tile (Host.cos angK) (Host.cos angK) := by
  entry_read
  rfl

theorem sin_entry (c : Dev nD) : V m c main_v25 = tile (negf (Host.sin angK)) (Host.sin angK) := by
  entry_read
  rfl

theorem qgain_entry (c : Dev nD) : V m c main_v28
    = shapeCast S1x128 (shapeCast S128 (m ((c : Thread nD τ).loc main_arg1) : FVec Ideal S1x128 .f32) shapeCasts_S1x128_S128) shapeCasts_S128_S1x128 := by
  entry_read
  rfl

theorem kgain_entry (c : Dev nD) : V m c main_v27
    = shapeCast S3x128 (m ((c : Thread nD τ).loc main_arg2) : FVec Ideal S1x3x128 .f32) shapeCasts_S1x3x128_S3x128 := by
  entry_read
  rfl

/-- A row of the cosines. -/
theorem cos_at (b : Fin 4) (t : Fin 2048) (e : Fin 128) :
    tile (Host.cos angK) (Host.cos angK) (ix2 (Cert.Reference7Ideal.Read.rowR b t) e) = cosT (Cert.Reference7Ideal.Read.ang t) e := by
  rw [tile_at, angK_eq]
  rfl

/-- A row of the signed sines. -/
theorem sin_at (b : Fin 4) (t : Fin 2048) (e : Fin 128) :
    tile (negf (Host.sin angK)) (Host.sin angK) (ix2 (Cert.Reference7Ideal.Read.rowR b t) e) = sinT (Cert.Reference7Ideal.Read.ang t) e := by
  rw [tile_at, angK_eq]
  rfl

theorem qgain_at (G : FVec Ideal S1x128 .f32) (e : Fin 128) :
    shapeCast S1x128 (shapeCast S128 G shapeCasts_S1x128_S128) shapeCasts_S128_S1x128 (ix2 (0 : Fin 1) e) = G (ix2 (0 : Fin 1) e) := by
  pointwise []

theorem kgain_at (H : FVec Ideal S1x3x128 .f32) (n : Fin 3) (e : Fin 128) :
    shapeCast S3x128 H shapeCasts_S1x3x128_S3x128 (ix2 n e) = H (ix3 (0 : Fin 1) n e) := by
  pointwise []

end Cert.Kernel7Ideal.Qkv

end

end
-- ==== Proof.QkvEq.lean ====
/-
  The reference's queries, keys and values are the kernel's arrays, entry by entry.
-/
module

public import proofs.«01_k».proof.Proof.QkvTables
public import Idealize.ShloMosaic.Lib.Claim

@[expose] public section

set_option maxRecDepth 16384

noncomputable section

open Idealize.ShloMosaic Idealize.ShloMosaic.TcCoe Idealize.SL.Sem Idealize.ShloMosaic.Tactic

namespace Cert.Kernel7Ideal.Qkv

open Cert.Kernel7Ideal Cert.Kernel7Ideal.Gen Cert.Nsa

section
variable (Y : FVec Ideal S8192x9216 .f32) (C S : FVec Ideal S8192x128 .f32) (G : FVec Ideal S1x128 .f32) (H : FVec Ideal S3x128 .f32)

/-- An entry of the queries by head and column. -/
theorem arrQ_at (a : Fin 8192) (h : Fin 16) (d : Fin 128) :
    arrQ Y C S G (ix2 a (⟨h.val * 128 + d.val, by omega⟩ : Fin 2048))
      = rotE (fun e => Y (ix2 a (⟨h.val * 128 + e.val, by omega⟩ : Fin 9216))) (fun e => G (ix2 0 e)) (fun e => C (ix2 a e)) (fun e => S (ix2 a e)) d := by
  have e1 : (⟨(h.val * 128 + d.val) % 128, by omega⟩ : Fin 128) = d := Fin.ext (by change (h.val * 128 + d.val) % 128 = d.val; omega)
  have e2 : ∀ e : Fin 128, (⟨(h.val * 128 + d.val) / 128 * 128 + e.val, by omega⟩ : Fin 9216) = ⟨h.val * 128 + e.val, by omega⟩ := fun e =>
    Fin.ext (by change (h.val * 128 + d.val) / 128 * 128 + e.val = h.val * 128 + e.val; omega)
  change rotE (fun e => Y (ix2 a (⟨(h.val * 128 + d.val) / 128 * 128 + e.val, by omega⟩ : Fin 9216))) (fun e => G (ix2 0 e))
    (fun e => C (ix2 a e)) (fun e => S (ix2 a e)) ⟨(h.val * 128 + d.val) % 128, by omega⟩ = _
  simp only [e1, e2]

/-- An entry of the keys by branch, group and column. -/
theorem arrKV_key (a : Fin 8192) (n : Fin 3) (g : Fin 4) (d : Fin 128) (j : Fin 3072) (hj : j.val = n.val * 1024 + g.val * 256 + d.val) :
    arrKV Y C S H (ix2 a j)
      = rotE (fun e => Y (ix2 a (⟨6144 + (n.val * 1024 + g.val * 256 + e.val), by omega⟩ : Fin 9216))) (fun e => H (ix2 n e)) (fun e => C (ix2 a e)) (fun e => S (ix2 a e)) d := by
  have e1 : (⟨j.val % 128, by omega⟩ : Fin 128) = d := Fin.ext (by change j.val % 128 = d.val; omega)
  have e2 : ∀ e : Fin 128, (⟨6144 + (j.val / 128 * 128 + e.val), by omega⟩ : Fin 9216) = ⟨6144 + (n.val * 1024 + g.val * 256 + e.val), by omega⟩ := fun e =>
    Fin.ext (by change 6144 + (j.val / 128 * 128 + e.val) = 6144 + (n.val * 1024 + g.val * 256 + e.val); omega)
  have e3 : (⟨j.val / 1024, by omega⟩ : Fin 3) = n := Fin.ext (by change j.val / 1024 = n.val; omega)
  change (if j.val / 128 % 2 = 0 then
      rotE (fun e => Y (ix2 a (⟨6144 + (j.val / 128 * 128 + e.val), by omega⟩ : Fin 9216))) (fun e => H (ix2 (⟨j.val / 1024, by omega⟩ : Fin 3) e))
        (fun e => C (ix2 a e)) (fun e => S (ix2 a e)) ⟨j.val % 128, by omega⟩
      else Y (ix2 a (⟨6144 + j.val, by omega⟩ : Fin 9216))) = _
  rw [if_pos (by omega)]
  simp only [e1, e2, e3]

/-- An entry of the values by branch, group and column. -/
theorem arrKV_val (a : Fin 8192) (n : Fin 3) (g : Fin 4) (d : Fin 128) (j : Fin 3072) (hj : j.val = n.val * 1024 + g.val * 256 + 128 + d.val) :
    arrKV Y C S H (ix2 a j) = Y (ix2 a (⟨6144 + (n.val * 1024 + g.val * 256 + 128 + d.val), by omega⟩ : Fin 9216)) := by
  change (if j.val / 128 % 2 = 0 then
      rotE (fun e => Y (ix2 a (⟨6144 + (j.val / 128 * 128 + e.val), by omega⟩ : Fin 9216))) (fun e => H (ix2 (⟨j.val / 1024, by omega⟩ : Fin 3) e))
        (fun e => C (ix2 a e)) (fun e => S (ix2 a e)) ⟨j.val % 128, by omega⟩
      else Y (ix2 a (⟨6144 + j.val, by omega⟩ : Fin 9216))) = _
  rw [if_neg (by omega)]
  exact congrArg (fun q => Y (ix2 a q)) (Fin.ext (by change 6144 + j.val = 6144 + (n.val * 1024 + g.val * 256 + 128 + d.val); omega))
end

section
variable (x0 : FVec Ideal S8192x9216 .f32) (x1 : FVec Ideal S1x128 .f32) (x2 : FVec Ideal S1x3x128 .f32)

/-- The kernel's queries as a function of the arguments. -/
abbrev qK : S8192x2048.Idx → EReal :=
  arrQ x0 (tile (Host.cos angK) (Host.cos angK)) (tile (negf (Host.sin angK)) (Host.sin angK))
    (shapeCast S1x128 (shapeCast S128 x1 shapeCasts_S1x128_S128) shapeCasts_S128_S1x128)

/-- The kernel's keys and values as a function of the arguments. -/
abbrev kvK : S8192x3072.Idx → EReal :=
  arrKV x0 (tile (Host.cos angK) (Host.cos angK)) (tile (negf (Host.sin angK)) (Host.sin angK))
    (shapeCast S3x128 x2 shapeCasts_S1x3x128_S3x128)

/-- One branch of them. -/
abbrev brK (n : Fin 3) : S8192x1024.Idx → EReal :=
  arrBr x0 (tile (Host.cos angK) (Host.cos angK)) (tile (negf (Host.sin angK)) (Host.sin angK))
    (shapeCast S3x128 x2 shapeCasts_S1x3x128_S3x128) n

open Cert.Reference7Ideal.Read

theorem q_eq : val_main_v118 (F := Ideal) x0 x1 = qK x0 x1 := by
  funext j
  obtain ⟨a, i, rfl⟩ : ∃ (a : Fin 8192) (i : Fin 2048), j = ix2 a i := ⟨j 0, j 1, by funext a; fin_cases a <;> rfl⟩
  obtain ⟨b, t, rfl⟩ : ∃ (b : Fin 4) (t : Fin 2048), a = rowR b t :=
    ⟨⟨a.val / 2048, by omega⟩, ⟨a.val % 2048, by omega⟩, Fin.ext (by change a.val = a.val / 2048 * 2048 + a.val % 2048; omega)⟩
  obtain ⟨h, d, rfl⟩ : ∃ (h : Fin 16) (d : Fin 128), i = (⟨h.val * 128 + d.val, by omega⟩ : Fin 2048) :=
    ⟨⟨i.val / 128, by omega⟩, ⟨i.val % 128, by omega⟩, Fin.ext (by change i.val = i.val / 128 * 128 + i.val % 128; omega)⟩
  rw [v118_at, v53_at]
  unfold qK
  rw [arrQ_at]
  simp only [cos_at, sin_at, qgain_at]

/-- The reference's keys and values are the kernel's. -/
theorem kv_at (b : Fin 4) (t : Fin 2048) (n : Fin 3) (g : Fin 4) (p : Fin 2) (d : Fin 128) :
    val_main_v110 (F := Ideal) x0 x2 (ix6 b t n g p d)
      = kvK x0 x2 (ix2 (rowR b t) (⟨n.val * 1024 + g.val * 256 + p.val * 128 + d.val, by omega⟩ : Fin 3072)) := by
  obtain rfl | rfl : p = 0 ∨ p = 1 := by omega
  · refine (v110_key x0 x2 b t n g d).trans (Eq.trans ?_ (arrKV_key x0 _ _ _ (rowR b t) n g d
      ⟨n.val * 1024 + g.val * 256 + (0 : Fin 2).val * 128 + d.val, by change n.val * 1024 + g.val * 256 + 0 * 128 + d.val < 3072; omega⟩
      (by change n.val * 1024 + g.val * 256 + 0 * 128 + d.val = n.val * 1024 + g.val * 256 + d.val; omega)).symm)
    simp only [cos_at, sin_at, kgain_at]
  · exact (v110_val x0 x2 b t n g d).trans (arrKV_val x0 _ _ _ (rowR b t) n g d
      ⟨n.val * 1024 + g.val * 256 + (1 : Fin 2).val * 128 + d.val, by change n.val * 1024 + g.val * 256 + 1 * 128 + d.val < 3072; omega⟩
      (by change n.val * 1024 + g.val * 256 + 1 * 128 + d.val = n.val * 1024 + g.val * 256 + 128 + d.val; omega)).symm

theorem kv_eq : val_main_v120 (F := Ideal) x0 x2 = kvK x0 x2 := by
  funext j
  obtain ⟨a, i, rfl⟩ : ∃ (a : Fin 8192) (i : Fin 3072), j = ix2 a i := ⟨j 0, j 1, by funext a; fin_cases a <;> rfl⟩
  obtain ⟨b, t, rfl⟩ : ∃ (b : Fin 4) (t : Fin 2048), a = rowR b t :=
    ⟨⟨a.val / 2048, by omega⟩, ⟨a.val % 2048, by omega⟩, Fin.ext (by change a.val = a.val / 2048 * 2048 + a.val % 2048; omega)⟩
  obtain ⟨n, g, p, d, rfl⟩ : ∃ (n : Fin 3) (g : Fin 4) (p : Fin 2) (d : Fin 128), i = (⟨n.val * 1024 + g.val * 256 + p.val * 128 + d.val, by omega⟩ : Fin 3072) :=
    ⟨⟨i.val / 1024, by omega⟩, ⟨i.val / 256 % 4, by omega⟩, ⟨i.val / 128 % 2, by omega⟩, ⟨i.val % 128, by omega⟩,
      Fin.ext (by change i.val = i.val / 1024 * 1024 + i.val / 256 % 4 * 256 + i.val / 128 % 2 * 128 + i.val % 128; omega)⟩
  rw [v120_at, kv_at]

/-- A branch of the kernel's array by group, key or value, and column. -/
theorem cast_at (A : FVec Ideal S8192x1024 .f32) (b : Fin 4) (t : Fin 2048) (g : Fin 4) (p : Fin 2) (d : Fin 128) :
    shapeCast S4x2048x4x2x128 A shapeCasts_S8192x1024_S4x2048x4x2x128 (ix5 b t g p d)
      = A (ix2 (rowR b t) (⟨g.val * 256 + p.val * 128 + d.val, by omega⟩ : Fin 1024)) := by
  pointwise []

theorem br_at (n : Fin 3) (b : Fin 4) (t : Fin 2048) (g : Fin 4) (p : Fin 2) (d : Fin 128) :
    val_main_v110 (F := Ideal) x0 x2 (ix6 b t n g p d)
      = brK x0 x2 n (ix2 (rowR b t) (⟨g.val * 256 + p.val * 128 + d.val, by omega⟩ : Fin 1024)) := by
  rw [kv_at]
  unfold brK arrBr
  exact congrArg (fun q => kvK x0 x2 (ix2 (rowR b t) q)) (Fin.ext (by
    change n.val * 1024 + g.val * 256 + p.val * 128 + d.val = n.val * 1024 + (g.val * 256 + p.val * 128 + d.val); omega))

theorem cmp_eq : val_main_v112 (F := Ideal) x0 x2
    = shapeCast S4x2048x4x2x128 (brK x0 x2 0 : FVec Ideal S8192x1024 .f32) shapeCasts_S8192x1024_S4x2048x4x2x128 := by
  funext j
  obtain ⟨b, t, g, p, d, rfl⟩ : ∃ (b : Fin 4) (t : Fin 2048) (g : Fin 4) (p : Fin 2) (d : Fin 128), j = ix5 b t g p d :=
    ⟨j 0, j 1, j 2, j 3, j 4, by funext a; fin_cases a <;> rfl⟩
  rw [v112_at, cast_at, br_at]

theorem slc_eq : val_main_v114 (F := Ideal) x0 x2
    = shapeCast S4x2048x4x2x128 (brK x0 x2 1 : FVec Ideal S8192x1024 .f32) shapeCasts_S8192x1024_S4x2048x4x2x128 := by
  funext j
  obtain ⟨b, t, g, p, d, rfl⟩ : ∃ (b : Fin 4) (t : Fin 2048) (g : Fin 4) (p : Fin 2) (d : Fin 128), j = ix5 b t g p d :=
    ⟨j 0, j 1, j 2, j 3, j 4, by funext a; fin_cases a <;> rfl⟩
  rw [v114_at, cast_at, br_at]

/-- The kernel's slice of the last rows of a branch, by group, key or value, and column. -/
theorem win_cast_at (A : FVec Ideal S8192x1024 .f32) (b : Fin 4) (t : Fin 512) (g : Fin 4) (p : Fin 2) (d : Fin 128) :
    shapeCast S4x512x4x2x128 (extractStridedSlice S4x512x1024 ![0, 1536, 0] (shapeCast S4x2048x1024 A shapeCasts_S8192x1024_S4x2048x1024)
        slices_S4x2048x1024_S4x512x1024_0_1536_0) shapeCasts_S4x512x1024_S4x512x4x2x128 (ix5 b t g p d)
      = A (ix2 (rowR b (⟨1536 + t.val, by omega⟩ : Fin 2048)) (⟨g.val * 256 + p.val * 128 + d.val, by omega⟩ : Fin 1024)) := by
  pointwise []

theorem v117_at (b : Fin 4) (t : Fin 512) (g : Fin 4) (p : Fin 2) (d : Fin 128) :
    val_main_v117 (F := Ideal) x0 x2 (ix5 b t g p d) = val_main_v116 (F := Ideal) x0 x2 (ix5 b (⟨1536 + t.val, by omega⟩ : Fin 2048) g p d) := by
  unfold val_main_v117
  generalize val_main_v116 (F := Ideal) x0 x2 = y
  pointwise []

theorem win_eq : val_main_v117 (F := Ideal) x0 x2
    = shapeCast S4x512x4x2x128 (extractStridedSlice S4x512x1024 ![0, 1536, 0] (shapeCast S4x2048x1024 (brK x0 x2 2 : FVec Ideal S8192x1024 .f32)
        shapeCasts_S8192x1024_S4x2048x1024) slices_S4x2048x1024_S4x512x1024_0_1536_0) shapeCasts_S4x512x1024_S4x512x4x2x128 := by
  funext j
  obtain ⟨b, t, g, p, d, rfl⟩ : ∃ (b : Fin 4) (t : Fin 512) (g : Fin 4) (p : Fin 2) (d : Fin 128), j = ix5 b t g p d :=
    ⟨j 0, j 1, j 2, j 3, j 4, by funext a; fin_cases a <;> rfl⟩
  rw [v117_at, v116_at, win_cast_at, br_at]
end

end Cert.Kernel7Ideal.Qkv

end

end
-- ==== Proof.QkvPrompt.lean ====
/-
  The prompt's queries, keys and values: kernel and reference end with the same five arrays.
-/
module

public import proofs.«01_k».proof.Defs
public import proofs.«01_k».proof.Proof.Gen.Kernel7Ideal
public import proofs.«01_k».proof.Proof.Gen.Reference7Ideal
public import proofs.«01_k».proof.Proof.Gen.Reference7Ideal.Run
public import proofs.«01_k».proof.Proof.QkvEq
public import Idealize.ShloMosaic.Lib.Claim

@[expose] public section

set_option maxRecDepth 16384

noncomputable section

open Idealize.ShloMosaic Idealize.ShloMosaic.TcCoe Idealize.SL.Sem

namespace Cert.Proof

instance kernel7Facts : Cert.Kernel7Ideal.Facts := Cert.Kernel7Ideal.Gen.facts
instance reference7Facts : Cert.Reference7Ideal.Facts := Cert.Reference7Ideal.Gen.facts

section
open Cert.Kernel7Ideal Cert.Kernel7Ideal.Gen Cert.Kernel7Ideal.Qkv

variable (m : (ℓ : Loc nD τ sig) → Buf (Elt Ideal) ℓ)

/-- After the run a buffer that is the array of one window only holds that window's contents. -/
theorem own_array {nD : ℕ} {τ : Topo} {sig : RefSig} {Val : EltTy → Type} {gr W : ℕ} (win : Fin W → Pipeline.WinSpec sig gr) (c : Dev nD)
    (U : Idealize.ShloMosaic.Valuation τ sig Val)
    (A : (w : Fin W) → Buf Val ((win w).arr.view.loc (c.tc : Thread nD τ))) (w : Fin W)
    (h : ∀ w', Pipeline.arrRef win w' = Pipeline.arrRef win w → w' = w) :
    Pipeline.withArrays win c U A (Proc.devRef .tc (Pipeline.arrRef win w)) = A w := by
  unfold Pipeline.withArrays
  have he : ∃ w', Proc.devRef .tc (Pipeline.arrRef win w') = Proc.devRef (τ := τ) .tc (Pipeline.arrRef win w) := ⟨w, rfl⟩
  rw [dif_pos he]
  have key : ∀ (w' : Fin W) (e : Proc.devRef .tc (Pipeline.arrRef win w') = Proc.devRef (τ := τ) .tc (Pipeline.arrRef win w)),
      cast (congrArg (fun b : DevRef τ sig => b.ty.Contents Val) e) (A w') = A w := by
    intro w' e
    obtain rfl := h w' (Proc.devRef_injective _ e)
    rfl
  exact key _ he.choose_spec

theorem prompt_read_cmp (c : Dev nD) : Pipeline.afterTail₀ cfgs (dats m) 0 (V0 m) [hostOps1] c main_v35
    = broadcastInDim S1x4x2048x4x2x128 ![1, 2, 3, 4, 5] bcast_S4x2048x4x2x128_S1x4x2048x4x2x128_1_2_3_4_5
        (shapeCast S4x2048x4x2x128 ((dats m 0 c).arrAt 7 (cfgs 0).N) shapeCasts_S8192x1024_S4x2048x4x2x128) := by
  unfold Pipeline.afterTail₀
  have h : ∀ A, Pipeline.withArrays (cfgs 0).spec c (V0 m c) A (Proc.devRef .tc main_v29_1) = A 7 := fun A =>
    own_array (cfgs 0).spec c (V0 m c) A 7 (by exact (by decide : ∀ w', Pipeline.arrRef spec0 w' = Pipeline.arrRef spec0 7 → w' = 7))
  generalize Pipeline.withArrays (cfgs 0).spec c (V0 m c) = U at h ⊢
  simp only [List.flatten_cons, List.flatten_nil, List.append_nil]
  after_results_simp
  rw [h]
  rfl

theorem prompt_read_slc (c : Dev nD) : Pipeline.afterTail₀ cfgs (dats m) 0 (V0 m) [hostOps1] c main_v36
    = broadcastInDim S1x4x2048x4x2x128 ![1, 2, 3, 4, 5] bcast_S4x2048x4x2x128_S1x4x2048x4x2x128_1_2_3_4_5
        (shapeCast S4x2048x4x2x128 ((dats m 0 c).arrAt 8 (cfgs 0).N) shapeCasts_S8192x1024_S4x2048x4x2x128) := by
  unfold Pipeline.afterTail₀
  have h : ∀ A, Pipeline.withArrays (cfgs 0).spec c (V0 m c) A (Proc.devRef .tc main_v29_2) = A 8 := fun A =>
    own_array (cfgs 0).spec c (V0 m c) A 8 (by exact (by decide : ∀ w', Pipeline.arrRef spec0 w' = Pipeline.arrRef spec0 8 → w' = 8))
  generalize Pipeline.withArrays (cfgs 0).spec c (V0 m c) = U at h ⊢
  simp only [List.flatten_cons, List.flatten_nil, List.append_nil]
  after_results_simp
  rw [h]
  rfl

theorem prompt_read_win (c : Dev nD) : Pipeline.afterTail₀ cfgs (dats m) 0 (V0 m) [hostOps1] c main_v37
    = broadcastInDim S1x4x512x4x2x128 ![1, 2, 3, 4, 5] bcast_S4x512x4x2x128_S1x4x512x4x2x128_1_2_3_4_5
        (shapeCast S4x512x4x2x128 (extractStridedSlice S4x512x1024 ![0, 1536, 0]
          (shapeCast S4x2048x1024 ((dats m 0 c).arrAt 9 (cfgs 0).N) shapeCasts_S8192x1024_S4x2048x1024)
          slices_S4x2048x1024_S4x512x1024_0_1536_0) shapeCasts_S4x512x1024_S4x512x4x2x128) := by
  unfold Pipeline.afterTail₀
  have h : ∀ A, Pipeline.withArrays (cfgs 0).spec c (V0 m c) A (Proc.devRef .tc main_v29_3) = A 9 := fun A =>
    own_array (cfgs 0).spec c (V0 m c) A 9 (by exact (by decide : ∀ w', Pipeline.arrRef spec0 w' = Pipeline.arrRef spec0 9 → w' = 9))
  generalize Pipeline.withArrays (cfgs 0).spec c (V0 m c) = U at h ⊢
  simp only [List.flatten_cons, List.flatten_nil, List.append_nil]
  after_results_simp
  rw [h]
  rfl

/-- Each array of the preparation as a function of the arguments. -/
theorem prompt_q (c : Dev nD) : (dats m 0 c).arrAt 6 (cfgs 0).N
    = qK (m ((c : Thread nD τ).loc main_arg0)) (m ((c : Thread nD τ).loc main_arg1)) := by
  rw [final_q, cos_entry, sin_entry, qgain_entry, V_main_arg0]

theorem prompt_kv (c : Dev nD) : (dats m 0 c).arrAt 10 (cfgs 0).N
    = kvK (m ((c : Thread nD τ).loc main_arg0)) (m ((c : Thread nD τ).loc main_arg2)) := by
  rw [final_kv, cos_entry, sin_entry, kgain_entry, V_main_arg0]

theorem prompt_cmp (c : Dev nD) : (dats m 0 c).arrAt 7 (cfgs 0).N
    = brK (m ((c : Thread nD τ).loc main_arg0)) (m ((c : Thread nD τ).loc main_arg2)) 0 := by
  rw [final_c, cos_entry, sin_entry, kgain_entry, V_main_arg0]

theorem prompt_slc (c : Dev nD) : (dats m 0 c).arrAt 8 (cfgs 0).N
    = brK (m ((c : Thread nD τ).loc main_arg0)) (m ((c : Thread nD τ).loc main_arg2)) 1 := by
  rw [final_s, cos_entry, sin_entry, kgain_entry, V_main_arg0]

theorem prompt_win (c : Dev nD) : (dats m 0 c).arrAt 9 (cfgs 0).N
    = brK (m ((c : Thread nD τ).loc main_arg0)) (m ((c : Thread nD τ).loc main_arg2)) 2 := by
  rw [final_w, cos_entry, sin_entry, kgain_entry, V_main_arg0]
end

section
open Cert.Reference7Ideal.Read Cert.Kernel7Ideal.Qkv Cert.Kernel7Ideal.Gen

variable (x0 : FVec Ideal Cert.Kernel7Ideal.S8192x9216 .f32) (x1 : FVec Ideal Cert.Kernel7Ideal.S1x128 .f32)
  (x2 : FVec Ideal Cert.Kernel7Ideal.S1x3x128 .f32)

/-- Each result of the reference as a function of the arguments is the kernel's. -/
theorem prompt_ref_q : val_main_v119 (F := Ideal) x0 x1 = qK x0 x1 := by
  rw [← q_eq]
  unfold val_main_v119
  generalize val_main_v118 (F := Ideal) x0 x1 = y
  rfl

theorem prompt_ref_kv : val_main_v121 (F := Ideal) x0 x2 = kvK x0 x2 := by
  rw [← kv_eq]
  unfold val_main_v121
  generalize val_main_v120 (F := Ideal) x0 x2 = y
  rfl

theorem prompt_ref_cmp : val_main_v122 (F := Ideal) x0 x2
    = broadcastInDim Cert.Kernel7Ideal.S1x4x2048x4x2x128 ![1, 2, 3, 4, 5] bcast_S4x2048x4x2x128_S1x4x2048x4x2x128_1_2_3_4_5
        (shapeCast Cert.Kernel7Ideal.S4x2048x4x2x128 (brK x0 x2 0 : FVec Ideal Cert.Kernel7Ideal.S8192x1024 .f32) shapeCasts_S8192x1024_S4x2048x4x2x128) := by
  unfold val_main_v122
  rw [cmp_eq]

theorem prompt_ref_slc : val_main_v123 (F := Ideal) x0 x2
    = broadcastInDim Cert.Kernel7Ideal.S1x4x2048x4x2x128 ![1, 2, 3, 4, 5] bcast_S4x2048x4x2x128_S1x4x2048x4x2x128_1_2_3_4_5
        (shapeCast Cert.Kernel7Ideal.S4x2048x4x2x128 (brK x0 x2 1 : FVec Ideal Cert.Kernel7Ideal.S8192x1024 .f32) shapeCasts_S8192x1024_S4x2048x4x2x128) := by
  unfold val_main_v123
  rw [slc_eq]

theorem prompt_ref_win : val_main_v124 (F := Ideal) x0 x2
    = broadcastInDim Cert.Kernel7Ideal.S1x4x512x4x2x128 ![1, 2, 3, 4, 5] bcast_S4x512x4x2x128_S1x4x512x4x2x128_1_2_3_4_5
        (shapeCast Cert.Kernel7Ideal.S4x512x4x2x128 (extractStridedSlice Cert.Kernel7Ideal.S4x512x1024 ![0, 1536, 0]
          (shapeCast Cert.Kernel7Ideal.S4x2048x1024 (brK x0 x2 2 : FVec Ideal Cert.Kernel7Ideal.S8192x1024 .f32) shapeCasts_S8192x1024_S4x2048x1024)
          slices_S4x2048x1024_S4x512x1024_0_1536_0) shapeCasts_S4x512x1024_S4x512x4x2x128) := by
  unfold val_main_v124
  rw [win_eq]
end

section
variable (m : (ℓ : Loc Cert.Kernel7Ideal.nD Cert.Kernel7Ideal.τ Cert.Kernel7Ideal.sig) → Buf (Elt Ideal) ℓ)
  (m' : (ℓ : Loc Cert.Reference7Ideal.nD Cert.Reference7Ideal.τ Cert.Reference7Ideal.sig) → Buf (Elt Ideal) ℓ)
  (c : Dev Cert.Kernel7Ideal.nD)
  (e0 : m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0))

section
variable (e1 : m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1))
include e0 e1

/-- From the same arguments each result of the reference is the kernel's. -/
theorem prompt_same_q : Cert.Reference7Ideal.Value.res_main_v119 m' c = (Cert.Kernel7Ideal.Gen.dats m 0 c).arrAt 6 (Cert.Kernel7Ideal.cfgs 0).N := by
  rw [Cert.Reference7Ideal.Read.val_main_v119_eq, prompt_q, prompt_ref_q]
  exact congr (congrArg Cert.Kernel7Ideal.Qkv.qK e0) e1
end

section
variable (e2 : m' ((c.tc : Thread Cert.Reference7Ideal.nD Cert.Reference7Ideal.τ).loc Cert.Reference7Ideal.main_arg2) = m ((c.tc : Thread Cert.Kernel7Ideal.nD Cert.Kernel7Ideal.τ).loc Cert.Kernel7Ideal.main_arg2))
include e0 e2

theorem prompt_same_kv : Cert.Reference7Ideal.Value.res_main_v121 m' c = (Cert.Kernel7Ideal.Gen.dats m 0 c).arrAt 10 (Cert.Kernel7Ideal.cfgs 0).N := by
  rw [Cert.Reference7Ideal.Read.val_main_v121_eq, prompt_kv, prompt_ref_kv]
  exact congr (congrArg Cert.Kernel7Ideal.Qkv.kvK e0) e2

theorem prompt_same_cmp : Cert.Reference7Ideal.Value.res_main_v122 m' c
    = Pipeline.afterTail₀ Cert.Kernel7Ideal.cfgs (Cert.Kernel7Ideal.Gen.dats m) 0 (Cert.Kernel7Ideal.Gen.V0 m) [Cert.Kernel7Ideal.Gen.hostOps1] c Cert.Kernel7Ideal.main_v35 := by
  rw [Cert.Reference7Ideal.Read.val_main_v122_eq, prompt_read_cmp, prompt_cmp, ← prompt_ref_cmp]
  exact congr (congrArg Cert.Reference7Ideal.Read.val_main_v122 e0) e2

theorem prompt_same_slc : Cert.Reference7Ideal.Value.res_main_v123 m' c
    = Pipeline.afterTail₀ Cert.Kernel7Ideal.cfgs (Cert.Kernel7Ideal.Gen.dats m) 0 (Cert.Kernel7Ideal.Gen.V0 m) [Cert.Kernel7Ideal.Gen.hostOps1] c Cert.Kernel7Ideal.main_v36 := by
  rw [Cert.Reference7Ideal.Read.val_main_v123_eq, prompt_read_slc, prompt_slc, ← prompt_ref_slc]
  exact congr (congrArg Cert.Reference7Ideal.Read.val_main_v123 e0) e2

theorem prompt_same_win : Cert.Reference7Ideal.Value.res_main_v124 m' c
    = Pipeline.afterTail₀ Cert.Kernel7Ideal.cfgs (Cert.Kernel7Ideal.Gen.dats m) 0 (Cert.Kernel7Ideal.Gen.V0 m) [Cert.Kernel7Ideal.Gen.hostOps1] c Cert.Kernel7Ideal.main_v37 := by
  rw [Cert.Reference7Ideal.Read.val_main_v124_eq, prompt_read_win, prompt_win, ← prompt_ref_win]
  exact congr (congrArg Cert.Reference7Ideal.Read.val_main_v124 e0) e2
end
end

/-- Kernel and reference end with the same queries, keys and values. -/
theorem qkv_prompt : Cert.algebraic_Kernel7Ideal_Reference7Ideal := by
  pair_intro
  · run_from Cert.Kernel7Ideal.Gen.run_main m g
    · exact Cert.Kernel7Ideal.Gen.W_main_arg1 m _ c
    · exact Cert.Kernel7Ideal.Gen.W_main_arg2 m _ c
  · refine (θ_run Cert.Reference7Ideal.defs _ _).mono (fun r h c => ?_) (Cert.Reference7Ideal.Value.run m' g')
    obtain ⟨e0, e1, e2⟩ := hagree c
    obtain ⟨r0, r1, r2, r3, r4, a0, a1, a2⟩ := h c
    exact ⟨r0.trans (prompt_same_q m m' c e0 e1), r1.trans (prompt_same_kv m m' c e0 e2), r2.trans (prompt_same_cmp m m' c e0 e2),
      r3.trans (prompt_same_slc m m' c e0 e2), r4.trans (prompt_same_win m m' c e0 e2), a0, a1, a2⟩

end Cert.Proof

end

end
-- ==== Proof.QkvBodySample.lean ====
/-
  The queries', keys' and values' preparation: what one run of the body leaves in its five output blocks.

  Every head's 128 columns are normalised by their root mean square, scaled by a gain, and rotated: an entry times the
  cosine plus the entry half a head away times the (signed) sine. The values are copied.
-/
module

public import proofs.«01_k».proof.Proof.Gen.Kernel8Ideal.Frame
public import Idealize.ShloMosaic.Lib.Pipeline.ValueKit
public import Idealize.ShloMosaic.Lib.Pipeline.ReadBack
public import proofs.«01_k».proof.Proof.Rotation

@[expose] public section

set_option maxRecDepth 16384

noncomputable section

open Idealize.ShloMosaic Idealize.ShloMosaic.TcCoe Idealize.SL.Sem Idealize.ShloMosaic.Tactic

namespace Cert.Kernel8Ideal.Qkv

open Cert.Kernel8Ideal Cert.Kernel8Ideal.Gen Cert.Nsa

/-- One head's columns as the body computes them. -/
def rotK (v1 v3 v256 : FVec Ideal S64x128 .f32) (v257 : FVec Ideal S1x128 .f32) : FVec Ideal S64x128 .f32 :=
  addf
    (mulf (mulf (mulf v256 (broadcastTo S64x128 (rsqrt (addf (divf
        (shapeCast S64x1 (multiReduction .add [1] S64 (mulf v256 v256) 0x00000000#32 reduces_S64x128_S64 (.inl rfl) rfl) shapeCasts_S64_S64x1)
        (broadcast S64x1 (Scalar.ofBits .f32 0x43000000#32))) (broadcast S64x1 (Scalar.ofBits .f32 0x358637BD#32)))) broadcasts_S64x1_S64x128))
      (broadcastTo S64x128 (shapeCast S1x128 v257 shapeCasts_S1x128_S1x128) broadcasts_S1x128_S64x128)) v1)
    (mulf (dynamicRotate 1 64#32 none
      (mulf (mulf v256 (broadcastTo S64x128 (rsqrt (addf (divf
        (shapeCast S64x1 (multiReduction .add [1] S64 (mulf v256 v256) 0x00000000#32 reduces_S64x128_S64 (.inl rfl) rfl) shapeCasts_S64_S64x1)
        (broadcast S64x1 (Scalar.ofBits .f32 0x43000000#32))) (broadcast S64x1 (Scalar.ofBits .f32 0x358637BD#32)))) broadcasts_S64x1_S64x128))
      (broadcastTo S64x128 (shapeCast S1x128 v257 shapeCasts_S1x128_S1x128) broadcasts_S1x128_S64x128)) rotates_S64x128_d1) v3)

/-- An entry of it is the rotation's entry. -/
theorem rotK_at (v1 v3 v256 : FVec Ideal S64x128 .f32) (v257 : FVec Ideal S1x128 .f32) (r : Fin 64) (d : Fin 128) :
    rotK v1 v3 v256 v257 (ix2 r d)
      = rotE (fun e => v256 (ix2 r e)) (fun e => v257 (ix2 0 e)) (fun e => v1 (ix2 r e)) (fun e => v3 (ix2 r e)) d := by
  pointwise [rotK, rotE, nrmE]

section
variable (x0 : Vec Ideal S64x2048 .f32) (x1 : Vec Ideal S64x3072 .f32) (x2 x3 : Vec Ideal S64x128 .f32) (x4 : Vec Ideal S1x128 .f32) (x5 : Vec Ideal S3x128 .f32)

/-- The block of the queries. -/
def blkQ (y : S64x2048.Idx) : EReal :=
  rotE (fun e => x0 (ix2 (y 0 : Fin 64) (⟨(y 1).val / 128 * 128 + e.val, by have : (y 1).val < 2048 := (y 1).isLt; omega⟩ : Fin 2048)))
    (fun e => x4 (ix2 0 e)) (fun e => x2 (ix2 (y 0 : Fin 64) e)) (fun e => x3 (ix2 (y 0 : Fin 64) e)) ⟨(y 1).val % 128, by omega⟩

/-- The block of the keys and values of all three branches. -/
def blkKV (y : S64x3072.Idx) : EReal :=
  if (y 1).val / 128 % 2 = 0 then
    rotE (fun e => x1 (ix2 (y 0 : Fin 64) (⟨(y 1).val / 128 * 128 + e.val, by have : (y 1).val < 3072 := (y 1).isLt; omega⟩ : Fin 3072)))
      (fun e => x5 (ix2 (⟨(y 1).val / 1024, by have : (y 1).val < 3072 := (y 1).isLt; omega⟩ : Fin 3) e))
      (fun e => x2 (ix2 (y 0 : Fin 64) e)) (fun e => x3 (ix2 (y 0 : Fin 64) e)) ⟨(y 1).val % 128, by omega⟩
  else x1 y

/-- One branch's block of keys and values. -/
def blkBr (n : Fin 3) (y : S64x1024.Idx) : EReal :=
  blkKV x1 x2 x3 x5 (ix2 (y 0 : Fin 64) (⟨n.val * 1024 + (y 1).val, by have : (y 1).val < 1024 := (y 1).isLt; omega⟩ : Fin 3072))

/-- A head of the queries. -/
theorem q_piece (o : ℕ) (h : ∀ a, ![0, o] a + ![64, 128] a ≤ S64x2048.size a) (h2 h3 h4) (x : S64x128.Idx) (y : S64x2048.Idx)
    (e0 : (y 0).val = (x 0).val) (e1 : (y 1).val = o + (x 1).val) (ho : o % 128 = 0) :
    rotK (shapeCast S64x128 (View.ld x2 (Rect.unit (s := S64x128) ![0, 0] ![64, 128] h2)) shapeCasts_S64x128_S64x128)
      (shapeCast S64x128 (View.ld x3 (Rect.unit (s := S64x128) ![0, 0] ![64, 128] h3)) shapeCasts_S64x128_S64x128)
      (View.ld x0 (Rect.unit (s := S64x2048) ![0, o] ![64, 128] h)) (View.ld x4 (Rect.unit (s := S1x128) ![0, 0] ![1, 128] h4)) x
      = blkQ x0 x2 x3 x4 y := by
  have hx0 : (x 0).val < 64 := (x 0).isLt
  have hx1 : (x 1).val < 128 := (x 1).isLt
  obtain ⟨r, d, rfl⟩ : ∃ (r : Fin 64) (d : Fin 128), x = ix2 r d := ⟨x 0, x 1, by funext a; fin_cases a <;> rfl⟩
  change d.val < 128 at hx1
  change (y 0).val = r.val at e0
  change (y 1).val = o + d.val at e1
  have hy : (y 0 : Fin 64) = r := Fin.ext e0
  have hd : (⟨(y 1).val % 128, by omega⟩ : Fin 128) = d := Fin.ext (by change (y 1).val % 128 = d.val; omega)
  have hb : (y 1).val < 2048 := (y 1).isLt
  rw [rotK_at, blkQ, hy, hd]
  have a0 : ∀ e : Fin 128, View.ld x0 (Rect.unit (s := S64x2048) ![0, o] ![64, 128] h) (ix2 r e)
      = x0 (ix2 r (⟨(y 1).val / 128 * 128 + e.val, by omega⟩ : Fin 2048)) := fun e => by
    refine congrArg x0 ?_
    funext a
    fin_cases a
    · exact Fin.ext (by change 0 + 1 * r.val = r.val; omega)
    · exact Fin.ext (by change o + 1 * e.val = (y 1).val / 128 * 128 + e.val; omega)
  have a4 : ∀ e : Fin 128, View.ld x4 (Rect.unit (s := S1x128) ![0, 0] ![1, 128] h4) (ix2 0 e) = x4 (ix2 0 e) := fun e => by
    refine congrArg x4 ?_
    funext a
    fin_cases a
    · rfl
    · exact Fin.ext (by change 0 + 1 * e.val = e.val; omega)
  have a2 : ∀ (z : Vec Ideal S64x128 .f32) (h2) (e : Fin 128), shapeCast S64x128 (View.ld z (Rect.unit (s := S64x128) ![0, 0] ![64, 128] h2)) shapeCasts_S64x128_S64x128 (ix2 r e)
      = z (ix2 r e) := fun z h2 e => by
    have q : View.ld z (Rect.unit (s := S64x128) ![0, 0] ![64, 128] h2) = z := by
      funext w
      refine congrArg z ?_
      funext a
      fin_cases a
      · exact Fin.ext (by change 0 + 1 * (w 0).val = (w 0).val; omega)
      · exact Fin.ext (by change 0 + 1 * (w 1).val = (w 1).val; omega)
    rw [q]
    pointwise []
  simp only [a0, a4, a2]

/-- A head of the keys. -/
theorem k_piece (o n : ℕ) (h : ∀ a, ![0, o] a + ![64, 128] a ≤ S64x3072.size a) (h2 h3) (h5 : ∀ a, ![n, 0] a + ![1, 128] a ≤ S3x128.size a)
    (x : S64x128.Idx) (y : S64x3072.Idx)
    (e0 : (y 0).val = (x 0).val) (e1 : (y 1).val = o + (x 1).val) (ho : o % 256 = 0) (hn : n = o / 1024) :
    rotK (shapeCast S64x128 (View.ld x2 (Rect.unit (s := S64x128) ![0, 0] ![64, 128] h2)) shapeCasts_S64x128_S64x128)
      (shapeCast S64x128 (View.ld x3 (Rect.unit (s := S64x128) ![0, 0] ![64, 128] h3)) shapeCasts_S64x128_S64x128)
      (View.ld x1 (Rect.unit (s := S64x3072) ![0, o] ![64, 128] h)) (View.ld x5 (Rect.unit (s := S3x128) ![n, 0] ![1, 128] h5)) x
      = blkKV x1 x2 x3 x5 y := by
  have hx0 : (x 0).val < 64 := (x 0).isLt
  have hx1 : (x 1).val < 128 := (x 1).isLt
  obtain ⟨r, d, rfl⟩ : ∃ (r : Fin 64) (d : Fin 128), x = ix2 r d := ⟨x 0, x 1, by funext a; fin_cases a <;> rfl⟩
  change d.val < 128 at hx1
  change (y 0).val = r.val at e0
  change (y 1).val = o + d.val at e1
  have hy : (y 0 : Fin 64) = r := Fin.ext e0
  have hd : (⟨(y 1).val % 128, by omega⟩ : Fin 128) = d := Fin.ext (by change (y 1).val % 128 = d.val; omega)
  have hb : (y 1).val < 3072 := (y 1).isLt
  rw [rotK_at, blkKV, if_pos (by omega), hy, hd]
  have a0 : ∀ e : Fin 128, View.ld x1 (Rect.unit (s := S64x3072) ![0, o] ![64, 128] h) (ix2 r e)
      = x1 (ix2 r (⟨(y 1).val / 128 * 128 + e.val, by omega⟩ : Fin 3072)) := fun e => by
    refine congrArg x1 ?_
    funext a
    fin_cases a
    · exact Fin.ext (by change 0 + 1 * r.val = r.val; omega)
    · exact Fin.ext (by change o + 1 * e.val = (y 1).val / 128 * 128 + e.val; omega)
  have a4 : ∀ e : Fin 128, View.ld x5 (Rect.unit (s := S3x128) ![n, 0] ![1, 128] h5) (ix2 0 e) = x5 (ix2 (⟨(y 1).val / 1024, by omega⟩ : Fin 3) e) := fun e => by
    refine congrArg x5 ?_
    funext a
    fin_cases a
    · exact Fin.ext (by change n + 1 * 0 = (y 1).val / 1024; omega)
    · exact Fin.ext (by change 0 + 1 * e.val = e.val; omega)
  have a2 : ∀ (z : Vec Ideal S64x128 .f32) (h2) (e : Fin 128), shapeCast S64x128 (View.ld z (Rect.unit (s := S64x128) ![0, 0] ![64, 128] h2)) shapeCasts_S64x128_S64x128 (ix2 r e)
      = z (ix2 r e) := fun z h2 e => by
    have q : View.ld z (Rect.unit (s := S64x128) ![0, 0] ![64, 128] h2) = z := by
      funext w
      refine congrArg z ?_
      funext a
      fin_cases a
      · exact Fin.ext (by change 0 + 1 * (w 0).val = (w 0).val; omega)
      · exact Fin.ext (by change 0 + 1 * (w 1).val = (w 1).val; omega)
    rw [q]
    pointwise []
  simp only [a0, a4, a2]

/-- A head of the values. -/
theorem v_piece (o : ℕ) (h : ∀ a, ![0, o] a + ![64, 128] a ≤ S64x3072.size a) (x : S64x128.Idx) (y : S64x3072.Idx)
    (e0 : (y 0).val = (x 0).val) (e1 : (y 1).val = o + (x 1).val) (ho : o % 256 = 128) :
    View.ld x1 (Rect.unit (s := S64x3072) ![0, o] ![64, 128] h) x = blkKV x1 x2 x3 x5 y := by
  have hx1 : (x 1).val < 128 := (x 1).isLt
  rw [blkKV, if_neg (by omega)]
  refine congrArg x1 ?_
  funext a
  fin_cases a
  · exact Fin.ext (by change 0 + 1 * (x 0).val = (y 0).val; omega)
  · exact Fin.ext (by change o + 1 * (x 1).val = (y 1).val; omega)

end

section
variable (c : Dev nD) (i : grid0.Coords) (arg1 : Memref sig .tc .vmem S64x2048 .f32) (harg1 : arg1.IsWhole) (arg2 : Memref sig .tc .vmem S64x3072 .f32) (harg2 : arg2.IsWhole) (arg3 : Memref sig .tc .vmem S64x128 .f32) (harg3 : arg3.IsWhole) (arg4 : Memref sig .tc .vmem S64x128 .f32) (harg4 : arg4.IsWhole) (arg5 : Memref sig .tc .vmem S1x128 .f32) (harg5 : arg5.IsWhole) (arg6 : Memref sig .tc .vmem S3x128 .f32) (harg6 : arg6.IsWhole) (arg7 : Memref sig .tc .vmem S64x2048 .bf16) (harg7 : arg7.IsWhole) (arg8 : Memref sig .tc .vmem S64x1024 .f32) (harg8 : arg8.IsWhole) (arg9 : Memref sig .tc .vmem S64x1024 .f32) (harg9 : arg9.IsWhole) (arg10 : Memref sig .tc .vmem S64x1024 .f32) (harg10 : arg10.IsWhole) (arg11 : Memref sig .tc .vmem S64x3072 .bf16) (harg11 : arg11.IsWhole)
    (x0 : Vec Ideal S64x2048 .f32) (x1 : Vec Ideal S64x3072 .f32) (x2 x3 : Vec Ideal S64x128 .f32) (x4 : Vec Ideal S1x128 .f32) (x5 : Vec Ideal S3x128 .f32)

/-- The queries' block. -/
theorem out_q : out0_A_6 (F := Ideal) c i arg1 harg1 arg2 harg2 arg3 harg3 arg4 harg4 arg5 harg5 arg6 harg6 arg7 harg7 arg8 harg8 arg9 harg9 arg10 harg10 arg11 harg11 x0 x1 x2 x3 x4 x5 = blkQ x0 x2 x3 x4 := by
  rw [out0_A_6, View.read_writes_eq_canon _ _ _ (cover0_A_6 c i arg1 harg1 arg2 harg2 arg3 harg3 arg4 harg4 arg5 harg5 arg6 harg6 arg7 harg7 arg8 harg8 arg9 harg9 arg10 harg10 arg11 harg11 x0 x1 x2 x3 x4 x5)]
  funext y
  have hc := cover0_A_6 c i arg1 harg1 arg2 harg2 arg3 harg3 arg4 harg4 arg5 harg5 arg6 harg6 arg7 harg7 arg8 harg8 arg9 harg9 arg10 harg10 arg11 harg11 x0 x1 x2 x3 x4 x5 y
  revert hc
  dsimp only [kernelRun0_A]
  simp only [kernelRun0_A.sl.r, kernelRun0_A.sl.r_1, kernelRun0_A.sl.r_2, kernelRun0_A.sl.r_3, kernelRun0_A.sl.r_4, kernelRun0_A.sl.r_5, kernelRun0_A.sl.r_6, kernelRun0_A.sl.r_7, kernelRun0_A.sl.r_8, kernelRun0_A.sl.r_9, kernelRun0_A.sl.r_10, kernelRun0_A.sl.r_11, kernelRun0_A.sl.r_12, kernelRun0_A.sl.r_13, kernelRun0_A.sl.r_14, kernelRun0_A.sl.r_15, kernelRun0_A.sl.r_16, kernelRun0_A.sl.r_17, kernelRun0_A.sl.r_18, kernelRun0_A.sl.r_19, kernelRun0_A.sl.r_20, kernelRun0_A.sl.r_21, kernelRun0_A.sl.r_22, kernelRun0_A.sl.r_23, kernelRun0_A.sl.r_24, kernelRun0_A.sl.r_25, kernelRun0_A.sl.r_26, kernelRun0_A.sl.r_27, kernelRun0_A.sl.r_28, kernelRun0_A.sl.r_29, kernelRun0_A.sl.r_30, kernelRun0_A.sl.r_31, kernelRun0_A.sl.r_32, kernelRun0_A.sl.r_33, kernelRun0_A.sl.r_34, kernelRun0_A.sl.r_35, kernelRun0_A.sl.r_36, kernelRun0_A.sl.r_37, kernelRun0_A.sl.r_38, k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, View.readAt_eq_ld, Memref.IsWhole.read_unread]
  intro hc
  refine View.canon_append_of_piecesOf (blkQ x0 x2 x3 x4) [] [_, _, _, _, _, _, _, _, _, _, _, _, _, _, _, _] ⟨?_, ?_, ?_, ?_, ?_, ?_, ?_, ?_, ?_, ?_, ?_, ?_, ?_, ?_, ?_, ?_, trivial⟩ y hc
  · exact fun x => q_piece x0 x2 x3 x4 1920 _ _ _ _ x _ (by change 0 + 1 * (x 0).val = _; omega) (by change 1920 + 1 * (x 1).val = _; omega) rfl
  · exact fun x => q_piece x0 x2 x3 x4 1792 _ _ _ _ x _ (by change 0 + 1 * (x 0).val = _; omega) (by change 1792 + 1 * (x 1).val = _; omega) rfl
  · exact fun x => q_piece x0 x2 x3 x4 1664 _ _ _ _ x _ (by change 0 + 1 * (x 0).val = _; omega) (by change 1664 + 1 * (x 1).val = _; omega) rfl
  · exact fun x => q_piece x0 x2 x3 x4 1536 _ _ _ _ x _ (by change 0 + 1 * (x 0).val = _; omega) (by change 1536 + 1 * (x 1).val = _; omega) rfl
  · exact fun x => q_piece x0 x2 x3 x4 1408 _ _ _ _ x _ (by change 0 + 1 * (x 0).val = _; omega) (by change 1408 + 1 * (x 1).val = _; omega) rfl
  · exact fun x => q_piece x0 x2 x3 x4 1280 _ _ _ _ x _ (by change 0 + 1 * (x 0).val = _; omega) (by change 1280 + 1 * (x 1).val = _; omega) rfl
  · exact fun x => q_piece x0 x2 x3 x4 1152 _ _ _ _ x _ (by change 0 + 1 * (x 0).val = _; omega) (by change 1152 + 1 * (x 1).val = _; omega) rfl
  · exact fun x => q_piece x0 x2 x3 x4 1024 _ _ _ _ x _ (by change 0 + 1 * (x 0).val = _; omega) (by change 1024 + 1 * (x 1).val = _; omega) rfl
  · exact fun x => q_piece x0 x2 x3 x4 896 _ _ _ _ x _ (by change 0 + 1 * (x 0).val = _; omega) (by change 896 + 1 * (x 1).val = _; omega) rfl
  · exact fun x => q_piece x0 x2 x3 x4 768 _ _ _ _ x _ (by change 0 + 1 * (x 0).val = _; omega) (by change 768 + 1 * (x 1).val = _; omega) rfl
  · exact fun x => q_piece x0 x2 x3 x4 640 _ _ _ _ x _ (by change 0 + 1 * (x 0).val = _; omega) (by change 640 + 1 * (x 1).val = _; omega) rfl
  · exact fun x => q_piece x0 x2 x3 x4 512 _ _ _ _ x _ (by change 0 + 1 * (x 0).val = _; omega) (by change 512 + 1 * (x 1).val = _; omega) rfl
  · exact fun x => q_piece x0 x2 x3 x4 384 _ _ _ _ x _ (by change 0 + 1 * (x 0).val = _; omega) (by change 384 + 1 * (x 1).val = _; omega) rfl
  · exact fun x => q_piece x0 x2 x3 x4 256 _ _ _ _ x _ (by change 0 + 1 * (x 0).val = _; omega) (by change 256 + 1 * (x 1).val = _; omega) rfl
  · exact fun x => q_piece x0 x2 x3 x4 128 _ _ _ _ x _ (by change 0 + 1 * (x 0).val = _; omega) (by change 128 + 1 * (x 1).val = _; omega) rfl
  · exact fun x => q_piece x0 x2 x3 x4 0 _ _ _ _ x _ (by change 0 + 1 * (x 0).val = _; omega) (by change 0 + 1 * (x 1).val = _; omega) rfl

/-- The compressed branch's block. -/
theorem out_c : out0_A_7 (F := Ideal) c i arg1 harg1 arg2 harg2 arg3 harg3 arg4 harg4 arg5 harg5 arg6 harg6 arg7 harg7 arg8 harg8 arg9 harg9 arg10 harg10 arg11 harg11 x0 x1 x2 x3 x4 x5 = blkBr x1 x2 x3 x5 0 := by
  rw [out0_A_7, View.read_writes_eq_canon _ _ _ (cover0_A_7 c i arg1 harg1 arg2 harg2 arg3 harg3 arg4 harg4 arg5 harg5 arg6 harg6 arg7 harg7 arg8 harg8 arg9 harg9 arg10 harg10 arg11 harg11 x0 x1 x2 x3 x4 x5)]
  funext y
  have hc := cover0_A_7 c i arg1 harg1 arg2 harg2 arg3 harg3 arg4 harg4 arg5 harg5 arg6 harg6 arg7 harg7 arg8 harg8 arg9 harg9 arg10 harg10 arg11 harg11 x0 x1 x2 x3 x4 x5 y
  revert hc
  dsimp only [kernelRun0_A]
  simp only [kernelRun0_A.sl.r, kernelRun0_A.sl.r_1, kernelRun0_A.sl.r_2, kernelRun0_A.sl.r_3, kernelRun0_A.sl.r_4, kernelRun0_A.sl.r_5, kernelRun0_A.sl.r_6, kernelRun0_A.sl.r_7, kernelRun0_A.sl.r_8, kernelRun0_A.sl.r_9, kernelRun0_A.sl.r_10, kernelRun0_A.sl.r_11, kernelRun0_A.sl.r_12, kernelRun0_A.sl.r_13, kernelRun0_A.sl.r_14, kernelRun0_A.sl.r_15, kernelRun0_A.sl.r_16, kernelRun0_A.sl.r_17, kernelRun0_A.sl.r_18, kernelRun0_A.sl.r_19, kernelRun0_A.sl.r_20, kernelRun0_A.sl.r_21, kernelRun0_A.sl.r_22, kernelRun0_A.sl.r_23, kernelRun0_A.sl.r_24, kernelRun0_A.sl.r_25, kernelRun0_A.sl.r_26, kernelRun0_A.sl.r_27, kernelRun0_A.sl.r_28, kernelRun0_A.sl.r_29, kernelRun0_A.sl.r_30, kernelRun0_A.sl.r_31, kernelRun0_A.sl.r_32, kernelRun0_A.sl.r_33, kernelRun0_A.sl.r_34, kernelRun0_A.sl.r_35, kernelRun0_A.sl.r_36, kernelRun0_A.sl.r_37, kernelRun0_A.sl.r_38, k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, View.readAt_eq_ld, Memref.IsWhole.read_unread]
  intro hc
  refine View.canon_append_of_piecesOf (blkBr x1 x2 x3 x5 0) [] [_, _, _, _, _, _, _, _] ⟨?_, ?_, ?_, ?_, ?_, ?_, ?_, ?_, trivial⟩ y hc
  · exact fun x => v_piece x1 x2 x3 x5 896 _ x _ (by change 0 + 1 * (x 0).val = _; omega) (by change 0 + (896 + 1 * (x 1).val) = _; omega) rfl
  · exact fun x => k_piece x1 x2 x3 x5 768 0 _ _ _ _ x _ (by change 0 + 1 * (x 0).val = _; omega) (by change 0 + (768 + 1 * (x 1).val) = _; omega) rfl rfl
  · exact fun x => v_piece x1 x2 x3 x5 640 _ x _ (by change 0 + 1 * (x 0).val = _; omega) (by change 0 + (640 + 1 * (x 1).val) = _; omega) rfl
  · exact fun x => k_piece x1 x2 x3 x5 512 0 _ _ _ _ x _ (by change 0 + 1 * (x 0).val = _; omega) (by change 0 + (512 + 1 * (x 1).val) = _; omega) rfl rfl
  · exact fun x => v_piece x1 x2 x3 x5 384 _ x _ (by change 0 + 1 * (x 0).val = _; omega) (by change 0 + (384 + 1 * (x 1).val) = _; omega) rfl
  · exact fun x => k_piece x1 x2 x3 x5 256 0 _ _ _ _ x _ (by change 0 + 1 * (x 0).val = _; omega) (by change 0 + (256 + 1 * (x 1).val) = _; omega) rfl rfl
  · exact fun x => v_piece x1 x2 x3 x5 128 _ x _ (by change 0 + 1 * (x 0).val = _; omega) (by change 0 + (128 + 1 * (x 1).val) = _; omega) rfl
  · exact fun x => k_piece x1 x2 x3 x5 0 0 _ _ _ _ x _ (by change 0 + 1 * (x 0).val = _; omega) (by change 0 + (0 + 1 * (x 1).val) = _; omega) rfl rfl

/-- The selected branch's block. -/
theorem out_s : out0_A_8 (F := Ideal) c i arg1 harg1 arg2 harg2 arg3 harg3 arg4 harg4 arg5 harg5 arg6 harg6 arg7 harg7 arg8 harg8 arg9 harg9 arg10 harg10 arg11 harg11 x0 x1 x2 x3 x4 x5 = blkBr x1 x2 x3 x5 1 := by
  rw [out0_A_8, View.read_writes_eq_canon _ _ _ (cover0_A_8 c i arg1 harg1 arg2 harg2 arg3 harg3 arg4 harg4 arg5 harg5 arg6 harg6 arg7 harg7 arg8 harg8 arg9 harg9 arg10 harg10 arg11 harg11 x0 x1 x2 x3 x4 x5)]
  funext y
  have hc := cover0_A_8 c i arg1 harg1 arg2 harg2 arg3 harg3 arg4 harg4 arg5 harg5 arg6 harg6 arg7 harg7 arg8 harg8 arg9 harg9 arg10 harg10 arg11 harg11 x0 x1 x2 x3 x4 x5 y
  revert hc
  dsimp only [kernelRun0_A]
  simp only [kernelRun0_A.sl.r, kernelRun0_A.sl.r_1, kernelRun0_A.sl.r_2, kernelRun0_A.sl.r_3, kernelRun0_A.sl.r_4, kernelRun0_A.sl.r_5, kernelRun0_A.sl.r_6, kernelRun0_A.sl.r_7, kernelRun0_A.sl.r_8, kernelRun0_A.sl.r_9, kernelRun0_A.sl.r_10, kernelRun0_A.sl.r_11, kernelRun0_A.sl.r_12, kernelRun0_A.sl.r_13, kernelRun0_A.sl.r_14, kernelRun0_A.sl.r_15, kernelRun0_A.sl.r_16, kernelRun0_A.sl.r_17, kernelRun0_A.sl.r_18, kernelRun0_A.sl.r_19, kernelRun0_A.sl.r_20, kernelRun0_A.sl.r_21, kernelRun0_A.sl.r_22, kernelRun0_A.sl.r_23, kernelRun0_A.sl.r_24, kernelRun0_A.sl.r_25, kernelRun0_A.sl.r_26, kernelRun0_A.sl.r_27, kernelRun0_A.sl.r_28, kernelRun0_A.sl.r_29, kernelRun0_A.sl.r_30, kernelRun0_A.sl.r_31, kernelRun0_A.sl.r_32, kernelRun0_A.sl.r_33, kernelRun0_A.sl.r_34, kernelRun0_A.sl.r_35, kernelRun0_A.sl.r_36, kernelRun0_A.sl.r_37, kernelRun0_A.sl.r_38, k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, View.readAt_eq_ld, Memref.IsWhole.read_unread]
  intro hc
  refine View.canon_append_of_piecesOf (blkBr x1 x2 x3 x5 1) [] [_, _, _, _, _, _, _, _] ⟨?_, ?_, ?_, ?_, ?_, ?_, ?_, ?_, trivial⟩ y hc
  · exact fun x => v_piece x1 x2 x3 x5 1920 _ x _ (by change 0 + 1 * (x 0).val = _; omega) (by change 1024 + (896 + 1 * (x 1).val) = _; omega) rfl
  · exact fun x => k_piece x1 x2 x3 x5 1792 1 _ _ _ _ x _ (by change 0 + 1 * (x 0).val = _; omega) (by change 1024 + (768 + 1 * (x 1).val) = _; omega) rfl rfl
  · exact fun x => v_piece x1 x2 x3 x5 1664 _ x _ (by change 0 + 1 * (x 0).val = _; omega) (by change 1024 + (640 + 1 * (x 1).val) = _; omega) rfl
  · exact fun x => k_piece x1 x2 x3 x5 1536 1 _ _ _ _ x _ (by change 0 + 1 * (x 0).val = _; omega) (by change 1024 + (512 + 1 * (x 1).val) = _; omega) rfl rfl
  · exact fun x => v_piece x1 x2 x3 x5 1408 _ x _ (by change 0 + 1 * (x 0).val = _; omega) (by change 1024 + (384 + 1 * (x 1).val) = _; omega) rfl
  · exact fun x => k_piece x1 x2 x3 x5 1280 1 _ _ _ _ x _ (by change 0 + 1 * (x 0).val = _; omega) (by change 1024 + (256 + 1 * (x 1).val) = _; omega) rfl rfl
  · exact fun x => v_piece x1 x2 x3 x5 1152 _ x _ (by change 0 + 1 * (x 0).val = _; omega) (by change 1024 + (128 + 1 * (x 1).val) = _; omega) rfl
  · exact fun x => k_piece x1 x2 x3 x5 1024 1 _ _ _ _ x _ (by change 0 + 1 * (x 0).val = _; omega) (by change 1024 + (0 + 1 * (x 1).val) = _; omega) rfl rfl

/-- The window branch's block. -/
theorem out_w : out0_A_9 (F := Ideal) c i arg1 harg1 arg2 harg2 arg3 harg3 arg4 harg4 arg5 harg5 arg6 harg6 arg7 harg7 arg8 harg8 arg9 harg9 arg10 harg10 arg11 harg11 x0 x1 x2 x3 x4 x5 = blkBr x1 x2 x3 x5 2 := by
  rw [out0_A_9, View.read_writes_eq_canon _ _ _ (cover0_A_9 c i arg1 harg1 arg2 harg2 arg3 harg3 arg4 harg4 arg5 harg5 arg6 harg6 arg7 harg7 arg8 harg8 arg9 harg9 arg10 harg10 arg11 harg11 x0 x1 x2 x3 x4 x5)]
  funext y
  have hc := cover0_A_9 c i arg1 harg1 arg2 harg2 arg3 harg3 arg4 harg4 arg5 harg5 arg6 harg6 arg7 harg7 arg8 harg8 arg9 harg9 arg10 harg10 arg11 harg11 x0 x1 x2 x3 x4 x5 y
  revert hc
  dsimp only [kernelRun0_A]
  simp only [kernelRun0_A.sl.r, kernelRun0_A.sl.r_1, kernelRun0_A.sl.r_2, kernelRun0_A.sl.r_3, kernelRun0_A.sl.r_4, kernelRun0_A.sl.r_5, kernelRun0_A.sl.r_6, kernelRun0_A.sl.r_7, kernelRun0_A.sl.r_8, kernelRun0_A.sl.r_9, kernelRun0_A.sl.r_10, kernelRun0_A.sl.r_11, kernelRun0_A.sl.r_12, kernelRun0_A.sl.r_13, kernelRun0_A.sl.r_14, kernelRun0_A.sl.r_15, kernelRun0_A.sl.r_16, kernelRun0_A.sl.r_17, kernelRun0_A.sl.r_18, kernelRun0_A.sl.r_19, kernelRun0_A.sl.r_20, kernelRun0_A.sl.r_21, kernelRun0_A.sl.r_22, kernelRun0_A.sl.r_23, kernelRun0_A.sl.r_24, kernelRun0_A.sl.r_25, kernelRun0_A.sl.r_26, kernelRun0_A.sl.r_27, kernelRun0_A.sl.r_28, kernelRun0_A.sl.r_29, kernelRun0_A.sl.r_30, kernelRun0_A.sl.r_31, kernelRun0_A.sl.r_32, kernelRun0_A.sl.r_33, kernelRun0_A.sl.r_34, kernelRun0_A.sl.r_35, kernelRun0_A.sl.r_36, kernelRun0_A.sl.r_37, kernelRun0_A.sl.r_38, k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, View.readAt_eq_ld, Memref.IsWhole.read_unread]
  intro hc
  refine View.canon_append_of_piecesOf (blkBr x1 x2 x3 x5 2) [] [_, _, _, _, _, _, _, _] ⟨?_, ?_, ?_, ?_, ?_, ?_, ?_, ?_, trivial⟩ y hc
  · exact fun x => v_piece x1 x2 x3 x5 2944 _ x _ (by change 0 + 1 * (x 0).val = _; omega) (by change 2048 + (896 + 1 * (x 1).val) = _; omega) rfl
  · exact fun x => k_piece x1 x2 x3 x5 2816 2 _ _ _ _ x _ (by change 0 + 1 * (x 0).val = _; omega) (by change 2048 + (768 + 1 * (x 1).val) = _; omega) rfl rfl
  · exact fun x => v_piece x1 x2 x3 x5 2688 _ x _ (by change 0 + 1 * (x 0).val = _; omega) (by change 2048 + (640 + 1 * (x 1).val) = _; omega) rfl
  · exact fun x => k_piece x1 x2 x3 x5 2560 2 _ _ _ _ x _ (by change 0 + 1 * (x 0).val = _; omega) (by change 2048 + (512 + 1 * (x 1).val) = _; omega) rfl rfl
  · exact fun x => v_piece x1 x2 x3 x5 2432 _ x _ (by change 0 + 1 * (x 0).val = _; omega) (by change 2048 + (384 + 1 * (x 1).val) = _; omega) rfl
  · exact fun x => k_piece x1 x2 x3 x5 2304 2 _ _ _ _ x _ (by change 0 + 1 * (x 0).val = _; omega) (by change 2048 + (256 + 1 * (x 1).val) = _; omega) rfl rfl
  · exact fun x => v_piece x1 x2 x3 x5 2176 _ x _ (by change 0 + 1 * (x 0).val = _; omega) (by change 2048 + (128 + 1 * (x 1).val) = _; omega) rfl
  · exact fun x => k_piece x1 x2 x3 x5 2048 2 _ _ _ _ x _ (by change 0 + 1 * (x 0).val = _; omega) (by change 2048 + (0 + 1 * (x 1).val) = _; omega) rfl rfl

/-- The three branches' block. -/
theorem out_kv : out0_A_10 (F := Ideal) c i arg1 harg1 arg2 harg2 arg3 harg3 arg4 harg4 arg5 harg5 arg6 harg6 arg7 harg7 arg8 harg8 arg9 harg9 arg10 harg10 arg11 harg11 x0 x1 x2 x3 x4 x5 = blkKV x1 x2 x3 x5 := by
  rw [out0_A_10, View.read_writes_eq_canon _ _ _ (cover0_A_10 c i arg1 harg1 arg2 harg2 arg3 harg3 arg4 harg4 arg5 harg5 arg6 harg6 arg7 harg7 arg8 harg8 arg9 harg9 arg10 harg10 arg11 harg11 x0 x1 x2 x3 x4 x5)]
  funext y
  have hc := cover0_A_10 c i arg1 harg1 arg2 harg2 arg3 harg3 arg4 harg4 arg5 harg5 arg6 harg6 arg7 harg7 arg8 harg8 arg9 harg9 arg10 harg10 arg11 harg11 x0 x1 x2 x3 x4 x5 y
  revert hc
  dsimp only [kernelRun0_A]
  simp only [kernelRun0_A.sl.r, kernelRun0_A.sl.r_1, kernelRun0_A.sl.r_2, kernelRun0_A.sl.r_3, kernelRun0_A.sl.r_4, kernelRun0_A.sl.r_5, kernelRun0_A.sl.r_6, kernelRun0_A.sl.r_7, kernelRun0_A.sl.r_8, kernelRun0_A.sl.r_9, kernelRun0_A.sl.r_10, kernelRun0_A.sl.r_11, kernelRun0_A.sl.r_12, kernelRun0_A.sl.r_13, kernelRun0_A.sl.r_14, kernelRun0_A.sl.r_15, kernelRun0_A.sl.r_16, kernelRun0_A.sl.r_17, kernelRun0_A.sl.r_18, kernelRun0_A.sl.r_19, kernelRun0_A.sl.r_20, kernelRun0_A.sl.r_21, kernelRun0_A.sl.r_22, kernelRun0_A.sl.r_23, kernelRun0_A.sl.r_24, kernelRun0_A.sl.r_25, kernelRun0_A.sl.r_26, kernelRun0_A.sl.r_27, kernelRun0_A.sl.r_28, kernelRun0_A.sl.r_29, kernelRun0_A.sl.r_30, kernelRun0_A.sl.r_31, kernelRun0_A.sl.r_32, kernelRun0_A.sl.r_33, kernelRun0_A.sl.r_34, kernelRun0_A.sl.r_35, kernelRun0_A.sl.r_36, kernelRun0_A.sl.r_37, kernelRun0_A.sl.r_38, k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, View.readAt_eq_ld, Memref.IsWhole.read_unread]
  intro hc
  refine View.canon_append_of_piecesOf (blkKV x1 x2 x3 x5) [] [_, _, _, _, _, _, _, _, _, _, _, _, _, _, _, _, _, _, _, _, _, _, _, _] ⟨?_, ?_, ?_, ?_, ?_, ?_, ?_, ?_, ?_, ?_, ?_, ?_, ?_, ?_, ?_, ?_, ?_, ?_, ?_, ?_, ?_, ?_, ?_, ?_, trivial⟩ y hc
  · exact fun x => v_piece x1 x2 x3 x5 2944 _ x _ (by change 0 + 1 * (x 0).val = _; omega) (by change 2944 + 1 * (x 1).val = _; omega) rfl
  · exact fun x => k_piece x1 x2 x3 x5 2816 2 _ _ _ _ x _ (by change 0 + 1 * (x 0).val = _; omega) (by change 2816 + 1 * (x 1).val = _; omega) rfl rfl
  · exact fun x => v_piece x1 x2 x3 x5 2688 _ x _ (by change 0 + 1 * (x 0).val = _; omega) (by change 2688 + 1 * (x 1).val = _; omega) rfl
  · exact fun x => k_piece x1 x2 x3 x5 2560 2 _ _ _ _ x _ (by change 0 + 1 * (x 0).val = _; omega) (by change 2560 + 1 * (x 1).val = _; omega) rfl rfl
  · exact fun x => v_piece x1 x2 x3 x5 2432 _ x _ (by change 0 + 1 * (x 0).val = _; omega) (by change 2432 + 1 * (x 1).val = _; omega) rfl
  · exact fun x => k_piece x1 x2 x3 x5 2304 2 _ _ _ _ x _ (by change 0 + 1 * (x 0).val = _; omega) (by change 2304 + 1 * (x 1).val = _; omega) rfl rfl
  · exact fun x => v_piece x1 x2 x3 x5 2176 _ x _ (by change 0 + 1 * (x 0).val = _; omega) (by change 2176 + 1 * (x 1).val = _; omega) rfl
  · exact fun x => k_piece x1 x2 x3 x5 2048 2 _ _ _ _ x _ (by change 0 + 1 * (x 0).val = _; omega) (by change 2048 + 1 * (x 1).val = _; omega) rfl rfl
  · exact fun x => v_piece x1 x2 x3 x5 1920 _ x _ (by change 0 + 1 * (x 0).val = _; omega) (by change 1920 + 1 * (x 1).val = _; omega) rfl
  · exact fun x => k_piece x1 x2 x3 x5 1792 1 _ _ _ _ x _ (by change 0 + 1 * (x 0).val = _; omega) (by change 1792 + 1 * (x 1).val = _; omega) rfl rfl
  · exact fun x => v_piece x1 x2 x3 x5 1664 _ x _ (by change 0 + 1 * (x 0).val = _; omega) (by change 1664 + 1 * (x 1).val = _; omega) rfl
  · exact fun x => k_piece x1 x2 x3 x5 1536 1 _ _ _ _ x _ (by change 0 + 1 * (x 0).val = _; omega) (by change 1536 + 1 * (x 1).val = _; omega) rfl rfl
  · exact fun x => v_piece x1 x2 x3 x5 1408 _ x _ (by change 0 + 1 * (x 0).val = _; omega) (by change 1408 + 1 * (x 1).val = _; omega) rfl
  · exact fun x => k_piece x1 x2 x3 x5 1280 1 _ _ _ _ x _ (by change 0 + 1 * (x 0).val = _; omega) (by change 1280 + 1 * (x 1).val = _; omega) rfl rfl
  · exact fun x => v_piece x1 x2 x3 x5 1152 _ x _ (by change 0 + 1 * (x 0).val = _; omega) (by change 1152 + 1 * (x 1).val = _; omega) rfl
  · exact fun x => k_piece x1 x2 x3 x5 1024 1 _ _ _ _ x _ (by change 0 + 1 * (x 0).val = _; omega) (by change 1024 + 1 * (x 1).val = _; omega) rfl rfl
  · exact fun x => v_piece x1 x2 x3 x5 896 _ x _ (by change 0 + 1 * (x 0).val = _; omega) (by change 896 + 1 * (x 1).val = _; omega) rfl
  · exact fun x => k_piece x1 x2 x3 x5 768 0 _ _ _ _ x _ (by change 0 + 1 * (x 0).val = _; omega) (by change 768 + 1 * (x 1).val = _; omega) rfl rfl
  · exact fun x => v_piece x1 x2 x3 x5 640 _ x _ (by change 0 + 1 * (x 0).val = _; omega) (by change 640 + 1 * (x 1).val = _; omega) rfl
  · exact fun x => k_piece x1 x2 x3 x5 512 0 _ _ _ _ x _ (by change 0 + 1 * (x 0).val = _; omega) (by change 512 + 1 * (x 1).val = _; omega) rfl rfl
  · exact fun x => v_piece x1 x2 x3 x5 384 _ x _ (by change 0 + 1 * (x 0).val = _; omega) (by change 384 + 1 * (x 1).val = _; omega) rfl
  · exact fun x => k_piece x1 x2 x3 x5 256 0 _ _ _ _ x _ (by change 0 + 1 * (x 0).val = _; omega) (by change 256 + 1 * (x 1).val = _; omega) rfl rfl
  · exact fun x => v_piece x1 x2 x3 x5 128 _ x _ (by change 0 + 1 * (x 0).val = _; omega) (by change 128 + 1 * (x 1).val = _; omega) rfl
  · exact fun x => k_piece x1 x2 x3 x5 0 0 _ _ _ _ x _ (by change 0 + 1 * (x 0).val = _; omega) (by change 0 + 1 * (x 1).val = _; omega) rfl rfl

end

end Cert.Kernel8Ideal.Qkv

end

end
-- ==== Proof.QkvArrSample.lean ====
/-
  The queries', keys' and values' preparation: what the five arrays hold after the run.

  The grid has one point, which writes the 64 rows of each array, so an array's row is what the body leaves from that row of its
  inputs.
-/
module

public import proofs.«01_k».proof.Proof.QkvBodySample

@[expose] public section

set_option maxRecDepth 16384

noncomputable section

open Idealize.ShloMosaic Idealize.ShloMosaic.TcCoe Idealize.SL.Sem Idealize.ShloMosaic.Tactic
open Idealize.ShloMosaic.Pipeline (Dat)

namespace Cert.Kernel8Ideal.Qkv

open Cert.Kernel8Ideal Cert.Kernel8Ideal.Gen Cert.Nsa

section
variable (Y : FVec Ideal S64x9216 .f32) (C S : FVec Ideal S64x128 .f32) (G : FVec Ideal S1x128 .f32) (H : FVec Ideal S3x128 .f32)

/-- The queries, every head normalised and rotated. -/
def arrQ (j : S64x2048.Idx) : EReal :=
  rotE (fun e => Y (ix2 (j 0 : Fin 64) (⟨(j 1).val / 128 * 128 + e.val, by have : (j 1).val < 2048 := (j 1).isLt; omega⟩ : Fin 9216)))
    (fun e => G (ix2 0 e)) (fun e => C (ix2 (j 0 : Fin 64) e)) (fun e => S (ix2 (j 0 : Fin 64) e)) ⟨(j 1).val % 128, by omega⟩

/-- The keys and values of all three branches: keys normalised and rotated, values copied. -/
def arrKV (j : S64x3072.Idx) : EReal :=
  if (j 1).val / 128 % 2 = 0 then
    rotE (fun e => Y (ix2 (j 0 : Fin 64) (⟨6144 + ((j 1).val / 128 * 128 + e.val), by have : (j 1).val < 3072 := (j 1).isLt; omega⟩ : Fin 9216)))
      (fun e => H (ix2 (⟨(j 1).val / 1024, by have : (j 1).val < 3072 := (j 1).isLt; omega⟩ : Fin 3) e))
      (fun e => C (ix2 (j 0 : Fin 64) e)) (fun e => S (ix2 (j 0 : Fin 64) e)) ⟨(j 1).val % 128, by omega⟩
  else Y (ix2 (j 0 : Fin 64) (⟨6144 + (j 1).val, by have : (j 1).val < 3072 := (j 1).isLt; omega⟩ : Fin 9216))

/-- One branch's keys and values. -/
def arrBr (n : Fin 3) (j : S64x1024.Idx) : EReal :=
  arrKV Y C S H (ix2 (j 0 : Fin 64) (⟨n.val * 1024 + (j 1).val, by have : (j 1).val < 1024 := (j 1).isLt; omega⟩ : Fin 3072))
end

variable (m : (ℓ : Loc nD τ sig) → Buf (Elt Ideal) ℓ)

/-- Each window's block index at every point of the grid. -/
theorem idx : ∀ t : Fin cfg0.N, win0_0.index t = ![(grid0.coords t 0).val, 0]
    ∧ win0_1.index t = ![(grid0.coords t 0).val, 2]
    ∧ win0_2.index t = ![(grid0.coords t 0).val, 0]
    ∧ win0_3.index t = ![(grid0.coords t 0).val, 0]
    ∧ win0_4.index t = ![0, 0]
    ∧ win0_5.index t = ![0, 0]
    ∧ win0_6.index t = ![(grid0.coords t 0).val, 0]
    ∧ win0_7.index t = ![(grid0.coords t 0).val, 0]
    ∧ win0_8.index t = ![(grid0.coords t 0).val, 0]
    ∧ win0_9.index t = ![(grid0.coords t 0).val, 0]
    ∧ win0_10.index t = ![(grid0.coords t 0).val, 0] :=
  (by decide +kernel : ∀ t : Fin grid0.N, _)

/-- The row of the arrays a row of the point's blocks stands for. -/
abbrev rowAt (t : Fin cfg0.N) (r : Fin 64) : Fin 64 := r

theorem rd0 (c : Dev nD) (t : Fin cfg0.N) (r : Fin 64) (e : Fin 2048) :
    X0_0 m c t (ix2 r e) = V m c main_arg0 (ix2 (rowAt t r) (⟨e.val, by omega⟩ : Fin 9216)) := by
  unfold X0_0 Pipeline.Window.fill
  rw [dif_pos (moved0_0 t _)]
  blk_point [iblk, idx t]

theorem rd1 (c : Dev nD) (t : Fin cfg0.N) (r : Fin 64) (e : Fin 3072) :
    iblk m c 1 t (ix2 r e) = V m c main_arg0 (ix2 (rowAt t r) (⟨6144 + e.val, by omega⟩ : Fin 9216)) := by
  blk_point [iblk, idx t]

theorem rd2 (c : Dev nD) (t : Fin cfg0.N) (r : Fin 64) (e : Fin 128) :
    iblk m c 2 t (ix2 r e) = V m c main_v20 (ix2 (rowAt t r) e) := by
  blk_point [iblk, idx t]

theorem rd3 (c : Dev nD) (t : Fin cfg0.N) (r : Fin 64) (e : Fin 128) :
    iblk m c 3 t (ix2 r e) = V m c main_v27 (ix2 (rowAt t r) e) := by
  blk_point [iblk, idx t]

theorem rd4 (c : Dev nD) (t : Fin cfg0.N) (e : Fin 128) :
    iblk m c 4 t (ix2 (0 : Fin 1) e) = V m c main_v30 (ix2 (0 : Fin 1) e) := by
  blk_point [iblk, idx t]

theorem rd5 (c : Dev nD) (t : Fin cfg0.N) (n : Fin 3) (e : Fin 128) :
    iblk m c 5 t (ix2 n e) = V m c main_v29 (ix2 n e) := by
  blk_point [iblk, idx t]

/-- Where an index of an output's block stands in its array. -/
theorem emb6 (f : S64x2048.Idx → EReal) (t : Fin cfg0.N) (y : S64x2048.Idx) :
    f (((cfg0.win 6).blk t).view.emb y) = f (ix2 (rowAt t (y 0)) (y 1)) := by
  blk_point [idx t]

theorem emb7 (f : S64x1024.Idx → EReal) (t : Fin cfg0.N) (y : S64x1024.Idx) :
    f (((cfg0.win 7).blk t).view.emb y) = f (ix2 (rowAt t (y 0)) (y 1)) := by
  blk_point [idx t]

theorem emb8 (f : S64x1024.Idx → EReal) (t : Fin cfg0.N) (y : S64x1024.Idx) :
    f (((cfg0.win 8).blk t).view.emb y) = f (ix2 (rowAt t (y 0)) (y 1)) := by
  blk_point [idx t]

theorem emb9 (f : S64x1024.Idx → EReal) (t : Fin cfg0.N) (y : S64x1024.Idx) :
    f (((cfg0.win 9).blk t).view.emb y) = f (ix2 (rowAt t (y 0)) (y 1)) := by
  blk_point [idx t]

theorem emb10 (f : S64x3072.Idx → EReal) (t : Fin cfg0.N) (y : S64x3072.Idx) :
    f (((cfg0.win 10).blk t).view.emb y) = f (ix2 (rowAt t (y 0)) (y 1)) := by
  blk_point [idx t]

/-- A block whose inputs are rows of the arrays is rows of the result: the queries. -/
theorem q_rows (Y : FVec Ideal S64x9216 .f32) (C S : FVec Ideal S64x128 .f32) (G : FVec Ideal S1x128 .f32)
    (z0 : FVec Ideal S64x2048 .f32) (z2 z3 : FVec Ideal S64x128 .f32) (z4 : FVec Ideal S1x128 .f32) (ρ : Fin 64 → Fin 64)
    (h0 : ∀ (r : Fin 64) (e : Fin 2048), z0 (ix2 r e) = Y (ix2 (ρ r) (⟨e.val, by omega⟩ : Fin 9216)))
    (h2 : ∀ (r : Fin 64) (e : Fin 128), z2 (ix2 r e) = C (ix2 (ρ r) e))
    (h3 : ∀ (r : Fin 64) (e : Fin 128), z3 (ix2 r e) = S (ix2 (ρ r) e))
    (h4 : ∀ e : Fin 128, z4 (ix2 (0 : Fin 1) e) = G (ix2 (0 : Fin 1) e)) (y : S64x2048.Idx) :
    blkQ z0 z2 z3 z4 y = arrQ Y C S G (ix2 (ρ (y 0)) (y 1)) := by
  obtain ⟨r, d, rfl⟩ : ∃ (r : Fin 64) (d : Fin 2048), y = ix2 r d := ⟨y 0, y 1, by funext a; fin_cases a <;> rfl⟩
  have g2 : (fun e : Fin 128 => z2 (ix2 r e)) = fun e => C (ix2 (ρ r) e) := funext (h2 r)
  have g3 : (fun e : Fin 128 => z3 (ix2 r e)) = fun e => S (ix2 (ρ r) e) := funext (h3 r)
  have g4 : (fun e : Fin 128 => z4 (ix2 (0 : Fin 1) e)) = fun e => G (ix2 (0 : Fin 1) e) := funext h4
  have hd : d.val < 2048 := d.isLt
  have g0 : (fun e : Fin 128 => z0 (ix2 r (⟨d.val / 128 * 128 + e.val, by omega⟩ : Fin 2048)))
      = fun e => Y (ix2 (ρ r) (⟨d.val / 128 * 128 + e.val, by omega⟩ : Fin 9216)) := funext fun e => h0 r _
  change rotE (fun e : Fin 128 => z0 (ix2 r (⟨d.val / 128 * 128 + e.val, by omega⟩ : Fin 2048)))
        (fun e => z4 (ix2 (0 : Fin 1) e)) (fun e => z2 (ix2 r e)) (fun e => z3 (ix2 r e)) ⟨d.val % 128, by omega⟩ = _
  rw [g0, g2, g3, g4]
  rfl

/-- The same for the keys and values. -/
theorem kv_rows (Y : FVec Ideal S64x9216 .f32) (C S : FVec Ideal S64x128 .f32) (H : FVec Ideal S3x128 .f32)
    (z1 : FVec Ideal S64x3072 .f32) (z2 z3 : FVec Ideal S64x128 .f32) (z5 : FVec Ideal S3x128 .f32) (ρ : Fin 64 → Fin 64)
    (h1 : ∀ (r : Fin 64) (e : Fin 3072), z1 (ix2 r e) = Y (ix2 (ρ r) (⟨6144 + e.val, by omega⟩ : Fin 9216)))
    (h2 : ∀ (r : Fin 64) (e : Fin 128), z2 (ix2 r e) = C (ix2 (ρ r) e))
    (h3 : ∀ (r : Fin 64) (e : Fin 128), z3 (ix2 r e) = S (ix2 (ρ r) e))
    (h5 : ∀ (n : Fin 3) (e : Fin 128), z5 (ix2 n e) = H (ix2 n e)) (y : S64x3072.Idx) :
    blkKV z1 z2 z3 z5 y = arrKV Y C S H (ix2 (ρ (y 0)) (y 1)) := by
  obtain ⟨r, d, rfl⟩ : ∃ (r : Fin 64) (d : Fin 3072), y = ix2 r d := ⟨y 0, y 1, by funext a; fin_cases a <;> rfl⟩
  have g2 : (fun e : Fin 128 => z2 (ix2 r e)) = fun e => C (ix2 (ρ r) e) := funext (h2 r)
  have g3 : (fun e : Fin 128 => z3 (ix2 r e)) = fun e => S (ix2 (ρ r) e) := funext (h3 r)
  have g5 : z5 = H := by
    funext w
    obtain ⟨n, e, rfl⟩ : ∃ (n : Fin 3) (e : Fin 128), w = ix2 n e := ⟨w 0, w 1, by funext a; fin_cases a <;> rfl⟩
    exact h5 n e
  have hd : d.val < 3072 := d.isLt
  have g1 : (fun e : Fin 128 => z1 (ix2 r (⟨d.val / 128 * 128 + e.val, by omega⟩ : Fin 3072)))
      = fun e => Y (ix2 (ρ r) (⟨6144 + (d.val / 128 * 128 + e.val), by omega⟩ : Fin 9216)) := funext fun e => h1 r _
  subst g5
  change (if d.val / 128 % 2 = 0 then
      rotE (fun e : Fin 128 => z1 (ix2 r (⟨d.val / 128 * 128 + e.val, by omega⟩ : Fin 3072)))
        (fun e => z5 (ix2 (⟨d.val / 1024, by omega⟩ : Fin 3) e)) (fun e => z2 (ix2 r e)) (fun e => z3 (ix2 r e)) ⟨d.val % 128, by omega⟩
      else z1 (ix2 r d)) = _
  rw [g1, g2, g3, h1]
  rfl

/-- A block of the queries is its part of the array. -/
theorem q_blk (c : Dev nD) (t : Fin cfg0.N) (y : S64x2048.Idx) :
    blkQ (X0_0 m c t) (iblk m c 2 t) (iblk m c 3 t) (iblk m c 4 t) y
      = arrQ (V m c main_arg0) (V m c main_v20) (V m c main_v27) (V m c main_v30) (ix2 (rowAt t (y 0)) (y 1)) := by
  have h0 := rd0 m c t
  have h2 := rd2 m c t
  have h3 := rd3 m c t
  have h4 := rd4 m c t
  revert h0 h2 h3 h4
  generalize X0_0 m c t = z0
  generalize iblk m c 2 t = z2
  generalize iblk m c 3 t = z3
  generalize iblk m c 4 t = z4
  generalize V m c main_arg0 = Y
  generalize V m c main_v20 = C
  generalize V m c main_v27 = S
  generalize V m c main_v30 = G
  intro h0 h2 h3 h4
  exact q_rows Y C S G z0 z2 z3 z4 (rowAt t) h0 h2 h3 h4 y

/-- A block of the keys and values is its part of the array. -/
theorem kv_blk (c : Dev nD) (t : Fin cfg0.N) (y : S64x3072.Idx) :
    blkKV (iblk m c 1 t) (iblk m c 2 t) (iblk m c 3 t) (iblk m c 5 t) y
      = arrKV (V m c main_arg0) (V m c main_v20) (V m c main_v27) (V m c main_v29) (ix2 (rowAt t (y 0)) (y 1)) := by
  have h1 := rd1 m c t
  have h2 := rd2 m c t
  have h3 := rd3 m c t
  have h5 := rd5 m c t
  revert h1 h2 h3 h5
  generalize iblk m c 1 t = z1
  generalize iblk m c 2 t = z2
  generalize iblk m c 3 t = z3
  generalize iblk m c 5 t = z5
  generalize V m c main_arg0 = Y
  generalize V m c main_v20 = C
  generalize V m c main_v27 = S
  generalize V m c main_v29 = H
  intro h1 h2 h3 h5
  exact kv_rows Y C S H z1 z2 z3 z5 (rowAt t) h1 h2 h3 h5 y

theorem final_q (c : Dev nD) : (dats m 0 c).arrAt 6 (cfgs 0).N
    = arrQ (V m c main_arg0) (V m c main_v20) (V m c main_v27) (V m c main_v30) := by
  refine (dats m 0 c).arrAt_eq_of_covers 6 _ (by decide +kernel) fun t _ y => ?_
  blk_simp
  rw [after0_6, outsAt0, out_q]
  exact (q_blk m c t y).trans (emb6 (arrQ (V m c main_arg0) (V m c main_v20) (V m c main_v27) (V m c main_v30)) t y).symm

theorem final_c (c : Dev nD) : (dats m 0 c).arrAt 7 (cfgs 0).N
    = arrBr (V m c main_arg0) (V m c main_v20) (V m c main_v27) (V m c main_v29) 0 := by
  refine (dats m 0 c).arrAt_eq_of_covers 7 _ (by decide +kernel) fun t _ y => ?_
  blk_simp
  rw [after0_7, outsAt0, out_c]
  exact (kv_blk m c t _).trans (emb7 (arrBr (V m c main_arg0) (V m c main_v20) (V m c main_v27) (V m c main_v29) 0) t y).symm

theorem final_s (c : Dev nD) : (dats m 0 c).arrAt 8 (cfgs 0).N
    = arrBr (V m c main_arg0) (V m c main_v20) (V m c main_v27) (V m c main_v29) 1 := by
  refine (dats m 0 c).arrAt_eq_of_covers 8 _ (by decide +kernel) fun t _ y => ?_
  blk_simp
  rw [after0_8, outsAt0, out_s]
  exact (kv_blk m c t _).trans (emb8 (arrBr (V m c main_arg0) (V m c main_v20) (V m c main_v27) (V m c main_v29) 1) t y).symm

theorem final_w (c : Dev nD) : (dats m 0 c).arrAt 9 (cfgs 0).N
    = arrBr (V m c main_arg0) (V m c main_v20) (V m c main_v27) (V m c main_v29) 2 := by
  refine (dats m 0 c).arrAt_eq_of_covers 9 _ (by decide +kernel) fun t _ y => ?_
  blk_simp
  rw [after0_9, outsAt0, out_w]
  exact (kv_blk m c t _).trans (emb9 (arrBr (V m c main_arg0) (V m c main_v20) (V m c main_v27) (V m c main_v29) 2) t y).symm

theorem final_kv (c : Dev nD) : (dats m 0 c).arrAt 10 (cfgs 0).N
    = arrKV (V m c main_arg0) (V m c main_v20) (V m c main_v27) (V m c main_v29) := by
  refine (dats m 0 c).arrAt_eq_of_covers 10 _ (by decide +kernel) fun t _ y => ?_
  blk_simp
  rw [after0_10, outsAt0, out_kv]
  exact (kv_blk m c t y).trans (emb10 (arrKV (V m c main_arg0) (V m c main_v20) (V m c main_v27) (V m c main_v29)) t y).symm

end Cert.Kernel8Ideal.Qkv

end

end
-- ==== Proof.RefQkvSample.lean ====
/-
  The reference's samples' queries, keys and values, entry by entry: every head normalised and rotated.
-/
module

public import proofs.«01_k».proof.Proof.Gen.Reference8Ideal.Read
public import Idealize.ShloMosaic.Lib.Pipeline.ValueKit
public import proofs.«01_k».proof.Proof.Rotation

@[expose] public section

set_option maxRecDepth 16384

noncomputable section

open Idealize.ShloMosaic Idealize.ShloMosaic.TcCoe Idealize.SL.Sem

namespace Cert.Reference8Ideal.Read

open Cert.Reference8Ideal Cert.Reference8Ideal.Gen Cert.Nsa

variable (x0 : FVec Ideal S64x9216 .f32) (x1 : FVec Ideal S1x128 .f32) (x2 : FVec Ideal S1x3x128 .f32)

/-- A row of the projection as the reference counts it: batch row and position. -/
abbrev rowR (b : Fin 8) (t : Fin 8) : Fin 64 := ⟨b.val * 8 + t.val, by omega⟩

/-- The queries before the rotation. -/
theorem v9_at (b : Fin 8) (t : Fin 8) (h : Fin 16) (d : Fin 128) :
    val_main_v9 (F := Ideal) x0 (ix4 b t h d) = x0 (ix2 (rowR b t) (⟨h.val * 128 + d.val, by omega⟩ : Fin 9216)) := by
  pointwise [val_main_v9, val_main_v1, val_main_v0]

theorem v22_at (b : Fin 8) (t : Fin 8) (h : Fin 16) (d : Fin 128) :
    val_main_v22 (F := Ideal) x0 x1 (ix4 b t h d)
      = nrmE (fun e => x0 (ix2 (rowR b t) (⟨h.val * 128 + e.val, by omega⟩ : Fin 9216))) (fun e => x1 (ix2 0 e)) d := by
  have h7 := fun e => v9_at x0 b t h e
  unfold val_main_v22 val_main_v21 val_main_v20 val_main_v19 val_main_v18 val_main_v17 val_main_v16 val_main_v15 val_main_v14 val_main_v13 val_main_v12 val_main_v11 val_main_v10 val_main_v7 val_main_cst val_main_cst_0 val_main_cst_1
  generalize val_main_v9 (F := Ideal) x0 = y at h7 ⊢
  pointwise [nrmE]
  simp only [h7]

/-- The angles: a position times a frequency. -/
abbrev ang (t : Fin 8) (k : Fin 64) : EReal := val_main_v34 (F := Ideal) (ix2 t k)

/-- The queries after the rotation. -/
theorem v55_at (b : Fin 8) (t : Fin 8) (h : Fin 16) (d : Fin 128) :
    val_main_v55 (F := Ideal) x0 x1 (ix4 b t h d)
      = rotE (fun e => x0 (ix2 (rowR b t) (⟨h.val * 128 + e.val, by omega⟩ : Fin 9216))) (fun e => x1 (ix2 0 e)) (cosT (ang t)) (sinT (ang t)) d := by
  rw [rotE_eq]
  have h20 := fun e => v22_at x0 x1 b t h e
  unfold val_main_v55 val_main_v54 val_main_v53 val_main_v52 val_main_v51 val_main_v50 val_main_v49 val_main_v48 val_main_v47 val_main_v46 val_main_v45 val_main_v44 val_main_v43 val_main_v42 val_main_v41 val_main_v40 val_main_v39 val_main_v38 val_main_v37 val_main_v36 val_main_v35
  unfold ang
  generalize val_main_v22 (F := Ideal) x0 x1 = y at h20 ⊢
  generalize val_main_v34 (F := Ideal) = a
  pointwise []
  simp only [h20]

/-- The keys' and values' columns by branch, group, key or value, and column. -/
theorem v56_at (b : Fin 8) (t : Fin 8) (n : Fin 3) (g : Fin 4) (p : Fin 2) (d : Fin 128) :
    val_main_v56 (F := Ideal) x0 (ix6 b t n g p d)
      = x0 (ix2 (rowR b t) (⟨6144 + (n.val * 1024 + g.val * 256 + p.val * 128 + d.val), by omega⟩ : Fin 9216)) := by
  pointwise [val_main_v56, val_main_v3, val_main_v2]

/-- The keys before the rotation. -/
theorem v58_at (b : Fin 8) (t : Fin 8) (n : Fin 3) (g : Fin 4) (d : Fin 128) :
    val_main_v58 (F := Ideal) x0 (ix5 b t n g d)
      = x0 (ix2 (rowR b t) (⟨6144 + (n.val * 1024 + g.val * 256 + d.val), by omega⟩ : Fin 9216)) := by
  have h54 := fun p e => v56_at x0 b t n g p e
  unfold val_main_v58 val_main_v57
  generalize val_main_v56 (F := Ideal) x0 = y at h54 ⊢
  pointwise []
  rw [h54]
  exact congrArg (fun q => x0 (ix2 (rowR b t) q)) (Fin.ext (by
    change 6144 + (n.val * 1024 + g.val * 256 + 0 * 128 + d.val) = 6144 + (n.val * 1024 + g.val * 256 + d.val); omega))

theorem v72_at (b : Fin 8) (t : Fin 8) (n : Fin 3) (g : Fin 4) (d : Fin 128) :
    val_main_v72 (F := Ideal) x0 x2 (ix5 b t n g d)
      = nrmE (fun e => x0 (ix2 (rowR b t) (⟨6144 + (n.val * 1024 + g.val * 256 + e.val), by omega⟩ : Fin 9216))) (fun e => x2 (ix3 0 n e)) d := by
  have h56 := fun e => v58_at x0 b t n g e
  unfold val_main_v72 val_main_v71 val_main_v70 val_main_v69 val_main_v68 val_main_v67 val_main_v66 val_main_v65 val_main_v64 val_main_v63 val_main_v62 val_main_v61 val_main_v60 val_main_v59 val_main_v8 val_main_cst_4 val_main_cst_5 val_main_cst_6
  generalize val_main_v58 (F := Ideal) x0 = y at h56 ⊢
  pointwise [nrmE]
  simp only [h56]

/-- The reference computes the angles twice, alike. -/
theorem v85_eq : val_main_v85 (F := Ideal) = val_main_v34 (F := Ideal) := rfl

/-- The keys after the rotation. -/
theorem v107_at (b : Fin 8) (t : Fin 8) (n : Fin 3) (g : Fin 4) (d : Fin 128) :
    val_main_v107 (F := Ideal) x0 x2 (ix5 b t n g d)
      = rotE (fun e => x0 (ix2 (rowR b t) (⟨6144 + (n.val * 1024 + g.val * 256 + e.val), by omega⟩ : Fin 9216))) (fun e => x2 (ix3 0 n e)) (cosT (ang t)) (sinT (ang t)) d := by
  rw [rotE_eq]
  have h70 := fun e => v72_at x0 x2 b t n g e
  unfold val_main_v107 val_main_v106 val_main_v105 val_main_v104 val_main_v103 val_main_v102 val_main_v101 val_main_v100 val_main_v99 val_main_v98 val_main_v97 val_main_v96 val_main_v95 val_main_v94 val_main_v93 val_main_v92 val_main_v91 val_main_v90 val_main_v89 val_main_v88 val_main_v87 val_main_v86 val_main_v73
  unfold ang
  rw [v85_eq]
  generalize val_main_v72 (F := Ideal) x0 x2 = y at h70 ⊢
  generalize val_main_v34 (F := Ideal) = a
  pointwise []
  simp only [h70]

/-- The values, as they come. -/
theorem v109_at (b : Fin 8) (t : Fin 8) (n : Fin 3) (g : Fin 4) (d : Fin 128) :
    val_main_v109 (F := Ideal) x0 (ix5 b t n g d)
      = x0 (ix2 (rowR b t) (⟨6144 + (n.val * 1024 + g.val * 256 + 128 + d.val), by omega⟩ : Fin 9216)) := by
  have h54 := fun p e => v56_at x0 b t n g p e
  unfold val_main_v109 val_main_v108
  generalize val_main_v56 (F := Ideal) x0 = y at h54 ⊢
  pointwise []
  rw [h54]
  exact congrArg (fun q => x0 (ix2 (rowR b t) q)) (Fin.ext (by
    change 6144 + (n.val * 1024 + g.val * 256 + 1 * 128 + d.val) = 6144 + (n.val * 1024 + g.val * 256 + 128 + d.val); omega))

theorem v110_at (b : Fin 8) (t : Fin 8) (n : Fin 3) (g : Fin 4) (d : Fin 128) :
    val_main_v110 (F := Ideal) x0 x2 (ix6 b t n g (0 : Fin 1) d) = val_main_v107 (F := Ideal) x0 x2 (ix5 b t n g d) := by
  rw [val_main_v110_apply]
  exact congrArg (val_main_v107 (F := Ideal) x0 x2) (funext fun a => by fin_cases a <;> rfl)

theorem v111_at (b : Fin 8) (t : Fin 8) (n : Fin 3) (g : Fin 4) (d : Fin 128) :
    val_main_v111 (F := Ideal) x0 (ix6 b t n g (0 : Fin 1) d) = val_main_v109 (F := Ideal) x0 (ix5 b t n g d) := by
  rw [val_main_v111_apply]
  exact congrArg (val_main_v109 (F := Ideal) x0) (funext fun a => by fin_cases a <;> rfl)

/-- Keys and values side by side: the keys. -/
theorem v112_key (b : Fin 8) (t : Fin 8) (n : Fin 3) (g : Fin 4) (d : Fin 128) :
    val_main_v112 (F := Ideal) x0 x2 (ix6 b t n g (0 : Fin 2) d)
      = rotE (fun e => x0 (ix2 (rowR b t) (⟨6144 + (n.val * 1024 + g.val * 256 + e.val), by omega⟩ : Fin 9216))) (fun e => x2 (ix3 0 n e)) (cosT (ang t)) (sinT (ang t)) d := by
  refine Eq.trans ?_ ((v110_at x0 x2 b t n g d).trans (v107_at x0 x2 b t n g d))
  unfold val_main_v112
  generalize val_main_v110 (F := Ideal) x0 x2 = y
  generalize val_main_v111 (F := Ideal) x0 = z
  exact concatenate_pair_apply_left 4 y z concatenates_S8x8x3x4x1x128_S8x8x3x4x1x128_S8x8x3x4x2x128_d4 _ rfl
    (ix6 b t n g (0 : Fin 1) d) (fun a => by fin_cases a <;> rfl)

/-- Keys and values side by side: the values. -/
theorem v112_val (b : Fin 8) (t : Fin 8) (n : Fin 3) (g : Fin 4) (d : Fin 128) :
    val_main_v112 (F := Ideal) x0 x2 (ix6 b t n g (1 : Fin 2) d)
      = x0 (ix2 (rowR b t) (⟨6144 + (n.val * 1024 + g.val * 256 + 128 + d.val), by omega⟩ : Fin 9216)) := by
  refine Eq.trans ?_ ((v111_at x0 b t n g d).trans (v109_at x0 b t n g d))
  unfold val_main_v112
  generalize val_main_v110 (F := Ideal) x0 x2 = y
  generalize val_main_v111 (F := Ideal) x0 = z
  exact concatenate_pair_apply_right 4 y z concatenates_S8x8x3x4x1x128_S8x8x3x4x1x128_S8x8x3x4x2x128_d4 _ rfl rfl
    (ix6 b t n g (0 : Fin 1) d) (fun a ha => by fin_cases a <;> first | rfl | exact absurd rfl ha) rfl

theorem v114_at (b : Fin 8) (t : Fin 8) (g : Fin 4) (p : Fin 2) (d : Fin 128) :
    val_main_v114 (F := Ideal) x0 x2 (ix5 b t g p d) = val_main_v112 (F := Ideal) x0 x2 (ix6 b t (0 : Fin 3) g p d) := by
  unfold val_main_v114 val_main_v113
  generalize val_main_v112 (F := Ideal) x0 x2 = y
  pointwise []

theorem v116_at (b : Fin 8) (t : Fin 8) (g : Fin 4) (p : Fin 2) (d : Fin 128) :
    val_main_v116 (F := Ideal) x0 x2 (ix5 b t g p d) = val_main_v112 (F := Ideal) x0 x2 (ix6 b t (1 : Fin 3) g p d) := by
  unfold val_main_v116 val_main_v115
  generalize val_main_v112 (F := Ideal) x0 x2 = y
  pointwise []

theorem v118_at (b : Fin 8) (t : Fin 8) (g : Fin 4) (p : Fin 2) (d : Fin 128) :
    val_main_v118 (F := Ideal) x0 x2 (ix5 b t g p d) = val_main_v112 (F := Ideal) x0 x2 (ix6 b t (2 : Fin 3) g p d) := by
  unfold val_main_v118 val_main_v117
  generalize val_main_v112 (F := Ideal) x0 x2 = y
  pointwise []

theorem v124_at (b : Fin 8) (t : Fin 8) (n : Fin 3) (g : Fin 4) (p : Fin 2) (d : Fin 128) :
    val_main_v124 (F := Ideal) x0 x2 (ix2 (rowR b t) (⟨n.val * 1024 + g.val * 256 + p.val * 128 + d.val, by omega⟩ : Fin 3072))
      = val_main_v112 (F := Ideal) x0 x2 (ix6 b t n g p d) := by
  unfold val_main_v124
  generalize val_main_v112 (F := Ideal) x0 x2 = y
  pointwise []
  have e1 : (⟨(b.val * 8 + t.val) / 8, by omega⟩ : Fin 8) = b := Fin.ext (by change (b.val * 8 + t.val) / 8 = b.val; omega)
  have e2 : (⟨(b.val * 8 + t.val) % 8, by omega⟩ : Fin 8) = t := Fin.ext (by change (b.val * 8 + t.val) % 8 = t.val; omega)
  rw [e1, e2]

theorem v122_at (b : Fin 8) (t : Fin 8) (h : Fin 16) (d : Fin 128) :
    val_main_v122 (F := Ideal) x0 x1 (ix2 (rowR b t) (⟨h.val * 128 + d.val, by omega⟩ : Fin 2048)) = val_main_v55 (F := Ideal) x0 x1 (ix4 b t h d) := by
  unfold val_main_v122
  generalize val_main_v55 (F := Ideal) x0 x1 = y
  pointwise []
  have e1 : (⟨(b.val * 8 + t.val) / 8, by omega⟩ : Fin 8) = b := Fin.ext (by change (b.val * 8 + t.val) / 8 = b.val; omega)
  have e2 : (⟨(b.val * 8 + t.val) % 8, by omega⟩ : Fin 8) = t := Fin.ext (by change (b.val * 8 + t.val) % 8 = t.val; omega)
  rw [e1, e2]

end Cert.Reference8Ideal.Read

end

end
-- ==== Proof.QkvTablesSample.lean ====
/-
  The kernel's tables: the cosines and signed sines of the angles, one row per row of the projection.
-/
module

public import proofs.«01_k».proof.Proof.QkvArrSample
public import proofs.«01_k».proof.Proof.RefQkvSample
public import Idealize.ShloMosaic.Lib.Claim

@[expose] public section

set_option maxRecDepth 16384

noncomputable section

open Idealize.ShloMosaic Idealize.ShloMosaic.TcCoe Idealize.SL.Sem Idealize.ShloMosaic.Tactic

namespace Cert.Kernel8Ideal.Qkv

open Cert.Kernel8Ideal Cert.Kernel8Ideal.Gen Cert.Nsa

/-- The angles as the kernel's host computes them: a position times a frequency. -/
def angK : FVec Ideal S8x64 .f32 :=
  mulf
    (broadcastInDim S8x64 ![0, 1] bcast_S8x1_S8x64_0_1
      (broadcastInDim S8x1 ![0] bcast_S8_S8x1_0 (sitofp .f32 (addi (broadcastInDim S8 ![] bcast_S_S8 (constantI S_ 32 16384#32)) (iotaInDim S8 32 0)))))
    (broadcastInDim S8x64 ![0, 1] bcast_S1x64_S8x64_0_1
      (broadcastInDim S1x64 ![1] bcast_S64_S1x64_1
        (Host.powf (broadcastInDim S64 ![] bcast_S_S64 (constant S_ .f32 0x461C4000#32))
          (Host.divf (negf (sitofp .f32 (iotaInDim S64 32 0))) (broadcastInDim S64 ![] bcast_S_S64 (constant S_ .f32 0x42800000#32))))))

/-- They are the reference's. -/
theorem angK_eq : angK = Cert.Reference8Ideal.Read.val_main_v34 (F := Ideal) := rfl

/-- A table of 128 columns from its two halves, repeated for every batch row. -/
def tile (p q : FVec Ideal S8x64 .f32) : FVec Ideal S64x128 .f32 :=
  shapeCast S64x128 (broadcastInDim S8x8x1x128 ![0, 1, 2, 3] bcast_S1x8x1x128_S8x8x1x128_0_1_2_3
    (shapeCast S1x8x1x128 (concatenate S8x128 1 [⟨S8x64, p⟩, ⟨S8x64, q⟩] concatenates_S8x64_S8x64_S8x128_d1)
      shapeCasts_S8x128_S1x8x1x128)) shapeCasts_S8x8x1x128_S64x128

theorem tile_at (p q : FVec Ideal S8x64 .f32) (b : Fin 8) (t : Fin 8) (e : Fin 128) :
    tile p q (ix2 (⟨b.val * 8 + t.val, by omega⟩ : Fin 64) e)
      = if h : e.val < 64 then p (ix2 t ⟨e.val, h⟩) else q (ix2 t ⟨e.val - 64, by omega⟩) := by
  pointwise [tile]

variable (m : (ℓ : Loc nD τ sig) → Buf (Elt Ideal) ℓ)

theorem cos_entry (c : Dev nD) : V m c main_v20 = tile (Host.cos angK) (Host.cos angK) := by
  entry_read
  rfl

theorem sin_entry (c : Dev nD) : V m c main_v27 = tile (negf (Host.sin angK)) (Host.sin angK) := by
  entry_read
  rfl

theorem qgain_entry (c : Dev nD) : V m c main_v30
    = shapeCast S1x128 (shapeCast S128 (m ((c : Thread nD τ).loc main_arg1) : FVec Ideal S1x128 .f32) shapeCasts_S1x128_S128) shapeCasts_S128_S1x128 := by
  entry_read
  rfl

theorem kgain_entry (c : Dev nD) : V m c main_v29
    = shapeCast S3x128 (m ((c : Thread nD τ).loc main_arg2) : FVec Ideal S1x3x128 .f32) shapeCasts_S1x3x128_S3x128 := by
  entry_read
  rfl

/-- A row of the cosines. -/
theorem cos_at (b : Fin 8) (t : Fin 8) (e : Fin 128) :
    tile (Host.cos angK) (Host.cos angK) (ix2 (Cert.Reference8Ideal.Read.rowR b t) e) = cosT (Cert.Reference8Ideal.Read.ang t) e := by
  rw [tile_at, angK_eq]
  rfl

/-- A row of the signed sines. -/
theorem sin_at (b : Fin 8) (t : Fin 8) (e : Fin 128) :
    tile (negf (Host.sin angK)) (Host.sin angK) (ix2 (Cert.Reference8Ideal.Read.rowR b t) e) = sinT (Cert.Reference8Ideal.Read.ang t) e := by
  rw [tile_at, angK_eq]
  rfl

theorem qgain_at (G : FVec Ideal S1x128 .f32) (e : Fin 128) :
    shapeCast S1x128 (shapeCast S128 G shapeCasts_S1x128_S128) shapeCasts_S128_S1x128 (ix2 (0 : Fin 1) e) = G (ix2 (0 : Fin 1) e) := by
  pointwise []

theorem kgain_at (H : FVec Ideal S1x3x128 .f32) (n : Fin 3) (e : Fin 128) :
    shapeCast S3x128 H shapeCasts_S1x3x128_S3x128 (ix2 n e) = H (ix3 (0 : Fin 1) n e) := by
  pointwise []

end Cert.Kernel8Ideal.Qkv

end

end
-- ==== Proof.QkvEqSample.lean ====
/-
  The reference's queries, keys and values are the kernel's arrays, entry by entry.
-/
module

public import proofs.«01_k».proof.Proof.QkvTablesSample
public import Idealize.ShloMosaic.Lib.Claim

@[expose] public section

set_option maxRecDepth 16384

noncomputable section

open Idealize.ShloMosaic Idealize.ShloMosaic.TcCoe Idealize.SL.Sem Idealize.ShloMosaic.Tactic

namespace Cert.Kernel8Ideal.Qkv

open Cert.Kernel8Ideal Cert.Kernel8Ideal.Gen Cert.Nsa

section
variable (Y : FVec Ideal S64x9216 .f32) (C S : FVec Ideal S64x128 .f32) (G : FVec Ideal S1x128 .f32) (H : FVec Ideal S3x128 .f32)

/-- An entry of the queries by head and column. -/
theorem arrQ_at (a : Fin 64) (h : Fin 16) (d : Fin 128) :
    arrQ Y C S G (ix2 a (⟨h.val * 128 + d.val, by omega⟩ : Fin 2048))
      = rotE (fun e => Y (ix2 a (⟨h.val * 128 + e.val, by omega⟩ : Fin 9216))) (fun e => G (ix2 0 e)) (fun e => C (ix2 a e)) (fun e => S (ix2 a e)) d := by
  have e1 : (⟨(h.val * 128 + d.val) % 128, by omega⟩ : Fin 128) = d := Fin.ext (by change (h.val * 128 + d.val) % 128 = d.val; omega)
  have e2 : ∀ e : Fin 128, (⟨(h.val * 128 + d.val) / 128 * 128 + e.val, by omega⟩ : Fin 9216) = ⟨h.val * 128 + e.val, by omega⟩ := fun e =>
    Fin.ext (by change (h.val * 128 + d.val) / 128 * 128 + e.val = h.val * 128 + e.val; omega)
  change rotE (fun e => Y (ix2 a (⟨(h.val * 128 + d.val) / 128 * 128 + e.val, by omega⟩ : Fin 9216))) (fun e => G (ix2 0 e))
    (fun e => C (ix2 a e)) (fun e => S (ix2 a e)) ⟨(h.val * 128 + d.val) % 128, by omega⟩ = _
  simp only [e1, e2]

/-- An entry of the keys by branch, group and column. -/
theorem arrKV_key (a : Fin 64) (n : Fin 3) (g : Fin 4) (d : Fin 128) (j : Fin 3072) (hj : j.val = n.val * 1024 + g.val * 256 + d.val) :
    arrKV Y C S H (ix2 a j)
      = rotE (fun e => Y (ix2 a (⟨6144 + (n.val * 1024 + g.val * 256 + e.val), by omega⟩ : Fin 9216))) (fun e => H (ix2 n e)) (fun e => C (ix2 a e)) (fun e => S (ix2 a e)) d := by
  have e1 : (⟨j.val % 128, by omega⟩ : Fin 128) = d := Fin.ext (by change j.val % 128 = d.val; omega)
  have e2 : ∀ e : Fin 128, (⟨6144 + (j.val / 128 * 128 + e.val), by omega⟩ : Fin 9216) = ⟨6144 + (n.val * 1024 + g.val * 256 + e.val), by omega⟩ := fun e =>
    Fin.ext (by change 6144 + (j.val / 128 * 128 + e.val) = 6144 + (n.val * 1024 + g.val * 256 + e.val); omega)
  have e3 : (⟨j.val / 1024, by omega⟩ : Fin 3) = n := Fin.ext (by change j.val / 1024 = n.val; omega)
  change (if j.val / 128 % 2 = 0 then
      rotE (fun e => Y (ix2 a (⟨6144 + (j.val / 128 * 128 + e.val), by omega⟩ : Fin 9216))) (fun e => H (ix2 (⟨j.val / 1024, by omega⟩ : Fin 3) e))
        (fun e => C (ix2 a e)) (fun e => S (ix2 a e)) ⟨j.val % 128, by omega⟩
      else Y (ix2 a (⟨6144 + j.val, by omega⟩ : Fin 9216))) = _
  rw [if_pos (by omega)]
  simp only [e1, e2, e3]

/-- An entry of the values by branch, group and column. -/
theorem arrKV_val (a : Fin 64) (n : Fin 3) (g : Fin 4) (d : Fin 128) (j : Fin 3072) (hj : j.val = n.val * 1024 + g.val * 256 + 128 + d.val) :
    arrKV Y C S H (ix2 a j) = Y (ix2 a (⟨6144 + (n.val * 1024 + g.val * 256 + 128 + d.val), by omega⟩ : Fin 9216)) := by
  change (if j.val / 128 % 2 = 0 then
      rotE (fun e => Y (ix2 a (⟨6144 + (j.val / 128 * 128 + e.val), by omega⟩ : Fin 9216))) (fun e => H (ix2 (⟨j.val / 1024, by omega⟩ : Fin 3) e))
        (fun e => C (ix2 a e)) (fun e => S (ix2 a e)) ⟨j.val % 128, by omega⟩
      else Y (ix2 a (⟨6144 + j.val, by omega⟩ : Fin 9216))) = _
  rw [if_neg (by omega)]
  exact congrArg (fun q => Y (ix2 a q)) (Fin.ext (by change 6144 + j.val = 6144 + (n.val * 1024 + g.val * 256 + 128 + d.val); omega))
end

section
variable (x0 : FVec Ideal S64x9216 .f32) (x1 : FVec Ideal S1x128 .f32) (x2 : FVec Ideal S1x3x128 .f32)

/-- The kernel's queries as a function of the arguments. -/
abbrev qK : S64x2048.Idx → EReal :=
  arrQ x0 (tile (Host.cos angK) (Host.cos angK)) (tile (negf (Host.sin angK)) (Host.sin angK))
    (shapeCast S1x128 (shapeCast S128 x1 shapeCasts_S1x128_S128) shapeCasts_S128_S1x128)

/-- The kernel's keys and values as a function of the arguments. -/
abbrev kvK : S64x3072.Idx → EReal :=
  arrKV x0 (tile (Host.cos angK) (Host.cos angK)) (tile (negf (Host.sin angK)) (Host.sin angK))
    (shapeCast S3x128 x2 shapeCasts_S1x3x128_S3x128)

/-- One branch of them. -/
abbrev brK (n : Fin 3) : S64x1024.Idx → EReal :=
  arrBr x0 (tile (Host.cos angK) (Host.cos angK)) (tile (negf (Host.sin angK)) (Host.sin angK))
    (shapeCast S3x128 x2 shapeCasts_S1x3x128_S3x128) n

open Cert.Reference8Ideal.Read

theorem q_eq : val_main_v122 (F := Ideal) x0 x1 = qK x0 x1 := by
  funext j
  obtain ⟨a, i, rfl⟩ : ∃ (a : Fin 64) (i : Fin 2048), j = ix2 a i := ⟨j 0, j 1, by funext a; fin_cases a <;> rfl⟩
  obtain ⟨b, t, rfl⟩ : ∃ (b : Fin 8) (t : Fin 8), a = rowR b t :=
    ⟨⟨a.val / 8, by omega⟩, ⟨a.val % 8, by omega⟩, Fin.ext (by change a.val = a.val / 8 * 8 + a.val % 8; omega)⟩
  obtain ⟨h, d, rfl⟩ : ∃ (h : Fin 16) (d : Fin 128), i = (⟨h.val * 128 + d.val, by omega⟩ : Fin 2048) :=
    ⟨⟨i.val / 128, by omega⟩, ⟨i.val % 128, by omega⟩, Fin.ext (by change i.val = i.val / 128 * 128 + i.val % 128; omega)⟩
  rw [v122_at, v55_at]
  unfold qK
  rw [arrQ_at]
  simp only [cos_at, sin_at, qgain_at]

/-- The reference's keys and values are the kernel's. -/
theorem kv_at (b : Fin 8) (t : Fin 8) (n : Fin 3) (g : Fin 4) (p : Fin 2) (d : Fin 128) :
    val_main_v112 (F := Ideal) x0 x2 (ix6 b t n g p d)
      = kvK x0 x2 (ix2 (rowR b t) (⟨n.val * 1024 + g.val * 256 + p.val * 128 + d.val, by omega⟩ : Fin 3072)) := by
  obtain rfl | rfl : p = 0 ∨ p = 1 := by omega
  · refine (v112_key x0 x2 b t n g d).trans (Eq.trans ?_ (arrKV_key x0 _ _ _ (rowR b t) n g d
      ⟨n.val * 1024 + g.val * 256 + (0 : Fin 2).val * 128 + d.val, by change n.val * 1024 + g.val * 256 + 0 * 128 + d.val < 3072; omega⟩
      (by change n.val * 1024 + g.val * 256 + 0 * 128 + d.val = n.val * 1024 + g.val * 256 + d.val; omega)).symm)
    simp only [cos_at, sin_at, kgain_at]
  · exact (v112_val x0 x2 b t n g d).trans (arrKV_val x0 _ _ _ (rowR b t) n g d
      ⟨n.val * 1024 + g.val * 256 + (1 : Fin 2).val * 128 + d.val, by change n.val * 1024 + g.val * 256 + 1 * 128 + d.val < 3072; omega⟩
      (by change n.val * 1024 + g.val * 256 + 1 * 128 + d.val = n.val * 1024 + g.val * 256 + 128 + d.val; omega)).symm

theorem kv_eq : val_main_v124 (F := Ideal) x0 x2 = kvK x0 x2 := by
  funext j
  obtain ⟨a, i, rfl⟩ : ∃ (a : Fin 64) (i : Fin 3072), j = ix2 a i := ⟨j 0, j 1, by funext a; fin_cases a <;> rfl⟩
  obtain ⟨b, t, rfl⟩ : ∃ (b : Fin 8) (t : Fin 8), a = rowR b t :=
    ⟨⟨a.val / 8, by omega⟩, ⟨a.val % 8, by omega⟩, Fin.ext (by change a.val = a.val / 8 * 8 + a.val % 8; omega)⟩
  obtain ⟨n, g, p, d, rfl⟩ : ∃ (n : Fin 3) (g : Fin 4) (p : Fin 2) (d : Fin 128), i = (⟨n.val * 1024 + g.val * 256 + p.val * 128 + d.val, by omega⟩ : Fin 3072) :=
    ⟨⟨i.val / 1024, by omega⟩, ⟨i.val / 256 % 4, by omega⟩, ⟨i.val / 128 % 2, by omega⟩, ⟨i.val % 128, by omega⟩,
      Fin.ext (by change i.val = i.val / 1024 * 1024 + i.val / 256 % 4 * 256 + i.val / 128 % 2 * 128 + i.val % 128; omega)⟩
  rw [v124_at, kv_at]

/-- A branch of the kernel's array by group, key or value, and column. -/
theorem cast_at (A : FVec Ideal S64x1024 .f32) (b : Fin 8) (t : Fin 8) (g : Fin 4) (p : Fin 2) (d : Fin 128) :
    shapeCast S8x8x4x2x128 A shapeCasts_S64x1024_S8x8x4x2x128 (ix5 b t g p d)
      = A (ix2 (rowR b t) (⟨g.val * 256 + p.val * 128 + d.val, by omega⟩ : Fin 1024)) := by
  pointwise []

theorem br_at (n : Fin 3) (b : Fin 8) (t : Fin 8) (g : Fin 4) (p : Fin 2) (d : Fin 128) :
    val_main_v112 (F := Ideal) x0 x2 (ix6 b t n g p d)
      = brK x0 x2 n (ix2 (rowR b t) (⟨g.val * 256 + p.val * 128 + d.val, by omega⟩ : Fin 1024)) := by
  rw [kv_at]
  unfold brK arrBr
  exact congrArg (fun q => kvK x0 x2 (ix2 (rowR b t) q)) (Fin.ext (by
    change n.val * 1024 + g.val * 256 + p.val * 128 + d.val = n.val * 1024 + (g.val * 256 + p.val * 128 + d.val); omega))

theorem cmp_eq : val_main_v114 (F := Ideal) x0 x2
    = shapeCast S8x8x4x2x128 (brK x0 x2 0 : FVec Ideal S64x1024 .f32) shapeCasts_S64x1024_S8x8x4x2x128 := by
  funext j
  obtain ⟨b, t, g, p, d, rfl⟩ : ∃ (b : Fin 8) (t : Fin 8) (g : Fin 4) (p : Fin 2) (d : Fin 128), j = ix5 b t g p d :=
    ⟨j 0, j 1, j 2, j 3, j 4, by funext a; fin_cases a <;> rfl⟩
  rw [v114_at, cast_at, br_at]

theorem slc_eq : val_main_v116 (F := Ideal) x0 x2
    = shapeCast S8x8x4x2x128 (brK x0 x2 1 : FVec Ideal S64x1024 .f32) shapeCasts_S64x1024_S8x8x4x2x128 := by
  funext j
  obtain ⟨b, t, g, p, d, rfl⟩ : ∃ (b : Fin 8) (t : Fin 8) (g : Fin 4) (p : Fin 2) (d : Fin 128), j = ix5 b t g p d :=
    ⟨j 0, j 1, j 2, j 3, j 4, by funext a; fin_cases a <;> rfl⟩
  rw [v116_at, cast_at, br_at]

/-- The window's rows by group, key or value, and column. -/
theorem win_split_at (U : FVec Ideal S8x512x1024 .f32) (b : Fin 8) (t : Fin 512) (g : Fin 4) (p : Fin 2) (d : Fin 128) :
    shapeCast S8x512x4x2x128 U shapeCasts_S8x512x1024_S8x512x4x2x128 (ix5 b t g p d)
      = U (ix3 b t (⟨g.val * 256 + p.val * 128 + d.val, by omega⟩ : Fin 1024)) := by
  pointwise []

/-- The last 512 of the window's rows and the new ones: the old rows but the first eight, then the new ones. -/
theorem win_rows_at (U : FVec Ideal S8x512x1024 .f32) (Z : FVec Ideal S8x8x1024 .f32) (b : Fin 8) (t : Fin 512) (e : Fin 1024) :
    extractStridedSlice S8x512x1024 ![0, 8, 0] (concatenate S8x520x1024 1 [⟨S8x512x1024, U⟩, ⟨S8x8x1024, Z⟩]
        concatenates_S8x512x1024_S8x8x1024_S8x520x1024_d1) slices_S8x520x1024_S8x512x1024_0_8_0 (ix3 b t e)
      = if h : 8 + t.val < 512 then U (ix3 b ⟨8 + t.val, h⟩ e) else Z (ix3 b ⟨8 + t.val - 512, by omega⟩ e) := by
  pointwise []

/-- An old row with its columns side by side. -/
theorem win_old_at (W : FVec Ideal S8x512x4x2x128 .f32) (b : Fin 8) (t : Fin 512) (g : Fin 4) (p : Fin 2) (d : Fin 128) :
    shapeCast S8x512x1024 W shapeCasts_S8x512x4x2x128_S8x512x1024 (ix3 b t (⟨g.val * 256 + p.val * 128 + d.val, by omega⟩ : Fin 1024))
      = W (ix5 b t g p d) := by
  pointwise []

/-- A new row. -/
theorem win_new_at (A : FVec Ideal S64x1024 .f32) (b : Fin 8) (t : Fin 8) (e : Fin 1024) :
    shapeCast S8x8x1024 A shapeCasts_S64x1024_S8x8x1024 (ix3 b t e) = A (ix2 (rowR b t) e) := by
  pointwise []

/-- The reference's rows. -/
theorem v121_at (x3 : FVec Ideal S1x8x512x4x2x128 .f32) (b : Fin 8) (t : Fin 512) (g : Fin 4) (p : Fin 2) (d : Fin 128) :
    val_main_v121 (F := Ideal) x0 x2 x3 (ix5 b t g p d)
      = if h : 8 + t.val < 512 then val_main_v119 (F := Ideal) x3 (ix5 b ⟨8 + t.val, h⟩ g p d)
        else val_main_v118 (F := Ideal) x0 x2 (ix5 b ⟨8 + t.val - 512, by omega⟩ g p d) := by
  unfold val_main_v121 val_main_v120
  generalize val_main_v119 (F := Ideal) x3 = y
  generalize val_main_v118 (F := Ideal) x0 x2 = z
  pointwise []

theorem win_eq (x3 : FVec Ideal S1x8x512x4x2x128 .f32) : val_main_v121 (F := Ideal) x0 x2 x3
    = shapeCast S8x512x4x2x128 (extractStridedSlice S8x512x1024 ![0, 8, 0] (concatenate S8x520x1024 1
        [⟨S8x512x1024, shapeCast S8x512x1024 (shapeCast S8x512x4x2x128 x3 shapeCasts_S1x8x512x4x2x128_S8x512x4x2x128 : FVec Ideal S8x512x4x2x128 .f32) shapeCasts_S8x512x4x2x128_S8x512x1024⟩,
          ⟨S8x8x1024, shapeCast S8x8x1024 (brK x0 x2 2 : FVec Ideal S64x1024 .f32) shapeCasts_S64x1024_S8x8x1024⟩]
        concatenates_S8x512x1024_S8x8x1024_S8x520x1024_d1) slices_S8x520x1024_S8x512x1024_0_8_0) shapeCasts_S8x512x1024_S8x512x4x2x128 := by
  funext j
  obtain ⟨b, t, g, p, d, rfl⟩ : ∃ (b : Fin 8) (t : Fin 512) (g : Fin 4) (p : Fin 2) (d : Fin 128), j = ix5 b t g p d :=
    ⟨j 0, j 1, j 2, j 3, j 4, by funext a; fin_cases a <;> rfl⟩
  rw [v121_at, win_split_at, win_rows_at]
  by_cases h : 8 + t.val < 512
  · rw [dif_pos h, dif_pos h, win_old_at]
    rfl
  · rw [dif_neg h, dif_neg h, win_new_at, v118_at, br_at]

end

end Cert.Kernel8Ideal.Qkv

end

end
-- ==== Proof.QkvSample.lean ====
/-
  The samples' queries, keys and values: kernel and reference end with the same five arrays.
-/
module

public import proofs.«01_k».proof.Defs
public import proofs.«01_k».proof.Proof.Gen.Kernel8Ideal
public import proofs.«01_k».proof.Proof.Gen.Reference8Ideal
public import proofs.«01_k».proof.Proof.Gen.Reference8Ideal.Run
public import proofs.«01_k».proof.Proof.QkvPrompt
public import proofs.«01_k».proof.Proof.QkvEqSample
public import Idealize.ShloMosaic.Lib.Claim

@[expose] public section

set_option maxRecDepth 16384

noncomputable section

open Idealize.ShloMosaic Idealize.ShloMosaic.TcCoe Idealize.SL.Sem

namespace Cert.Proof

instance kernel8Facts : Cert.Kernel8Ideal.Facts := Cert.Kernel8Ideal.Gen.facts
instance reference8Facts : Cert.Reference8Ideal.Facts := Cert.Reference8Ideal.Gen.facts

section
open Cert.Kernel8Ideal Cert.Kernel8Ideal.Gen Cert.Kernel8Ideal.Qkv

variable (m : (ℓ : Loc nD τ sig) → Buf (Elt Ideal) ℓ)

theorem sample_read_cmp (c : Dev nD) : Pipeline.afterTail₀ cfgs (dats m) 0 (V0 m) [hostOps1] c main_v40
    = broadcastInDim S1x8x8x4x2x128 ![1, 2, 3, 4, 5] bcast_S8x8x4x2x128_S1x8x8x4x2x128_1_2_3_4_5
        (shapeCast S8x8x4x2x128 ((dats m 0 c).arrAt 7 (cfgs 0).N) shapeCasts_S64x1024_S8x8x4x2x128) := by
  unfold Pipeline.afterTail₀
  have h : ∀ A, Pipeline.withArrays (cfgs 0).spec c (V0 m c) A (Proc.devRef .tc main_v31_1) = A 7 := fun A =>
    own_array (cfgs 0).spec c (V0 m c) A 7 (by exact (by decide : ∀ w', Pipeline.arrRef spec0 w' = Pipeline.arrRef spec0 7 → w' = 7))
  generalize Pipeline.withArrays (cfgs 0).spec c (V0 m c) = U at h ⊢
  simp only [List.flatten_cons, List.flatten_nil, List.append_nil]
  after_results_simp
  rw [h]
  rfl

theorem sample_read_slc (c : Dev nD) : Pipeline.afterTail₀ cfgs (dats m) 0 (V0 m) [hostOps1] c main_v41
    = broadcastInDim S1x8x8x4x2x128 ![1, 2, 3, 4, 5] bcast_S8x8x4x2x128_S1x8x8x4x2x128_1_2_3_4_5
        (shapeCast S8x8x4x2x128 ((dats m 0 c).arrAt 8 (cfgs 0).N) shapeCasts_S64x1024_S8x8x4x2x128) := by
  unfold Pipeline.afterTail₀
  have h : ∀ A, Pipeline.withArrays (cfgs 0).spec c (V0 m c) A (Proc.devRef .tc main_v31_2) = A 8 := fun A =>
    own_array (cfgs 0).spec c (V0 m c) A 8 (by exact (by decide : ∀ w', Pipeline.arrRef spec0 w' = Pipeline.arrRef spec0 8 → w' = 8))
  generalize Pipeline.withArrays (cfgs 0).spec c (V0 m c) = U at h ⊢
  simp only [List.flatten_cons, List.flatten_nil, List.append_nil]
  after_results_simp
  rw [h]
  rfl

/-- The old rows followed by the new ones agree when both do. -/
theorem sample_win_congr {a a' : FVec Ideal S8x512x1024 .f32} {b b' : FVec Ideal S8x8x1024 .f32} (ha : a = a') (hb : b = b') :
    concatenate S8x520x1024 1 [⟨S8x512x1024, a⟩, ⟨S8x8x1024, b⟩] concatenates_S8x512x1024_S8x8x1024_S8x520x1024_d1
      = concatenate S8x520x1024 1 [⟨S8x512x1024, a'⟩, ⟨S8x8x1024, b'⟩] concatenates_S8x512x1024_S8x8x1024_S8x520x1024_d1 := by
  rw [ha, hb]

theorem sample_read_win (c : Dev nD) : Pipeline.afterTail₀ cfgs (dats m) 0 (V0 m) [hostOps1] c main_v42
    = broadcastInDim S1x8x512x4x2x128 ![1, 2, 3, 4, 5] bcast_S8x512x4x2x128_S1x8x512x4x2x128_1_2_3_4_5
        (shapeCast S8x512x4x2x128 (extractStridedSlice S8x512x1024 ![0, 8, 0] (concatenate S8x520x1024 1
          [⟨S8x512x1024, shapeCast S8x512x1024 (shapeCast S8x512x4x2x128 (m ((c : Thread nD τ).loc main_arg3) : FVec Ideal S1x8x512x4x2x128 .f32) shapeCasts_S1x8x512x4x2x128_S8x512x4x2x128 : FVec Ideal S8x512x4x2x128 .f32) shapeCasts_S8x512x4x2x128_S8x512x1024⟩,
            ⟨S8x8x1024, shapeCast S8x8x1024 ((dats m 0 c).arrAt 9 (cfgs 0).N) shapeCasts_S64x1024_S8x8x1024⟩]
          concatenates_S8x512x1024_S8x8x1024_S8x520x1024_d1) slices_S8x520x1024_S8x512x1024_0_8_0) shapeCasts_S8x512x1024_S8x512x4x2x128) := by
  unfold Pipeline.afterTail₀
  have h : ∀ A, Pipeline.withArrays (cfgs 0).spec c (V0 m c) A (Proc.devRef .tc main_v31_3) = A 9 := fun A =>
    own_array (cfgs 0).spec c (V0 m c) A 9 (by exact (by decide : ∀ w', Pipeline.arrRef spec0 w' = Pipeline.arrRef spec0 9 → w' = 9))
  have h3 : ∀ A, Pipeline.withArrays (cfgs 0).spec c (V0 m c) A (Proc.devRef .tc main_arg3) = m ((c : Thread nD τ).loc main_arg3) := fun A =>
    (Pipeline.withArrays_of_ne (cfgs 0).spec c (V0 m c) A main_arg3 (by exact (by decide : ∀ w, Pipeline.arrRef spec0 w ≠ main_arg3))).trans (V_main_arg3 m c)
  generalize Pipeline.withArrays (cfgs 0).spec c (V0 m c) = U at h h3 ⊢
  simp only [List.flatten_cons, List.flatten_nil, List.append_nil]
  after_results_simp
  refine congrArg (fun x => broadcastInDim S1x8x512x4x2x128 ![1, 2, 3, 4, 5] bcast_S8x512x4x2x128_S1x8x512x4x2x128_1_2_3_4_5
    (shapeCast S8x512x4x2x128 (extractStridedSlice S8x512x1024 ![0, 8, 0] x slices_S8x520x1024_S8x512x1024_0_8_0) shapeCasts_S8x512x1024_S8x512x4x2x128))
    (sample_win_congr ?_ ?_)
  · after_results_simp
    rw [h3]
    rfl
  · after_results_simp
    rw [h]
    rfl

/-- Each array of the preparation as a function of the arguments. -/
theorem sample_q (c : Dev nD) : (dats m 0 c).arrAt 6 (cfgs 0).N
    = qK (m ((c : Thread nD τ).loc main_arg0)) (m ((c : Thread nD τ).loc main_arg1)) := by
  rw [final_q, cos_entry, sin_entry, qgain_entry, V_main_arg0]

theorem sample_kv (c : Dev nD) : (dats m 0 c).arrAt 10 (cfgs 0).N
    = kvK (m ((c : Thread nD τ).loc main_arg0)) (m ((c : Thread nD τ).loc main_arg2)) := by
  rw [final_kv, cos_entry, sin_entry, kgain_entry, V_main_arg0]

theorem sample_cmp (c : Dev nD) : (dats m 0 c).arrAt 7 (cfgs 0).N
    = brK (m ((c : Thread nD τ).loc main_arg0)) (m ((c : Thread nD τ).loc main_arg2)) 0 := by
  rw [final_c, cos_entry, sin_entry, kgain_entry, V_main_arg0]

theorem sample_slc (c : Dev nD) : (dats m 0 c).arrAt 8 (cfgs 0).N
    = brK (m ((c : Thread nD τ).loc main_arg0)) (m ((c : Thread nD τ).loc main_arg2)) 1 := by
  rw [final_s, cos_entry, sin_entry, kgain_entry, V_main_arg0]

theorem sample_win (c : Dev nD) : (dats m 0 c).arrAt 9 (cfgs 0).N
    = brK (m ((c : Thread nD τ).loc main_arg0)) (m ((c : Thread nD τ).loc main_arg2)) 2 := by
  rw [final_w, cos_entry, sin_entry, kgain_entry, V_main_arg0]
end

section
open Cert.Reference8Ideal.Read Cert.Kernel8Ideal.Qkv Cert.Kernel8Ideal.Gen

variable (x0 : FVec Ideal Cert.Kernel8Ideal.S64x9216 .f32) (x1 : FVec Ideal Cert.Kernel8Ideal.S1x128 .f32)
  (x2 : FVec Ideal Cert.Kernel8Ideal.S1x3x128 .f32) (x3 : FVec Ideal Cert.Kernel8Ideal.S1x8x512x4x2x128 .f32)

/-- Each result of the reference as a function of the arguments is the kernel's. -/
theorem sample_ref_q : val_main_v123 (F := Ideal) x0 x1 = qK x0 x1 := by
  rw [← q_eq]
  unfold val_main_v123
  generalize val_main_v122 (F := Ideal) x0 x1 = y
  rfl

theorem sample_ref_kv : val_main_v125 (F := Ideal) x0 x2 = kvK x0 x2 := by
  rw [← kv_eq]
  unfold val_main_v125
  generalize val_main_v124 (F := Ideal) x0 x2 = y
  rfl

theorem sample_ref_cmp : val_main_v126 (F := Ideal) x0 x2
    = broadcastInDim Cert.Kernel8Ideal.S1x8x8x4x2x128 ![1, 2, 3, 4, 5] bcast_S8x8x4x2x128_S1x8x8x4x2x128_1_2_3_4_5
        (shapeCast Cert.Kernel8Ideal.S8x8x4x2x128 (brK x0 x2 0 : FVec Ideal Cert.Kernel8Ideal.S64x1024 .f32) shapeCasts_S64x1024_S8x8x4x2x128) := by
  unfold val_main_v126
  rw [cmp_eq]

theorem sample_ref_slc : val_main_v127 (F := Ideal) x0 x2
    = broadcastInDim Cert.Kernel8Ideal.S1x8x8x4x2x128 ![1, 2, 3, 4, 5] bcast_S8x8x4x2x128_S1x8x8x4x2x128_1_2_3_4_5
        (shapeCast Cert.Kernel8Ideal.S8x8x4x2x128 (brK x0 x2 1 : FVec Ideal Cert.Kernel8Ideal.S64x1024 .f32) shapeCasts_S64x1024_S8x8x4x2x128) := by
  unfold val_main_v127
  rw [slc_eq]

theorem sample_ref_win : val_main_v128 (F := Ideal) x0 x2 x3
    = broadcastInDim Cert.Kernel8Ideal.S1x8x512x4x2x128 ![1, 2, 3, 4, 5] bcast_S8x512x4x2x128_S1x8x512x4x2x128_1_2_3_4_5
        (shapeCast Cert.Kernel8Ideal.S8x512x4x2x128 (extractStridedSlice Cert.Kernel8Ideal.S8x512x1024 ![0, 8, 0] (concatenate Cert.Kernel8Ideal.S8x520x1024 1
          [⟨Cert.Kernel8Ideal.S8x512x1024, shapeCast Cert.Kernel8Ideal.S8x512x1024 (shapeCast Cert.Kernel8Ideal.S8x512x4x2x128 (x3) shapeCasts_S1x8x512x4x2x128_S8x512x4x2x128 : FVec Ideal Cert.Kernel8Ideal.S8x512x4x2x128 .f32) shapeCasts_S8x512x4x2x128_S8x512x1024⟩,
            ⟨Cert.Kernel8Ideal.S8x8x1024, shapeCast Cert.Kernel8Ideal.S8x8x1024 (brK x0 x2 2 : FVec Ideal Cert.Kernel8Ideal.S64x1024 .f32) shapeCasts_S64x1024_S8x8x1024⟩]
          concatenates_S8x512x1024_S8x8x1024_S8x520x1024_d1) slices_S8x520x1024_S8x512x1024_0_8_0) shapeCasts_S8x512x1024_S8x512x4x2x128) := by
  unfold val_main_v128
  rw [win_eq]
end

section
variable (m : (ℓ : Loc Cert.Kernel8Ideal.nD Cert.Kernel8Ideal.τ Cert.Kernel8Ideal.sig) → Buf (Elt Ideal) ℓ)
  (m' : (ℓ : Loc Cert.Reference8Ideal.nD Cert.Reference8Ideal.τ Cert.Reference8Ideal.sig) → Buf (Elt Ideal) ℓ)
  (c : Dev Cert.Kernel8Ideal.nD)
  (e0 : m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0))

section
variable (e1 : m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1))
include e0 e1

/-- From the same arguments each result of the reference is the kernel's. -/
theorem sample_same_q : Cert.Reference8Ideal.Value.res_main_v123 m' c = (Cert.Kernel8Ideal.Gen.dats m 0 c).arrAt 6 (Cert.Kernel8Ideal.cfgs 0).N := by
  rw [Cert.Reference8Ideal.Read.val_main_v123_eq, sample_q, sample_ref_q]
  exact congr (congrArg Cert.Kernel8Ideal.Qkv.qK e0) e1
end

section
variable (e2 : m' ((c.tc : Thread Cert.Reference8Ideal.nD Cert.Reference8Ideal.τ).loc Cert.Reference8Ideal.main_arg2) = m ((c.tc : Thread Cert.Kernel8Ideal.nD Cert.Kernel8Ideal.τ).loc Cert.Kernel8Ideal.main_arg2))
include e0 e2

theorem sample_same_kv : Cert.Reference8Ideal.Value.res_main_v125 m' c = (Cert.Kernel8Ideal.Gen.dats m 0 c).arrAt 10 (Cert.Kernel8Ideal.cfgs 0).N := by
  rw [Cert.Reference8Ideal.Read.val_main_v125_eq, sample_kv, sample_ref_kv]
  exact congr (congrArg Cert.Kernel8Ideal.Qkv.kvK e0) e2

theorem sample_same_cmp : Cert.Reference8Ideal.Value.res_main_v126 m' c
    = Pipeline.afterTail₀ Cert.Kernel8Ideal.cfgs (Cert.Kernel8Ideal.Gen.dats m) 0 (Cert.Kernel8Ideal.Gen.V0 m) [Cert.Kernel8Ideal.Gen.hostOps1] c Cert.Kernel8Ideal.main_v40 := by
  rw [Cert.Reference8Ideal.Read.val_main_v126_eq, sample_read_cmp, sample_cmp, ← sample_ref_cmp]
  exact congr (congrArg Cert.Reference8Ideal.Read.val_main_v126 e0) e2

theorem sample_same_slc : Cert.Reference8Ideal.Value.res_main_v127 m' c
    = Pipeline.afterTail₀ Cert.Kernel8Ideal.cfgs (Cert.Kernel8Ideal.Gen.dats m) 0 (Cert.Kernel8Ideal.Gen.V0 m) [Cert.Kernel8Ideal.Gen.hostOps1] c Cert.Kernel8Ideal.main_v41 := by
  rw [Cert.Reference8Ideal.Read.val_main_v127_eq, sample_read_slc, sample_slc, ← sample_ref_slc]
  exact congr (congrArg Cert.Reference8Ideal.Read.val_main_v127 e0) e2

variable (e3 : m' ((c.tc : Thread Cert.Reference8Ideal.nD Cert.Reference8Ideal.τ).loc Cert.Reference8Ideal.main_arg3) = m ((c.tc : Thread Cert.Kernel8Ideal.nD Cert.Kernel8Ideal.τ).loc Cert.Kernel8Ideal.main_arg3))
include e3 in
/-- From the same arguments the window's rows are the kernel's. -/
theorem sample_same_win : Cert.Reference8Ideal.Value.res_main_v128 m' c
    = Pipeline.afterTail₀ Cert.Kernel8Ideal.cfgs (Cert.Kernel8Ideal.Gen.dats m) 0 (Cert.Kernel8Ideal.Gen.V0 m) [Cert.Kernel8Ideal.Gen.hostOps1] c Cert.Kernel8Ideal.main_v42 := by
  rw [Cert.Reference8Ideal.Read.val_main_v128_eq, sample_read_win, sample_win, ← sample_ref_win]
  exact congr (congr (congrArg Cert.Reference8Ideal.Read.val_main_v128 e0) e2) e3
end
end

/-- Kernel and reference end with the same queries, keys and values. -/
theorem qkv_sample : Cert.algebraic_Kernel8Ideal_Reference8Ideal := by
  pair_intro
  · run_from Cert.Kernel8Ideal.Gen.run_main m g
    · exact Cert.Kernel8Ideal.Gen.W_main_arg1 m _ c
    · exact Cert.Kernel8Ideal.Gen.W_main_arg2 m _ c
    · exact Cert.Kernel8Ideal.Gen.W_main_arg3 m _ c
  · refine (θ_run Cert.Reference8Ideal.defs _ _).mono (fun r h c => ?_) (Cert.Reference8Ideal.Value.run m' g')
    obtain ⟨e0, e1, e2, e3⟩ := hagree c
    obtain ⟨r0, r1, r2, r3, r4, a0, a1, a2, a3⟩ := h c
    exact ⟨r0.trans (sample_same_q m m' c e0 e1), r1.trans (sample_same_kv m m' c e0 e2), r2.trans (sample_same_cmp m m' c e0 e2),
      r3.trans (sample_same_slc m m' c e0 e2), r4.trans (sample_same_win m m' c e0 e2 e3), a0, a1, a2, a3⟩

end Cert.Proof

end

end
-- ==== Proof.lean ====
/-
  The certificate: the kernels of the layer (each a program of its own), their idealized forms and their references run
  and leave their arguments unchanged; the idealizations preserve the programs; and each kernel computes, over the
  extended reals, what its reference defines.
-/
module

public import proofs.«01_k».proof.Defs
public import proofs.«01_k».proof.Proof.Gen.KernelIdeal.Value
public import proofs.«01_k».proof.Proof.Attention
public import proofs.«01_k».proof.Proof.Gen.Kernel
public import proofs.«01_k».proof.Proof.Gen.Kernel.Frame
public import proofs.«01_k».proof.Proof.Gen.KernelIdeal
public import proofs.«01_k».proof.Proof.Gen.KernelIdeal.Frame
public import proofs.«01_k».proof.Proof.Gen.ReferenceIdeal
public import proofs.«01_k».proof.Proof.Gen.ReferenceIdeal.Run
public import proofs.«01_k».proof.Proof.Gen.ReferenceIdeal.Read
public import proofs.«01_k».proof.Proof.Gen.Kernel2
public import proofs.«01_k».proof.Proof.Gen.Kernel2.Frame
public import proofs.«01_k».proof.Proof.Gen.Kernel2Ideal
public import proofs.«01_k».proof.Proof.Gen.Kernel2Ideal.Frame
public import proofs.«01_k».proof.Proof.Gen.Reference2Ideal
public import proofs.«01_k».proof.Proof.Gen.Reference2Ideal.Run
public import proofs.«01_k».proof.Proof.EvenIn
public import proofs.«01_k».proof.Proof.Gen.Kernel3
public import proofs.«01_k».proof.Proof.Gen.Kernel3.Frame
public import proofs.«01_k».proof.Proof.Gen.Kernel3Ideal
public import proofs.«01_k».proof.Proof.Gen.Kernel3Ideal.Frame
public import proofs.«01_k».proof.Proof.Gen.Reference3Ideal
public import proofs.«01_k».proof.Proof.Gen.Reference3Ideal.Run
public import proofs.«01_k».proof.Proof.OddIn
public import proofs.«01_k».proof.Proof.Gen.Kernel4
public import proofs.«01_k».proof.Proof.Gen.Kernel4.Frame
public import proofs.«01_k».proof.Proof.Gen.Kernel4Ideal
public import proofs.«01_k».proof.Proof.Gen.Kernel4Ideal.Frame
public import proofs.«01_k».proof.Proof.Gen.Reference4Ideal
public import proofs.«01_k».proof.Proof.Gen.Reference4Ideal.Run
public import proofs.«01_k».proof.Proof.MixOut
public import proofs.«01_k».proof.Proof.Gen.Kernel5
public import proofs.«01_k».proof.Proof.Gen.Kernel5.Frame
public import proofs.«01_k».proof.Proof.Gen.Kernel5Ideal
public import proofs.«01_k».proof.Proof.Gen.Kernel5Ideal.Frame
public import proofs.«01_k».proof.Proof.Gen.Reference5Ideal
public import proofs.«01_k».proof.Proof.Gen.Reference5Ideal.Run
public import proofs.«01_k».proof.Proof.PeerQuery
public import proofs.«01_k».proof.Proof.Gen.Kernel6
public import proofs.«01_k».proof.Proof.Gen.Kernel6.Frame
public import proofs.«01_k».proof.Proof.Gen.Kernel6Ideal
public import proofs.«01_k».proof.Proof.Gen.Kernel6Ideal.Frame
public import proofs.«01_k».proof.Proof.Gen.Reference6Ideal
public import proofs.«01_k».proof.Proof.Gen.Reference6Ideal.Run
public import proofs.«01_k».proof.Proof.EvenSample
public import proofs.«01_k».proof.Proof.Gen.Kernel7
public import proofs.«01_k».proof.Proof.Gen.Kernel7.Frame
public import proofs.«01_k».proof.Proof.Gen.Kernel7Ideal
public import proofs.«01_k».proof.Proof.Gen.Kernel7Ideal.Frame
public import proofs.«01_k».proof.Proof.Gen.Reference7Ideal
public import proofs.«01_k».proof.Proof.Gen.Reference7Ideal.Run
public import proofs.«01_k».proof.Proof.Gen.Reference7Ideal.Read
public import proofs.«01_k».proof.Proof.QkvPrompt
public import proofs.«01_k».proof.Proof.Gen.Kernel8
public import proofs.«01_k».proof.Proof.Gen.Kernel8.Frame
public import proofs.«01_k».proof.Proof.Gen.Kernel8Ideal
public import proofs.«01_k».proof.Proof.Gen.Kernel8Ideal.Frame
public import proofs.«01_k».proof.Proof.Gen.Reference8Ideal
public import proofs.«01_k».proof.Proof.Gen.Reference8Ideal.Run
public import proofs.«01_k».proof.Proof.Gen.Reference8Ideal.Read
public import proofs.«01_k».proof.Proof.QkvSample
public import Idealize.ShloMosaic.Lib.Claim

@[expose] public section

noncomputable section

namespace Cert.Proof

open Idealize.ShloMosaic Idealize.ShloMosaic.TcCoe Idealize.SL.Sem

/-- The reference of the attention runs and leaves its arguments unchanged. -/
theorem frame_reference : Cert.quiescent_ReferenceIdeal := fun m g _ =>
  (θ_run Cert.ReferenceIdeal.defs _ _).mono (fun r h => ⟨fun c => (h c).2,
      sem_eq_zero_of_no_sems (by decide) r.2⟩)
    (Cert.ReferenceIdeal.Value.run (F := Ideal) m g)

/-- The reference of the even layer's projection runs and leaves its arguments unchanged. -/
theorem frame_reference2 : Cert.quiescent_Reference2Ideal := fun m g _ =>
  (θ_run Cert.Reference2Ideal.defs _ _).mono (fun r h => ⟨fun c => (h c).2.2,
      sem_eq_zero_of_no_sems (by decide) r.2⟩)
    (Cert.Reference2Ideal.Value.run (F := Ideal) m g)

/-- The reference of the odd layer's projection runs and leaves its arguments unchanged. -/
theorem frame_reference3 : Cert.quiescent_Reference3Ideal := fun m g _ =>
  (θ_run Cert.Reference3Ideal.defs _ _).mono (fun r h => ⟨fun c => (h c).2.2.2,
      sem_eq_zero_of_no_sems (by decide) r.2⟩)
    (Cert.Reference3Ideal.Value.run (F := Ideal) m g)

/-- The reference of the output projection runs and leaves its arguments unchanged. -/
theorem frame_reference4 : Cert.quiescent_Reference4Ideal := fun m g _ =>
  (θ_run Cert.Reference4Ideal.defs _ _).mono (fun r h => ⟨fun c => (h c).2,
      sem_eq_zero_of_no_sems (by decide) r.2⟩)
    (Cert.Reference4Ideal.Value.run (F := Ideal) m g)

/-- The reference of the experts' queries runs and leaves its arguments unchanged. -/
theorem frame_reference5 : Cert.quiescent_Reference5Ideal := fun m g _ =>
  (θ_run Cert.Reference5Ideal.defs _ _).mono (fun r h => ⟨fun c => (h c).2,
      sem_eq_zero_of_no_sems (by decide) r.2⟩)
    (Cert.Reference5Ideal.Value.run (F := Ideal) m g)

/-- The reference of the samples' even projection runs and leaves its arguments unchanged. -/
theorem frame_reference6 : Cert.quiescent_Reference6Ideal := fun m g _ =>
  (θ_run Cert.Reference6Ideal.defs _ _).mono (fun r h => ⟨fun c => (h c).2.2,
      sem_eq_zero_of_no_sems (by decide) r.2⟩)
    (Cert.Reference6Ideal.Value.run (F := Ideal) m g)

/-- The reference of the prompt's queries, keys and values runs and leaves its arguments unchanged. -/
theorem frame_reference7 : Cert.quiescent_Reference7Ideal := fun m g _ =>
  (θ_run Cert.Reference7Ideal.defs _ _).mono (fun r h => ⟨fun c => (h c).2.2.2.2.2,
      sem_eq_zero_of_no_sems (by decide) r.2⟩)
    (Cert.Reference7Ideal.Value.run (F := Ideal) m g)

/-- The reference of the samples' queries, keys and values runs and leaves its arguments unchanged. -/
theorem frame_reference8 : Cert.quiescent_Reference8Ideal := fun m g _ =>
  (θ_run Cert.Reference8Ideal.defs _ _).mono (fun r h => ⟨fun c => (h c).2.2.2.2.2,
      sem_eq_zero_of_no_sems (by decide) r.2⟩)
    (Cert.Reference8Ideal.Value.run (F := Ideal) m g)

/-- Everything the certificate claims. -/
theorem claim : Cert.Claim :=
  ⟨Cert.Kernel.Gen.facts, Cert.KernelIdeal.Gen.facts, Cert.ReferenceIdeal.Gen.facts,
    Cert.Kernel2.Gen.facts, Cert.Kernel2Ideal.Gen.facts, Cert.Reference2Ideal.Gen.facts,
    Cert.Kernel3.Gen.facts, Cert.Kernel3Ideal.Gen.facts, Cert.Reference3Ideal.Gen.facts,
    Cert.Kernel4.Gen.facts, Cert.Kernel4Ideal.Gen.facts, Cert.Reference4Ideal.Gen.facts,
    Cert.Kernel5.Gen.facts, Cert.Kernel5Ideal.Gen.facts, Cert.Reference5Ideal.Gen.facts,
    Cert.Kernel6.Gen.facts, Cert.Kernel6Ideal.Gen.facts, Cert.Reference6Ideal.Gen.facts,
    Cert.Kernel7.Gen.facts, Cert.Kernel7Ideal.Gen.facts, Cert.Reference7Ideal.Gen.facts,
    Cert.Kernel8.Gen.facts, Cert.Kernel8Ideal.Gen.facts, Cert.Reference8Ideal.Gen.facts,
    facts_finite,
    fun m ρ _ => Cert.Kernel.Gen.frame m ρ,
    fun m ρ _ => Cert.KernelIdeal.Gen.frame m ρ,
    fun m ρ _ => Cert.KernelIdeal.Gen.frame m ρ,
    frame_reference,
    fun m g _ => frame_reference m g trivial,
    fun m ρ _ => Cert.Kernel2.Gen.frame m ρ,
    fun m ρ _ => Cert.Kernel2Ideal.Gen.frame m ρ,
    frame_reference2,
    fun m ρ _ => Cert.Kernel3.Gen.frame m ρ,
    fun m ρ _ => Cert.Kernel3Ideal.Gen.frame m ρ,
    frame_reference3,
    fun m ρ _ => Cert.Kernel4.Gen.frame m ρ,
    fun m ρ _ => Cert.Kernel4Ideal.Gen.frame m ρ,
    frame_reference4,
    fun m ρ _ => Cert.Kernel5.Gen.frame m ρ,
    fun m ρ _ => Cert.Kernel5Ideal.Gen.frame m ρ,
    frame_reference5,
    fun m ρ _ => Cert.Kernel6.Gen.frame m ρ,
    fun m ρ _ => Cert.Kernel6Ideal.Gen.frame m ρ,
    frame_reference6,
    fun m ρ _ => Cert.Kernel7.Gen.frame m ρ,
    fun m ρ _ => Cert.Kernel7Ideal.Gen.frame m ρ,
    frame_reference7,
    fun m ρ _ => Cert.Kernel8.Gen.frame m ρ,
    fun m ρ _ => Cert.Kernel8Ideal.Gen.frame m ρ,
    frame_reference8,
    IdealRules.named_const.statement Cert.KernelIdeal.κ "mask" .f32 0xF149F2CA#32 ⊥ rfl,
    attention,
    trivial,
    even_in,
    trivial,
    odd_in,
    trivial,
    mix_out,
    trivial,
    peer_query,
    trivial,
    even_in_sample,
    trivial,
    qkv_prompt,
    trivial,
    qkv_sample⟩

end Cert.Proof

end

end
